-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_RwkvProj (m : (ℓ : Loc Cert.RwkvProj.nD Cert.RwkvProj.τ Cert.RwkvProj.sig) → Buf (Elt Bits) ℓ) : Prop :=
  True

def Pre_RwkvProjIdeal (m : (ℓ : Loc Cert.RwkvProjIdeal.nD Cert.RwkvProjIdeal.τ Cert.RwkvProjIdeal.sig) → Buf (Elt Ideal) ℓ) : Prop :=
  True

def Pre_RwkvProjReferenceIdeal (m : (ℓ : Loc Cert.RwkvProjReferenceIdeal.nD Cert.RwkvProjReferenceIdeal.τ Cert.RwkvProjReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_RwkvGate (m : (ℓ : Loc Cert.RwkvGate.nD Cert.RwkvGate.τ Cert.RwkvGate.sig) → Buf (Elt Bits) ℓ) : Prop :=
  True

def Pre_RwkvGateIdeal (m : (ℓ : Loc Cert.RwkvGateIdeal.nD Cert.RwkvGateIdeal.τ Cert.RwkvGateIdeal.sig) → Buf (Elt Ideal) ℓ) : Prop :=
  True

def Pre_RwkvGateReferenceIdeal (m : (ℓ : Loc Cert.RwkvGateReferenceIdeal.nD Cert.RwkvGateReferenceIdeal.τ Cert.RwkvGateReferenceIdeal.sig) → Buf (Elt Ideal) ℓ) : Prop :=
  True

def Pre_RwkvPre (m : (ℓ : Loc Cert.RwkvPre.nD Cert.RwkvPre.τ Cert.RwkvPre.sig) → Buf (Elt Bits) ℓ) : Prop :=
  True

def Pre_RwkvPreIdeal (m : (ℓ : Loc Cert.RwkvPreIdeal.nD Cert.RwkvPreIdeal.τ Cert.RwkvPreIdeal.sig) → Buf (Elt Ideal) ℓ) : Prop :=
  True

def Pre_RwkvPreReferenceIdeal (m : (ℓ : Loc Cert.RwkvPreReferenceIdeal.nD Cert.RwkvPreReferenceIdeal.τ Cert.RwkvPreReferenceIdeal.sig) → Buf (Elt Ideal) ℓ) : Prop :=
  True

def Pre_NormMlp (m : (ℓ : Loc Cert.NormMlp.nD Cert.NormMlp.τ Cert.NormMlp.sig) → Buf (Elt Bits) ℓ) : Prop :=
  True

def Pre_NormMlpIdeal (m : (ℓ : Loc Cert.NormMlpIdeal.nD Cert.NormMlpIdeal.τ Cert.NormMlpIdeal.sig) → Buf (Elt Ideal) ℓ) : Prop :=
  True

def Pre_NormMlpReferenceIdeal (m : (ℓ : Loc Cert.NormMlpReferenceIdeal.nD Cert.NormMlpReferenceIdeal.τ Cert.NormMlpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1)
      ∧ r.2.mem ((c.tc : Thread Cert.MlpDownReferenceIdeal.nD Cert.MlpDownReferenceIdeal.τ).loc Cert.MlpDownReferenceIdeal.main_arg2) = m ((c.tc : Thread Cert.MlpDownReferenceIdeal.nD Cert.MlpDownReferenceIdeal.τ).loc Cert.MlpDownReferenceIdeal.main_arg2)
      ∧ r.2.mem ((c.tc : Thread Cert.MlpDownReferenceIdeal.nD Cert.MlpDownReferenceIdeal.τ).loc Cert.MlpDownReferenceIdeal.main_arg3) = m ((c.tc : Thread Cert.MlpDownReferenceIdeal.nD Cert.MlpDownReferenceIdeal.τ).loc Cert.MlpDownReferenceIdeal.main_arg3))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_RwkvProj [hRwkvProj : Cert.RwkvProj.Facts] : Prop :=
  ∀ (m : (ℓ : Loc Cert.RwkvProj.nD Cert.RwkvProj.τ Cert.RwkvProj.sig) → Buf (Elt Bits) ℓ) (g : Dev Cert.RwkvProj.nD → PrngReg), Pre_RwkvProj m →
    θ_run (Cert.RwkvProj.defs (F := Bits)) (onTc (τ := Cert.RwkvProj.τ) (Cert.RwkvProj.main (F := Bits))) ⟨m, fun _ => 0, g⟩ (fun r => (∀ c : Dev Cert.RwkvProj.nD,
      r.2.mem ((c.tc : Thread Cert.RwkvProj.nD Cert.RwkvProj.τ).loc Cert.RwkvProj.main_arg0) = m ((c.tc : Thread Cert.RwkvProj.nD Cert.RwkvProj.τ).loc Cert.RwkvProj.main_arg0)
      ∧ r.2.mem ((c.tc : Thread Cert.RwkvProj.nD Cert.RwkvProj.τ).loc Cert.RwkvProj.main_arg1) = m ((c.tc : Thread Cert.RwkvProj.nD Cert.RwkvProj.τ).loc Cert.RwkvProj.main_arg1))
      ∧ r.2.sem = fun _ => 0)

def quiescent_RwkvProjIdeal [hRwkvProjIdeal : Cert.RwkvProjIdeal.Facts] : Prop :=
  ∀ (m : (ℓ : Loc Cert.RwkvProjIdeal.nD Cert.RwkvProjIdeal.τ Cert.RwkvProjIdeal.sig) → Buf (Elt Ideal) ℓ) (g : Dev Cert.RwkvProjIdeal.nD → PrngReg), Pre_RwkvProjIdeal m →
    θ_run (Cert.RwkvProjIdeal.defs (F := Ideal)) (onTc (τ := Cert.RwkvProjIdeal.τ) (Cert.RwkvProjIdeal.main (F := Ideal))) ⟨m, fun _ => 0, g⟩ (fun r => (∀ c : Dev Cert.RwkvProjIdeal.nD,
      r.2.mem ((c.tc : Thread Cert.RwkvProjIdeal.nD Cert.RwkvProjIdeal.τ).loc Cert.RwkvProjIdeal.main_arg0) = m ((c.tc : Thread Cert.RwkvProjIdeal.nD Cert.RwkvProjIdeal.τ).loc Cert.RwkvProjIdeal.main_arg0)
      ∧ r.2.mem ((c.tc : Thread Cert.RwkvProjIdeal.nD Cert.RwkvProjIdeal.τ).loc Cert.RwkvProjIdeal.main_arg1) = m ((c.tc : Thread Cert.RwkvProjIdeal.nD Cert.RwkvProjIdeal.τ).loc Cert.RwkvProjIdeal.main_arg1))
      ∧ r.2.sem = fun _ => 0)

def quiescent_RwkvProjReferenceIdeal [hRwkvProjReferenceIdeal : Cert.RwkvProjReferenceIdeal.Facts] : Prop :=
  ∀ (m : (ℓ : Loc Cert.RwkvProjReferenceIdeal.nD Cert.RwkvProjReferenceIdeal.τ Cert.RwkvProjReferenceIdeal.sig) → Buf (Elt Ideal) ℓ) (g : Dev Cert.RwkvProjReferenceIdeal.nD → PrngReg), Pre_RwkvProjReferenceIdeal m →
    θ_run (Cert.RwkvProjReferenceIdeal.defs (F := Ideal)) (onTc (τ := Cert.RwkvProjReferenceIdeal.τ) (Cert.RwkvProjReferenceIdeal.main (F := Ideal))) ⟨m, fun _ => 0, g⟩ (fun r => (∀ c : Dev Cert.RwkvProjReferenceIdeal.nD,
      r.2.mem ((c.tc : Thread Cert.RwkvProjReferenceIdeal.nD Cert.RwkvProjReferenceIdeal.τ).loc Cert.RwkvProjReferenceIdeal.main_arg0) = m ((c.tc : Thread Cert.RwkvProjReferenceIdeal.nD Cert.RwkvProjReferenceIdeal.τ).loc Cert.RwkvProjReferenceIdeal.main_arg0)
      ∧ r.2.mem ((c.tc : Thread Cert.RwkvProjReferenceIdeal.nD Cert.RwkvProjReferenceIdeal.τ).loc Cert.RwkvProjReferenceIdeal.main_arg1) = m ((c.tc : Thread Cert.RwkvProjReferenceIdeal.nD Cert.RwkvProjReferenceIdeal.τ).loc Cert.RwkvProjReferenceIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1)
      ∧ r.2.mem ((c.tc : Thread Cert.FinalNorm.nD Cert.FinalNorm.τ).loc Cert.FinalNorm.main_arg2) = m ((c.tc : Thread Cert.FinalNorm.nD Cert.FinalNorm.τ).loc Cert.FinalNorm.main_arg2))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
      ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1)
      ∧ r.2.mem ((c.tc : Thread Cert.FinalNormReferenceIdeal.nD Cert.FinalNormReferenceIdeal.τ).loc Cert.FinalNormReferenceIdeal.main_arg2) = m ((c.tc : Thread Cert.FinalNormReferenceIdeal.nD Cert.FinalNormReferenceIdeal.τ).loc Cert.FinalNormReferenceIdeal.main_arg2))
      ∧ r.2.sem = fun _ => 0)

def quiescent_RwkvGate [hRwkvGate : Cert.RwkvGate.Facts] : Prop :=
  ∀ (m : (ℓ : Loc Cert.RwkvGate.nD Cert.RwkvGate.τ Cert.RwkvGate.sig) → Buf (Elt Bits) ℓ) (g : Dev Cert.RwkvGate.nD → PrngReg), Pre_RwkvGate m →
    θ_run (Cert.RwkvGate.defs (F := Bits)) (onTc (τ := Cert.RwkvGate.τ) (Cert.RwkvGate.main (F := Bits))) ⟨m, fun _ => 0, g⟩ (fun r => (∀ c : Dev Cert.RwkvGate.nD,
      r.2.mem ((c.tc : Thread Cert.RwkvGate.nD Cert.RwkvGate.τ).loc Cert.RwkvGate.main_arg0) = m ((c.tc : Thread Cert.RwkvGate.nD Cert.RwkvGate.τ).loc Cert.RwkvGate.main_arg0)
      ∧ r.2.mem ((c.tc : Thread Cert.RwkvGate.nD Cert.RwkvGate.τ).loc Cert.RwkvGate.main_arg1) = m ((c.tc : Thread Cert.RwkvGate.nD Cert.RwkvGate.τ).loc Cert.RwkvGate.main_arg1)
      ∧ r.2.mem ((c.tc : Thread Cert.RwkvGate.nD Cert.RwkvGate.τ).loc Cert.RwkvGate.main_arg2) = m ((c.tc : Thread Cert.RwkvGate.nD Cert.RwkvGate.τ).loc Cert.RwkvGate.main_arg2)
      ∧ r.2.mem ((c.tc : Thread Cert.RwkvGate.nD Cert.RwkvGate.τ).loc Cert.RwkvGate.main_arg3) = m ((c.tc : Thread Cert.RwkvGate.nD Cert.RwkvGate.τ).loc Cert.RwkvGate.main_arg3)
      ∧ r.2.mem ((c.tc : Thread Cert.RwkvGate.nD Cert.RwkvGate.τ).loc Cert.RwkvGate.main_arg4) = m ((c.tc : Thread Cert.RwkvGate.nD Cert.RwkvGate.τ).loc Cert.RwkvGate.main_arg4))
      ∧ r.2.sem = fun _ => 0)

def quiescent_RwkvGateIdeal [hRwkvGateIdeal : Cert.RwkvGateIdeal.Facts] : Prop :=
  ∀ (m : (ℓ : Loc Cert.RwkvGateIdeal.nD Cert.RwkvGateIdeal.τ Cert.RwkvGateIdeal.sig) → Buf (Elt Ideal) ℓ) (g : Dev Cert.RwkvGateIdeal.nD → PrngReg), Pre_RwkvGateIdeal m →
    θ_run (Cert.RwkvGateIdeal.defs (F := Ideal)) (onTc (τ := Cert.RwkvGateIdeal.τ) (Cert.RwkvGateIdeal.main (F := Ideal))) ⟨m, fun _ => 0, g⟩ (fun r => (∀ c : Dev Cert.RwkvGateIdeal.nD,
      r.2.mem ((c.tc : Thread Cert.RwkvGateIdeal.nD Cert.RwkvGateIdeal.τ).loc Cert.RwkvGateIdeal.main_arg0) = m ((c.tc : Thread Cert.RwkvGateIdeal.nD Cert.RwkvGateIdeal.τ).loc Cert.RwkvGateIdeal.main_arg0)
      ∧ r.2.mem ((c.tc : Thread Cert.RwkvGateIdeal.nD Cert.RwkvGateIdeal.τ).loc Cert.RwkvGateIdeal.main_arg1) = m ((c.tc : Thread Cert.RwkvGateIdeal.nD Cert.RwkvGateIdeal.τ).loc Cert.RwkvGateIdeal.main_arg1)
      ∧ r.2.mem ((c.tc : Thread Cert.RwkvGateIdeal.nD Cert.RwkvGateIdeal.τ).loc Cert.RwkvGateIdeal.main_arg2) = m ((c.tc : Thread Cert.RwkvGateIdeal.nD Cert.RwkvGateIdeal.τ).loc Cert.RwkvGateIdeal.main_arg2)
      ∧ r.2.mem ((c.tc : Thread Cert.RwkvGateIdeal.nD Cert.RwkvGateIdeal.τ).loc Cert.RwkvGateIdeal.main_arg3) = m ((c.tc : Thread Cert.RwkvGateIdeal.nD Cert.RwkvGateIdeal.τ).loc Cert.RwkvGateIdeal.main_arg3)
      ∧ r.2.mem ((c.tc : Thread Cert.RwkvGateIdeal.nD Cert.RwkvGateIdeal.τ).loc Cert.RwkvGateIdeal.main_arg4) = m ((c.tc : Thread Cert.RwkvGateIdeal.nD Cert.RwkvGateIdeal.τ).loc Cert.RwkvGateIdeal.main_arg4))
      ∧ r.2.sem = fun _ => 0)

def quiescent_RwkvGateReferenceIdeal [hRwkvGateReferenceIdeal : Cert.RwkvGateReferenceIdeal.Facts] : Prop :=
  ∀ (m : (ℓ : Loc Cert.RwkvGateReferenceIdeal.nD Cert.RwkvGateReferenceIdeal.τ Cert.RwkvGateReferenceIdeal.sig) → Buf (Elt Ideal) ℓ) (g : Dev Cert.RwkvGateReferenceIdeal.nD → PrngReg), Pre_RwkvGateReferenceIdeal m →
    θ_run (Cert.RwkvGateReferenceIdeal.defs (F := Ideal)) (onTc (τ := Cert.RwkvGateReferenceIdeal.τ) (Cert.RwkvGateReferenceIdeal.main (F := Ideal))) ⟨m, fun _ => 0, g⟩ (fun r => (∀ c : Dev Cert.RwkvGateReferenceIdeal.nD,
      r.2.mem ((c.tc : Thread Cert.RwkvGateReferenceIdeal.nD Cert.RwkvGateReferenceIdeal.τ).loc Cert.RwkvGateReferenceIdeal.main_arg0) = m ((c.tc : Thread Cert.RwkvGateReferenceIdeal.nD Cert.RwkvGateReferenceIdeal.τ).loc Cert.RwkvGateReferenceIdeal.main_arg0)
      ∧ r.2.mem ((c.tc : Thread Cert.RwkvGateReferenceIdeal.nD Cert.RwkvGateReferenceIdeal.τ).loc Cert.RwkvGateReferenceIdeal.main_arg1) = m ((c.tc : Thread Cert.RwkvGateReferenceIdeal.nD Cert.RwkvGateReferenceIdeal.τ).loc Cert.RwkvGateReferenceIdeal.main_arg1)
      ∧ r.2.mem ((c.tc : Thread Cert.RwkvGateReferenceIdeal.nD Cert.RwkvGateReferenceIdeal.τ).loc Cert.RwkvGateReferenceIdeal.main_arg2) = m ((c.tc : Thread Cert.RwkvGateReferenceIdeal.nD Cert.RwkvGateReferenceIdeal.τ).loc Cert.RwkvGateReferenceIdeal.main_arg2)
      ∧ r.2.mem ((c.tc : Thread Cert.RwkvGateReferenceIdeal.nD Cert.RwkvGateReferenceIdeal.τ).loc Cert.RwkvGateReferenceIdeal.main_arg3) = m ((c.tc : Thread Cert.RwkvGateReferenceIdeal.nD Cert.RwkvGateReferenceIdeal.τ).loc Cert.RwkvGateReferenceIdeal.main_arg3)
      ∧ r.2.mem ((c.tc : Thread Cert.RwkvGateReferenceIdeal.nD Cert.RwkvGateReferenceIdeal.τ).loc Cert.RwkvGateReferenceIdeal.main_arg4) = m ((c.tc : Thread Cert.RwkvGateReferenceIdeal.nD Cert.RwkvGateReferenceIdeal.τ).loc Cert.RwkvGateReferenceIdeal.main_arg4))
      ∧ r.2.sem = fun _ => 0)

def quiescent_RwkvPre [hRwkvPre : Cert.RwkvPre.Facts] : Prop :=
  ∀ (m : (ℓ : Loc Cert.RwkvPre.nD Cert.RwkvPre.τ Cert.RwkvPre.sig) → Buf (Elt Bits) ℓ) (g : Dev Cert.RwkvPre.nD → PrngReg), Pre_RwkvPre m →
    θ_run (Cert.RwkvPre.defs (F := Bits)) (onTc (τ := Cert.RwkvPre.τ) (Cert.RwkvPre.main (F := Bits))) ⟨m, fun _ => 0, g⟩ (fun r => (∀ c : Dev Cert.RwkvPre.nD,
      r.2.mem ((c.tc : Thread Cert.RwkvPre.nD Cert.RwkvPre.τ).loc Cert.RwkvPre.main_arg0) = m ((c.tc : Thread Cert.RwkvPre.nD Cert.RwkvPre.τ).loc Cert.RwkvPre.main_arg0)
      ∧ r.2.mem ((c.tc : Thread Cert.RwkvPre.nD Cert.RwkvPre.τ).loc Cert.RwkvPre.main_arg1) = m ((c.tc : Thread Cert.RwkvPre.nD Cert.RwkvPre.τ).loc Cert.RwkvPre.main_arg1)
      ∧ r.2.mem ((c.tc : Thread Cert.RwkvPre.nD Cert.RwkvPre.τ).loc Cert.RwkvPre.main_arg2) = m ((c.tc : Thread Cert.RwkvPre.nD Cert.RwkvPre.τ).loc Cert.RwkvPre.main_arg2)
      ∧ r.2.mem ((c.tc : Thread Cert.RwkvPre.nD Cert.RwkvPre.τ).loc Cert.RwkvPre.main_arg3) = m ((c.tc : Thread Cert.RwkvPre.nD Cert.RwkvPre.τ).loc Cert.RwkvPre.main_arg3)
      ∧ r.2.mem ((c.tc : Thread Cert.RwkvPre.nD Cert.RwkvPre.τ).loc Cert.RwkvPre.main_arg4) = m ((c.tc : Thread Cert.RwkvPre.nD Cert.RwkvPre.τ).loc Cert.RwkvPre.main_arg4)
      ∧ r.2.mem ((c.tc : Thread Cert.RwkvPre.nD Cert.RwkvPre.τ).loc Cert.RwkvPre.main_arg5) = m ((c.tc : Thread Cert.RwkvPre.nD Cert.RwkvPre.τ).loc Cert.RwkvPre.main_arg5)
      ∧ r.2.mem ((c.tc : Thread Cert.RwkvPre.nD Cert.RwkvPre.τ).loc Cert.RwkvPre.main_arg6) = m ((c.tc : Thread Cert.RwkvPre.nD Cert.RwkvPre.τ).loc Cert.RwkvPre.main_arg6)
      ∧ r.2.mem ((c.tc : Thread Cert.RwkvPre.nD Cert.RwkvPre.τ).loc Cert.RwkvPre.main_arg7) = m ((c.tc : Thread Cert.RwkvPre.nD Cert.RwkvPre.τ).loc Cert.RwkvPre.main_arg7)
      ∧ r.2.mem ((c.tc : Thread Cert.RwkvPre.nD Cert.RwkvPre.τ).loc Cert.RwkvPre.main_arg8) = m ((c.tc : Thread Cert.RwkvPre.nD Cert.RwkvPre.τ).loc Cert.RwkvPre.main_arg8)
      ∧ r.2.mem ((c.tc : Thread Cert.RwkvPre.nD Cert.RwkvPre.τ).loc Cert.RwkvPre.main_arg9) = m ((c.tc : Thread Cert.RwkvPre.nD Cert.RwkvPre.τ).loc Cert.RwkvPre.main_arg9))
      ∧ r.2.sem = fun _ => 0)

def quiescent_RwkvPreIdeal [hRwkvPreIdeal : Cert.RwkvPreIdeal.Facts] : Prop :=
  ∀ (m : (ℓ : Loc Cert.RwkvPreIdeal.nD Cert.RwkvPreIdeal.τ Cert.RwkvPreIdeal.sig) → Buf (Elt Ideal) ℓ) (g : Dev Cert.RwkvPreIdeal.nD → PrngReg), Pre_RwkvPreIdeal m →
    θ_run (Cert.RwkvPreIdeal.defs (F := Ideal)) (onTc (τ := Cert.RwkvPreIdeal.τ) (Cert.RwkvPreIdeal.main (F := Ideal))) ⟨m, fun _ => 0, g⟩ (fun r => (∀ c : Dev Cert.RwkvPreIdeal.nD,
      r.2.mem ((c.tc : Thread Cert.RwkvPreIdeal.nD Cert.RwkvPreIdeal.τ).loc Cert.RwkvPreIdeal.main_arg0) = m ((c.tc : Thread Cert.RwkvPreIdeal.nD Cert.RwkvPreIdeal.τ).loc Cert.RwkvPreIdeal.main_arg0)
      ∧ r.2.mem ((c.tc : Thread Cert.RwkvPreIdeal.nD Cert.RwkvPreIdeal.τ).loc Cert.RwkvPreIdeal.main_arg1) = m ((c.tc : Thread Cert.RwkvPreIdeal.nD Cert.RwkvPreIdeal.τ).loc Cert.RwkvPreIdeal.main_arg1)
      ∧ r.2.mem ((c.tc : Thread Cert.RwkvPreIdeal.nD Cert.RwkvPreIdeal.τ).loc Cert.RwkvPreIdeal.main_arg2) = m ((c.tc : Thread Cert.RwkvPreIdeal.nD Cert.RwkvPreIdeal.τ).loc Cert.RwkvPreIdeal.main_arg2)
      ∧ r.2.mem ((c.tc : Thread Cert.RwkvPreIdeal.nD Cert.RwkvPreIdeal.τ).loc Cert.RwkvPreIdeal.main_arg3) = m ((c.tc : Thread Cert.RwkvPreIdeal.nD Cert.RwkvPreIdeal.τ).loc Cert.RwkvPreIdeal.main_arg3)
      ∧ r.2.mem ((c.tc : Thread Cert.RwkvPreIdeal.nD Cert.RwkvPreIdeal.τ).loc Cert.RwkvPreIdeal.main_arg4) = m ((c.tc : Thread Cert.RwkvPreIdeal.nD Cert.RwkvPreIdeal.τ).loc Cert.RwkvPreIdeal.main_arg4)
      ∧ r.2.mem ((c.tc : Thread Cert.RwkvPreIdeal.nD Cert.RwkvPreIdeal.τ).loc Cert.RwkvPreIdeal.main_arg5) = m ((c.tc : Thread Cert.RwkvPreIdeal.nD Cert.RwkvPreIdeal.τ).loc Cert.RwkvPreIdeal.main_arg5)
      ∧ r.2.mem ((c.tc : Thread Cert.RwkvPreIdeal.nD Cert.RwkvPreIdeal.τ).loc Cert.RwkvPreIdeal.main_arg6) = m ((c.tc : Thread Cert.RwkvPreIdeal.nD Cert.RwkvPreIdeal.τ).loc Cert.RwkvPreIdeal.main_arg6)
      ∧ r.2.mem ((c.tc : Thread Cert.RwkvPreIdeal.nD Cert.RwkvPreIdeal.τ).loc Cert.RwkvPreIdeal.main_arg7) = m ((c.tc : Thread Cert.RwkvPreIdeal.nD Cert.RwkvPreIdeal.τ).loc Cert.RwkvPreIdeal.main_arg7)
      ∧ r.2.mem ((c.tc : Thread Cert.RwkvPreIdeal.nD Cert.RwkvPreIdeal.τ).loc Cert.RwkvPreIdeal.main_arg8) = m ((c.tc : Thread Cert.RwkvPreIdeal.nD Cert.RwkvPreIdeal.τ).loc Cert.RwkvPreIdeal.main_arg8)
      ∧ r.2.mem ((c.tc : Thread Cert.RwkvPreIdeal.nD Cert.RwkvPreIdeal.τ).loc Cert.RwkvPreIdeal.main_arg9) = m ((c.tc : Thread Cert.RwkvPreIdeal.nD Cert.RwkvPreIdeal.τ).loc Cert.RwkvPreIdeal.main_arg9))
      ∧ r.2.sem = fun _ => 0)

def quiescent_RwkvPreReferenceIdeal [hRwkvPreReferenceIdeal : Cert.RwkvPreReferenceIdeal.Facts] : Prop :=
  ∀ (m : (ℓ : Loc Cert.RwkvPreReferenceIdeal.nD Cert.RwkvPreReferenceIdeal.τ Cert.RwkvPreReferenceIdeal.sig) → Buf (Elt Ideal) ℓ) (g : Dev Cert.RwkvPreReferenceIdeal.nD → PrngReg), Pre_RwkvPreReferenceIdeal m →
    θ_run (Cert.RwkvPreReferenceIdeal.defs (F := Ideal)) (onTc (τ := Cert.RwkvPreReferenceIdeal.τ) (Cert.RwkvPreReferenceIdeal.main (F := Ideal))) ⟨m, fun _ => 0, g⟩ (fun r => (∀ c : Dev Cert.RwkvPreReferenceIdeal.nD,
      r.2.mem ((c.tc : Thread Cert.RwkvPreReferenceIdeal.nD Cert.RwkvPreReferenceIdeal.τ).loc Cert.RwkvPreReferenceIdeal.main_arg0) = m ((c.tc : Thread Cert.RwkvPreReferenceIdeal.nD Cert.RwkvPreReferenceIdeal.τ).loc Cert.RwkvPreReferenceIdeal.main_arg0)
      ∧ r.2.mem ((c.tc : Thread Cert.RwkvPreReferenceIdeal.nD Cert.RwkvPreReferenceIdeal.τ).loc Cert.RwkvPreReferenceIdeal.main_arg1) = m ((c.tc : Thread Cert.RwkvPreReferenceIdeal.nD Cert.RwkvPreReferenceIdeal.τ).loc Cert.RwkvPreReferenceIdeal.main_arg1)
      ∧ r.2.mem ((c.tc : Thread Cert.RwkvPreReferenceIdeal.nD Cert.RwkvPreReferenceIdeal.τ).loc Cert.RwkvPreReferenceIdeal.main_arg2) = m ((c.tc : Thread Cert.RwkvPreReferenceIdeal.nD Cert.RwkvPreReferenceIdeal.τ).loc Cert.RwkvPreReferenceIdeal.main_arg2)
      ∧ r.2.mem ((c.tc : Thread Cert.RwkvPreReferenceIdeal.nD Cert.RwkvPreReferenceIdeal.τ).loc Cert.RwkvPreReferenceIdeal.main_arg3) = m ((c.tc : Thread Cert.RwkvPreReferenceIdeal.nD Cert.RwkvPreReferenceIdeal.τ).loc Cert.RwkvPreReferenceIdeal.main_arg3)
      ∧ r.2.mem ((c.tc : Thread Cert.RwkvPreReferenceIdeal.nD Cert.RwkvPreReferenceIdeal.τ).loc Cert.RwkvPreReferenceIdeal.main_arg4) = m ((c.tc : Thread Cert.RwkvPreReferenceIdeal.nD Cert.RwkvPreReferenceIdeal.τ).loc Cert.RwkvPreReferenceIdeal.main_arg4)
      ∧ r.2.mem ((c.tc : Thread Cert.RwkvPreReferenceIdeal.nD Cert.RwkvPreReferenceIdeal.τ).loc Cert.RwkvPreReferenceIdeal.main_arg5) = m ((c.tc : Thread Cert.RwkvPreReferenceIdeal.nD Cert.RwkvPreReferenceIdeal.τ).loc Cert.RwkvPreReferenceIdeal.main_arg5)
      ∧ r.2.mem ((c.tc : Thread Cert.RwkvPreReferenceIdeal.nD Cert.RwkvPreReferenceIdeal.τ).loc Cert.RwkvPreReferenceIdeal.main_arg6) = m ((c.tc : Thread Cert.RwkvPreReferenceIdeal.nD Cert.RwkvPreReferenceIdeal.τ).loc Cert.RwkvPreReferenceIdeal.main_arg6)
      ∧ r.2.mem ((c.tc : Thread Cert.RwkvPreReferenceIdeal.nD Cert.RwkvPreReferenceIdeal.τ).loc Cert.RwkvPreReferenceIdeal.main_arg7) = m ((c.tc : Thread Cert.RwkvPreReferenceIdeal.nD Cert.RwkvPreReferenceIdeal.τ).loc Cert.RwkvPreReferenceIdeal.main_arg7)
      ∧ r.2.mem ((c.tc : Thread Cert.RwkvPreReferenceIdeal.nD Cert.RwkvPreReferenceIdeal.τ).loc Cert.RwkvPreReferenceIdeal.main_arg8) = m ((c.tc : Thread Cert.RwkvPreReferenceIdeal.nD Cert.RwkvPreReferenceIdeal.τ).loc Cert.RwkvPreReferenceIdeal.main_arg8)
      ∧ r.2.mem ((c.tc : Thread Cert.RwkvPreReferenceIdeal.nD Cert.RwkvPreReferenceIdeal.τ).loc Cert.RwkvPreReferenceIdeal.main_arg9) = m ((c.tc : Thread Cert.RwkvPreReferenceIdeal.nD Cert.RwkvPreReferenceIdeal.τ).loc Cert.RwkvPreReferenceIdeal.main_arg9))
      ∧ r.2.sem = fun _ => 0)

def quiescent_NormMlp [hNormMlp : Cert.NormMlp.Facts] : Prop :=
  ∀ (m : (ℓ : Loc Cert.NormMlp.nD Cert.NormMlp.τ Cert.NormMlp.sig) → Buf (Elt Bits) ℓ) (g : Dev Cert.NormMlp.nD → PrngReg), Pre_NormMlp m →
    θ_run (Cert.NormMlp.defs (F := Bits)) (onTc (τ := Cert.NormMlp.τ) (Cert.NormMlp.main (F := Bits))) ⟨m, fun _ => 0, g⟩ (fun r => (∀ c : Dev Cert.NormMlp.nD,
      r.2.mem ((c.tc : Thread Cert.NormMlp.nD Cert.NormMlp.τ).loc Cert.NormMlp.main_arg0) = m ((c.tc : Thread Cert.NormMlp.nD Cert.NormMlp.τ).loc Cert.NormMlp.main_arg0)
      ∧ r.2.mem ((c.tc : Thread Cert.NormMlp.nD Cert.NormMlp.τ).loc Cert.NormMlp.main_arg1) = m ((c.tc : Thread Cert.NormMlp.nD Cert.NormMlp.τ).loc Cert.NormMlp.main_arg1)
      ∧ r.2.mem ((c.tc : Thread Cert.NormMlp.nD Cert.NormMlp.τ).loc Cert.NormMlp.main_arg2) = m ((c.tc : Thread Cert.NormMlp.nD Cert.NormMlp.τ).loc Cert.NormMlp.main_arg2))
      ∧ r.2.sem = fun _ => 0)

def quiescent_NormMlpIdeal [hNormMlpIdeal : Cert.NormMlpIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg), Pre_NormMlpIdeal m →
    θ_run (Cert.NormMlpIdeal.defs (F := Ideal)) (onTc (τ := Cert.NormMlpIdeal.τ) (Cert.NormMlpIdeal.main (F := Ideal))) ⟨m, fun _ => 0, g⟩ (fun r => (∀ c : Dev Cert.NormMlpIdeal.nD,
      r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
      ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1)
      ∧ r.2.mem ((c.tc : Thread Cert.NormMlpIdeal.nD Cert.NormMlpIdeal.τ).loc Cert.NormMlpIdeal.main_arg2) = m ((c.tc : Thread Cert.NormMlpIdeal.nD Cert.NormMlpIdeal.τ).loc Cert.NormMlpIdeal.main_arg2))
      ∧ r.2.sem = fun _ => 0)

def quiescent_NormMlpReferenceIdeal [hNormMlpReferenceIdeal : Cert.NormMlpReferenceIdeal.Facts] : Prop :=
  ∀ (m : (ℓ : Loc Cert.NormMlpReferenceIdeal.nD Cert.NormMlpReferenceIdeal.τ Cert.NormMlpReferenceIdeal.sig) → Buf (Elt Ideal) ℓ) (g : Dev Cert.NormMlpReferenceIdeal.nD → PrngReg), Pre_NormMlpReferenceIdeal m →
    θ_run (Cert.NormMlpReferenceIdeal.defs (F := Ideal)) (onTc (τ := Cert.NormMlpReferenceIdeal.τ) (Cert.NormMlpReferenceIdeal.main (F := Ideal))) ⟨m, fun _ => 0, g⟩ (fun r => (∀ c : Dev Cert.NormMlpReferenceIdeal.nD,
      r.2.mem ((c.tc : Thread Cert.NormMlpReferenceIdeal.nD Cert.NormMlpReferenceIdeal.τ).loc Cert.NormMlpReferenceIdeal.main_arg0) = m ((c.tc : Thread Cert.NormMlpReferenceIdeal.nD Cert.NormMlpReferenceIdeal.τ).loc Cert.NormMlpReferenceIdeal.main_arg0)
      ∧ r.2.mem ((c.tc : Thread Cert.NormMlpReferenceIdeal.nD Cert.NormMlpReferenceIdeal.τ).loc Cert.NormMlpReferenceIdeal.main_arg1) = m ((c.tc : Thread Cert.NormMlpReferenceIdeal.nD Cert.NormMlpReferenceIdeal.τ).loc Cert.NormMlpReferenceIdeal.main_arg1)
      ∧ r.2.mem ((c.tc : Thread Cert.NormMlpReferenceIdeal.nD Cert.NormMlpReferenceIdeal.τ).loc Cert.NormMlpReferenceIdeal.main_arg2) = m ((c.tc : Thread Cert.NormMlpReferenceIdeal.nD Cert.NormMlpReferenceIdeal.τ).loc Cert.NormMlpReferenceIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MlpUp_MlpUpIdeal : Prop :=
  True

def algebraic_MlpUpIdeal_MlpUpReferenceIdeal [hMlpUpIdeal : Cert.MlpUpIdeal.Facts] [hMlpUpReferenceIdeal : Cert.MlpUpReferenceIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v5) = v0 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)
      ∧ m' ((c.tc : Thread Cert.MlpDownReferenceIdeal.nD Cert.MlpDownReferenceIdeal.τ).loc Cert.MlpDownReferenceIdeal.main_arg2) = m ((c.tc : Thread Cert.MlpDownIdeal.nD Cert.MlpDownIdeal.τ).loc Cert.MlpDownIdeal.main_arg2)
      ∧ m' ((c.tc : Thread Cert.MlpDownReferenceIdeal.nD Cert.MlpDownReferenceIdeal.τ).loc Cert.MlpDownReferenceIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v2)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v10) = v0 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1)
          ∧ r.2.mem ((c.tc : Thread Cert.MlpDownReferenceIdeal.nD Cert.MlpDownReferenceIdeal.τ).loc Cert.MlpDownReferenceIdeal.main_arg2) = m' ((c.tc : Thread Cert.MlpDownReferenceIdeal.nD Cert.MlpDownReferenceIdeal.τ).loc Cert.MlpDownReferenceIdeal.main_arg2)
          ∧ r.2.mem ((c.tc : Thread Cert.MlpDownReferenceIdeal.nD Cert.MlpDownReferenceIdeal.τ).loc Cert.MlpDownReferenceIdeal.main_arg3) = m' ((c.tc : Thread Cert.MlpDownReferenceIdeal.nD Cert.MlpDownReferenceIdeal.τ).loc Cert.MlpDownReferenceIdeal.main_arg3))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)
      ∧ m' ((c.tc : Thread Cert.ProjectionsReferenceIdeal.nD Cert.ProjectionsReferenceIdeal.τ).loc Cert.ProjectionsReferenceIdeal.main_arg6) = m ((c.tc : Thread Cert.ProjectionsIdeal.nD Cert.ProjectionsIdeal.τ).loc Cert.ProjectionsIdeal.main_arg6)) →
    ∃ (v0 : (c : Dev Cert.ProjectionsIdeal.nD) → Buf (Elt Ideal) ((c.tc : Thread Cert.ProjectionsIdeal.nD Cert.ProjectionsIdeal.τ).loc Cert.ProjectionsIdeal.main_v27)) (v1 : (c : Dev Cert.ProjectionsIdeal.nD) → Buf (Elt Ideal) ((c.tc : Thread Cert.ProjectionsIdeal.nD Cert.ProjectionsIdeal.τ).loc Cert.ProjectionsIdeal.main_v28)) (v2 : (c : Dev Cert.ProjectionsIdeal.nD) → Buf (Elt Ideal) ((c.tc : Thread Cert.ProjectionsIdeal.nD Cert.ProjectionsIdeal.τ).loc Cert.ProjectionsIdeal.main_v21)) (v3 : (c : Dev Cert.ProjectionsIdeal.nD) → Buf (Elt Ideal) ((c.tc : Thread Cert.ProjectionsIdeal.nD Cert.ProjectionsIdeal.τ).loc Cert.ProjectionsIdeal.main_v22)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v27) = v0 c
          ∧ r.2.mem ((c.tc : Thread Cert.ProjectionsIdeal.nD Cert.ProjectionsIdeal.τ).loc Cert.ProjectionsIdeal.main_v28) = v1 c
          ∧ r.2.mem ((c.tc : Thread Cert.ProjectionsIdeal.nD Cert.ProjectionsIdeal.τ).loc Cert.ProjectionsIdeal.main_v21) = v2 c
          ∧ r.2.mem ((c.tc : Thread Cert.ProjectionsIdeal.nD Cert.ProjectionsIdeal.τ).loc Cert.ProjectionsIdeal.main_v22) = v3 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v62) = v0 c
          ∧ r.2.mem ((c.tc : Thread Cert.ProjectionsReferenceIdeal.nD Cert.ProjectionsReferenceIdeal.τ).loc Cert.ProjectionsReferenceIdeal.main_v63) = v1 c
          ∧ r.2.mem ((c.tc : Thread Cert.ProjectionsReferenceIdeal.nD Cert.ProjectionsReferenceIdeal.τ).loc Cert.ProjectionsReferenceIdeal.main_v64) = v2 c
          ∧ r.2.mem ((c.tc : Thread Cert.ProjectionsReferenceIdeal.nD Cert.ProjectionsReferenceIdeal.τ).loc Cert.ProjectionsReferenceIdeal.main_v61) = v3 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5)
          ∧ r.2.mem ((c.tc : Thread Cert.ProjectionsReferenceIdeal.nD Cert.ProjectionsReferenceIdeal.τ).loc Cert.ProjectionsReferenceIdeal.main_arg6) = m' ((c.tc : Thread Cert.ProjectionsReferenceIdeal.nD Cert.ProjectionsReferenceIdeal.τ).loc Cert.ProjectionsReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v10) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_RwkvProj_RwkvProjIdeal : Prop :=
  True

def algebraic_RwkvProjIdeal_RwkvProjReferenceIdeal [hRwkvProjIdeal : Cert.RwkvProjIdeal.Facts] [hRwkvProjReferenceIdeal : Cert.RwkvProjReferenceIdeal.Facts] : Prop :=
  ∀ (m : (ℓ : Loc Cert.RwkvProjIdeal.nD Cert.RwkvProjIdeal.τ Cert.RwkvProjIdeal.sig) → Buf (Elt Ideal) ℓ) (g : Dev Cert.RwkvProjIdeal.nD → PrngReg)
    (m' : (ℓ : Loc Cert.RwkvProjReferenceIdeal.nD Cert.RwkvProjReferenceIdeal.τ Cert.RwkvProjReferenceIdeal.sig) → Buf (Elt Ideal) ℓ) (g' : Dev Cert.RwkvProjReferenceIdeal.nD → PrngReg), Pre_RwkvProjIdeal m →
    (∀ c : Dev Cert.RwkvProjIdeal.nD,
      m' ((c.tc : Thread Cert.RwkvProjReferenceIdeal.nD Cert.RwkvProjReferenceIdeal.τ).loc Cert.RwkvProjReferenceIdeal.main_arg0) = m ((c.tc : Thread Cert.RwkvProjIdeal.nD Cert.RwkvProjIdeal.τ).loc Cert.RwkvProjIdeal.main_arg0)
      ∧ m' ((c.tc : Thread Cert.RwkvProjReferenceIdeal.nD Cert.RwkvProjReferenceIdeal.τ).loc Cert.RwkvProjReferenceIdeal.main_arg1) = m ((c.tc : Thread Cert.RwkvProjIdeal.nD Cert.RwkvProjIdeal.τ).loc Cert.RwkvProjIdeal.main_arg1)) →
    ∃ (v0 : (c : Dev Cert.RwkvProjIdeal.nD) → Buf (Elt Ideal) ((c.tc : Thread Cert.RwkvProjIdeal.nD Cert.RwkvProjIdeal.τ).loc Cert.RwkvProjIdeal.main_v16)),
      θ_run (Cert.RwkvProjIdeal.defs (F := Ideal)) (onTc (τ := Cert.RwkvProjIdeal.τ) (Cert.RwkvProjIdeal.main (F := Ideal))) ⟨m, fun _ => 0, g⟩ (fun r => ∀ c : Dev Cert.RwkvProjIdeal.nD,
          r.2.mem ((c.tc : Thread Cert.RwkvProjIdeal.nD Cert.RwkvProjIdeal.τ).loc Cert.RwkvProjIdeal.main_v16) = v0 c
          ∧ r.2.mem ((c.tc : Thread Cert.RwkvProjIdeal.nD Cert.RwkvProjIdeal.τ).loc Cert.RwkvProjIdeal.main_arg0) = m ((c.tc : Thread Cert.RwkvProjIdeal.nD Cert.RwkvProjIdeal.τ).loc Cert.RwkvProjIdeal.main_arg0)
          ∧ r.2.mem ((c.tc : Thread Cert.RwkvProjIdeal.nD Cert.RwkvProjIdeal.τ).loc Cert.RwkvProjIdeal.main_arg1) = m ((c.tc : Thread Cert.RwkvProjIdeal.nD Cert.RwkvProjIdeal.τ).loc Cert.RwkvProjIdeal.main_arg1))
      ∧ θ_run (Cert.RwkvProjReferenceIdeal.defs (F := Ideal)) (onTc (τ := Cert.RwkvProjReferenceIdeal.τ) (Cert.RwkvProjReferenceIdeal.main (F := Ideal))) ⟨m', fun _ => 0, g'⟩ (fun r => ∀ c : Dev Cert.RwkvProjReferenceIdeal.nD,
          r.2.mem ((c.tc : Thread Cert.RwkvProjReferenceIdeal.nD Cert.RwkvProjReferenceIdeal.τ).loc Cert.RwkvProjReferenceIdeal.main_v14) = v0 c
          ∧ r.2.mem ((c.tc : Thread Cert.RwkvProjReferenceIdeal.nD Cert.RwkvProjReferenceIdeal.τ).loc Cert.RwkvProjReferenceIdeal.main_arg0) = m' ((c.tc : Thread Cert.RwkvProjReferenceIdeal.nD Cert.RwkvProjReferenceIdeal.τ).loc Cert.RwkvProjReferenceIdeal.main_arg0)
          ∧ r.2.mem ((c.tc : Thread Cert.RwkvProjReferenceIdeal.nD Cert.RwkvProjReferenceIdeal.τ).loc Cert.RwkvProjReferenceIdeal.main_arg1) = m' ((c.tc : Thread Cert.RwkvProjReferenceIdeal.nD Cert.RwkvProjReferenceIdeal.τ).loc Cert.RwkvProjReferenceIdeal.main_arg1))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)
      ∧ m' ((c.tc : Thread Cert.FinalNormReferenceIdeal.nD Cert.FinalNormReferenceIdeal.τ).loc Cert.FinalNormReferenceIdeal.main_arg2) = m ((c.tc : Thread Cert.FinalNormIdeal.nD Cert.FinalNormIdeal.τ).loc Cert.FinalNormIdeal.main_arg2)) →
    ∃ (v0 : (c : Dev Cert.FinalNormIdeal.nD) → Buf (Elt Ideal) ((c.tc : Thread Cert.FinalNormIdeal.nD Cert.FinalNormIdeal.τ).loc Cert.FinalNormIdeal.main_v2)) (v1 : (c : Dev Cert.FinalNormIdeal.nD) → Buf (Elt Ideal) ((c.tc : Thread Cert.FinalNormIdeal.nD Cert.FinalNormIdeal.τ).loc Cert.FinalNormIdeal.main_v5)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_v5) = v1 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
          ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v13) = v0 c
          ∧ r.2.mem ((c.tc : Thread Cert.FinalNormReferenceIdeal.nD Cert.FinalNormReferenceIdeal.τ).loc Cert.FinalNormReferenceIdeal.main_v27) = v1 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1)
          ∧ r.2.mem ((c.tc : Thread Cert.FinalNormReferenceIdeal.nD Cert.FinalNormReferenceIdeal.τ).loc Cert.FinalNormReferenceIdeal.main_arg2) = m' ((c.tc : Thread Cert.FinalNormReferenceIdeal.nD Cert.FinalNormReferenceIdeal.τ).loc Cert.FinalNormReferenceIdeal.main_arg2))

def preserves_RwkvGate_RwkvGateIdeal : Prop :=
  True

def algebraic_RwkvGateIdeal_RwkvGateReferenceIdeal [hRwkvGateIdeal : Cert.RwkvGateIdeal.Facts] [hRwkvGateReferenceIdeal : Cert.RwkvGateReferenceIdeal.Facts] : Prop :=
  ∀ (m : (ℓ : Loc Cert.RwkvGateIdeal.nD Cert.RwkvGateIdeal.τ Cert.RwkvGateIdeal.sig) → Buf (Elt Ideal) ℓ) (g : Dev Cert.RwkvGateIdeal.nD → PrngReg)
    (m' : (ℓ : Loc Cert.RwkvGateReferenceIdeal.nD Cert.RwkvGateReferenceIdeal.τ Cert.RwkvGateReferenceIdeal.sig) → Buf (Elt Ideal) ℓ) (g' : Dev Cert.RwkvGateReferenceIdeal.nD → PrngReg), Pre_RwkvGateIdeal m →
    (∀ c : Dev Cert.RwkvGateIdeal.nD,
      m' ((c.tc : Thread Cert.RwkvGateReferenceIdeal.nD Cert.RwkvGateReferenceIdeal.τ).loc Cert.RwkvGateReferenceIdeal.main_arg0) = m ((c.tc : Thread Cert.RwkvGateIdeal.nD Cert.RwkvGateIdeal.τ).loc Cert.RwkvGateIdeal.main_arg0)
      ∧ m' ((c.tc : Thread Cert.RwkvGateReferenceIdeal.nD Cert.RwkvGateReferenceIdeal.τ).loc Cert.RwkvGateReferenceIdeal.main_arg1) = m ((c.tc : Thread Cert.RwkvGateIdeal.nD Cert.RwkvGateIdeal.τ).loc Cert.RwkvGateIdeal.main_arg1)
      ∧ m' ((c.tc : Thread Cert.RwkvGateReferenceIdeal.nD Cert.RwkvGateReferenceIdeal.τ).loc Cert.RwkvGateReferenceIdeal.main_arg2) = m ((c.tc : Thread Cert.RwkvGateIdeal.nD Cert.RwkvGateIdeal.τ).loc Cert.RwkvGateIdeal.main_arg2)
      ∧ m' ((c.tc : Thread Cert.RwkvGateReferenceIdeal.nD Cert.RwkvGateReferenceIdeal.τ).loc Cert.RwkvGateReferenceIdeal.main_arg3) = m ((c.tc : Thread Cert.RwkvGateIdeal.nD Cert.RwkvGateIdeal.τ).loc Cert.RwkvGateIdeal.main_arg3)
      ∧ m' ((c.tc : Thread Cert.RwkvGateReferenceIdeal.nD Cert.RwkvGateReferenceIdeal.τ).loc Cert.RwkvGateReferenceIdeal.main_arg4) = m ((c.tc : Thread Cert.RwkvGateIdeal.nD Cert.RwkvGateIdeal.τ).loc Cert.RwkvGateIdeal.main_arg4)) →
    ∃ (v0 : (c : Dev Cert.RwkvGateIdeal.nD) → Buf (Elt Ideal) ((c.tc : Thread Cert.RwkvGateIdeal.nD Cert.RwkvGateIdeal.τ).loc Cert.RwkvGateIdeal.main_v14)),
      θ_run (Cert.RwkvGateIdeal.defs (F := Ideal)) (onTc (τ := Cert.RwkvGateIdeal.τ) (Cert.RwkvGateIdeal.main (F := Ideal))) ⟨m, fun _ => 0, g⟩ (fun r => ∀ c : Dev Cert.RwkvGateIdeal.nD,
          r.2.mem ((c.tc : Thread Cert.RwkvGateIdeal.nD Cert.RwkvGateIdeal.τ).loc Cert.RwkvGateIdeal.main_v14) = v0 c
          ∧ r.2.mem ((c.tc : Thread Cert.RwkvGateIdeal.nD Cert.RwkvGateIdeal.τ).loc Cert.RwkvGateIdeal.main_arg0) = m ((c.tc : Thread Cert.RwkvGateIdeal.nD Cert.RwkvGateIdeal.τ).loc Cert.RwkvGateIdeal.main_arg0)
          ∧ r.2.mem ((c.tc : Thread Cert.RwkvGateIdeal.nD Cert.RwkvGateIdeal.τ).loc Cert.RwkvGateIdeal.main_arg1) = m ((c.tc : Thread Cert.RwkvGateIdeal.nD Cert.RwkvGateIdeal.τ).loc Cert.RwkvGateIdeal.main_arg1)
          ∧ r.2.mem ((c.tc : Thread Cert.RwkvGateIdeal.nD Cert.RwkvGateIdeal.τ).loc Cert.RwkvGateIdeal.main_arg2) = m ((c.tc : Thread Cert.RwkvGateIdeal.nD Cert.RwkvGateIdeal.τ).loc Cert.RwkvGateIdeal.main_arg2)
          ∧ r.2.mem ((c.tc : Thread Cert.RwkvGateIdeal.nD Cert.RwkvGateIdeal.τ).loc Cert.RwkvGateIdeal.main_arg3) = m ((c.tc : Thread Cert.RwkvGateIdeal.nD Cert.RwkvGateIdeal.τ).loc Cert.RwkvGateIdeal.main_arg3)
          ∧ r.2.mem ((c.tc : Thread Cert.RwkvGateIdeal.nD Cert.RwkvGateIdeal.τ).loc Cert.RwkvGateIdeal.main_arg4) = m ((c.tc : Thread Cert.RwkvGateIdeal.nD Cert.RwkvGateIdeal.τ).loc Cert.RwkvGateIdeal.main_arg4))
      ∧ θ_run (Cert.RwkvGateReferenceIdeal.defs (F := Ideal)) (onTc (τ := Cert.RwkvGateReferenceIdeal.τ) (Cert.RwkvGateReferenceIdeal.main (F := Ideal))) ⟨m', fun _ => 0, g'⟩ (fun r => ∀ c : Dev Cert.RwkvGateReferenceIdeal.nD,
          r.2.mem ((c.tc : Thread Cert.RwkvGateReferenceIdeal.nD Cert.RwkvGateReferenceIdeal.τ).loc Cert.RwkvGateReferenceIdeal.main_v74) = v0 c
          ∧ r.2.mem ((c.tc : Thread Cert.RwkvGateReferenceIdeal.nD Cert.RwkvGateReferenceIdeal.τ).loc Cert.RwkvGateReferenceIdeal.main_arg0) = m' ((c.tc : Thread Cert.RwkvGateReferenceIdeal.nD Cert.RwkvGateReferenceIdeal.τ).loc Cert.RwkvGateReferenceIdeal.main_arg0)
          ∧ r.2.mem ((c.tc : Thread Cert.RwkvGateReferenceIdeal.nD Cert.RwkvGateReferenceIdeal.τ).loc Cert.RwkvGateReferenceIdeal.main_arg1) = m' ((c.tc : Thread Cert.RwkvGateReferenceIdeal.nD Cert.RwkvGateReferenceIdeal.τ).loc Cert.RwkvGateReferenceIdeal.main_arg1)
          ∧ r.2.mem ((c.tc : Thread Cert.RwkvGateReferenceIdeal.nD Cert.RwkvGateReferenceIdeal.τ).loc Cert.RwkvGateReferenceIdeal.main_arg2) = m' ((c.tc : Thread Cert.RwkvGateReferenceIdeal.nD Cert.RwkvGateReferenceIdeal.τ).loc Cert.RwkvGateReferenceIdeal.main_arg2)
          ∧ r.2.mem ((c.tc : Thread Cert.RwkvGateReferenceIdeal.nD Cert.RwkvGateReferenceIdeal.τ).loc Cert.RwkvGateReferenceIdeal.main_arg3) = m' ((c.tc : Thread Cert.RwkvGateReferenceIdeal.nD Cert.RwkvGateReferenceIdeal.τ).loc Cert.RwkvGateReferenceIdeal.main_arg3)
          ∧ r.2.mem ((c.tc : Thread Cert.RwkvGateReferenceIdeal.nD Cert.RwkvGateReferenceIdeal.τ).loc Cert.RwkvGateReferenceIdeal.main_arg4) = m' ((c.tc : Thread Cert.RwkvGateReferenceIdeal.nD Cert.RwkvGateReferenceIdeal.τ).loc Cert.RwkvGateReferenceIdeal.main_arg4))

def preserves_RwkvPre_RwkvPreIdeal : Prop :=
  True

def algebraic_RwkvPreIdeal_RwkvPreReferenceIdeal [hRwkvPreIdeal : Cert.RwkvPreIdeal.Facts] [hRwkvPreReferenceIdeal : Cert.RwkvPreReferenceIdeal.Facts] : Prop :=
  ∀ (m : (ℓ : Loc Cert.RwkvPreIdeal.nD Cert.RwkvPreIdeal.τ Cert.RwkvPreIdeal.sig) → Buf (Elt Ideal) ℓ) (g : Dev Cert.RwkvPreIdeal.nD → PrngReg)
    (m' : (ℓ : Loc Cert.RwkvPreReferenceIdeal.nD Cert.RwkvPreReferenceIdeal.τ Cert.RwkvPreReferenceIdeal.sig) → Buf (Elt Ideal) ℓ) (g' : Dev Cert.RwkvPreReferenceIdeal.nD → PrngReg), Pre_RwkvPreIdeal m →
    (∀ c : Dev Cert.RwkvPreIdeal.nD,
      m' ((c.tc : Thread Cert.RwkvPreReferenceIdeal.nD Cert.RwkvPreReferenceIdeal.τ).loc Cert.RwkvPreReferenceIdeal.main_arg0) = m ((c.tc : Thread Cert.RwkvPreIdeal.nD Cert.RwkvPreIdeal.τ).loc Cert.RwkvPreIdeal.main_arg0)
      ∧ m' ((c.tc : Thread Cert.RwkvPreReferenceIdeal.nD Cert.RwkvPreReferenceIdeal.τ).loc Cert.RwkvPreReferenceIdeal.main_arg1) = m ((c.tc : Thread Cert.RwkvPreIdeal.nD Cert.RwkvPreIdeal.τ).loc Cert.RwkvPreIdeal.main_arg1)
      ∧ m' ((c.tc : Thread Cert.RwkvPreReferenceIdeal.nD Cert.RwkvPreReferenceIdeal.τ).loc Cert.RwkvPreReferenceIdeal.main_arg2) = m ((c.tc : Thread Cert.RwkvPreIdeal.nD Cert.RwkvPreIdeal.τ).loc Cert.RwkvPreIdeal.main_arg2)
      ∧ m' ((c.tc : Thread Cert.RwkvPreReferenceIdeal.nD Cert.RwkvPreReferenceIdeal.τ).loc Cert.RwkvPreReferenceIdeal.main_arg3) = m ((c.tc : Thread Cert.RwkvPreIdeal.nD Cert.RwkvPreIdeal.τ).loc Cert.RwkvPreIdeal.main_arg3)
      ∧ m' ((c.tc : Thread Cert.RwkvPreReferenceIdeal.nD Cert.RwkvPreReferenceIdeal.τ).loc Cert.RwkvPreReferenceIdeal.main_arg4) = m ((c.tc : Thread Cert.RwkvPreIdeal.nD Cert.RwkvPreIdeal.τ).loc Cert.RwkvPreIdeal.main_arg4)
      ∧ m' ((c.tc : Thread Cert.RwkvPreReferenceIdeal.nD Cert.RwkvPreReferenceIdeal.τ).loc Cert.RwkvPreReferenceIdeal.main_arg5) = m ((c.tc : Thread Cert.RwkvPreIdeal.nD Cert.RwkvPreIdeal.τ).loc Cert.RwkvPreIdeal.main_arg5)
      ∧ m' ((c.tc : Thread Cert.RwkvPreReferenceIdeal.nD Cert.RwkvPreReferenceIdeal.τ).loc Cert.RwkvPreReferenceIdeal.main_arg6) = m ((c.tc : Thread Cert.RwkvPreIdeal.nD Cert.RwkvPreIdeal.τ).loc Cert.RwkvPreIdeal.main_arg6)
      ∧ m' ((c.tc : Thread Cert.RwkvPreReferenceIdeal.nD Cert.RwkvPreReferenceIdeal.τ).loc Cert.RwkvPreReferenceIdeal.main_arg7) = m ((c.tc : Thread Cert.RwkvPreIdeal.nD Cert.RwkvPreIdeal.τ).loc Cert.RwkvPreIdeal.main_arg7)
      ∧ m' ((c.tc : Thread Cert.RwkvPreReferenceIdeal.nD Cert.RwkvPreReferenceIdeal.τ).loc Cert.RwkvPreReferenceIdeal.main_arg8) = m ((c.tc : Thread Cert.RwkvPreIdeal.nD Cert.RwkvPreIdeal.τ).loc Cert.RwkvPreIdeal.main_arg8)
      ∧ m' ((c.tc : Thread Cert.RwkvPreReferenceIdeal.nD Cert.RwkvPreReferenceIdeal.τ).loc Cert.RwkvPreReferenceIdeal.main_arg9) = m ((c.tc : Thread Cert.RwkvPreIdeal.nD Cert.RwkvPreIdeal.τ).loc Cert.RwkvPreIdeal.main_arg9)) →
    ∃ (v0 : (c : Dev Cert.RwkvPreIdeal.nD) → Buf (Elt Ideal) ((c.tc : Thread Cert.RwkvPreIdeal.nD Cert.RwkvPreIdeal.τ).loc Cert.RwkvPreIdeal.main_v59_0)) (v1 : (c : Dev Cert.RwkvPreIdeal.nD) → Buf (Elt Ideal) ((c.tc : Thread Cert.RwkvPreIdeal.nD Cert.RwkvPreIdeal.τ).loc Cert.RwkvPreIdeal.main_v59_1)) (v2 : (c : Dev Cert.RwkvPreIdeal.nD) → Buf (Elt Ideal) ((c.tc : Thread Cert.RwkvPreIdeal.nD Cert.RwkvPreIdeal.τ).loc Cert.RwkvPreIdeal.main_v59_2)) (v3 : (c : Dev Cert.RwkvPreIdeal.nD) → Buf (Elt Ideal) ((c.tc : Thread Cert.RwkvPreIdeal.nD Cert.RwkvPreIdeal.τ).loc Cert.RwkvPreIdeal.main_v59_3)) (v4 : (c : Dev Cert.RwkvPreIdeal.nD) → Buf (Elt Ideal) ((c.tc : Thread Cert.RwkvPreIdeal.nD Cert.RwkvPreIdeal.τ).loc Cert.RwkvPreIdeal.main_v59_4)) (v5 : (c : Dev Cert.RwkvPreIdeal.nD) → Buf (Elt Ideal) ((c.tc : Thread Cert.RwkvPreIdeal.nD Cert.RwkvPreIdeal.τ).loc Cert.RwkvPreIdeal.main_v59_5)) (v6 : (c : Dev Cert.RwkvPreIdeal.nD) → Buf (Elt Ideal) ((c.tc : Thread Cert.RwkvPreIdeal.nD Cert.RwkvPreIdeal.τ).loc Cert.RwkvPreIdeal.main_v59_6)) (v7 : (c : Dev Cert.RwkvPreIdeal.nD) → Buf (Elt Ideal) ((c.tc : Thread Cert.RwkvPreIdeal.nD Cert.RwkvPreIdeal.τ).loc Cert.RwkvPreIdeal.main_v59_7)),
      θ_run (Cert.RwkvPreIdeal.defs (F := Ideal)) (onTc (τ := Cert.RwkvPreIdeal.τ) (Cert.RwkvPreIdeal.main (F := Ideal))) ⟨m, fun _ => 0, g⟩ (fun r => ∀ c : Dev Cert.RwkvPreIdeal.nD,
          r.2.mem ((c.tc : Thread Cert.RwkvPreIdeal.nD Cert.RwkvPreIdeal.τ).loc Cert.RwkvPreIdeal.main_v59_0) = v0 c
          ∧ r.2.mem ((c.tc : Thread Cert.RwkvPreIdeal.nD Cert.RwkvPreIdeal.τ).loc Cert.RwkvPreIdeal.main_v59_1) = v1 c
          ∧ r.2.mem ((c.tc : Thread Cert.RwkvPreIdeal.nD Cert.RwkvPreIdeal.τ).loc Cert.RwkvPreIdeal.main_v59_2) = v2 c
          ∧ r.2.mem ((c.tc : Thread Cert.RwkvPreIdeal.nD Cert.RwkvPreIdeal.τ).loc Cert.RwkvPreIdeal.main_v59_3) = v3 c
          ∧ r.2.mem ((c.tc : Thread Cert.RwkvPreIdeal.nD Cert.RwkvPreIdeal.τ).loc Cert.RwkvPreIdeal.main_v59_4) = v4 c
          ∧ r.2.mem ((c.tc : Thread Cert.RwkvPreIdeal.nD Cert.RwkvPreIdeal.τ).loc Cert.RwkvPreIdeal.main_v59_5) = v5 c
          ∧ r.2.mem ((c.tc : Thread Cert.RwkvPreIdeal.nD Cert.RwkvPreIdeal.τ).loc Cert.RwkvPreIdeal.main_v59_6) = v6 c
          ∧ r.2.mem ((c.tc : Thread Cert.RwkvPreIdeal.nD Cert.RwkvPreIdeal.τ).loc Cert.RwkvPreIdeal.main_v59_7) = v7 c
          ∧ r.2.mem ((c.tc : Thread Cert.RwkvPreIdeal.nD Cert.RwkvPreIdeal.τ).loc Cert.RwkvPreIdeal.main_arg0) = m ((c.tc : Thread Cert.RwkvPreIdeal.nD Cert.RwkvPreIdeal.τ).loc Cert.RwkvPreIdeal.main_arg0)
          ∧ r.2.mem ((c.tc : Thread Cert.RwkvPreIdeal.nD Cert.RwkvPreIdeal.τ).loc Cert.RwkvPreIdeal.main_arg1) = m ((c.tc : Thread Cert.RwkvPreIdeal.nD Cert.RwkvPreIdeal.τ).loc Cert.RwkvPreIdeal.main_arg1)
          ∧ r.2.mem ((c.tc : Thread Cert.RwkvPreIdeal.nD Cert.RwkvPreIdeal.τ).loc Cert.RwkvPreIdeal.main_arg2) = m ((c.tc : Thread Cert.RwkvPreIdeal.nD Cert.RwkvPreIdeal.τ).loc Cert.RwkvPreIdeal.main_arg2)
          ∧ r.2.mem ((c.tc : Thread Cert.RwkvPreIdeal.nD Cert.RwkvPreIdeal.τ).loc Cert.RwkvPreIdeal.main_arg3) = m ((c.tc : Thread Cert.RwkvPreIdeal.nD Cert.RwkvPreIdeal.τ).loc Cert.RwkvPreIdeal.main_arg3)
          ∧ r.2.mem ((c.tc : Thread Cert.RwkvPreIdeal.nD Cert.RwkvPreIdeal.τ).loc Cert.RwkvPreIdeal.main_arg4) = m ((c.tc : Thread Cert.RwkvPreIdeal.nD Cert.RwkvPreIdeal.τ).loc Cert.RwkvPreIdeal.main_arg4)
          ∧ r.2.mem ((c.tc : Thread Cert.RwkvPreIdeal.nD Cert.RwkvPreIdeal.τ).loc Cert.RwkvPreIdeal.main_arg5) = m ((c.tc : Thread Cert.RwkvPreIdeal.nD Cert.RwkvPreIdeal.τ).loc Cert.RwkvPreIdeal.main_arg5)
          ∧ r.2.mem ((c.tc : Thread Cert.RwkvPreIdeal.nD Cert.RwkvPreIdeal.τ).loc Cert.RwkvPreIdeal.main_arg6) = m ((c.tc : Thread Cert.RwkvPreIdeal.nD Cert.RwkvPreIdeal.τ).loc Cert.RwkvPreIdeal.main_arg6)
          ∧ r.2.mem ((c.tc : Thread Cert.RwkvPreIdeal.nD Cert.RwkvPreIdeal.τ).loc Cert.RwkvPreIdeal.main_arg7) = m ((c.tc : Thread Cert.RwkvPreIdeal.nD Cert.RwkvPreIdeal.τ).loc Cert.RwkvPreIdeal.main_arg7)
          ∧ r.2.mem ((c.tc : Thread Cert.RwkvPreIdeal.nD Cert.RwkvPreIdeal.τ).loc Cert.RwkvPreIdeal.main_arg8) = m ((c.tc : Thread Cert.RwkvPreIdeal.nD Cert.RwkvPreIdeal.τ).loc Cert.RwkvPreIdeal.main_arg8)
          ∧ r.2.mem ((c.tc : Thread Cert.RwkvPreIdeal.nD Cert.RwkvPreIdeal.τ).loc Cert.RwkvPreIdeal.main_arg9) = m ((c.tc : Thread Cert.RwkvPreIdeal.nD Cert.RwkvPreIdeal.τ).loc Cert.RwkvPreIdeal.main_arg9))
      ∧ θ_run (Cert.RwkvPreReferenceIdeal.defs (F := Ideal)) (onTc (τ := Cert.RwkvPreReferenceIdeal.τ) (Cert.RwkvPreReferenceIdeal.main (F := Ideal))) ⟨m', fun _ => 0, g'⟩ (fun r => ∀ c : Dev Cert.RwkvPreReferenceIdeal.nD,
          r.2.mem ((c.tc : Thread Cert.RwkvPreReferenceIdeal.nD Cert.RwkvPreReferenceIdeal.τ).loc Cert.RwkvPreReferenceIdeal.main_v247) = v0 c
          ∧ r.2.mem ((c.tc : Thread Cert.RwkvPreReferenceIdeal.nD Cert.RwkvPreReferenceIdeal.τ).loc Cert.RwkvPreReferenceIdeal.main_v250) = v1 c
          ∧ r.2.mem ((c.tc : Thread Cert.RwkvPreReferenceIdeal.nD Cert.RwkvPreReferenceIdeal.τ).loc Cert.RwkvPreReferenceIdeal.main_v253) = v2 c
          ∧ r.2.mem ((c.tc : Thread Cert.RwkvPreReferenceIdeal.nD Cert.RwkvPreReferenceIdeal.τ).loc Cert.RwkvPreReferenceIdeal.main_v262) = v3 c
          ∧ r.2.mem ((c.tc : Thread Cert.RwkvPreReferenceIdeal.nD Cert.RwkvPreReferenceIdeal.τ).loc Cert.RwkvPreReferenceIdeal.main_v271) = v4 c
          ∧ r.2.mem ((c.tc : Thread Cert.RwkvPreReferenceIdeal.nD Cert.RwkvPreReferenceIdeal.τ).loc Cert.RwkvPreReferenceIdeal.main_v280) = v5 c
          ∧ r.2.mem ((c.tc : Thread Cert.RwkvPreReferenceIdeal.nD Cert.RwkvPreReferenceIdeal.τ).loc Cert.RwkvPreReferenceIdeal.main_v283) = v6 c
          ∧ r.2.mem ((c.tc : Thread Cert.RwkvPreReferenceIdeal.nD Cert.RwkvPreReferenceIdeal.τ).loc Cert.RwkvPreReferenceIdeal.main_v286) = v7 c
          ∧ r.2.mem ((c.tc : Thread Cert.RwkvPreReferenceIdeal.nD Cert.RwkvPreReferenceIdeal.τ).loc Cert.RwkvPreReferenceIdeal.main_arg0) = m' ((c.tc : Thread Cert.RwkvPreReferenceIdeal.nD Cert.RwkvPreReferenceIdeal.τ).loc Cert.RwkvPreReferenceIdeal.main_arg0)
          ∧ r.2.mem ((c.tc : Thread Cert.RwkvPreReferenceIdeal.nD Cert.RwkvPreReferenceIdeal.τ).loc Cert.RwkvPreReferenceIdeal.main_arg1) = m' ((c.tc : Thread Cert.RwkvPreReferenceIdeal.nD Cert.RwkvPreReferenceIdeal.τ).loc Cert.RwkvPreReferenceIdeal.main_arg1)
          ∧ r.2.mem ((c.tc : Thread Cert.RwkvPreReferenceIdeal.nD Cert.RwkvPreReferenceIdeal.τ).loc Cert.RwkvPreReferenceIdeal.main_arg2) = m' ((c.tc : Thread Cert.RwkvPreReferenceIdeal.nD Cert.RwkvPreReferenceIdeal.τ).loc Cert.RwkvPreReferenceIdeal.main_arg2)
          ∧ r.2.mem ((c.tc : Thread Cert.RwkvPreReferenceIdeal.nD Cert.RwkvPreReferenceIdeal.τ).loc Cert.RwkvPreReferenceIdeal.main_arg3) = m' ((c.tc : Thread Cert.RwkvPreReferenceIdeal.nD Cert.RwkvPreReferenceIdeal.τ).loc Cert.RwkvPreReferenceIdeal.main_arg3)
          ∧ r.2.mem ((c.tc : Thread Cert.RwkvPreReferenceIdeal.nD Cert.RwkvPreReferenceIdeal.τ).loc Cert.RwkvPreReferenceIdeal.main_arg4) = m' ((c.tc : Thread Cert.RwkvPreReferenceIdeal.nD Cert.RwkvPreReferenceIdeal.τ).loc Cert.RwkvPreReferenceIdeal.main_arg4)
          ∧ r.2.mem ((c.tc : Thread Cert.RwkvPreReferenceIdeal.nD Cert.RwkvPreReferenceIdeal.τ).loc Cert.RwkvPreReferenceIdeal.main_arg5) = m' ((c.tc : Thread Cert.RwkvPreReferenceIdeal.nD Cert.RwkvPreReferenceIdeal.τ).loc Cert.RwkvPreReferenceIdeal.main_arg5)
          ∧ r.2.mem ((c.tc : Thread Cert.RwkvPreReferenceIdeal.nD Cert.RwkvPreReferenceIdeal.τ).loc Cert.RwkvPreReferenceIdeal.main_arg6) = m' ((c.tc : Thread Cert.RwkvPreReferenceIdeal.nD Cert.RwkvPreReferenceIdeal.τ).loc Cert.RwkvPreReferenceIdeal.main_arg6)
          ∧ r.2.mem ((c.tc : Thread Cert.RwkvPreReferenceIdeal.nD Cert.RwkvPreReferenceIdeal.τ).loc Cert.RwkvPreReferenceIdeal.main_arg7) = m' ((c.tc : Thread Cert.RwkvPreReferenceIdeal.nD Cert.RwkvPreReferenceIdeal.τ).loc Cert.RwkvPreReferenceIdeal.main_arg7)
          ∧ r.2.mem ((c.tc : Thread Cert.RwkvPreReferenceIdeal.nD Cert.RwkvPreReferenceIdeal.τ).loc Cert.RwkvPreReferenceIdeal.main_arg8) = m' ((c.tc : Thread Cert.RwkvPreReferenceIdeal.nD Cert.RwkvPreReferenceIdeal.τ).loc Cert.RwkvPreReferenceIdeal.main_arg8)
          ∧ r.2.mem ((c.tc : Thread Cert.RwkvPreReferenceIdeal.nD Cert.RwkvPreReferenceIdeal.τ).loc Cert.RwkvPreReferenceIdeal.main_arg9) = m' ((c.tc : Thread Cert.RwkvPreReferenceIdeal.nD Cert.RwkvPreReferenceIdeal.τ).loc Cert.RwkvPreReferenceIdeal.main_arg9))

def preserves_NormMlp_NormMlpIdeal : Prop :=
  True

def algebraic_NormMlpIdeal_NormMlpReferenceIdeal [hNormMlpIdeal : Cert.NormMlpIdeal.Facts] [hNormMlpReferenceIdeal : Cert.NormMlpReferenceIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg)
    (m' : (ℓ : Loc Cert.NormMlpReferenceIdeal.nD Cert.NormMlpReferenceIdeal.τ Cert.NormMlpReferenceIdeal.sig) → Buf (Elt Ideal) ℓ) (g' : Dev Cert.NormMlpReferenceIdeal.nD → PrngReg), Pre_NormMlpIdeal m →
    (∀ c : Dev Cert.NormMlpIdeal.nD,
      m' ((c.tc : Thread Cert.NormMlpReferenceIdeal.nD Cert.NormMlpReferenceIdeal.τ).loc Cert.NormMlpReferenceIdeal.main_arg0) = m ((c.tc : Thread Cert.NormMlpIdeal.nD Cert.NormMlpIdeal.τ).loc Cert.NormMlpIdeal.main_arg0)
      ∧ m' ((c.tc : Thread Cert.NormMlpReferenceIdeal.nD Cert.NormMlpReferenceIdeal.τ).loc Cert.NormMlpReferenceIdeal.main_arg1) = m ((c.tc : Thread Cert.NormMlpIdeal.nD Cert.NormMlpIdeal.τ).loc Cert.NormMlpIdeal.main_arg1)
      ∧ m' ((c.tc : Thread Cert.NormMlpReferenceIdeal.nD Cert.NormMlpReferenceIdeal.τ).loc Cert.NormMlpReferenceIdeal.main_arg2) = m ((c.tc : Thread Cert.NormMlpIdeal.nD Cert.NormMlpIdeal.τ).loc Cert.NormMlpIdeal.main_arg2)) →
    ∃ (v0 : (c : Dev Cert.NormMlpIdeal.nD) → Buf (Elt Ideal) ((c.tc : Thread Cert.NormMlpIdeal.nD Cert.NormMlpIdeal.τ).loc Cert.NormMlpIdeal.main_v2)),
      θ_run (Cert.NormMlpIdeal.defs (F := Ideal)) (onTc (τ := Cert.NormMlpIdeal.τ) (Cert.NormMlpIdeal.main (F := Ideal))) ⟨m, fun _ => 0, g⟩ (fun r => ∀ c : Dev Cert.NormMlpIdeal.nD,
          r.2.mem ((c.tc : Thread Cert.NormMlpIdeal.nD Cert.NormMlpIdeal.τ).loc Cert.NormMlpIdeal.main_v2) = v0 c
          ∧ r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
          ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1)
          ∧ r.2.mem ((c.tc : Thread Cert.NormMlpIdeal.nD Cert.NormMlpIdeal.τ).loc Cert.NormMlpIdeal.main_arg2) = m ((c.tc : Thread Cert.NormMlpIdeal.nD Cert.NormMlpIdeal.τ).loc Cert.NormMlpIdeal.main_arg2))
      ∧ θ_run (Cert.NormMlpReferenceIdeal.defs (F := Ideal)) (onTc (τ := Cert.NormMlpReferenceIdeal.τ) (Cert.NormMlpReferenceIdeal.main (F := Ideal))) ⟨m', fun _ => 0, g'⟩ (fun r => ∀ c : Dev Cert.NormMlpReferenceIdeal.nD,
          r.2.mem ((c.tc : Thread Cert.NormMlpReferenceIdeal.nD Cert.NormMlpReferenceIdeal.τ).loc Cert.NormMlpReferenceIdeal.main_v25) = v0 c
          ∧ r.2.mem ((c.tc : Thread Cert.NormMlpReferenceIdeal.nD Cert.NormMlpReferenceIdeal.τ).loc Cert.NormMlpReferenceIdeal.main_arg0) = m' ((c.tc : Thread Cert.NormMlpReferenceIdeal.nD Cert.NormMlpReferenceIdeal.τ).loc Cert.NormMlpReferenceIdeal.main_arg0)
          ∧ r.2.mem ((c.tc : Thread Cert.NormMlpReferenceIdeal.nD Cert.NormMlpReferenceIdeal.τ).loc Cert.NormMlpReferenceIdeal.main_arg1) = m' ((c.tc : Thread Cert.NormMlpReferenceIdeal.nD Cert.NormMlpReferenceIdeal.τ).loc Cert.NormMlpReferenceIdeal.main_arg1)
          ∧ r.2.mem ((c.tc : Thread Cert.NormMlpReferenceIdeal.nD Cert.NormMlpReferenceIdeal.τ).loc Cert.NormMlpReferenceIdeal.main_arg2) = m' ((c.tc : Thread Cert.NormMlpReferenceIdeal.nD Cert.NormMlpReferenceIdeal.τ).loc Cert.NormMlpReferenceIdeal.main_arg2))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpReferenceIdeal : Cert.MlpUpReferenceIdeal.Facts) (hMlpDown : Cert.MlpDown.Facts) (hMlpDownIdeal : Cert.MlpDownIdeal.Facts) (hMlpDownReferenceIdeal : Cert.MlpDownReferenceIdeal.Facts) (hProjections : Cert.Projections.Facts) (hProjectionsIdeal : Cert.ProjectionsIdeal.Facts) (hProjectionsReferenceIdeal : Cert.ProjectionsReferenceIdeal.Facts) (hOutProj : Cert.OutProj.Facts) (hOutProjIdeal : Cert.OutProjIdeal.Facts) (hOutProjReferenceIdeal : Cert.OutProjReferenceIdeal.Facts) (hMerge : Cert.Merge.Facts) (hMergeIdeal : Cert.MergeIdeal.Facts) (hMergeReferenceIdeal : Cert.MergeReferenceIdeal.Facts) (hRwkvProj : Cert.RwkvProj.Facts) (hRwkvProjIdeal : Cert.RwkvProjIdeal.Facts) (hRwkvProjReferenceIdeal : Cert.RwkvProjReferenceIdeal.Facts) (hFinalNorm : Cert.FinalNorm.Facts) (hFinalNormIdeal : Cert.FinalNormIdeal.Facts) (hFinalNormReferenceIdeal : Cert.FinalNormReferenceIdeal.Facts) (hRwkvGate : Cert.RwkvGate.Facts) (hRwkvGateIdeal : Cert.RwkvGateIdeal.Facts) (hRwkvGateReferenceIdeal : Cert.RwkvGateReferenceIdeal.Facts) (hRwkvPre : Cert.RwkvPre.Facts) (hRwkvPreIdeal : Cert.RwkvPreIdeal.Facts) (hRwkvPreReferenceIdeal : Cert.RwkvPreReferenceIdeal.Facts) (hNormMlp : Cert.NormMlp.Facts) (hNormMlpIdeal : Cert.NormMlpIdeal.Facts) (hNormMlpReferenceIdeal : Cert.NormMlpReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_MlpUp (hMlpUp := hMlpUp)
    ∧ quiescent_MlpUpIdeal (hMlpUpIdeal := hMlpUpIdeal)
    ∧ quiescent_MlpUpReferenceIdeal (hMlpUpReferenceIdeal := hMlpUpReferenceIdeal)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_RwkvProj (hRwkvProj := hRwkvProj)
    ∧ quiescent_RwkvProjIdeal (hRwkvProjIdeal := hRwkvProjIdeal)
    ∧ quiescent_RwkvProjReferenceIdeal (hRwkvProjReferenceIdeal := hRwkvProjReferenceIdeal)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_RwkvGate (hRwkvGate := hRwkvGate)
    ∧ quiescent_RwkvGateIdeal (hRwkvGateIdeal := hRwkvGateIdeal)
    ∧ quiescent_RwkvGateReferenceIdeal (hRwkvGateReferenceIdeal := hRwkvGateReferenceIdeal)
    ∧ quiescent_RwkvPre (hRwkvPre := hRwkvPre)
    ∧ quiescent_RwkvPreIdeal (hRwkvPreIdeal := hRwkvPreIdeal)
    ∧ quiescent_RwkvPreReferenceIdeal (hRwkvPreReferenceIdeal := hRwkvPreReferenceIdeal)
    ∧ quiescent_NormMlp (hNormMlp := hNormMlp)
    ∧ quiescent_NormMlpIdeal (hNormMlpIdeal := hNormMlpIdeal)
    ∧ quiescent_NormMlpReferenceIdeal (hNormMlpReferenceIdeal := hNormMlpReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_MlpUp_MlpUpIdeal
    ∧ algebraic_MlpUpIdeal_MlpUpReferenceIdeal (hMlpUpIdeal := hMlpUpIdeal) (hMlpUpReferenceIdeal := hMlpUpReferenceIdeal)
    ∧ preserves_MlpDown_MlpDownIdeal
    ∧ algebraic_MlpDownIdeal_MlpDownReferenceIdeal (hMlpDownIdeal := hMlpDownIdeal) (hMlpDownReferenceIdeal := hMlpDownReferenceIdeal)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Merge_MergeIdeal
    ∧ algebraic_MergeIdeal_MergeReferenceIdeal (hMergeIdeal := hMergeIdeal) (hMergeReferenceIdeal := hMergeReferenceIdeal)
    ∧ preserves_RwkvProj_RwkvProjIdeal
    ∧ algebraic_RwkvProjIdeal_RwkvProjReferenceIdeal (hRwkvProjIdeal := hRwkvProjIdeal) (hRwkvProjReferenceIdeal := hRwkvProjReferenceIdeal)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_RwkvGate_RwkvGateIdeal
    ∧ algebraic_RwkvGateIdeal_RwkvGateReferenceIdeal (hRwkvGateIdeal := hRwkvGateIdeal) (hRwkvGateReferenceIdeal := hRwkvGateReferenceIdeal)
    ∧ preserves_RwkvPre_RwkvPreIdeal
    ∧ algebraic_RwkvPreIdeal_RwkvPreReferenceIdeal (hRwkvPreIdeal := hRwkvPreIdeal) (hRwkvPreReferenceIdeal := hRwkvPreReferenceIdeal)
    ∧ preserves_NormMlp_NormMlpIdeal
    ∧ algebraic_NormMlpIdeal_NormMlpReferenceIdeal (hNormMlpIdeal := hNormMlpIdeal) (hNormMlpReferenceIdeal := hNormMlpReferenceIdeal)
-- ==== Pre_finite_scores.lean ====
abbrev S32768x6144 : Shape := ⟨2, ![32768, 6144]⟩
abbrev S8x1x256x16x128 : Shape := ⟨5, ![8, 1, 256, 16, 128]⟩
abbrev S1x16x15x31 : Shape := ⟨4, ![1, 16, 15, 31]⟩
abbrev S32768x4096 : Shape := ⟨2, ![32768, 4096]⟩
abbrev S_ : Shape := ⟨0, ![]⟩

class Facts : Prop where
  slices_S32768x6144_S32768x4096_0_0 : S32768x6144.Slices ![0, 0] S32768x4096
  bitsLt_bf16_f32 : FTy.bits .bf16 < FTy.bits .f32
  bcast_S_S32768x4096 : S_.BroadcastsInDim S32768x4096 (![] : Fin 0 → Fin S32768x4096.rank)
  bcast_S_S8x1x256x16x128 : S_.BroadcastsInDim S8x1x256x16x128 (![] : Fin 0 → Fin S8x1x256x16x128.rank)
  bcast_S_S1x16x15x31 : S_.BroadcastsInDim S1x16x15x31 (![] : Fin 0 → Fin S1x16x15x31.rank)

variable [Facts]

def fn {F : FTy → Type} [FloatOps F] (main_arg0 : FVec F S32768x6144 .bf16) (main_arg1 : FVec F S8x1x256x16x128 .f32) (main_arg2 : FVec F S8x1x256x16x128 .f32) (main_arg3 : FVec F S1x16x15x31 .f32) : IVec S32768x4096 1 × IVec S8x1x256x16x128 1 × IVec S1x16x15x31 1 :=
  let main_v0 : FVec F S32768x4096 .bf16 := (extractStridedSlice S32768x4096 ![0, 0] · slices_S32768x6144_S32768x4096_0_0) main_arg0
  let main_v1 : FVec F S32768x4096 .f32 := (extf .f32 · bitsLt_bf16_f32) main_v0
  let main_v2 : FVec F S32768x4096 .f32 := Host.absf main_v1
  let main_cst : FVec F S_ .f32 := constant S_ .f32 0x7F800000#32
  let main_v3 : FVec F S32768x4096 .f32 := broadcastInDim S32768x4096 ![] bcast_S_S32768x4096 main_cst
  let main_v4 : IVec S32768x4096 1 := cmpf .olt main_v2 main_v3
  let main_v5 : FVec F S8x1x256x16x128 .f32 := Host.absf main_arg1
  let main_cst_0 : FVec F S_ .f32 := constant S_ .f32 0x7F800000#32
  let main_v6 : FVec F S8x1x256x16x128 .f32 := broadcastInDim S8x1x256x16x128 ![] bcast_S_S8x1x256x16x128 main_cst_0
  let main_v7 : IVec S8x1x256x16x128 1 := cmpf .olt main_v5 main_v6
  let main_v8 : FVec F S1x16x15x31 .f32 := Host.absf main_arg3
  let main_cst_1 : FVec F S_ .f32 := constant S_ .f32 0x7F800000#32
  let main_v9 : FVec F S1x16x15x31 .f32 := broadcastInDim S1x16x15x31 ![] bcast_S_S1x16x15x31 main_cst_1
  let main_v10 : IVec S1x16x15x31 1 := cmpf .olt main_v8 main_v9
  (main_v4, main_v7, main_v10)
-- ==== Kernel.lean ====
abbrev S32768x6144 : Shape := ⟨2, ![32768, 6144]⟩
abbrev S8x1x256x16x128 : Shape := ⟨5, ![8, 1, 256, 16, 128]⟩
abbrev S1x16x15x31 : Shape := ⟨4, ![1, 16, 15, 31]⟩
abbrev S8x8 : Shape := ⟨2, ![8, 8]⟩
abbrev S64x64 : Shape := ⟨2, ![64, 64]⟩
abbrev S1x1x1x64x64 : Shape := ⟨5, ![1, 1, 1, 64, 64]⟩
abbrev S16x15x31 : Shape := ⟨3, ![16, 15, 31]⟩
abbrev S_ : Shape := ⟨0, ![]⟩
abbrev S8x8x1 : Shape := ⟨3, ![8, 8, 1]⟩
abbrev S16x8x8x31 : Shape := ⟨4, ![16, 8, 8, 31]⟩
abbrev S64x64x1 : Shape := ⟨3, ![64, 64, 1]⟩
abbrev S16x8x8x64x64 : Shape := ⟨5, ![16, 8, 8, 64, 64]⟩
abbrev S8x16x64x8x64 : Shape := ⟨5, ![8, 16, 64, 8, 64]⟩
abbrev S8x16x64x512 : Shape := ⟨4, ![8, 16, 64, 512]⟩
abbrev S8x256x16x128 : Shape := ⟨4, ![8, 256, 16, 128]⟩
abbrev S2048x2048 : Shape := ⟨2, ![2048, 2048]⟩
abbrev S32768x2048 : Shape := ⟨2, ![32768, 2048]⟩
abbrev S4096x128 : Shape := ⟨2, ![4096, 128]⟩
abbrev S256x128 : Shape := ⟨2, ![256, 128]⟩
abbrev S8x1x64x512 : Shape := ⟨4, ![8, 1, 64, 512]⟩
abbrev S256x256 : Shape := ⟨2, ![256, 256]⟩
abbrev S512x128 : Shape := ⟨2, ![512, 128]⟩
abbrev S64x128 : Shape := ⟨2, ![64, 128]⟩
abbrev S64x512 : Shape := ⟨2, ![64, 512]⟩
abbrev S1x1x64x512 : Shape := ⟨4, ![1, 1, 64, 512]⟩
abbrev S256 : Shape := ⟨1, ![256]⟩
abbrev S256x1 : Shape := ⟨2, ![256, 1]⟩
abbrev S64 : Shape := ⟨1, ![64]⟩
abbrev S64x1 : Shape := ⟨2, ![64, 1]⟩
abbrev S64x256 : Shape := ⟨2, ![64, 256]⟩

abbrev nBuf : Space → Nat
  | .hbm => 35
  | .vmem => 14
  | .smem => 0
  | _ => 0

abbrev bufTy : (tb : Table) → Fin (tcTables nBuf tb) → BufTy
  | .hbm, ⟨0, _⟩ => ⟨S32768x6144, .bf16⟩
  | .hbm, ⟨1, _⟩ => ⟨S8x1x256x16x128, .f32⟩
  | .hbm, ⟨2, _⟩ => ⟨S8x1x256x16x128, .f32⟩
  | .hbm, ⟨3, _⟩ => ⟨S1x16x15x31, .f32⟩
  | .hbm, ⟨4, _⟩ => ⟨S8x8, .i32⟩
  | .hbm, ⟨5, _⟩ => ⟨S8x8, .i1⟩
  | .hbm, ⟨6, _⟩ => ⟨S64x64, .i32⟩
  | .hbm, ⟨7, _⟩ => ⟨S64x64, .i1⟩
  | .hbm, ⟨8, _⟩ => ⟨S64x64, .i1⟩
  | .hbm, ⟨9, _⟩ => ⟨S1x1x1x64x64, .i1⟩
  | .hbm, ⟨10, _⟩ => ⟨S16x15x31, .f32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i32⟩
  | .hbm, ⟨15, _⟩ => ⟨S8x8x1, .i32⟩
  | .hbm, ⟨16, _⟩ => ⟨S16x8x8x31, .f32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .i32⟩
  | .hbm, ⟨21, _⟩ => ⟨S64x64x1, .i32⟩
  | .hbm, ⟨22, _⟩ => ⟨S16x8x8x64x64, .f32⟩
  | .hbm, ⟨23, _⟩ => ⟨S_, .f32⟩
  | .hbm, ⟨24, _⟩ => ⟨S_, .f32⟩
  | .hbm, ⟨25, _⟩ => ⟨S16x8x8x64x64, .i1⟩
  | .hbm, ⟨26, _⟩ => ⟨S16x8x8x64x64, .f32⟩
  | .hbm, ⟨27, _⟩ => ⟨S16x8x8x64x64, .f32⟩
  | .hbm, ⟨28, _⟩ => ⟨S8x16x64x8x64, .f32⟩
  | .hbm, ⟨29, _⟩ => ⟨S8x16x64x512, .f32⟩
  | .hbm, ⟨30, _⟩ => ⟨S8x256x16x128, .f32⟩
  | .hbm, ⟨31, _⟩ => ⟨S2048x2048, .f32⟩
  | .hbm, ⟨32, _⟩ => ⟨S8x256x16x128, .f32⟩
  | .hbm, ⟨33, _⟩ => ⟨S2048x2048, .f32⟩
  | .hbm, ⟨34, _⟩ => ⟨S32768x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S8x1x64x512, .f32⟩
  | .local _ .vmem, ⟨11, _⟩ => ⟨S8x1x64x512, .f32⟩
  | .local _ .vmem, ⟨12, _⟩ => ⟨S4096x128, .bf16⟩
  | .local _ .vmem, ⟨13, _⟩ => ⟨S4096x128, .bf16⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v0 : Ref sig .tc := ⟨.hbm, 9, rfl⟩
abbrev main_v1 : Ref sig .tc := ⟨.hbm, 10, rfl⟩
abbrev main_c_4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v7 : BitVec 32 := Scalar.muli arg9 c256_i32
  v7
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v7 : BitVec 32 := Scalar.muli arg9 c256_i32
  let v8 : BitVec 32 := v7
  let v9 : Index := Scalar.indexCast v8
  let c0_4 : Index := 0#32
  ![v9.toNat, 0]
def k0_mult2 (k0_t1 : Fin k0_t1_loop.trips) : BitVec 32 :=
  let c56_i32 : BitVec 32 := 56#32
  let c0_i32_8 : BitVec 32 := 0#32
  let c0_i32 : BitVec 32 := 0#32
  let c1_i32 : BitVec 32 := 1#32
  let arg9 : BitVec 32 := Scf.iv c0_i32 c1_i32 k0_t1
  let c4_i32 : BitVec 32 := 4#32
  let v14 : BitVec 32 := Scalar.muli arg9 c4_i32
  let c0_i32_6 : BitVec 32 := 0#32
  let v15 : BitVec 32 := Scalar.addi v14 c0_i32_6
  let c4_i32_7 : BitVec 32 := 4#32
  let v16 : BitVec 32 := Scalar.subi v15 c4_i32_7
  let v17 : BitVec 32 := Scalar.maxsi c0_i32_8 v16
  let v18 : BitVec 32 := Scalar.minsi c56_i32 v17
  let c64_i32 : BitVec 32 := 64#32
  let v19 : BitVec 32 := Scalar.muli v18 c64_i32
  v19
def k0_off2 (k0_t1 : Fin k0_t1_loop.trips) (c0_i32_6 : BitVec 32) : Fin 2 → Nat :=
  let c56_i32 : BitVec 32 := 56#32
  let c0_i32_8 : BitVec 32 := 0#32
  let c0_i32 : BitVec 32 := 0#32
  let c1_i32 : BitVec 32 := 1#32
  let arg9 : BitVec 32 := Scf.iv c0_i32 c1_i32 k0_t1
  let c4_i32 : BitVec 32 := 4#32
  let v14 : BitVec 32 := Scalar.muli arg9 c4_i32
  let v15 : BitVec 32 := Scalar.addi v14 c0_i32_6
  let c4_i32_7 : BitVec 32 := 4#32
  let v16 : BitVec 32 := Scalar.subi v15 c4_i32_7
  let v17 : BitVec 32 := Scalar.maxsi c0_i32_8 v16
  let v18 : BitVec 32 := Scalar.minsi c56_i32 v17
  let c64_i32 : BitVec 32 := 64#32
  let v19 : BitVec 32 := Scalar.muli v18 c64_i32
  let v20 : BitVec 32 := v19
  let v21 : Index := Scalar.indexCast v20
  let c0_9 : Index := 0#32
  ![v21.toNat, 0]
def k0_off3 (k0_t1 : Fin k0_t1_loop.trips) (c0_i32_6 : BitVec 32) : Fin 4 → Nat :=
  let c56_i32 : BitVec 32 := 56#32
  let c0_i32_8 : BitVec 32 := 0#32
  let c0_i32 : BitVec 32 := 0#32
  let c1_i32 : BitVec 32 := 1#32
  let arg9 : BitVec 32 := Scf.iv c0_i32 c1_i32 k0_t1
  let c4_i32 : BitVec 32 := 4#32
  let v14 : BitVec 32 := Scalar.muli arg9 c4_i32
  let v15 : BitVec 32 := Scalar.addi v14 c0_i32_6
  let c4_i32_7 : BitVec 32 := 4#32
  let v16 : BitVec 32 := Scalar.subi v15 c4_i32_7
  let v17 : BitVec 32 := Scalar.maxsi c0_i32_8 v16
  let v18 : BitVec 32 := Scalar.minsi c56_i32 v17
  let v29 : BitVec 32 := Scalar.subi v18 v15
  let c8_i32 : BitVec 32 := 8#32
  let v30 : BitVec 32 := Scalar.addi v29 c8_i32
  let c1_i32_13 : BitVec 32 := 1#32
  let v31 : BitVec 32 := Scalar.subi v30 c1_i32_13
  let v32 : Index := Scalar.indexCast v31
  let c0_14 : Index := 0#32
  let c0_15 : Index := 0#32
  let c0_16 : Index := 0#32
  ![v32.toNat, 0, 0, 0]
def k0_mult3 (k0_t1 : Fin k0_t1_loop.trips) : BitVec 32 :=
  let c56_i32_21 : BitVec 32 := 56#32
  let c0_i32_20 : BitVec 32 := 0#32
  let c0_i32 : BitVec 32 := 0#32
  let c1_i32 : BitVec 32 := 1#32
  let arg9 : BitVec 32 := Scf.iv c0_i32 c1_i32 k0_t1
  let c4_i32_17 : BitVec 32 := 4#32
  let v36 : BitVec 32 := Scalar.muli arg9 c4_i32_17
  let c1_i32_18 : BitVec 32 := 1#32
  let v37 : BitVec 32 := Scalar.addi v36 c1_i32_18
  let c4_i32_19 : BitVec 32 := 4#32
  let v38 : BitVec 32 := Scalar.subi v37 c4_i32_19
  let v39 : BitVec 32 := Scalar.maxsi c0_i32_20 v38
  let v40 : BitVec 32 := Scalar.minsi c56_i32_21 v39
  let c64_i32_22 : BitVec 32 := 64#32
  let v41 : BitVec 32 := Scalar.muli v40 c64_i32_22
  v41
def k0_mult4 (k0_t1 : Fin k0_t1_loop.trips) : BitVec 32 :=
  let c56_i32_35 : BitVec 32 := 56#32
  let c0_i32_34 : BitVec 32 := 0#32
  let c0_i32 : BitVec 32 := 0#32
  let c1_i32 : BitVec 32 := 1#32
  let arg9 : BitVec 32 := Scf.iv c0_i32 c1_i32 k0_t1
  let c4_i32_32 : BitVec 32 := 4#32
  let v58 : BitVec 32 := Scalar.muli arg9 c4_i32_32
  let c2_i32 : BitVec 32 := 2#32
  let v59 : BitVec 32 := Scalar.addi v58 c2_i32
  let c4_i32_33 : BitVec 32 := 4#32
  let v60 : BitVec 32 := Scalar.subi v59 c4_i32_33
  let v61 : BitVec 32 := Scalar.maxsi c0_i32_34 v60
  let v62 : BitVec 32 := Scalar.minsi c56_i32_35 v61
  let c64_i32_36 : BitVec 32 := 64#32
  let v63 : BitVec 32 := Scalar.muli v62 c64_i32_36
  v63
def k0_mult5 (k0_t1 : Fin k0_t1_loop.trips) : BitVec 32 :=
  let c56_i32_49 : BitVec 32 := 56#32
  let c0_i32_48 : BitVec 32 := 0#32
  let c0_i32 : BitVec 32 := 0#32
  let c1_i32 : BitVec 32 := 1#32
  let arg9 : BitVec 32 := Scf.iv c0_i32 c1_i32 k0_t1
  let c4_i32_46 : BitVec 32 := 4#32
  let v80 : BitVec 32 := Scalar.muli arg9 c4_i32_46
  let c3_i32 : BitVec 32 := 3#32
  let v81 : BitVec 32 := Scalar.addi v80 c3_i32
  let c4_i32_47 : BitVec 32 := 4#32
  let v82 : BitVec 32 := Scalar.subi v81 c4_i32_47
  let v83 : BitVec 32 := Scalar.maxsi c0_i32_48 v82
  let v84 : BitVec 32 := Scalar.minsi c56_i32_49 v83
  let c64_i32_50 : BitVec 32 := 64#32
  let v85 : BitVec 32 := Scalar.muli v84 c64_i32_50
  v85
def k0_off4 (k0_t1 : Fin k0_t1_loop.trips) (c0_i32_75 : BitVec 32) : Fin 2 → Nat :=
  let c0_i32 : BitVec 32 := 0#32
  let c1_i32 : BitVec 32 := 1#32
  let arg9 : BitVec 32 := Scf.iv c0_i32 c1_i32 k0_t1
  let c256_i32 : BitVec 32 := 256#32
  let v7 : BitVec 32 := Scalar.muli arg9 c256_i32
  let v8 : BitVec 32 := v7
  let v198 : BitVec 32 := Scalar.addi v8 c0_i32_75
  let v199 : Index := Scalar.indexCast v198
  let c0_76 : Index := 0#32
  ![v199.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x6144 : Shape := ⟨2, ![32768, 6144]⟩
abbrev S8x1x256x16x128 : Shape := ⟨5, ![8, 1, 256, 16, 128]⟩
abbrev S1x16x15x31 : Shape := ⟨4, ![1, 16, 15, 31]⟩
abbrev S8x4096x6144 : Shape := ⟨3, ![8, 4096, 6144]⟩
abbrev S8x4096x2048 : Shape := ⟨3, ![8, 4096, 2048]⟩
abbrev S8x256x16x128 : Shape := ⟨4, ![8, 256, 16, 128]⟩
abbrev S16x15x31 : Shape := ⟨3, ![16, 15, 31]⟩
abbrev S64 : Shape := ⟨1, ![64]⟩
abbrev S4x16 : Shape := ⟨2, ![4, 16]⟩
abbrev S4 : Shape := ⟨1, ![4]⟩
abbrev S_ : Shape := ⟨0, ![]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S4x1x32 : Shape := ⟨3, ![4, 1, 32]⟩
abbrev S4x16x1 : Shape := ⟨3, ![4, 16, 1]⟩
abbrev S4x16x32 : Shape := ⟨3, ![4, 16, 32]⟩
abbrev S4x16x1x32 : Shape := ⟨4, ![4, 16, 1, 32]⟩
abbrev S4x16x8x32 : Shape := ⟨4, ![4, 16, 8, 32]⟩
abbrev S4x16x256 : Shape := ⟨3, ![4, 16, 256]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S8x64x4x16x16x128 : Shape := ⟨6, ![8, 64, 4, 16, 16, 128]⟩
abbrev S8x64x64x16x128 : Shape := ⟨5, ![8, 64, 64, 16, 128]⟩
abbrev S4x16x32x1 : Shape := ⟨4, ![4, 16, 32, 1]⟩
abbrev S16x15x4x16x32 : Shape := ⟨5, ![16, 15, 4, 16, 32]⟩
abbrev S64x8x1 : Shape := ⟨3, ![64, 8, 1]⟩
abbrev S16x64x8x4x16x32 : Shape := ⟨6, ![16, 64, 8, 4, 16, 32]⟩
abbrev S16x64x4x16x8x32 : Shape := ⟨6, ![16, 64, 4, 16, 8, 32]⟩
abbrev S16x64x4x16x256 : Shape := ⟨5, ![16, 64, 4, 16, 256]⟩
abbrev S8x64x8x64x16x128 : Shape := ⟨6, ![8, 64, 8, 64, 16, 128]⟩
abbrev S4x32x1 : Shape := ⟨3, ![4, 32, 1]⟩
abbrev S8x64x8x4x32x16x128 : Shape := ⟨7, ![8, 64, 8, 4, 32, 16, 128]⟩
abbrev S8x64x4x8x32x16x128 : Shape := ⟨7, ![8, 64, 4, 8, 32, 16, 128]⟩
abbrev S8x64x4x256x16x128 : Shape := ⟨6, ![8, 64, 4, 256, 16, 128]⟩
abbrev S8x64x16x4x16x256 : Shape := ⟨6, ![8, 64, 16, 4, 16, 256]⟩
abbrev S64x16x4x16x256 : Shape := ⟨5, ![64, 16, 4, 16, 256]⟩
abbrev S1x64x16x4x16x256 : Shape := ⟨6, ![1, 64, 16, 4, 16, 256]⟩
abbrev S8x16x256x64x4x16 : Shape := ⟨6, ![8, 16, 256, 64, 4, 16]⟩
abbrev S8x64x16x4x16x512 : Shape := ⟨6, ![8, 64, 16, 4, 16, 512]⟩
abbrev S8x64x16x4x16 : Shape := ⟨5, ![8, 64, 16, 4, 16]⟩
abbrev S8x64x16x4x16x1 : Shape := ⟨6, ![8, 64, 16, 4, 16, 1]⟩
abbrev S8x64x4x16x128x16 : Shape := ⟨6, ![8, 64, 4, 16, 128, 16]⟩
abbrev S8x16x128x64x4x16 : Shape := ⟨6, ![8, 16, 128, 64, 4, 16]⟩
abbrev S32768x2048 : Shape := ⟨2, ![32768, 2048]⟩

abbrev nBuf : Space → Nat
  | .hbm => 214
  | .vmem => 0
  | .smem => 0
  | _ => 0

abbrev hbmTy0_0 (i : Nat) : BufTy := match i % 128 with
  | 0 => ⟨S32768x6144, .bf16⟩
  | 1 => ⟨S8x1x256x16x128, .f32⟩
  | 2 => ⟨S8x1x256x16x128, .f32⟩
  | 3 => ⟨S1x16x15x31, .f32⟩
  | 4 => ⟨S32768x6144, .f32⟩
  | 5 => ⟨S8x4096x6144, .f32⟩
  | 6 => ⟨S8x4096x2048, .f32⟩
  | 7 => ⟨S8x4096x2048, .f32⟩
  | 8 => ⟨S8x4096x2048, .f32⟩
  | 9 => ⟨S8x256x16x128, .f32⟩
  | 10 => ⟨S8x256x16x128, .f32⟩
  | 11 => ⟨S16x15x31, .f32⟩
  | 12 => ⟨S64, .i32⟩
  | 13 => ⟨S4x16, .i32⟩
  | 14 => ⟨S4, .i32⟩
  | 15 => ⟨S_, .i32⟩
  | 16 => ⟨S4, .i32⟩
  | 17 => ⟨S4, .i32⟩
  | 18 => ⟨S_, .i32⟩
  | 19 => ⟨S4, .i32⟩
  | 20 => ⟨S4, .i32⟩
  | 21 => ⟨S_, .i32⟩
  | 22 => ⟨S_, .i32⟩
  | 23 => ⟨S_, .i32⟩
  | 24 => ⟨S4, .i32⟩
  | 25 => ⟨S4, .i32⟩
  | 26 => ⟨S_, .i32⟩
  | 27 => ⟨S4, .i32⟩
  | 28 => ⟨S4, .i32⟩
  | 29 => ⟨S4x1, .i32⟩
  | 30 => ⟨S32, .i32⟩
  | 31 => ⟨S1x32, .i32⟩
  | 32 => ⟨S4x32, .i32⟩
  | 33 => ⟨S4x32, .i32⟩
  | 34 => ⟨S4x32, .i32⟩
  | 35 => ⟨S_, .i32⟩
  | 36 => ⟨S4x16, .i32⟩
  | 37 => ⟨S4x16, .i32⟩
  | 38 => ⟨S_, .i32⟩
  | 39 => ⟨S_, .i32⟩
  | 40 => ⟨S_, .i32⟩
  | 41 => ⟨S4x16, .i32⟩
  | 42 => ⟨S4x16, .i32⟩
  | 43 => ⟨S_, .i32⟩
  | 44 => ⟨S4x16, .i32⟩
  | 45 => ⟨S4x16, .i32⟩
  | 46 => ⟨S4x1x32, .i32⟩
  | 47 => ⟨S4x16x1, .i32⟩
  | 48 => ⟨S4x16x32, .i32⟩
  | 49 => ⟨S4x16x32, .i32⟩
  | 50 => ⟨S4x16x32, .i1⟩
  | 51 => ⟨S4x1x32, .i32⟩
  | 52 => ⟨S4x16x1, .i32⟩
  | 53 => ⟨S_, .i32⟩
  | 54 => ⟨S4x16x1, .i32⟩
  | 55 => ⟨S4x16x1, .i32⟩
  | 56 => ⟨S4x16x32, .i32⟩
  | 57 => ⟨S4x16x32, .i32⟩
  | 58 => ⟨S4x16x32, .i1⟩
  | 59 => ⟨S4x16x32, .i1⟩
  | 60 => ⟨S4x16x1x32, .i1⟩
  | 61 => ⟨S4x16x8x32, .i1⟩
  | 62 => ⟨S4x16x256, .i1⟩
  | 63 => ⟨S4x1x32, .i32⟩
  | 64 => ⟨S4x16x1, .i32⟩
  | 65 => ⟨S4x16x32, .i32⟩
  | 66 => ⟨S4x16x32, .i32⟩
  | 67 => ⟨S4x16x32, .i32⟩
  | 68 => ⟨S_, .i32⟩
  | 69 => ⟨S4x16x32, .i32⟩
  | 70 => ⟨S4x16x32, .i32⟩
  | 71 => ⟨S_, .i32⟩
  | 72 => ⟨S4x16x32, .i32⟩
  | 73 => ⟨S4x16x32, .i32⟩
  | 74 => ⟨S_, .i32⟩
  | 75 => ⟨S_, .i32⟩
  | 76 => ⟨S_, .i32⟩
  | 77 => ⟨S4x16x32, .i32⟩
  | 78 => ⟨S4x16x32, .i32⟩
  | 79 => ⟨S_, .i32⟩
  | 80 => ⟨S4x16x32, .i32⟩
  | 81 => ⟨S4x16x32, .i32⟩
  | 82 => ⟨S64, .i32⟩
  | 83 => ⟨S_, .i32⟩
  | 84 => ⟨S64, .i32⟩
  | 85 => ⟨S64, .i32⟩
  | 86 => ⟨S_, .i32⟩
  | 87 => ⟨S_, .i32⟩
  | 88 => ⟨S_, .i32⟩
  | 89 => ⟨S64, .i32⟩
  | 90 => ⟨S64, .i32⟩
  | 91 => ⟨S_, .i32⟩
  | 92 => ⟨S64, .i32⟩
  | 93 => ⟨S64, .i32⟩
  | 94 => ⟨S64x1, .i32⟩
  | 95 => ⟨S8, .i32⟩
  | 96 => ⟨S1x8, .i32⟩
  | 97 => ⟨S64x8, .i32⟩
  | 98 => ⟨S64x8, .i32⟩
  | 99 => ⟨S64x8, .i32⟩
  | 100 => ⟨S64x1, .i32⟩
  | 101 => ⟨S64x8, .i32⟩
  | 102 => ⟨S64x8, .i32⟩
  | 103 => ⟨S_, .i32⟩
  | 104 => ⟨S64x8, .i32⟩
  | 105 => ⟨S64x8, .i32⟩
  | 106 => ⟨S_, .i32⟩
  | 107 => ⟨S64x8, .i32⟩
  | 108 => ⟨S64x8, .i32⟩
  | 109 => ⟨S8x64x4x16x16x128, .f32⟩
  | 110 => ⟨S8x64x64x16x128, .f32⟩
  | 111 => ⟨S8x64x64x16x128, .f32⟩
  | 112 => ⟨S_, .i32⟩
  | 113 => ⟨S4x16x32, .i32⟩
  | 114 => ⟨S4x16x32, .i1⟩
  | 115 => ⟨S_, .i32⟩
  | 116 => ⟨S4x16x32, .i32⟩
  | 117 => ⟨S4x16x32, .i32⟩
  | 118 => ⟨S4x16x32, .i32⟩
  | 119 => ⟨S4x16x32x1, .i32⟩
  | 120 => ⟨S16x15x4x16x32, .f32⟩
  | 121 => ⟨S_, .i32⟩
  | 122 => ⟨S64x8, .i32⟩
  | 123 => ⟨S64x8, .i1⟩
  | 124 => ⟨S_, .i32⟩
  | 125 => ⟨S64x8, .i32⟩
  | 126 => ⟨S64x8, .i32⟩
  | 127 => ⟨S64x8, .i32⟩
  | _ => ⟨S32768x6144, .bf16⟩

abbrev hbmTy0_1 (i : Nat) : BufTy := match i % 128 with
  | 0 => ⟨S64x8x1, .i32⟩
  | 1 => ⟨S16x64x8x4x16x32, .f32⟩
  | 2 => ⟨S16x64x4x16x8x32, .f32⟩
  | 3 => ⟨S16x64x4x16x256, .f32⟩
  | 4 => ⟨S_, .i32⟩
  | 5 => ⟨S64x8, .i32⟩
  | 6 => ⟨S64x8, .i1⟩
  | 7 => ⟨S_, .i32⟩
  | 8 => ⟨S64x8, .i32⟩
  | 9 => ⟨S64x8, .i32⟩
  | 10 => ⟨S64x8, .i32⟩
  | 11 => ⟨S64x8x1, .i32⟩
  | 12 => ⟨S8x64x8x64x16x128, .f32⟩
  | 13 => ⟨S_, .i32⟩
  | 14 => ⟨S4x32, .i32⟩
  | 15 => ⟨S4x32, .i1⟩
  | 16 => ⟨S_, .i32⟩
  | 17 => ⟨S4x32, .i32⟩
  | 18 => ⟨S4x32, .i32⟩
  | 19 => ⟨S4x32, .i32⟩
  | 20 => ⟨S4x32x1, .i32⟩
  | 21 => ⟨S8x64x8x4x32x16x128, .f32⟩
  | 22 => ⟨S8x64x4x8x32x16x128, .f32⟩
  | 23 => ⟨S8x64x4x256x16x128, .f32⟩
  | 24 => ⟨S8x64x16x4x16x256, .f32⟩
  | 25 => ⟨S_, .f32⟩
  | 26 => ⟨S8x64x16x4x16x256, .f32⟩
  | 27 => ⟨S8x64x16x4x16x256, .f32⟩
  | 28 => ⟨S64x16x4x16x256, .f32⟩
  | 29 => ⟨S1x64x16x4x16x256, .f32⟩
  | 30 => ⟨S8x64x16x4x16x256, .f32⟩
  | 31 => ⟨S8x64x16x4x16x256, .f32⟩
  | 32 => ⟨S_, .f32⟩
  | 33 => ⟨S_, .f32⟩
  | 34 => ⟨S8x64x16x4x16x256, .i1⟩
  | 35 => ⟨S8x64x16x4x16x256, .f32⟩
  | 36 => ⟨S8x64x16x4x16x256, .f32⟩
  | 37 => ⟨S8x16x256x64x4x16, .f32⟩
  | 38 => ⟨S8x64x16x4x16x256, .f32⟩
  | 39 => ⟨S_, .f32⟩
  | 40 => ⟨S8x64x16x4x16x256, .f32⟩
  | 41 => ⟨S8x64x16x4x16x256, .f32⟩
  | 42 => ⟨S8x64x16x4x16x512, .f32⟩
  | 43 => ⟨S_, .f32⟩
  | 44 => ⟨S8x64x16x4x16, .f32⟩
  | 45 => ⟨S_, .f32⟩
  | 46 => ⟨S8x64x16x4x16, .f32⟩
  | 47 => ⟨S8x64x16x4x16, .f32⟩
  | 48 => ⟨S8x64x16x4x16x1, .f32⟩
  | 49 => ⟨S8x64x16x4x16x512, .f32⟩
  | 50 => ⟨S8x64x16x4x16x512, .f32⟩
  | 51 => ⟨S8x64x16x4x16x512, .f32⟩
  | 52 => ⟨S_, .f32⟩
  | 53 => ⟨S8x64x16x4x16, .f32⟩
  | 54 => ⟨S8x64x16x4x16x1, .f32⟩
  | 55 => ⟨S8x64x16x4x16x512, .f32⟩
  | 56 => ⟨S8x64x16x4x16x512, .f32⟩
  | 57 => ⟨S8x64x16x4x16x256, .f32⟩
  | 58 => ⟨S_, .i32⟩
  | 59 => ⟨S64x8, .i32⟩
  | 60 => ⟨S64x8, .i1⟩
  | 61 => ⟨S_, .i32⟩
  | 62 => ⟨S64x8, .i32⟩
  | 63 => ⟨S64x8, .i32⟩
  | 64 => ⟨S64x8, .i32⟩
  | 65 => ⟨S64x8x1, .i32⟩
  | 66 => ⟨S8x64x8x64x16x128, .f32⟩
  | 67 => ⟨S_, .i32⟩
  | 68 => ⟨S4x32, .i32⟩
  | 69 => ⟨S4x32, .i1⟩
  | 70 => ⟨S_, .i32⟩
  | 71 => ⟨S4x32, .i32⟩
  | 72 => ⟨S4x32, .i32⟩
  | 73 => ⟨S4x32, .i32⟩
  | 74 => ⟨S4x32x1, .i32⟩
  | 75 => ⟨S8x64x8x4x32x16x128, .f32⟩
  | 76 => ⟨S8x64x4x8x32x16x128, .f32⟩
  | 77 => ⟨S8x64x4x256x16x128, .f32⟩
  | 78 => ⟨S8x64x4x16x128x16, .f32⟩
  | 79 => ⟨S8x64x4x16x16x128, .f32⟩
  | 80 => ⟨S8x64x16x4x16x256, .f32⟩
  | 81 => ⟨S8x16x128x64x4x16, .f32⟩
  | 82 => ⟨S8x64x4x16x16x128, .f32⟩
  | 83 => ⟨S8x64x4x16x16x128, .f32⟩
  | 84 => ⟨S32768x2048, .f32⟩
  | 85 => ⟨S32768x2048, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_c_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_c_10 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_c_12 : Ref sig .tc := ⟨.hbm, 86, rfl⟩
abbrev main_c_13 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_14 : Ref sig .tc := ⟨.hbm, 103, rfl⟩
abbrev main_v64 : Ref sig .tc := ⟨.hbm, 104, rfl⟩
abbrev main_v65 : Ref sig .tc := ⟨.hbm, 105, rfl⟩
abbrev main_c_15 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_16 : Ref sig .tc := ⟨.hbm, 112, rfl⟩
abbrev main_v71 : Ref sig .tc := ⟨.hbm, 113, rfl⟩
abbrev main_v72 : Ref sig .tc := ⟨.hbm, 114, rfl⟩
abbrev main_c_17 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_18 : Ref sig .tc := ⟨.hbm, 121, rfl⟩
abbrev main_v78 : Ref sig .tc := ⟨.hbm, 122, rfl⟩
abbrev main_v79 : Ref sig .tc := ⟨.hbm, 123, rfl⟩
abbrev main_c_19 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_20 : Ref sig .tc := ⟨.hbm, 132, rfl⟩
abbrev main_v87 : Ref sig .tc := ⟨.hbm, 133, rfl⟩
abbrev main_v88 : Ref sig .tc := ⟨.hbm, 134, rfl⟩
abbrev main_c_21 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_c_22 : Ref sig .tc := ⟨.hbm, 141, rfl⟩
abbrev main_v94 : Ref sig .tc := ⟨.hbm, 142, rfl⟩
abbrev main_v95 : Ref sig .tc := ⟨.hbm, 143, rfl⟩
abbrev main_c_23 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_24 : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_25 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_26 : Ref sig .tc := ⟨.hbm, 171, rfl⟩
abbrev main_v116 : Ref sig .tc := ⟨.hbm, 172, rfl⟩
abbrev main_cst_27 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_28 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_c_29 : Ref sig .tc := ⟨.hbm, 186, rfl⟩
abbrev main_v128 : Ref sig .tc := ⟨.hbm, 187, rfl⟩
abbrev main_v129 : Ref sig .tc := ⟨.hbm, 188, rfl⟩
abbrev main_c_30 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_c_31 : Ref sig .tc := ⟨.hbm, 195, rfl⟩
abbrev main_v135 : Ref sig .tc := ⟨.hbm, 196, rfl⟩
abbrev main_v136 : Ref sig .tc := ⟨.hbm, 197, rfl⟩
abbrev main_c_32 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩

abbrev nD : Nat := 1
abbrev τ : Topo := Topo.v7x

variable {F : FTy → Type} [FloatOps F]
-- ==== MlpUp.lean ====
abbrev S32768x4096 : Shape := ⟨2, ![32768, 4096]⟩
abbrev S1x4096x16384 : Shape := ⟨3, ![1, 4096, 16384]⟩
abbrev S4096x16384 : Shape := ⟨2, ![4096, 16384]⟩
abbrev S32768x16384 : Shape := ⟨2, ![32768, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S1x4096x16384, .f32⟩
  | .hbm, ⟨2, _⟩ => ⟨S4096x16384, .f32⟩
  | .hbm, ⟨3, _⟩ => ⟨S4096x16384, .bf16⟩
  | .hbm, ⟨4, _⟩ => ⟨S32768x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlpUpReferenceIdeal.lean ====
abbrev S32768x4096 : Shape := ⟨2, ![32768, 4096]⟩
abbrev S1x4096x16384 : Shape := ⟨3, ![1, 4096, 16384]⟩
abbrev S4096x16384 : Shape := ⟨2, ![4096, 16384]⟩
abbrev S32768x16384 : Shape := ⟨2, ![32768, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S1x4096x16384, .f32⟩
  | .hbm, ⟨2, _⟩ => ⟨S32768x4096, .f32⟩
  | .hbm, ⟨3, _⟩ => ⟨S4096x16384, .f32⟩
  | .hbm, ⟨4, _⟩ => ⟨S32768x16384, .f32⟩
  | .hbm, ⟨5, _⟩ => ⟨S_, .f32⟩
  | .hbm, ⟨6, _⟩ => ⟨S32768x16384, .f32⟩
  | .hbm, ⟨7, _⟩ => ⟨S32768x16384, .f32⟩
  | .hbm, ⟨8, _⟩ => ⟨S32768x16384, .f32⟩
  | .hbm, ⟨9, _⟩ => ⟨S32768x16384, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpDown.lean ====
abbrev S32768x16384 : Shape := ⟨2, ![32768, 16384]⟩
abbrev S32768x4096 : Shape := ⟨2, ![32768, 4096]⟩
abbrev S96x1x4096 : Shape := ⟨3, ![96, 1, 4096]⟩
abbrev S1x16384x4096 : Shape := ⟨3, ![1, 16384, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S32768x16384, .bf16⟩
  | .hbm, ⟨1, _⟩ => ⟨S32768x4096, .f32⟩
  | .hbm, ⟨2, _⟩ => ⟨S96x1x4096, .f32⟩
  | .hbm, ⟨3, _⟩ => ⟨S1x16384x4096, .f32⟩
  | .hbm, ⟨4, _⟩ => ⟨S16384x4096, .f32⟩
  | .hbm, ⟨5, _⟩ => ⟨S16384x4096, .bf16⟩
  | .hbm, ⟨6, _⟩ => ⟨S32768x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S32768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c6_i32 : BitVec 32 := 6#32
  let v19 : BitVec 32 := Scalar.muli v18 c6_i32
  let c5_i32 : BitVec 32 := 5#32
  let v20 : BitVec 32 := Scalar.addi v19 c5_i32
  let c0_i32_5 : BitVec 32 := 0#32
  let c0_i32_6 : BitVec 32 := 0#32
  ![v20.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlpDownReferenceIdeal.lean ====
abbrev S32768x16384 : Shape := ⟨2, ![32768, 16384]⟩
abbrev S32768x4096 : Shape := ⟨2, ![32768, 4096]⟩
abbrev S96x1x4096 : Shape := ⟨3, ![96, 1, 4096]⟩
abbrev S1x16384x4096 : Shape := ⟨3, ![1, 16384, 4096]⟩
abbrev S16x6x4096 : Shape := ⟨3, ![16, 6, 4096]⟩
abbrev S8x1x4096 : Shape := ⟨3, ![8, 1, 4096]⟩
abbrev S16384x4096 : Shape := ⟨2, ![16384, 4096]⟩
abbrev S8x4096x4096 : Shape := ⟨3, ![8, 4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S32768x16384, .bf16⟩
  | .hbm, ⟨1, _⟩ => ⟨S32768x4096, .f32⟩
  | .hbm, ⟨2, _⟩ => ⟨S96x1x4096, .f32⟩
  | .hbm, ⟨3, _⟩ => ⟨S1x16384x4096, .f32⟩
  | .hbm, ⟨4, _⟩ => ⟨S16x6x4096, .f32⟩
  | .hbm, ⟨5, _⟩ => ⟨S8x1x4096, .f32⟩
  | .hbm, ⟨6, _⟩ => ⟨S32768x16384, .f32⟩
  | .hbm, ⟨7, _⟩ => ⟨S16384x4096, .f32⟩
  | .hbm, ⟨8, _⟩ => ⟨S32768x4096, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S32768x4096, .f32⟩
  | _, _ => ⟨S32768x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Projections.lean ====
abbrev S32x256x4096 : Shape := ⟨3, ![32, 256, 4096]⟩
abbrev S8x4096 : Shape := ⟨2, ![8, 4096]⟩
abbrev S4096 : Shape := ⟨1, ![4096]⟩
abbrev S1x4096x24576 : Shape := ⟨3, ![1, 4096, 24576]⟩
abbrev S1x24576 : Shape := ⟨2, ![1, 24576]⟩
abbrev S1x4096 : Shape := ⟨2, ![1, 4096]⟩
abbrev S1x4096x20928 : Shape := ⟨3, ![1, 4096, 20928]⟩
abbrev S8192x4096 : Shape := ⟨2, ![8192, 4096]⟩
abbrev S_ : Shape := ⟨0, ![]⟩
abbrev S16x4096 : Shape := ⟨2, ![16, 4096]⟩
abbrev S1 : Shape := ⟨1, ![1]⟩
abbrev S4096x24576 : Shape := ⟨2, ![4096, 24576]⟩
abbrev S24576 : Shape := ⟨1, ![24576]⟩
abbrev S16x24576 : Shape := ⟨2, ![16, 24576]⟩
abbrev S4096x512 : Shape := ⟨2, ![4096, 512]⟩
abbrev S1x512 : Shape := ⟨2, ![1, 512]⟩
abbrev S16x512 : Shape := ⟨2, ![16, 512]⟩
abbrev S96x1x4096 : Shape := ⟨3, ![96, 1, 4096]⟩
abbrev S4096x20928 : Shape := ⟨2, ![4096, 20928]⟩
abbrev S4096x6144 : Shape := ⟨2, ![4096, 6144]⟩
abbrev S4096x8192 : Shape := ⟨2, ![4096, 8192]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S8192x6144 : Shape := ⟨2, ![8192, 6144]⟩
abbrev S1024x4096 : Shape := ⟨2, ![1024, 4096]⟩
abbrev S4096x1024 : Shape := ⟨2, ![4096, 1024]⟩
abbrev S1024x1024 : Shape := ⟨2, ![1024, 1024]⟩
abbrev S8192x8192 : Shape := ⟨2, ![8192, 8192]⟩
abbrev S8192x2048 : Shape := ⟨2, ![8192, 2048]⟩
abbrev S256x2048 : Shape := ⟨2, ![256, 2048]⟩
abbrev S256x128 : Shape := ⟨2, ![256, 128]⟩
abbrev S256x256 : Shape := ⟨2, ![256, 256]⟩
abbrev S32x256x16x128 : Shape := ⟨4, ![32, 256, 16, 128]⟩
abbrev S32x1x256x16x128 : Shape := ⟨5, ![32, 1, 256, 16, 128]⟩

abbrev nBuf : Space → Nat
  | .hbm => 39
  | .vmem => 36
  | .smem => 0
  | _ => 0

abbrev bufTy : (tb : Table) → Fin (tcTables nBuf tb) → BufTy
  | .hbm, ⟨0, _⟩ => ⟨S32x256x4096, .f32⟩
  | .hbm, ⟨1, _⟩ => ⟨S8x4096, .f32⟩
  | .hbm, ⟨2, _⟩ => ⟨S4096, .f32⟩
  | .hbm, ⟨3, _⟩ => ⟨S1x4096x24576, .f32⟩
  | .hbm, ⟨4, _⟩ => ⟨S1x24576, .f32⟩
  | .hbm, ⟨5, _⟩ => ⟨S1x4096, .f32⟩
  | .hbm, ⟨6, _⟩ => ⟨S1x4096x20928, .f32⟩
  | .hbm, ⟨7, _⟩ => ⟨S8192x4096, .f32⟩
  | .hbm, ⟨8, _⟩ => ⟨S_, .f32⟩
  | .hbm, ⟨9, _⟩ => ⟨S16x4096, .f32⟩
  | .hbm, ⟨10, _⟩ => ⟨S_, .i32⟩
  | .hbm, ⟨11, _⟩ => ⟨S1, .i32⟩
  | .hbm, ⟨12, _⟩ => ⟨S16x4096, .f32⟩
  | .hbm, ⟨13, _⟩ => ⟨S_, .i32⟩
  | .hbm, ⟨14, _⟩ => ⟨S1, .i32⟩
  | .hbm, ⟨15, _⟩ => ⟨S16x4096, .f32⟩
  | .hbm, ⟨16, _⟩ => ⟨S4096x24576, .f32⟩
  | .hbm, ⟨17, _⟩ => ⟨S24576, .f32⟩
  | .hbm, ⟨18, _⟩ => ⟨S1x24576, .f32⟩
  | .hbm, ⟨19, _⟩ => ⟨S16x24576, .f32⟩
  | .hbm, ⟨20, _⟩ => ⟨S96x1x4096, .f32⟩
  | .hbm, ⟨21, _⟩ => ⟨S4096x20928, .f32⟩
  | .hbm, ⟨22, _⟩ => ⟨S4096x6144, .f32⟩
  | .hbm, ⟨23, _⟩ => ⟨S4096x6144, .bf16⟩
  | .hbm, ⟨24, _⟩ => ⟨S4096x20928, .f32⟩
  | .hbm, ⟨25, _⟩ => ⟨S4096x8192, .f32⟩
  | .hbm, ⟨26, _⟩ => ⟨S4096x8192, .bf16⟩
  | .hbm, ⟨27, _⟩ => ⟨S4096, .f32⟩
  | .hbm, ⟨28, _⟩ => ⟨S1x4096, .f32⟩
  | .hbm, ⟨29, _⟩ => ⟨S8192x4096, .bf16⟩
  | .hbm, ⟨30, _⟩ => ⟨S8192x6144, .f32⟩
  | .hbm, ⟨31, _⟩ => ⟨S8192x8192, .f32⟩
  | .hbm, ⟨32, _⟩ => ⟨S8192x2048, .bf16⟩
  | .hbm, ⟨33, _⟩ => ⟨S8192x2048, .f32⟩
  | .hbm, ⟨34, _⟩ => ⟨S32x256x16x128, .f32⟩
  | .hbm, ⟨35, _⟩ => ⟨S8192x2048, .f32⟩
  | .hbm, ⟨36, _⟩ => ⟨S32x256x16x128, .f32⟩
  | .hbm, ⟨37, _⟩ => ⟨S32x1x256x16x128, .f32⟩
  | .hbm, ⟨38, _⟩ => ⟨S32x1x256x16x128, .f32⟩
  | .local _ .vmem, ⟨0, _⟩ => ⟨S16x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S256x4096, .bf16⟩
  | .local _ .vmem, ⟨15, _⟩ => ⟨S256x4096, .bf16⟩
  | .local _ .vmem, ⟨16, _⟩ => ⟨S1024x4096, .bf16⟩
  | .local _ .vmem, ⟨17, _⟩ => ⟨S1024x4096, .bf16⟩
  | .local _ .vmem, ⟨18, _⟩ => ⟨S4096x1024, .bf16⟩
  | .local _ .vmem, ⟨19, _⟩ => ⟨S4096x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x4096, .bf16⟩
  | .local _ .vmem, ⟨23, _⟩ => ⟨S1024x4096, .bf16⟩
  | .local _ .vmem, ⟨24, _⟩ => ⟨S4096x1024, .bf16⟩
  | .local _ .vmem, ⟨25, _⟩ => ⟨S4096x1024, .bf16⟩
  | .local _ .vmem, ⟨26, _⟩ => ⟨S1024x1024, .f32⟩
  | .local _ .vmem, ⟨27, _⟩ => ⟨S1024x1024, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .bf16⟩
  | .local _ .vmem, ⟨35, _⟩ => ⟨S256x2048, .bf16⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.addi c8_i32 v17
  let c6_i32 : BitVec 32 := 6#32
  let v19 : BitVec 32 := Scalar.muli v18 c6_i32
  let c0_i32_4 : BitVec 32 := 0#32
  let v20 : BitVec 32 := Scalar.addi v19 c0_i32_4
  let c0_i32_5 : BitVec 32 := 0#32
  let c0_i32_6 : BitVec 32 := 0#32
  let c0_i32_7 : BitVec 32 := 0#32
  ![v20.toNat, c0_i32_5.toNat, c0_i32_6.toNat]

def cc1_transform_3 (i : grid1.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.addi c8_i32 v17
  let c6_i32 : BitVec 32 := 6#32
  let v19 : BitVec 32 := Scalar.muli v18 c6_i32
  let c1_i32_4 : BitVec 32 := 1#32
  let v20 : BitVec 32 := Scalar.addi v19 c1_i32_4
  let c0_i32_5 : BitVec 32 := 0#32
  let c0_i32_6 : BitVec 32 := 0#32
  let c0_i32_7 : BitVec 32 := 0#32
  ![v20.toNat, c0_i32_5.toNat, c0_i32_6.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c1_i32 : BitVec 32 := 1#32
  let c0_i32 : BitVec 32 := 0#32
  ![arg0.toNat, c1_i32.toNat]

def cc4_transform_2 (i : grid4.Coords) : Fin 2 → Nat :=
  let arg0 : BitVec 32 := BitVec.ofNat 32 (i 0).val
  let c2_i32 : BitVec 32 := 2#32
  let c0_i32 : BitVec 32 := 0#32
  ![arg0.toNat, c2_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ProjectionsReferenceIdeal.lean ====
abbrev S32x256x4096 : Shape := ⟨3, ![32, 256, 4096]⟩
abbrev S8x4096 : Shape := ⟨2, ![8, 4096]⟩
abbrev S4096 : Shape := ⟨1, ![4096]⟩
abbrev S1x4096x24576 : Shape := ⟨3, ![1, 4096, 24576]⟩
abbrev S1x24576 : Shape := ⟨2, ![1, 24576]⟩
abbrev S1x4096 : Shape := ⟨2, ![1, 4096]⟩
abbrev S1x4096x20928 : Shape := ⟨3, ![1, 4096, 20928]⟩
abbrev S_ : Shape := ⟨0, ![]⟩
abbrev S4096x24576 : Shape := ⟨2, ![4096, 24576]⟩
abbrev S24576 : Shape := ⟨1, ![24576]⟩
abbrev S32x256 : Shape := ⟨2, ![32, 256]⟩
abbrev S32x256x1 : Shape := ⟨3, ![32, 256, 1]⟩
abbrev S1x1x4096 : Shape := ⟨3, ![1, 1, 4096]⟩
abbrev S4096x20928 : Shape := ⟨2, ![4096, 20928]⟩
abbrev S32x256x20928 : Shape := ⟨3, ![32, 256, 20928]⟩
abbrev S32x256x6144 : Shape := ⟨3, ![32, 256, 6144]⟩
abbrev S32x256x8192 : Shape := ⟨3, ![32, 256, 8192]⟩
abbrev S32x256x2048 : Shape := ⟨3, ![32, 256, 2048]⟩
abbrev S32x256x16x128 : Shape := ⟨4, ![32, 256, 16, 128]⟩
abbrev S32x16x256x256 : Shape := ⟨4, ![32, 16, 256, 256]⟩
abbrev S32x16x256 : Shape := ⟨3, ![32, 16, 256]⟩
abbrev S32x16x256x1 : Shape := ⟨4, ![32, 16, 256, 1]⟩
abbrev S32x16x128x256 : Shape := ⟨4, ![32, 16, 128, 256]⟩
abbrev S8192x2048 : Shape := ⟨2, ![8192, 2048]⟩
abbrev S32x1x256x16x128 : Shape := ⟨5, ![32, 1, 256, 16, 128]⟩
abbrev S8192x8192 : Shape := ⟨2, ![8192, 8192]⟩

abbrev nBuf : Space → Nat
  | .hbm => 88
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S8x4096, .f32⟩
  | .hbm, ⟨2, _⟩ => ⟨S4096, .f32⟩
  | .hbm, ⟨3, _⟩ => ⟨S1x4096x24576, .f32⟩
  | .hbm, ⟨4, _⟩ => ⟨S1x24576, .f32⟩
  | .hbm, ⟨5, _⟩ => ⟨S1x4096, .f32⟩
  | .hbm, ⟨6, _⟩ => ⟨S1x4096x20928, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096x24576, .f32⟩
  | .hbm, ⟨17, _⟩ => ⟨S24576, .f32⟩
  | .hbm, ⟨18, _⟩ => ⟨S24576, .f32⟩
  | .hbm, ⟨19, _⟩ => ⟨S24576, .f32⟩
  | .hbm, ⟨20, _⟩ => ⟨S1x24576, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S32x256x4096, .f32⟩
  | .hbm, ⟨28, _⟩ => ⟨S_, .f32⟩
  | .hbm, ⟨29, _⟩ => ⟨S32x256, .f32⟩
  | .hbm, ⟨30, _⟩ => ⟨S32x256x1, .f32⟩
  | .hbm, ⟨31, _⟩ => ⟨S_, .f32⟩
  | .hbm, ⟨32, _⟩ => ⟨S32x256x1, .f32⟩
  | .hbm, ⟨33, _⟩ => ⟨S32x256x1, .f32⟩
  | .hbm, ⟨34, _⟩ => ⟨S_, .f32⟩
  | .hbm, ⟨35, _⟩ => ⟨S32x256x1, .f32⟩
  | .hbm, ⟨36, _⟩ => ⟨S32x256x1, .f32⟩
  | .hbm, ⟨37, _⟩ => ⟨S32x256x1, .f32⟩
  | .hbm, ⟨38, _⟩ => ⟨S32x256x4096, .f32⟩
  | .hbm, ⟨39, _⟩ => ⟨S32x256x4096, .f32⟩
  | .hbm, ⟨40, _⟩ => ⟨S4096, .f32⟩
  | .hbm, ⟨41, _⟩ => ⟨S1x1x4096, .f32⟩
  | .hbm, ⟨42, _⟩ => ⟨S32x256x4096, .f32⟩
  | .hbm, ⟨43, _⟩ => ⟨S32x256x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S1x1x4096, .f32⟩
  | .hbm, ⟨48, _⟩ => ⟨S32x256x4096, .f32⟩
  | .hbm, ⟨49, _⟩ => ⟨S32x256x4096, .f32⟩
  | .hbm, ⟨50, _⟩ => ⟨S1x1x4096, .f32⟩
  | .hbm, ⟨51, _⟩ => ⟨S32x256x4096, .f32⟩
  | .hbm, ⟨52, _⟩ => ⟨S32x256x4096, .f32⟩
  | .hbm, ⟨53, _⟩ => ⟨S4096x20928, .f32⟩
  | .hbm, ⟨54, _⟩ => ⟨S32x256x20928, .f32⟩
  | .hbm, ⟨55, _⟩ => ⟨S32x256x6144, .f32⟩
  | .hbm, ⟨56, _⟩ => ⟨S32x256x8192, .f32⟩
  | .hbm, ⟨57, _⟩ => ⟨S32x256x2048, .f32⟩
  | .hbm, ⟨58, _⟩ => ⟨S32x256x2048, .f32⟩
  | .hbm, ⟨59, _⟩ => ⟨S32x256x2048, .f32⟩
  | .hbm, ⟨60, _⟩ => ⟨S32x256x16x128, .f32⟩
  | .hbm, ⟨61, _⟩ => ⟨S32x256x16x128, .f32⟩
  | .hbm, ⟨62, _⟩ => ⟨S32x256x16x128, .f32⟩
  | .hbm, ⟨63, _⟩ => ⟨S32x16x256x256, .f32⟩
  | .hbm, ⟨64, _⟩ => ⟨S_, .f32⟩
  | .hbm, ⟨65, _⟩ => ⟨S32x16x256x256, .f32⟩
  | .hbm, ⟨66, _⟩ => ⟨S32x16x256x256, .f32⟩
  | .hbm, ⟨67, _⟩ => ⟨S_, .f32⟩
  | .hbm, ⟨68, _⟩ => ⟨S32x16x256, .f32⟩
  | .hbm, ⟨69, _⟩ => ⟨S_, .f32⟩
  | .hbm, ⟨70, _⟩ => ⟨S32x16x256, .f32⟩
  | .hbm, ⟨71, _⟩ => ⟨S32x16x256, .f32⟩
  | .hbm, ⟨72, _⟩ => ⟨S32x16x256x1, .f32⟩
  | .hbm, ⟨73, _⟩ => ⟨S32x16x256x256, .f32⟩
  | .hbm, ⟨74, _⟩ => ⟨S32x16x256x256, .f32⟩
  | .hbm, ⟨75, _⟩ => ⟨S32x16x256x256, .f32⟩
  | .hbm, ⟨76, _⟩ => ⟨S_, .f32⟩
  | .hbm, ⟨77, _⟩ => ⟨S32x16x256, .f32⟩
  | .hbm, ⟨78, _⟩ => ⟨S32x16x256x1, .f32⟩
  | .hbm, ⟨79, _⟩ => ⟨S32x16x256x256, .f32⟩
  | .hbm, ⟨80, _⟩ => ⟨S32x16x256x256, .f32⟩
  | .hbm, ⟨81, _⟩ => ⟨S32x16x128x256, .f32⟩
  | .hbm, ⟨82, _⟩ => ⟨S32x256x16x128, .f32⟩
  | .hbm, ⟨83, _⟩ => ⟨S8192x2048, .f32⟩
  | .hbm, ⟨84, _⟩ => ⟨S8192x2048, .bf16⟩
  | .hbm, ⟨85, _⟩ => ⟨S32x1x256x16x128, .f32⟩
  | .hbm, ⟨86, _⟩ => ⟨S32x1x256x16x128, .f32⟩
  | .hbm, ⟨87, _⟩ => ⟨S8192x8192, .f32⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== OutProj.lean ====
abbrev S32768x4096 : Shape := ⟨2, ![32768, 4096]⟩
abbrev S96x1x4096 : Shape := ⟨3, ![96, 1, 4096]⟩
abbrev S1x4096x4096 : Shape := ⟨3, ![1, 4096, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S32768x4096, .bf16⟩
  | .hbm, ⟨1, _⟩ => ⟨S32768x4096, .f32⟩
  | .hbm, ⟨2, _⟩ => ⟨S96x1x4096, .f32⟩
  | .hbm, ⟨3, _⟩ => ⟨S1x4096x4096, .f32⟩
  | .hbm, ⟨4, _⟩ => ⟨S4096x4096, .f32⟩
  | .hbm, ⟨5, _⟩ => ⟨S4096x4096, .bf16⟩
  | .hbm, ⟨6, _⟩ => ⟨S32768x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c6_i32 : BitVec 32 := 6#32
  let v19 : BitVec 32 := Scalar.muli v18 c6_i32
  let c2_i32 : BitVec 32 := 2#32
  let v20 : BitVec 32 := Scalar.addi v19 c2_i32
  let c0_i32_5 : BitVec 32 := 0#32
  let c0_i32_6 : BitVec 32 := 0#32
  ![v20.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutProjReferenceIdeal.lean ====
abbrev S32768x4096 : Shape := ⟨2, ![32768, 4096]⟩
abbrev S96x1x4096 : Shape := ⟨3, ![96, 1, 4096]⟩
abbrev S1x4096x4096 : Shape := ⟨3, ![1, 4096, 4096]⟩
abbrev S16x6x4096 : Shape := ⟨3, ![16, 6, 4096]⟩
abbrev S8x1x4096 : Shape := ⟨3, ![8, 1, 4096]⟩
abbrev S4096x4096 : Shape := ⟨2, ![4096, 4096]⟩
abbrev S8x4096x4096 : Shape := ⟨3, ![8, 4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x4096, .f32⟩
  | .hbm, ⟨2, _⟩ => ⟨S96x1x4096, .f32⟩
  | .hbm, ⟨3, _⟩ => ⟨S1x4096x4096, .f32⟩
  | .hbm, ⟨4, _⟩ => ⟨S16x6x4096, .f32⟩
  | .hbm, ⟨5, _⟩ => ⟨S8x1x4096, .f32⟩
  | .hbm, ⟨6, _⟩ => ⟨S32768x4096, .f32⟩
  | .hbm, ⟨7, _⟩ => ⟨S4096x4096, .f32⟩
  | .hbm, ⟨8, _⟩ => ⟨S32768x4096, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S32768x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Merge.lean ====
abbrev S32768x2048 : Shape := ⟨2, ![32768, 2048]⟩
abbrev S32768x8192 : Shape := ⟨2, ![32768, 8192]⟩
abbrev S1x2048x4096 : Shape := ⟨3, ![1, 2048, 4096]⟩
abbrev S2048x4096 : Shape := ⟨2, ![2048, 4096]⟩
abbrev S4096x2048 : Shape := ⟨2, ![4096, 2048]⟩
abbrev S4096x32x64 : Shape := ⟨3, ![4096, 32, 64]⟩
abbrev S4096x64x32 : Shape := ⟨3, ![4096, 64, 32]⟩
abbrev S32768x4096 : Shape := ⟨2, ![32768, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 15
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x8192, .f32⟩
  | .hbm, ⟨3, _⟩ => ⟨S1x2048x4096, .f32⟩
  | .hbm, ⟨4, _⟩ => ⟨S1x2048x4096, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S4096x2048, .f32⟩
  | .hbm, ⟨9, _⟩ => ⟨S4096x32x64, .f32⟩
  | .hbm, ⟨10, _⟩ => ⟨S4096x64x32, .f32⟩
  | .hbm, ⟨11, _⟩ => ⟨S4096x2048, .f32⟩
  | .hbm, ⟨12, _⟩ => ⟨S2048x4096, .f32⟩
  | .hbm, ⟨13, _⟩ => ⟨S2048x4096, .bf16⟩
  | .hbm, ⟨14, _⟩ => ⟨S32768x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S32768x2048 : Shape := ⟨2, ![32768, 2048]⟩
abbrev S32768x8192 : Shape := ⟨2, ![32768, 8192]⟩
abbrev S1x2048x4096 : Shape := ⟨3, ![1, 2048, 4096]⟩
abbrev S32768x64x32 : Shape := ⟨3, ![32768, 64, 32]⟩
abbrev S32768x32x64 : Shape := ⟨3, ![32768, 32, 64]⟩
abbrev S_ : Shape := ⟨0, ![]⟩
abbrev S32768x4096 : Shape := ⟨2, ![32768, 4096]⟩
abbrev S2048x4096 : Shape := ⟨2, ![2048, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x8192, .f32⟩
  | .hbm, ⟨3, _⟩ => ⟨S1x2048x4096, .f32⟩
  | .hbm, ⟨4, _⟩ => ⟨S1x2048x4096, .f32⟩
  | .hbm, ⟨5, _⟩ => ⟨S32768x2048, .f32⟩
  | .hbm, ⟨6, _⟩ => ⟨S32768x64x32, .f32⟩
  | .hbm, ⟨7, _⟩ => ⟨S32768x32x64, .f32⟩
  | .hbm, ⟨8, _⟩ => ⟨S32768x2048, .f32⟩
  | .hbm, ⟨9, _⟩ => ⟨S32768x8192, .f32⟩
  | .hbm, ⟨10, _⟩ => ⟨S32768x8192, .f32⟩
  | .hbm, ⟨11, _⟩ => ⟨S_, .f32⟩
  | .hbm, ⟨12, _⟩ => ⟨S32768x8192, .f32⟩
  | .hbm, ⟨13, _⟩ => ⟨S32768x8192, .f32⟩
  | .hbm, ⟨14, _⟩ => ⟨S_, .f32⟩
  | .hbm, ⟨15, _⟩ => ⟨S32768x8192, .f32⟩
  | .hbm, ⟨16, _⟩ => ⟨S32768x8192, .f32⟩
  | .hbm, ⟨17, _⟩ => ⟨S32768x4096, .f32⟩
  | .hbm, ⟨18, _⟩ => ⟨S32768x4096, .f32⟩
  | .hbm, ⟨19, _⟩ => ⟨S32768x2048, .f32⟩
  | .hbm, ⟨20, _⟩ => ⟨S2048x4096, .f32⟩
  | .hbm, ⟨21, _⟩ => ⟨S32768x4096, .f32⟩
  | .hbm, ⟨22, _⟩ => ⟨S32768x4096, .f32⟩
  | .hbm, ⟨23, _⟩ => ⟨S2048x4096, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== RwkvProj.lean ====
abbrev S32768x4096 : Shape := ⟨2, ![32768, 4096]⟩
abbrev S1x4096x20928 : Shape := ⟨3, ![1, 4096, 20928]⟩
abbrev S4096x20928 : Shape := ⟨2, ![4096, 20928]⟩
abbrev S4096x6144 : Shape := ⟨2, ![4096, 6144]⟩
abbrev S4096x3x2048 : Shape := ⟨3, ![4096, 3, 2048]⟩
abbrev S4096x3x32x64 : Shape := ⟨4, ![4096, 3, 32, 64]⟩
abbrev S4096x3x64x32 : Shape := ⟨4, ![4096, 3, 64, 32]⟩
abbrev S4096x96 : Shape := ⟨2, ![4096, 96]⟩
abbrev S_ : Shape := ⟨0, ![]⟩
abbrev S4096x128 : Shape := ⟨2, ![4096, 128]⟩
abbrev S4096x256 : Shape := ⟨2, ![4096, 256]⟩
abbrev S4096x6656 : Shape := ⟨2, ![4096, 6656]⟩
abbrev S8x4096x4096 : Shape := ⟨3, ![8, 4096, 4096]⟩
abbrev S4096x8x6656 : Shape := ⟨3, ![4096, 8, 6656]⟩
abbrev S8x128x4096 : Shape := ⟨3, ![8, 128, 4096]⟩
abbrev S4096x512 : Shape := ⟨2, ![4096, 512]⟩
abbrev S128x8x512 : Shape := ⟨3, ![128, 8, 512]⟩
abbrev S1024x4096 : Shape := ⟨2, ![1024, 4096]⟩
abbrev S1024x512 : Shape := ⟨2, ![1024, 512]⟩
abbrev S8x128x512 : Shape := ⟨3, ![8, 128, 512]⟩

abbrev nBuf : Space → Nat
  | .hbm => 25
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S1x4096x20928, .f32⟩
  | .hbm, ⟨2, _⟩ => ⟨S4096x20928, .f32⟩
  | .hbm, ⟨3, _⟩ => ⟨S4096x6144, .f32⟩
  | .hbm, ⟨4, _⟩ => ⟨S4096x3x2048, .f32⟩
  | .hbm, ⟨5, _⟩ => ⟨S4096x3x32x64, .f32⟩
  | .hbm, ⟨6, _⟩ => ⟨S4096x3x64x32, .f32⟩
  | .hbm, ⟨7, _⟩ => ⟨S4096x3x2048, .f32⟩
  | .hbm, ⟨8, _⟩ => ⟨S4096x6144, .f32⟩
  | .hbm, ⟨9, _⟩ => ⟨S4096x96, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x96, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x256, .f32⟩
  | .hbm, ⟨18, _⟩ => ⟨S_, .i32⟩
  | .hbm, ⟨19, _⟩ => ⟨S_, .f32⟩
  | .hbm, ⟨20, _⟩ => ⟨S4096x256, .f32⟩
  | .hbm, ⟨21, _⟩ => ⟨S4096x6656, .f32⟩
  | .hbm, ⟨22, _⟩ => ⟨S4096x6656, .bf16⟩
  | .hbm, ⟨23, _⟩ => ⟨S8x4096x4096, .bf16⟩
  | .hbm, ⟨24, _⟩ => ⟨S4096x8x6656, .f32⟩
  | .local _ .vmem, ⟨0, _⟩ => ⟨S8x128x4096, .bf16⟩
  | .local _ .vmem, ⟨1, _⟩ => ⟨S8x128x4096, .bf16⟩
  | .local _ .vmem, ⟨2, _⟩ => ⟨S4096x512, .bf16⟩
  | .local _ .vmem, ⟨3, _⟩ => ⟨S4096x512, .bf16⟩
  | .local _ .vmem, ⟨4, _⟩ => ⟨S128x8x512, .f32⟩
  | .local _ .vmem, ⟨5, _⟩ => ⟨S128x8x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call2_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 32, 13], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat, arg2.toNat]

abbrev stage0_0 : Fin 2 → Memref sig .tc .vmem S8x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S128x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== RwkvProjReferenceIdeal.lean ====
abbrev S32768x4096 : Shape := ⟨2, ![32768, 4096]⟩
abbrev S1x4096x20928 : Shape := ⟨3, ![1, 4096, 20928]⟩
abbrev S4096x20928 : Shape := ⟨2, ![4096, 20928]⟩
abbrev S32768x20928 : Shape := ⟨2, ![32768, 20928]⟩
abbrev S8x4096x20928 : Shape := ⟨3, ![8, 4096, 20928]⟩
abbrev S8x4096x6592 : Shape := ⟨3, ![8, 4096, 6592]⟩
abbrev S8x4096x6144 : Shape := ⟨3, ![8, 4096, 6144]⟩
abbrev S8x4096x96 : Shape := ⟨3, ![8, 4096, 96]⟩
abbrev S8x4096x256 : Shape := ⟨3, ![8, 4096, 256]⟩
abbrev S8x4096x3x32x64 : Shape := ⟨5, ![8, 4096, 3, 32, 64]⟩
abbrev S8x4096x3x64x32 : Shape := ⟨5, ![8, 4096, 3, 64, 32]⟩
abbrev S_ : Shape := ⟨0, ![]⟩
abbrev S8x4096x32 : Shape := ⟨3, ![8, 4096, 32]⟩
abbrev S8x4096x6656 : Shape := ⟨3, ![8, 4096, 6656]⟩
abbrev S4096x8x6656 : Shape := ⟨3, ![4096, 8, 6656]⟩

abbrev nBuf : Space → Nat
  | .hbm => 18
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S1x4096x20928, .f32⟩
  | .hbm, ⟨2, _⟩ => ⟨S32768x4096, .f32⟩
  | .hbm, ⟨3, _⟩ => ⟨S4096x20928, .f32⟩
  | .hbm, ⟨4, _⟩ => ⟨S32768x20928, .f32⟩
  | .hbm, ⟨5, _⟩ => ⟨S8x4096x20928, .f32⟩
  | .hbm, ⟨6, _⟩ => ⟨S8x4096x6592, .f32⟩
  | .hbm, ⟨7, _⟩ => ⟨S8x4096x6144, .f32⟩
  | .hbm, ⟨8, _⟩ => ⟨S8x4096x96, .f32⟩
  | .hbm, ⟨9, _⟩ => ⟨S8x4096x96, .f32⟩
  | .hbm, ⟨10, _⟩ => ⟨S8x4096x256, .f32⟩
  | .hbm, ⟨11, _⟩ => ⟨S8x4096x3x32x64, .f32⟩
  | .hbm, ⟨12, _⟩ => ⟨S8x4096x3x64x32, .f32⟩
  | .hbm, ⟨13, _⟩ => ⟨S8x4096x6144, .f32⟩
  | .hbm, ⟨14, _⟩ => ⟨S_, .f32⟩
  | .hbm, ⟨15, _⟩ => ⟨S8x4096x32, .f32⟩
  | .hbm, ⟨16, _⟩ => ⟨S8x4096x6656, .f32⟩
  | .hbm, ⟨17, _⟩ => ⟨S4096x8x6656, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== FinalNorm.lean ====
abbrev S8192x4096 : Shape := ⟨2, ![8192, 4096]⟩
abbrev S32768x4096 : Shape := ⟨2, ![32768, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S32x256x4096 : Shape := ⟨3, ![32, 256, 4096]⟩
abbrev S8x4096x4096 : Shape := ⟨3, ![8, 4096, 4096]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S32768x4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S32x256x4096, .f32⟩
  | .hbm, ⟨6, _⟩ => ⟨S1x4096, .f32⟩
  | .hbm, ⟨7, _⟩ => ⟨S32768x4096, .f32⟩
  | .hbm, ⟨8, _⟩ => ⟨S8x4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== FinalNormReferenceIdeal.lean ====
abbrev S8192x4096 : Shape := ⟨2, ![8192, 4096]⟩
abbrev S32768x4096 : Shape := ⟨2, ![32768, 4096]⟩
abbrev S4096 : Shape := ⟨1, ![4096]⟩
abbrev S32x256x4096 : Shape := ⟨3, ![32, 256, 4096]⟩
abbrev S_ : Shape := ⟨0, ![]⟩
abbrev S32x256 : Shape := ⟨2, ![32, 256]⟩
abbrev S32x256x1 : Shape := ⟨3, ![32, 256, 1]⟩
abbrev S1x1x4096 : Shape := ⟨3, ![1, 1, 4096]⟩
abbrev S8x4096x4096 : Shape := ⟨3, ![8, 4096, 4096]⟩
abbrev S8x4096 : Shape := ⟨2, ![8, 4096]⟩
abbrev S8x4096x1 : Shape := ⟨3, ![8, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32768x4096, .f32⟩
  | .hbm, ⟨2, _⟩ => ⟨S4096, .f32⟩
  | .hbm, ⟨3, _⟩ => ⟨S32x256x4096, .f32⟩
  | .hbm, ⟨4, _⟩ => ⟨S32x256x4096, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x4096, .f32⟩
  | .hbm, ⟨16, _⟩ => ⟨S32x256x4096, .f32⟩
  | .hbm, ⟨17, _⟩ => ⟨S1x1x4096, .f32⟩
  | .hbm, ⟨18, _⟩ => ⟨S32x256x4096, .f32⟩
  | .hbm, ⟨19, _⟩ => ⟨S32x256x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S1x1x4096, .f32⟩
  | .hbm, ⟨35, _⟩ => ⟨S8x4096x4096, .f32⟩
  | .hbm, ⟨36, _⟩ => ⟨S8x4096x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== RwkvGate.lean ====
abbrev S2x32768x2048 : Shape := ⟨3, ![2, 32768, 2048]⟩
abbrev S32768x2048 : Shape := ⟨2, ![32768, 2048]⟩
abbrev S1x2048 : Shape := ⟨2, ![1, 2048]⟩
abbrev S2048 : Shape := ⟨1, ![2048]⟩
abbrev S32x64 : Shape := ⟨2, ![32, 64]⟩
abbrev S64x32 : Shape := ⟨2, ![64, 32]⟩
abbrev S2x4096x8x2048 : Shape := ⟨4, ![2, 4096, 8, 2048]⟩
abbrev S4096x8x2048 : Shape := ⟨3, ![4096, 8, 2048]⟩
abbrev S8x4096x2048 : Shape := ⟨3, ![8, 4096, 2048]⟩
abbrev S1x32x8x2048 : Shape := ⟨4, ![1, 32, 8, 2048]⟩
abbrev S32x8x2048 : Shape := ⟨3, ![32, 8, 2048]⟩
abbrev S8x32x2048 : Shape := ⟨3, ![8, 32, 2048]⟩
abbrev S256x2048 : Shape := ⟨2, ![256, 2048]⟩
abbrev S256x128 : Shape := ⟨2, ![256, 128]⟩

abbrev nBuf : Space → Nat
  | .hbm => 20
  | .vmem => 12
  | .smem => 0
  | _ => 0

abbrev bufTy : (tb : Table) → Fin (tcTables nBuf tb) → BufTy
  | .hbm, ⟨0, _⟩ => ⟨S2x32768x2048, .f32⟩
  | .hbm, ⟨1, _⟩ => ⟨S32768x2048, .f32⟩
  | .hbm, ⟨2, _⟩ => ⟨S32768x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S32x64, .f32⟩
  | .hbm, ⟨7, _⟩ => ⟨S64x32, .f32⟩
  | .hbm, ⟨8, _⟩ => ⟨S2048, .f32⟩
  | .hbm, ⟨9, _⟩ => ⟨S2048, .f32⟩
  | .hbm, ⟨10, _⟩ => ⟨S32x64, .f32⟩
  | .hbm, ⟨11, _⟩ => ⟨S64x32, .f32⟩
  | .hbm, ⟨12, _⟩ => ⟨S2048, .f32⟩
  | .hbm, ⟨13, _⟩ => ⟨S2x4096x8x2048, .f32⟩
  | .hbm, ⟨14, _⟩ => ⟨S2x4096x8x2048, .f32⟩
  | .hbm, ⟨15, _⟩ => ⟨S4096x8x2048, .f32⟩
  | .hbm, ⟨16, _⟩ => ⟨S4096x8x2048, .f32⟩
  | .hbm, ⟨17, _⟩ => ⟨S1x2048, .f32⟩
  | .hbm, ⟨18, _⟩ => ⟨S1x2048, .f32⟩
  | .hbm, ⟨19, _⟩ => ⟨S8x4096x2048, .bf16⟩
  | .local _ .vmem, ⟨0, _⟩ => ⟨S1x32x8x2048, .f32⟩
  | .local _ .vmem, ⟨1, _⟩ => ⟨S1x32x8x2048, .f32⟩
  | .local _ .vmem, ⟨2, _⟩ => ⟨S1x32x8x2048, .f32⟩
  | .local _ .vmem, ⟨3, _⟩ => ⟨S1x32x8x2048, .f32⟩
  | .local _ .vmem, ⟨4, _⟩ => ⟨S32x8x2048, .f32⟩
  | .local _ .vmem, ⟨5, _⟩ => ⟨S32x8x2048, .f32⟩
  | .local _ .vmem, ⟨6, _⟩ => ⟨S32x8x2048, .f32⟩
  | .local _ .vmem, ⟨7, _⟩ => ⟨S32x8x2048, .f32⟩
  | .local _ .vmem, ⟨8, _⟩ => ⟨S1x2048, .f32⟩
  | .local _ .vmem, ⟨9, _⟩ => ⟨S1x2048, .f32⟩
  | .local _ .vmem, ⟨10, _⟩ => ⟨S8x32x2048, .bf16⟩
  | .local _ .vmem, ⟨11, _⟩ => ⟨S8x32x2048, .bf16⟩
  | _, _ => ⟨S2x32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 128], ![false, false]⟩

def cc0_transform_0 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RwkvGateReferenceIdeal.lean ====
abbrev S2x32768x2048 : Shape := ⟨3, ![2, 32768, 2048]⟩
abbrev S32768x2048 : Shape := ⟨2, ![32768, 2048]⟩
abbrev S1x2048 : Shape := ⟨2, ![1, 2048]⟩
abbrev S1x32768x2048 : Shape := ⟨3, ![1, 32768, 2048]⟩
abbrev S4096x8x64x32 : Shape := ⟨4, ![4096, 8, 64, 32]⟩
abbrev S8x4096x32x64 : Shape := ⟨4, ![8, 4096, 32, 64]⟩
abbrev S_ : Shape := ⟨0, ![]⟩
abbrev S8x4096x32 : Shape := ⟨3, ![8, 4096, 32]⟩
abbrev S8x4096x32x1 : Shape := ⟨4, ![8, 4096, 32, 1]⟩
abbrev S8x4096x2048 : Shape := ⟨3, ![8, 4096, 2048]⟩
abbrev S2048 : Shape := ⟨1, ![2048]⟩
abbrev S1x1x2048 : Shape := ⟨3, ![1, 1, 2048]⟩
abbrev S8x4096x64x32 : Shape := ⟨4, ![8, 4096, 64, 32]⟩

abbrev nBuf : Space → Nat
  | .hbm => 90
  | .vmem => 0
  | .smem => 0
  | _ => 0

abbrev bufTy : (tb : Table) → Fin (tcTables nBuf tb) → BufTy
  | .hbm, ⟨0, _⟩ => ⟨S2x32768x2048, .f32⟩
  | .hbm, ⟨1, _⟩ => ⟨S32768x2048, .f32⟩
  | .hbm, ⟨2, _⟩ => ⟨S32768x2048, .f32⟩
  | .hbm, ⟨3, _⟩ => ⟨S1x2048, .f32⟩
  | .hbm, ⟨4, _⟩ => ⟨S1x2048, .f32⟩
  | .hbm, ⟨5, _⟩ => ⟨S1x32768x2048, .f32⟩
  | .hbm, ⟨6, _⟩ => ⟨S32768x2048, .f32⟩
  | .hbm, ⟨7, _⟩ => ⟨S4096x8x64x32, .f32⟩
  | .hbm, ⟨8, _⟩ => ⟨S8x4096x32x64, .f32⟩
  | .hbm, ⟨9, _⟩ => ⟨S_, .f32⟩
  | .hbm, ⟨10, _⟩ => ⟨S8x4096x32, .f32⟩
  | .hbm, ⟨11, _⟩ => ⟨S8x4096x32x1, .f32⟩
  | .hbm, ⟨12, _⟩ => ⟨S_, .f32⟩
  | .hbm, ⟨13, _⟩ => ⟨S8x4096x32x1, .f32⟩
  | .hbm, ⟨14, _⟩ => ⟨S8x4096x32x1, .f32⟩
  | .hbm, ⟨15, _⟩ => ⟨S8x4096x32x64, .f32⟩
  | .hbm, ⟨16, _⟩ => ⟨S8x4096x32x64, .f32⟩
  | .hbm, ⟨17, _⟩ => ⟨S8x4096x32x64, .f32⟩
  | .hbm, ⟨18, _⟩ => ⟨S_, .f32⟩
  | .hbm, ⟨19, _⟩ => ⟨S8x4096x32, .f32⟩
  | .hbm, ⟨20, _⟩ => ⟨S8x4096x32x1, .f32⟩
  | .hbm, ⟨21, _⟩ => ⟨S_, .f32⟩
  | .hbm, ⟨22, _⟩ => ⟨S8x4096x32x1, .f32⟩
  | .hbm, ⟨23, _⟩ => ⟨S8x4096x32x1, .f32⟩
  | .hbm, ⟨24, _⟩ => ⟨S8x4096x32x64, .f32⟩
  | .hbm, ⟨25, _⟩ => ⟨S8x4096x32x64, .f32⟩
  | .hbm, ⟨26, _⟩ => ⟨S_, .f32⟩
  | .hbm, ⟨27, _⟩ => ⟨S8x4096x32x1, .f32⟩
  | .hbm, ⟨28, _⟩ => ⟨S8x4096x32x1, .f32⟩
  | .hbm, ⟨29, _⟩ => ⟨S8x4096x32x1, .f32⟩
  | .hbm, ⟨30, _⟩ => ⟨S8x4096x32x64, .f32⟩
  | .hbm, ⟨31, _⟩ => ⟨S8x4096x32x64, .f32⟩
  | .hbm, ⟨32, _⟩ => ⟨S8x4096x2048, .f32⟩
  | .hbm, ⟨33, _⟩ => ⟨S2048, .f32⟩
  | .hbm, ⟨34, _⟩ => ⟨S1x1x2048, .f32⟩
  | .hbm, ⟨35, _⟩ => ⟨S8x4096x2048, .f32⟩
  | .hbm, ⟨36, _⟩ => ⟨S8x4096x2048, .f32⟩
  | .hbm, ⟨37, _⟩ => ⟨S2048, .f32⟩
  | .hbm, ⟨38, _⟩ => ⟨S1x1x2048, .f32⟩
  | .hbm, ⟨39, _⟩ => ⟨S8x4096x2048, .f32⟩
  | .hbm, ⟨40, _⟩ => ⟨S8x4096x2048, .f32⟩
  | .hbm, ⟨41, _⟩ => ⟨S1x32768x2048, .f32⟩
  | .hbm, ⟨42, _⟩ => ⟨S32768x2048, .f32⟩
  | .hbm, ⟨43, _⟩ => ⟨S4096x8x64x32, .f32⟩
  | .hbm, ⟨44, _⟩ => ⟨S8x4096x32x64, .f32⟩
  | .hbm, ⟨45, _⟩ => ⟨S_, .f32⟩
  | .hbm, ⟨46, _⟩ => ⟨S8x4096x32, .f32⟩
  | .hbm, ⟨47, _⟩ => ⟨S8x4096x32x1, .f32⟩
  | .hbm, ⟨48, _⟩ => ⟨S_, .f32⟩
  | .hbm, ⟨49, _⟩ => ⟨S8x4096x32x1, .f32⟩
  | .hbm, ⟨50, _⟩ => ⟨S8x4096x32x1, .f32⟩
  | .hbm, ⟨51, _⟩ => ⟨S8x4096x32x64, .f32⟩
  | .hbm, ⟨52, _⟩ => ⟨S8x4096x32x64, .f32⟩
  | .hbm, ⟨53, _⟩ => ⟨S8x4096x32x64, .f32⟩
  | .hbm, ⟨54, _⟩ => ⟨S_, .f32⟩
  | .hbm, ⟨55, _⟩ => ⟨S8x4096x32, .f32⟩
  | .hbm, ⟨56, _⟩ => ⟨S8x4096x32x1, .f32⟩
  | .hbm, ⟨57, _⟩ => ⟨S_, .f32⟩
  | .hbm, ⟨58, _⟩ => ⟨S8x4096x32x1, .f32⟩
  | .hbm, ⟨59, _⟩ => ⟨S8x4096x32x1, .f32⟩
  | .hbm, ⟨60, _⟩ => ⟨S8x4096x32x64, .f32⟩
  | .hbm, ⟨61, _⟩ => ⟨S8x4096x32x64, .f32⟩
  | .hbm, ⟨62, _⟩ => ⟨S_, .f32⟩
  | .hbm, ⟨63, _⟩ => ⟨S8x4096x32x1, .f32⟩
  | .hbm, ⟨64, _⟩ => ⟨S8x4096x32x1, .f32⟩
  | .hbm, ⟨65, _⟩ => ⟨S8x4096x32x1, .f32⟩
  | .hbm, ⟨66, _⟩ => ⟨S8x4096x32x64, .f32⟩
  | .hbm, ⟨67, _⟩ => ⟨S8x4096x32x64, .f32⟩
  | .hbm, ⟨68, _⟩ => ⟨S8x4096x2048, .f32⟩
  | .hbm, ⟨69, _⟩ => ⟨S2048, .f32⟩
  | .hbm, ⟨70, _⟩ => ⟨S1x1x2048, .f32⟩
  | .hbm, ⟨71, _⟩ => ⟨S8x4096x2048, .f32⟩
  | .hbm, ⟨72, _⟩ => ⟨S8x4096x2048, .f32⟩
  | .hbm, ⟨73, _⟩ => ⟨S2048, .f32⟩
  | .hbm, ⟨74, _⟩ => ⟨S1x1x2048, .f32⟩
  | .hbm, ⟨75, _⟩ => ⟨S8x4096x2048, .f32⟩
  | .hbm, ⟨76, _⟩ => ⟨S8x4096x2048, .f32⟩
  | .hbm, ⟨77, _⟩ => ⟨S8x4096x2048, .f32⟩
  | .hbm, ⟨78, _⟩ => ⟨S4096x8x64x32, .f32⟩
  | .hbm, ⟨79, _⟩ => ⟨S8x4096x32x64, .f32⟩
  | .hbm, ⟨80, _⟩ => ⟨S8x4096x2048, .f32⟩
  | .hbm, ⟨81, _⟩ => ⟨S8x4096x2048, .f32⟩
  | .hbm, ⟨82, _⟩ => ⟨S4096x8x64x32, .f32⟩
  | .hbm, ⟨83, _⟩ => ⟨S8x4096x32x64, .f32⟩
  | .hbm, ⟨84, _⟩ => ⟨S8x4096x2048, .f32⟩
  | .hbm, ⟨85, _⟩ => ⟨S8x4096x2048, .f32⟩
  | .hbm, ⟨86, _⟩ => ⟨S8x4096x32x64, .f32⟩
  | .hbm, ⟨87, _⟩ => ⟨S8x4096x64x32, .f32⟩
  | .hbm, ⟨88, _⟩ => ⟨S8x4096x2048, .f32⟩
  | .hbm, ⟨89, _⟩ => ⟨S8x4096x2048, .bf16⟩
  | _, _ => ⟨S2x32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== RwkvPre.lean ====
abbrev S32768x6656 : Shape := ⟨2, ![32768, 6656]⟩
abbrev S1x6592 : Shape := ⟨2, ![1, 6592]⟩
abbrev S1x2x2048 : Shape := ⟨3, ![1, 2, 2048]⟩
abbrev S1x2x96x2048 : Shape := ⟨4, ![1, 2, 96, 2048]⟩
abbrev S1x256x2048 : Shape := ⟨3, ![1, 256, 2048]⟩
abbrev S1x2048 : Shape := ⟨2, ![1, 2048]⟩
abbrev S1x32x64 : Shape := ⟨3, ![1, 32, 64]⟩
abbrev S6592 : Shape := ⟨1, ![6592]⟩
abbrev S6144 : Shape := ⟨1, ![6144]⟩
abbrev S3x2048 : Shape := ⟨2, ![3, 2048]⟩
abbrev S3x32x64 : Shape := ⟨3, ![3, 32, 64]⟩
abbrev S3x64x32 : Shape := ⟨3, ![3, 64, 32]⟩
abbrev S96 : Shape := ⟨1, ![96]⟩
abbrev S_ : Shape := ⟨0, ![]⟩
abbrev S128 : Shape := ⟨1, ![128]⟩
abbrev S256 : Shape := ⟨1, ![256]⟩
abbrev S6656 : Shape := ⟨1, ![6656]⟩
abbrev S1x6656 : Shape := ⟨2, ![1, 6656]⟩
abbrev S2x2048 : Shape := ⟨2, ![2, 2048]⟩
abbrev S2x32x64 : Shape := ⟨3, ![2, 32, 64]⟩
abbrev S2x64x32 : Shape := ⟨3, ![2, 64, 32]⟩
abbrev S2x1x2048 : Shape := ⟨3, ![2, 1, 2048]⟩
abbrev S2x96x2048 : Shape := ⟨3, ![2, 96, 2048]⟩
abbrev S2x96x32x64 : Shape := ⟨4, ![2, 96, 32, 64]⟩
abbrev S2x96x64x32 : Shape := ⟨4, ![2, 96, 64, 32]⟩
abbrev S2x128x2048 : Shape := ⟨3, ![2, 128, 2048]⟩
abbrev S256x2048 : Shape := ⟨2, ![256, 2048]⟩
abbrev S256x32x64 : Shape := ⟨3, ![256, 32, 64]⟩
abbrev S256x64x32 : Shape := ⟨3, ![256, 64, 32]⟩
abbrev S2048 : Shape := ⟨1, ![2048]⟩
abbrev S32x64 : Shape := ⟨2, ![32, 64]⟩
abbrev S64x32 : Shape := ⟨2, ![64, 32]⟩
abbrev S32768x2048 : Shape := ⟨2, ![32768, 2048]⟩
abbrev S2x32768x2048 : Shape := ⟨3, ![2, 32768, 2048]⟩
abbrev S128x6656 : Shape := ⟨2, ![128, 6656]⟩
abbrev S8x6656 : Shape := ⟨2, ![8, 6656]⟩
abbrev S128x2048 : Shape := ⟨2, ![128, 2048]⟩
abbrev S120x6656 : Shape := ⟨2, ![120, 6656]⟩
abbrev S128x128 : Shape := ⟨2, ![128, 128]⟩
abbrev S128x256 : Shape := ⟨2, ![128, 256]⟩
abbrev S1x1x2048 : Shape := ⟨3, ![1, 1, 2048]⟩
abbrev S1x128x2048 : Shape := ⟨3, ![1, 128, 2048]⟩

abbrev nBuf : Space → Nat
  | .hbm => 89
  | .vmem => 31
  | .smem => 0
  | _ => 0

abbrev bufTy : (tb : Table) → Fin (tcTables nBuf tb) → BufTy
  | .hbm, ⟨0, _⟩ => ⟨S32768x6656, .f32⟩
  | .hbm, ⟨1, _⟩ => ⟨S1x6592, .f32⟩
  | .hbm, ⟨2, _⟩ => ⟨S1x2x2048, .f32⟩
  | .hbm, ⟨3, _⟩ => ⟨S1x2x96x2048, .f32⟩
  | .hbm, ⟨4, _⟩ => ⟨S1x2x2048, .f32⟩
  | .hbm, ⟨5, _⟩ => ⟨S1x2x96x2048, .f32⟩
  | .hbm, ⟨6, _⟩ => ⟨S1x256x2048, .f32⟩
  | .hbm, ⟨7, _⟩ => ⟨S1x2048, .f32⟩
  | .hbm, ⟨8, _⟩ => ⟨S1x2048, .f32⟩
  | .hbm, ⟨9, _⟩ => ⟨S1x32x64, .f32⟩
  | .hbm, ⟨10, _⟩ => ⟨S6592, .f32⟩
  | .hbm, ⟨11, _⟩ => ⟨S6144, .f32⟩
  | .hbm, ⟨12, _⟩ => ⟨S3x2048, .f32⟩
  | .hbm, ⟨13, _⟩ => ⟨S3x32x64, .f32⟩
  | .hbm, ⟨14, _⟩ => ⟨S3x64x32, .f32⟩
  | .hbm, ⟨15, _⟩ => ⟨S3x2048, .f32⟩
  | .hbm, ⟨16, _⟩ => ⟨S6144, .f32⟩
  | .hbm, ⟨17, _⟩ => ⟨S96, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S96, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S256, .f32⟩
  | .hbm, ⟨26, _⟩ => ⟨S_, .i32⟩
  | .hbm, ⟨27, _⟩ => ⟨S_, .f32⟩
  | .hbm, ⟨28, _⟩ => ⟨S256, .f32⟩
  | .hbm, ⟨29, _⟩ => ⟨S6656, .f32⟩
  | .hbm, ⟨30, _⟩ => ⟨S1x6656, .f32⟩
  | .hbm, ⟨31, _⟩ => ⟨S2x2048, .f32⟩
  | .hbm, ⟨32, _⟩ => ⟨S2x32x64, .f32⟩
  | .hbm, ⟨33, _⟩ => ⟨S2x64x32, .f32⟩
  | .hbm, ⟨34, _⟩ => ⟨S2x2048, .f32⟩
  | .hbm, ⟨35, _⟩ => ⟨S2x1x2048, .f32⟩
  | .hbm, ⟨36, _⟩ => ⟨S2x96x2048, .f32⟩
  | .hbm, ⟨37, _⟩ => ⟨S2x96x32x64, .f32⟩
  | .hbm, ⟨38, _⟩ => ⟨S2x96x64x32, .f32⟩
  | .hbm, ⟨39, _⟩ => ⟨S2x96x2048, .f32⟩
  | .hbm, ⟨40, _⟩ => ⟨S_, .i32⟩
  | .hbm, ⟨41, _⟩ => ⟨S_, .f32⟩
  | .hbm, ⟨42, _⟩ => ⟨S2x128x2048, .f32⟩
  | .hbm, ⟨43, _⟩ => ⟨S2x128x2048, .bf16⟩
  | .hbm, ⟨44, _⟩ => ⟨S2x2048, .f32⟩
  | .hbm, ⟨45, _⟩ => ⟨S2x32x64, .f32⟩
  | .hbm, ⟨46, _⟩ => ⟨S2x64x32, .f32⟩
  | .hbm, ⟨47, _⟩ => ⟨S2x2048, .f32⟩
  | .hbm, ⟨48, _⟩ => ⟨S2x1x2048, .f32⟩
  | .hbm, ⟨49, _⟩ => ⟨S2x96x2048, .f32⟩
  | .hbm, ⟨50, _⟩ => ⟨S2x96x32x64, .f32⟩
  | .hbm, ⟨51, _⟩ => ⟨S2x96x64x32, .f32⟩
  | .hbm, ⟨52, _⟩ => ⟨S2x96x2048, .f32⟩
  | .hbm, ⟨53, _⟩ => ⟨S_, .i32⟩
  | .hbm, ⟨54, _⟩ => ⟨S_, .f32⟩
  | .hbm, ⟨55, _⟩ => ⟨S2x128x2048, .f32⟩
  | .hbm, ⟨56, _⟩ => ⟨S2x128x2048, .bf16⟩
  | .hbm, ⟨57, _⟩ => ⟨S256x2048, .f32⟩
  | .hbm, ⟨58, _⟩ => ⟨S256x32x64, .f32⟩
  | .hbm, ⟨59, _⟩ => ⟨S256x64x32, .f32⟩
  | .hbm, ⟨60, _⟩ => ⟨S256x2048, .f32⟩
  | .hbm, ⟨61, _⟩ => ⟨S_, .i32⟩
  | .hbm, ⟨62, _⟩ => ⟨S_, .f32⟩
  | .hbm, ⟨63, _⟩ => ⟨S256x2048, .f32⟩
  | .hbm, ⟨64, _⟩ => ⟨S256x2048, .bf16⟩
  | .hbm, ⟨65, _⟩ => ⟨S2048, .f32⟩
  | .hbm, ⟨66, _⟩ => ⟨S32x64, .f32⟩
  | .hbm, ⟨67, _⟩ => ⟨S64x32, .f32⟩
  | .hbm, ⟨68, _⟩ => ⟨S2048, .f32⟩
  | .hbm, ⟨69, _⟩ => ⟨S2048, .f32⟩
  | .hbm, ⟨70, _⟩ => ⟨S32x64, .f32⟩
  | .hbm, ⟨71, _⟩ => ⟨S64x32, .f32⟩
  | .hbm, ⟨72, _⟩ => ⟨S2048, .f32⟩
  | .hbm, ⟨73, _⟩ => ⟨S32x64, .f32⟩
  | .hbm, ⟨74, _⟩ => ⟨S2048, .f32⟩
  | .hbm, ⟨75, _⟩ => ⟨S32x64, .f32⟩
  | .hbm, ⟨76, _⟩ => ⟨S64x32, .f32⟩
  | .hbm, ⟨77, _⟩ => ⟨S2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S32768x2048, .f32⟩
  | .hbm, ⟨82, _⟩ => ⟨S32768x2048, .f32⟩
  | .hbm, ⟨83, _⟩ => ⟨S32768x2048, .f32⟩
  | .hbm, ⟨84, _⟩ => ⟨S2x32768x2048, .f32⟩
  | .hbm, ⟨85, _⟩ => ⟨S2x32768x2048, .f32⟩
  | .hbm, ⟨86, _⟩ => ⟨S2x32768x2048, .f32⟩
  | .hbm, ⟨87, _⟩ => ⟨S32768x2048, .f32⟩
  | .hbm, ⟨88, _⟩ => ⟨S32768x2048, .f32⟩
  | .local _ .vmem, ⟨0, _⟩ => ⟨S128x6656, .f32⟩
  | .local _ .vmem, ⟨1, _⟩ => ⟨S128x6656, .f32⟩
  | .local _ .vmem, ⟨2, _⟩ => ⟨S8x6656, .f32⟩
  | .local _ .vmem, ⟨3, _⟩ => ⟨S8x6656, .f32⟩
  | .local _ .vmem, ⟨4, _⟩ => ⟨S8x6656, .f32⟩
  | .local _ .vmem, ⟨5, _⟩ => ⟨S8x6656, .f32⟩
  | .local _ .vmem, ⟨6, _⟩ => ⟨S1x6656, .f32⟩
  | .local _ .vmem, ⟨7, _⟩ => ⟨S2x1x2048, .f32⟩
  | .local _ .vmem, ⟨8, _⟩ => ⟨S2x128x2048, .bf16⟩
  | .local _ .vmem, ⟨9, _⟩ => ⟨S2x1x2048, .f32⟩
  | .local _ .vmem, ⟨10, _⟩ => ⟨S2x128x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S2x128x2048, .f32⟩
  | .local _ .vmem, ⟨22, _⟩ => ⟨S2x128x2048, .f32⟩
  | .local _ .vmem, ⟨23, _⟩ => ⟨S2x128x2048, .f32⟩
  | .local _ .vmem, ⟨24, _⟩ => ⟨S2x128x2048, .f32⟩
  | .local _ .vmem, ⟨25, _⟩ => ⟨S2x128x2048, .f32⟩
  | .local _ .vmem, ⟨26, _⟩ => ⟨S2x128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | _, _ => ⟨S32768x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_call3_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_3 : Ref sig .tc := ⟨.hbm, 53, rfl⟩
abbrev main_call4_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_call5_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59_0 : Ref sig .tc := ⟨.hbm, 81, rfl⟩
abbrev main_v59_1 : Ref sig .tc := ⟨.hbm, 82, rfl⟩
abbrev main_v59_2 : Ref sig .tc := ⟨.hbm, 83, rfl⟩
abbrev main_v59_3 : Ref sig .tc := ⟨.hbm, 84, rfl⟩
abbrev main_v59_4 : Ref sig .tc := ⟨.hbm, 85, rfl⟩
abbrev main_v59_5 : Ref sig .tc := ⟨.hbm, 86, rfl⟩
abbrev main_v59_6 : Ref sig .tc := ⟨.hbm, 87, rfl⟩
abbrev main_v59_7 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6656 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6656 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x6656 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6656 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RwkvPreReferenceIdeal.lean ====
abbrev S32768x6656 : Shape := ⟨2, ![32768, 6656]⟩
abbrev S1x6592 : Shape := ⟨2, ![1, 6592]⟩
abbrev S1x2x2048 : Shape := ⟨3, ![1, 2, 2048]⟩
abbrev S1x2x96x2048 : Shape := ⟨4, ![1, 2, 96, 2048]⟩
abbrev S1x256x2048 : Shape := ⟨3, ![1, 256, 2048]⟩
abbrev S1x2048 : Shape := ⟨2, ![1, 2048]⟩
abbrev S1x32x64 : Shape := ⟨3, ![1, 32, 64]⟩
abbrev S6592 : Shape := ⟨1, ![6592]⟩
abbrev S32768x2048 : Shape := ⟨2, ![32768, 2048]⟩
abbrev S4096x8x2048 : Shape := ⟨3, ![4096, 8, 2048]⟩
abbrev S8x4096x2048 : Shape := ⟨3, ![8, 4096, 2048]⟩
abbrev S8x4096x64x32 : Shape := ⟨4, ![8, 4096, 64, 32]⟩
abbrev S8x4096x32x64 : Shape := ⟨4, ![8, 4096, 32, 64]⟩
abbrev S2048 : Shape := ⟨1, ![2048]⟩
abbrev S8x1x2048 : Shape := ⟨3, ![8, 1, 2048]⟩
abbrev S_ : Shape := ⟨0, ![]⟩
abbrev S8x4095x2048 : Shape := ⟨3, ![8, 4095, 2048]⟩
abbrev S1x1x2048 : Shape := ⟨3, ![1, 1, 2048]⟩
abbrev S32768x96 : Shape := ⟨2, ![32768, 96]⟩
abbrev S4096x8x96 : Shape := ⟨3, ![4096, 8, 96]⟩
abbrev S8x4096x96 : Shape := ⟨3, ![8, 4096, 96]⟩
abbrev S96 : Shape := ⟨1, ![96]⟩
abbrev S8x1x96 : Shape := ⟨3, ![8, 1, 96]⟩
abbrev S8x4095x96 : Shape := ⟨3, ![8, 4095, 96]⟩
abbrev S1x1x96 : Shape := ⟨3, ![1, 1, 96]⟩
abbrev S32768x256 : Shape := ⟨2, ![32768, 256]⟩
abbrev S4096x8x256 : Shape := ⟨3, ![4096, 8, 256]⟩
abbrev S8x4096x256 : Shape := ⟨3, ![8, 4096, 256]⟩
abbrev S256 : Shape := ⟨1, ![256]⟩
abbrev S8x1x256 : Shape := ⟨3, ![8, 1, 256]⟩
abbrev S8x4095x256 : Shape := ⟨3, ![8, 4095, 256]⟩
abbrev S1x1x256 : Shape := ⟨3, ![1, 1, 256]⟩
abbrev S8x4096x32 : Shape := ⟨3, ![8, 4096, 32]⟩
abbrev S8x4096x32x1 : Shape := ⟨4, ![8, 4096, 32, 1]⟩
abbrev S256x2048 : Shape := ⟨2, ![256, 2048]⟩
abbrev S1x1x96x2048 : Shape := ⟨4, ![1, 1, 96, 2048]⟩
abbrev S96x2048 : Shape := ⟨2, ![96, 2048]⟩
abbrev S32x64 : Shape := ⟨2, ![32, 64]⟩
abbrev S1x1x32x64 : Shape := ⟨4, ![1, 1, 32, 64]⟩
abbrev S4096x8x64x32 : Shape := ⟨4, ![4096, 8, 64, 32]⟩
abbrev S1x32768x2048 : Shape := ⟨3, ![1, 32768, 2048]⟩
abbrev S2x32768x2048 : Shape := ⟨3, ![2, 32768, 2048]⟩

abbrev nBuf : Space → Nat
  | .hbm => 351
  | .vmem => 0
  | .smem => 0
  | _ => 0

abbrev hbmTy0_0 (i : Nat) : BufTy := match i % 128 with
  | 0 => ⟨S32768x6656, .f32⟩
  | 1 => ⟨S1x6592, .f32⟩
  | 2 => ⟨S1x2x2048, .f32⟩
  | 3 => ⟨S1x2x96x2048, .f32⟩
  | 4 => ⟨S1x2x2048, .f32⟩
  | 5 => ⟨S1x2x96x2048, .f32⟩
  | 6 => ⟨S1x256x2048, .f32⟩
  | 7 => ⟨S1x2048, .f32⟩
  | 8 => ⟨S1x2048, .f32⟩
  | 9 => ⟨S1x32x64, .f32⟩
  | 10 => ⟨S6592, .f32⟩
  | 11 => ⟨S32768x2048, .f32⟩
  | 12 => ⟨S4096x8x2048, .f32⟩
  | 13 => ⟨S8x4096x2048, .f32⟩
  | 14 => ⟨S8x4096x64x32, .f32⟩
  | 15 => ⟨S8x4096x32x64, .f32⟩
  | 16 => ⟨S8x4096x2048, .f32⟩
  | 17 => ⟨S2048, .f32⟩
  | 18 => ⟨S8x1x2048, .f32⟩
  | 19 => ⟨S_, .f32⟩
  | 20 => ⟨S8x1x2048, .f32⟩
  | 21 => ⟨S8x4095x2048, .f32⟩
  | 22 => ⟨S8x4096x2048, .f32⟩
  | 23 => ⟨S8x4095x2048, .f32⟩
  | 24 => ⟨S8x4096x2048, .f32⟩
  | 25 => ⟨S8x4096x2048, .f32⟩
  | 26 => ⟨S_, .f32⟩
  | 27 => ⟨S8x4096x2048, .f32⟩
  | 28 => ⟨S8x4096x2048, .f32⟩
  | 29 => ⟨S8x4096x2048, .f32⟩
  | 30 => ⟨S1x1x2048, .f32⟩
  | 31 => ⟨S8x4096x2048, .f32⟩
  | 32 => ⟨S8x4096x2048, .f32⟩
  | 33 => ⟨S8x4096x2048, .f32⟩
  | 34 => ⟨S32768x2048, .f32⟩
  | 35 => ⟨S4096x8x2048, .f32⟩
  | 36 => ⟨S8x4096x2048, .f32⟩
  | 37 => ⟨S8x4096x64x32, .f32⟩
  | 38 => ⟨S8x4096x32x64, .f32⟩
  | 39 => ⟨S8x4096x2048, .f32⟩
  | 40 => ⟨S2048, .f32⟩
  | 41 => ⟨S8x1x2048, .f32⟩
  | 42 => ⟨S_, .f32⟩
  | 43 => ⟨S8x1x2048, .f32⟩
  | 44 => ⟨S8x4095x2048, .f32⟩
  | 45 => ⟨S8x4096x2048, .f32⟩
  | 46 => ⟨S8x4095x2048, .f32⟩
  | 47 => ⟨S8x4096x2048, .f32⟩
  | 48 => ⟨S8x4096x2048, .f32⟩
  | 49 => ⟨S_, .f32⟩
  | 50 => ⟨S8x4096x2048, .f32⟩
  | 51 => ⟨S8x4096x2048, .f32⟩
  | 52 => ⟨S8x4096x2048, .f32⟩
  | 53 => ⟨S1x1x2048, .f32⟩
  | 54 => ⟨S8x4096x2048, .f32⟩
  | 55 => ⟨S8x4096x2048, .f32⟩
  | 56 => ⟨S8x4096x2048, .f32⟩
  | 57 => ⟨S32768x2048, .f32⟩
  | 58 => ⟨S4096x8x2048, .f32⟩
  | 59 => ⟨S8x4096x2048, .f32⟩
  | 60 => ⟨S8x4096x64x32, .f32⟩
  | 61 => ⟨S8x4096x32x64, .f32⟩
  | 62 => ⟨S8x4096x2048, .f32⟩
  | 63 => ⟨S2048, .f32⟩
  | 64 => ⟨S8x1x2048, .f32⟩
  | 65 => ⟨S_, .f32⟩
  | 66 => ⟨S8x1x2048, .f32⟩
  | 67 => ⟨S8x4095x2048, .f32⟩
  | 68 => ⟨S8x4096x2048, .f32⟩
  | 69 => ⟨S8x4095x2048, .f32⟩
  | 70 => ⟨S8x4096x2048, .f32⟩
  | 71 => ⟨S8x4096x2048, .f32⟩
  | 72 => ⟨S_, .f32⟩
  | 73 => ⟨S8x4096x2048, .f32⟩
  | 74 => ⟨S8x4096x2048, .f32⟩
  | 75 => ⟨S8x4096x2048, .f32⟩
  | 76 => ⟨S1x1x2048, .f32⟩
  | 77 => ⟨S8x4096x2048, .f32⟩
  | 78 => ⟨S8x4096x2048, .f32⟩
  | 79 => ⟨S8x4096x2048, .f32⟩
  | 80 => ⟨S32768x96, .f32⟩
  | 81 => ⟨S4096x8x96, .f32⟩
  | 82 => ⟨S8x4096x96, .f32⟩
  | 83 => ⟨S96, .f32⟩
  | 84 => ⟨S8x1x96, .f32⟩
  | 85 => ⟨S_, .f32⟩
  | 86 => ⟨S8x1x96, .f32⟩
  | 87 => ⟨S8x4095x96, .f32⟩
  | 88 => ⟨S8x4096x96, .f32⟩
  | 89 => ⟨S8x4095x96, .f32⟩
  | 90 => ⟨S8x4096x96, .f32⟩
  | 91 => ⟨S8x4096x96, .f32⟩
  | 92 => ⟨S_, .f32⟩
  | 93 => ⟨S8x4096x96, .f32⟩
  | 94 => ⟨S8x4096x96, .f32⟩
  | 95 => ⟨S8x4096x96, .f32⟩
  | 96 => ⟨S1x1x96, .f32⟩
  | 97 => ⟨S8x4096x96, .f32⟩
  | 98 => ⟨S8x4096x96, .f32⟩
  | 99 => ⟨S8x4096x96, .f32⟩
  | 100 => ⟨S32768x96, .f32⟩
  | 101 => ⟨S4096x8x96, .f32⟩
  | 102 => ⟨S8x4096x96, .f32⟩
  | 103 => ⟨S96, .f32⟩
  | 104 => ⟨S8x1x96, .f32⟩
  | 105 => ⟨S_, .f32⟩
  | 106 => ⟨S8x1x96, .f32⟩
  | 107 => ⟨S8x4095x96, .f32⟩
  | 108 => ⟨S8x4096x96, .f32⟩
  | 109 => ⟨S8x4095x96, .f32⟩
  | 110 => ⟨S8x4096x96, .f32⟩
  | 111 => ⟨S8x4096x96, .f32⟩
  | 112 => ⟨S_, .f32⟩
  | 113 => ⟨S8x4096x96, .f32⟩
  | 114 => ⟨S8x4096x96, .f32⟩
  | 115 => ⟨S8x4096x96, .f32⟩
  | 116 => ⟨S1x1x96, .f32⟩
  | 117 => ⟨S8x4096x96, .f32⟩
  | 118 => ⟨S8x4096x96, .f32⟩
  | 119 => ⟨S8x4096x96, .f32⟩
  | 120 => ⟨S32768x256, .f32⟩
  | 121 => ⟨S4096x8x256, .f32⟩
  | 122 => ⟨S8x4096x256, .f32⟩
  | 123 => ⟨S256, .f32⟩
  | 124 => ⟨S8x1x256, .f32⟩
  | 125 => ⟨S_, .f32⟩
  | 126 => ⟨S8x1x256, .f32⟩
  | 127 => ⟨S8x4095x256, .f32⟩
  | _ => ⟨S32768x6656, .f32⟩

abbrev hbmTy0_1 (i : Nat) : BufTy := match i % 128 with
  | 0 => ⟨S8x4096x256, .f32⟩
  | 1 => ⟨S8x4095x256, .f32⟩
  | 2 => ⟨S8x4096x256, .f32⟩
  | 3 => ⟨S8x4096x256, .f32⟩
  | 4 => ⟨S_, .f32⟩
  | 5 => ⟨S8x4096x256, .f32⟩
  | 6 => ⟨S8x4096x256, .f32⟩
  | 7 => ⟨S8x4096x256, .f32⟩
  | 8 => ⟨S1x1x256, .f32⟩
  | 9 => ⟨S8x4096x256, .f32⟩
  | 10 => ⟨S8x4096x256, .f32⟩
  | 11 => ⟨S8x4096x256, .f32⟩
  | 12 => ⟨S2048, .f32⟩
  | 13 => ⟨S1x1x2048, .f32⟩
  | 14 => ⟨S8x4096x2048, .f32⟩
  | 15 => ⟨S8x4096x2048, .f32⟩
  | 16 => ⟨S8x4096x32x64, .f32⟩
  | 17 => ⟨S8x4096x32x64, .f32⟩
  | 18 => ⟨S_, .f32⟩
  | 19 => ⟨S8x4096x32, .f32⟩
  | 20 => ⟨S8x4096x32x1, .f32⟩
  | 21 => ⟨S8x4096x32x1, .f32⟩
  | 22 => ⟨S_, .f32⟩
  | 23 => ⟨S8x4096x32x1, .f32⟩
  | 24 => ⟨S8x4096x32x1, .f32⟩
  | 25 => ⟨S8x4096x32x64, .f32⟩
  | 26 => ⟨S8x4096x32x64, .f32⟩
  | 27 => ⟨S8x4096x2048, .f32⟩
  | 28 => ⟨S8x4096x256, .f32⟩
  | 29 => ⟨S8x4096x256, .f32⟩
  | 30 => ⟨S_, .f32⟩
  | 31 => ⟨S8x4096x256, .f32⟩
  | 32 => ⟨S8x4096x256, .f32⟩
  | 33 => ⟨S_, .f32⟩
  | 34 => ⟨S8x4096x256, .f32⟩
  | 35 => ⟨S8x4096x256, .f32⟩
  | 36 => ⟨S256x2048, .f32⟩
  | 37 => ⟨S8x4096x2048, .f32⟩
  | 38 => ⟨S1x1x2048, .f32⟩
  | 39 => ⟨S2048, .f32⟩
  | 40 => ⟨S8x4096x96, .f32⟩
  | 41 => ⟨S1x1x96x2048, .f32⟩
  | 42 => ⟨S96x2048, .f32⟩
  | 43 => ⟨S8x4096x2048, .f32⟩
  | 44 => ⟨S1x1x2048, .f32⟩
  | 45 => ⟨S8x4096x2048, .f32⟩
  | 46 => ⟨S8x4096x2048, .f32⟩
  | 47 => ⟨S8x4096x2048, .f32⟩
  | 48 => ⟨S_, .f32⟩
  | 49 => ⟨S8x4096x2048, .f32⟩
  | 50 => ⟨S8x4096x2048, .f32⟩
  | 51 => ⟨S8x4096x2048, .f32⟩
  | 52 => ⟨S8x4096x2048, .f32⟩
  | 53 => ⟨S8x4096x2048, .i1⟩
  | 54 => ⟨S8x4096x2048, .f32⟩
  | 55 => ⟨S8x4096x2048, .f32⟩
  | 56 => ⟨S8x4096x2048, .f32⟩
  | 57 => ⟨S8x4096x2048, .f32⟩
  | 58 => ⟨S8x4096x2048, .f32⟩
  | 59 => ⟨S8x4096x2048, .f32⟩
  | 60 => ⟨S8x4096x2048, .f32⟩
  | 61 => ⟨S8x4096x2048, .f32⟩
  | 62 => ⟨S8x4096x2048, .f32⟩
  | 63 => ⟨S_, .f32⟩
  | 64 => ⟨S8x4096x2048, .f32⟩
  | 65 => ⟨S8x4096x2048, .f32⟩
  | 66 => ⟨S8x4096x2048, .f32⟩
  | 67 => ⟨S8x4096x2048, .f32⟩
  | 68 => ⟨S8x4096x2048, .f32⟩
  | 69 => ⟨S1x1x2048, .f32⟩
  | 70 => ⟨S2048, .f32⟩
  | 71 => ⟨S1x1x96x2048, .f32⟩
  | 72 => ⟨S96x2048, .f32⟩
  | 73 => ⟨S8x4096x2048, .f32⟩
  | 74 => ⟨S1x1x2048, .f32⟩
  | 75 => ⟨S8x4096x2048, .f32⟩
  | 76 => ⟨S8x4096x2048, .f32⟩
  | 77 => ⟨S8x4096x2048, .f32⟩
  | 78 => ⟨S8x4096x2048, .f32⟩
  | 79 => ⟨S_, .f32⟩
  | 80 => ⟨S8x4096x2048, .f32⟩
  | 81 => ⟨S8x4096x2048, .f32⟩
  | 82 => ⟨S_, .f32⟩
  | 83 => ⟨S8x4096x2048, .f32⟩
  | 84 => ⟨S8x4096x2048, .f32⟩
  | 85 => ⟨S_, .f32⟩
  | 86 => ⟨S8x4096x2048, .f32⟩
  | 87 => ⟨S8x4096x2048, .f32⟩
  | 88 => ⟨S2048, .f32⟩
  | 89 => ⟨S1x1x2048, .f32⟩
  | 90 => ⟨S8x4096x2048, .f32⟩
  | 91 => ⟨S8x4096x2048, .f32⟩
  | 92 => ⟨S_, .f32⟩
  | 93 => ⟨S8x4096x2048, .f32⟩
  | 94 => ⟨S8x4096x2048, .f32⟩
  | 95 => ⟨S8x4096x2048, .f32⟩
  | 96 => ⟨S8x4096x2048, .f32⟩
  | 97 => ⟨S8x4096x32x64, .f32⟩
  | 98 => ⟨S8x4096x32x64, .f32⟩
  | 99 => ⟨S8x4096x32x64, .f32⟩
  | 100 => ⟨S32x64, .f32⟩
  | 101 => ⟨S1x1x32x64, .f32⟩
  | 102 => ⟨S8x4096x32x64, .f32⟩
  | 103 => ⟨S8x4096x32x64, .f32⟩
  | 104 => ⟨S_, .f32⟩
  | 105 => ⟨S8x4096x32, .f32⟩
  | 106 => ⟨S8x4096x32x1, .f32⟩
  | 107 => ⟨S1x1x2048, .f32⟩
  | 108 => ⟨S2048, .f32⟩
  | 109 => ⟨S8x4096x96, .f32⟩
  | 110 => ⟨S1x1x96x2048, .f32⟩
  | 111 => ⟨S96x2048, .f32⟩
  | 112 => ⟨S8x4096x2048, .f32⟩
  | 113 => ⟨S1x1x2048, .f32⟩
  | 114 => ⟨S8x4096x2048, .f32⟩
  | 115 => ⟨S8x4096x2048, .f32⟩
  | 116 => ⟨S8x4096x2048, .f32⟩
  | 117 => ⟨S_, .f32⟩
  | 118 => ⟨S8x4096x2048, .f32⟩
  | 119 => ⟨S8x4096x2048, .f32⟩
  | 120 => ⟨S8x4096x2048, .f32⟩
  | 121 => ⟨S8x4096x2048, .f32⟩
  | 122 => ⟨S8x4096x2048, .i1⟩
  | 123 => ⟨S8x4096x2048, .f32⟩
  | 124 => ⟨S8x4096x2048, .f32⟩
  | 125 => ⟨S8x4096x2048, .f32⟩
  | 126 => ⟨S8x4096x2048, .f32⟩
  | 127 => ⟨S8x4096x2048, .f32⟩
  | _ => ⟨S32768x6656, .f32⟩

abbrev hbmTy0_2 (i : Nat) : BufTy := match i % 128 with
  | 0 => ⟨S8x4096x2048, .f32⟩
  | 1 => ⟨S8x4096x2048, .f32⟩
  | 2 => ⟨S8x4096x2048, .f32⟩
  | 3 => ⟨S8x4096x2048, .f32⟩
  | 4 => ⟨S_, .f32⟩
  | 5 => ⟨S8x4096x2048, .f32⟩
  | 6 => ⟨S8x4096x2048, .f32⟩
  | 7 => ⟨S8x4096x2048, .f32⟩
  | 8 => ⟨S8x4096x2048, .f32⟩
  | 9 => ⟨S8x4096x2048, .f32⟩
  | 10 => ⟨S1x1x2048, .f32⟩
  | 11 => ⟨S2048, .f32⟩
  | 12 => ⟨S1x1x96x2048, .f32⟩
  | 13 => ⟨S96x2048, .f32⟩
  | 14 => ⟨S8x4096x2048, .f32⟩
  | 15 => ⟨S1x1x2048, .f32⟩
  | 16 => ⟨S8x4096x2048, .f32⟩
  | 17 => ⟨S8x4096x2048, .f32⟩
  | 18 => ⟨S8x4096x2048, .f32⟩
  | 19 => ⟨S8x4096x2048, .f32⟩
  | 20 => ⟨S_, .f32⟩
  | 21 => ⟨S8x4096x2048, .f32⟩
  | 22 => ⟨S8x4096x2048, .f32⟩
  | 23 => ⟨S_, .f32⟩
  | 24 => ⟨S8x4096x2048, .f32⟩
  | 25 => ⟨S8x4096x2048, .f32⟩
  | 26 => ⟨S_, .f32⟩
  | 27 => ⟨S8x4096x2048, .f32⟩
  | 28 => ⟨S8x4096x2048, .f32⟩
  | 29 => ⟨S2048, .f32⟩
  | 30 => ⟨S1x1x2048, .f32⟩
  | 31 => ⟨S8x4096x2048, .f32⟩
  | 32 => ⟨S8x4096x2048, .f32⟩
  | 33 => ⟨S_, .f32⟩
  | 34 => ⟨S8x4096x2048, .f32⟩
  | 35 => ⟨S8x4096x2048, .f32⟩
  | 36 => ⟨S8x4096x2048, .f32⟩
  | 37 => ⟨S8x4096x2048, .f32⟩
  | 38 => ⟨S8x4096x32x64, .f32⟩
  | 39 => ⟨S8x4096x32x64, .f32⟩
  | 40 => ⟨S8x4096x32x64, .f32⟩
  | 41 => ⟨S32x64, .f32⟩
  | 42 => ⟨S1x1x32x64, .f32⟩
  | 43 => ⟨S8x4096x32x64, .f32⟩
  | 44 => ⟨S8x4096x32x64, .f32⟩
  | 45 => ⟨S_, .f32⟩
  | 46 => ⟨S8x4096x32, .f32⟩
  | 47 => ⟨S8x4096x32x1, .f32⟩
  | 48 => ⟨S8x4096x32x1, .f32⟩
  | 49 => ⟨S8x4096x32x64, .f32⟩
  | 50 => ⟨S8x4096x32x64, .f32⟩
  | 51 => ⟨S8x4096x32x64, .f32⟩
  | 52 => ⟨S8x4096x2048, .f32⟩
  | 53 => ⟨S8x4096x32x64, .f32⟩
  | 54 => ⟨S4096x8x64x32, .f32⟩
  | 55 => ⟨S32768x2048, .f32⟩
  | 56 => ⟨S8x4096x32x64, .f32⟩
  | 57 => ⟨S4096x8x64x32, .f32⟩
  | 58 => ⟨S32768x2048, .f32⟩
  | 59 => ⟨S8x4096x32x64, .f32⟩
  | 60 => ⟨S4096x8x64x32, .f32⟩
  | 61 => ⟨S32768x2048, .f32⟩
  | 62 => ⟨S8x4096x32x64, .f32⟩
  | 63 => ⟨S4096x8x64x32, .f32⟩
  | 64 => ⟨S32768x2048, .f32⟩
  | 65 => ⟨S8x4096x32x64, .f32⟩
  | 66 => ⟨S4096x8x64x32, .f32⟩
  | 67 => ⟨S32768x2048, .f32⟩
  | 68 => ⟨S1x32768x2048, .f32⟩
  | 69 => ⟨S1x32768x2048, .f32⟩
  | 70 => ⟨S2x32768x2048, .f32⟩
  | 71 => ⟨S8x4096x32x64, .f32⟩
  | 72 => ⟨S4096x8x64x32, .f32⟩
  | 73 => ⟨S32768x2048, .f32⟩
  | 74 => ⟨S8x4096x32x64, .f32⟩
  | 75 => ⟨S4096x8x64x32, .f32⟩
  | 76 => ⟨S32768x2048, .f32⟩
  | 77 => ⟨S1x32768x2048, .f32⟩
  | 78 => ⟨S1x32768x2048, .f32⟩
  | 79 => ⟨S2x32768x2048, .f32⟩
  | 80 => ⟨S8x4096x32x64, .f32⟩
  | 81 => ⟨S4096x8x64x32, .f32⟩
  | 82 => ⟨S32768x2048, .f32⟩
  | 83 => ⟨S8x4096x32x64, .f32⟩
  | 84 => ⟨S4096x8x64x32, .f32⟩
  | 85 => ⟨S32768x2048, .f32⟩
  | 86 => ⟨S1x32768x2048, .f32⟩
  | 87 => ⟨S1x32768x2048, .f32⟩
  | 88 => ⟨S2x32768x2048, .f32⟩
  | 89 => ⟨S8x4096x32x64, .f32⟩
  | 90 => ⟨S4096x8x64x32, .f32⟩
  | 91 => ⟨S32768x2048, .f32⟩
  | 92 => ⟨S8x4096x32x64, .f32⟩
  | 93 => ⟨S4096x8x64x32, .f32⟩
  | 94 => ⟨S32768x2048, .f32⟩
  | _ => ⟨S32768x6656, .f32⟩

abbrev hbmTy (i : Nat) : BufTy := match i / 128 with
  | 0 => hbmTy0_0 i
  | 1 => hbmTy0_1 i
  | 2 => hbmTy0_2 i
  | _ => ⟨S32768x6656, .f32⟩

abbrev bufTy : (tb : Table) → Fin (tcTables nBuf tb) → BufTy
  | .hbm, ⟨i, _⟩ => hbmTy i
  | _, _ => ⟨S32768x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_5 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_6 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_7 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_8 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_9 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_10 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_11 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_12 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_13 : Ref sig .tc := ⟨.hbm, 158, rfl⟩
abbrev main_v134 : Ref sig .tc := ⟨.hbm, 159, rfl⟩
abbrev main_v135 : Ref sig .tc := ⟨.hbm, 160, rfl⟩
abbrev main_cst_14 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_call0_cst : Ref sig .tc := ⟨.hbm, 176, rfl⟩
abbrev main_call0_v0 : Ref sig .tc := ⟨.hbm, 177, rfl⟩
abbrev main_call0_v1 : Ref sig .tc := ⟨.hbm, 178, rfl⟩
abbrev main_call0_v2 : Ref sig .tc := ⟨.hbm, 179, rfl⟩
abbrev main_call0_v3 : Ref sig .tc := ⟨.hbm, 180, rfl⟩
abbrev main_call0_v4 : Ref sig .tc := ⟨.hbm, 181, rfl⟩
abbrev main_call0_v5 : Ref sig .tc := ⟨.hbm, 182, rfl⟩
abbrev main_call0_v6 : Ref sig .tc := ⟨.hbm, 183, rfl⟩
abbrev main_call0_v7 : Ref sig .tc := ⟨.hbm, 184, rfl⟩
abbrev main_call0_v8 : Ref sig .tc := ⟨.hbm, 185, rfl⟩
abbrev main_call0_v9 : Ref sig .tc := ⟨.hbm, 186, rfl⟩
abbrev main_call0_v10 : Ref sig .tc := ⟨.hbm, 187, rfl⟩
abbrev main_call0_v11 : Ref sig .tc := ⟨.hbm, 188, rfl⟩
abbrev main_v150 : Ref sig .tc := ⟨.hbm, 189, rfl⟩
abbrev main_v151 : Ref sig .tc := ⟨.hbm, 190, rfl⟩
abbrev main_cst_15 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_16 : Ref sig .tc := ⟨.hbm, 207, rfl⟩
abbrev main_v167 : Ref sig .tc := ⟨.hbm, 208, rfl⟩
abbrev main_v168 : Ref sig .tc := ⟨.hbm, 209, rfl⟩
abbrev main_cst_17 : Ref sig .tc := ⟨.hbm, 210, rfl⟩
abbrev main_v169 : Ref sig .tc := ⟨.hbm, 211, rfl⟩
abbrev main_v170 : Ref sig .tc := ⟨.hbm, 212, rfl⟩
abbrev main_cst_18 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_19 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_20 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_call1_cst : Ref sig .tc := ⟨.hbm, 245, rfl⟩
abbrev main_call1_v0 : Ref sig .tc := ⟨.hbm, 246, rfl⟩
abbrev main_call1_v1 : Ref sig .tc := ⟨.hbm, 247, rfl⟩
abbrev main_call1_v2 : Ref sig .tc := ⟨.hbm, 248, rfl⟩
abbrev main_call1_v3 : Ref sig .tc := ⟨.hbm, 249, rfl⟩
abbrev main_call1_v4 : Ref sig .tc := ⟨.hbm, 250, rfl⟩
abbrev main_call1_v5 : Ref sig .tc := ⟨.hbm, 251, rfl⟩
abbrev main_call1_v6 : Ref sig .tc := ⟨.hbm, 252, rfl⟩
abbrev main_call1_v7 : Ref sig .tc := ⟨.hbm, 253, rfl⟩
abbrev main_call1_v8 : Ref sig .tc := ⟨.hbm, 254, rfl⟩
abbrev main_call1_v9 : Ref sig .tc := ⟨.hbm, 255, rfl⟩
abbrev main_call1_v10 : Ref sig .tc := ⟨.hbm, 256, rfl⟩
abbrev main_call1_v11 : Ref sig .tc := ⟨.hbm, 257, rfl⟩
abbrev main_v200 : Ref sig .tc := ⟨.hbm, 258, rfl⟩
abbrev main_v201 : Ref sig .tc := ⟨.hbm, 259, rfl⟩
abbrev main_cst_21 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_cst_22 : Ref sig .tc := ⟨.hbm, 276, rfl⟩
abbrev main_v217 : Ref sig .tc := ⟨.hbm, 277, rfl⟩
abbrev main_v218 : Ref sig .tc := ⟨.hbm, 278, rfl⟩
abbrev main_cst_23 : Ref sig .tc := ⟨.hbm, 279, rfl⟩
abbrev main_v219 : Ref sig .tc := ⟨.hbm, 280, rfl⟩
abbrev main_v220 : Ref sig .tc := ⟨.hbm, 281, rfl⟩
abbrev main_cst_24 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_cst_25 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_cst_26 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩

abbrev nD : Nat := 1
abbrev τ : Topo := Topo.v7x

variable {F : FTy → Type} [FloatOps F]
-- ==== NormMlp.lean ====
abbrev S32768x4096 : Shape := ⟨2, ![32768, 4096]⟩
abbrev S1x4096 : Shape := ⟨2, ![1, 4096]⟩
abbrev S96x1x4096 : Shape := ⟨3, ![96, 1, 4096]⟩
abbrev S4096 : Shape := ⟨1, ![4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x4096, .f32⟩
  | .hbm, ⟨1, _⟩ => ⟨S1x4096, .f32⟩
  | .hbm, ⟨2, _⟩ => ⟨S96x1x4096, .f32⟩
  | .hbm, ⟨3, _⟩ => ⟨S4096, .f32⟩
  | .hbm, ⟨4, _⟩ => ⟨S1x4096, .f32⟩
  | .hbm, ⟨5, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c6_i32 : BitVec 32 := 6#32
  let v19 : BitVec 32 := Scalar.muli v18 c6_i32
  let c3_i32 : BitVec 32 := 3#32
  let v20 : BitVec 32 := Scalar.addi v19 c3_i32
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c6_i32 : BitVec 32 := 6#32
  let v19 : BitVec 32 := Scalar.muli v18 c6_i32
  let c4_i32 : BitVec 32 := 4#32
  let v20 : BitVec 32 := Scalar.addi v19 c4_i32
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormMlpReferenceIdeal.lean ====
abbrev S32768x4096 : Shape := ⟨2, ![32768, 4096]⟩
abbrev S1x4096 : Shape := ⟨2, ![1, 4096]⟩
abbrev S96x1x4096 : Shape := ⟨3, ![96, 1, 4096]⟩
abbrev S16x6x4096 : Shape := ⟨3, ![16, 6, 4096]⟩
abbrev S8x1x4096 : Shape := ⟨3, ![8, 1, 4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S4096 : Shape := ⟨1, ![4096]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S1x4096, .f32⟩
  | .hbm, ⟨2, _⟩ => ⟨S96x1x4096, .f32⟩
  | .hbm, ⟨3, _⟩ => ⟨S16x6x4096, .f32⟩
  | .hbm, ⟨4, _⟩ => ⟨S8x1x4096, .f32⟩
  | .hbm, ⟨5, _⟩ => ⟨S8x1x4096, .f32⟩
  | .hbm, ⟨6, _⟩ => ⟨S8x4096x4096, .f32⟩
  | .hbm, ⟨7, _⟩ => ⟨S8x4096x4096, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S4096, .f32⟩
  | .hbm, ⟨21, _⟩ => ⟨S1x1x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x1x4096, .f32⟩
  | .hbm, ⟨26, _⟩ => ⟨S8x1x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .bf16⟩
  | .hbm, ⟨32, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Attn.lean ====
/-
  Attention of one query over the extended reals: two groups of scores (`sl` the local keys, `sc` the
  context keys) share one softmax, the weights divided through by the mass before the values are summed.
  Proved here: local keys whose score is −∞ may be left out, and the two groups may be joined into one.
-/
module

public import Idealize.ShloMosaic.PureOps.Ideal.Laws

@[expose] public section

noncomputable section

namespace Cert.Attn

open Idealize.ShloMosaic

variable {α β γ : Type} [Fintype α] [Fintype β] [Fintype γ]

/-- The greatest score of a group, −∞ for none. -/
def rowMax (s : α → EReal) : EReal := Finset.univ.fold max ⊥ s

/-- The greatest score of both groups. -/
def peak (sl : α → EReal) (sc : β → EReal) : EReal := max (rowMax sl) (rowMax sc)

/-- What the softmax divides by. -/
def mass (sl : α → EReal) (sc : β → EReal) : EReal :=
  (∑ a, Ideal.exp (sl a - peak sl sc)) + ∑ b, Ideal.exp (sc b - peak sl sc)

/-- The weight of a key of score `s`. -/
def weight (sl : α → EReal) (sc : β → EReal) (s : EReal) : EReal :=
  Ideal.div (Ideal.exp (s - peak sl sc)) (mass sl sc)

/-- The attention: the values summed with their keys' weights. -/
def attend (sl : α → EReal) (sc : β → EReal) (vl : α → EReal) (vc : β → EReal) : EReal :=
  (∑ a, weight sl sc (sl a) * vl a) + ∑ b, weight sl sc (sc b) * vc b

theorem rowMax_eq_sup (s : α → EReal) : rowMax s = Finset.univ.sup s := rfl

theorem le_rowMax (s : α → EReal) (a : α) : s a ≤ rowMax s := by
  rw [rowMax_eq_sup]; exact Finset.le_sup (Finset.mem_univ a)

theorem rowMax_le (s : α → EReal) (x : EReal) (h : ∀ a, s a ≤ x) : rowMax s ≤ x := by
  rw [rowMax_eq_sup]; exact Finset.sup_le fun a _ => h a

theorem rowMax_ne_top (s : α → EReal) (h : ∀ a, s a ≠ ⊤) : rowMax s ≠ ⊤ := by
  rw [rowMax_eq_sup]
  refine ne_of_lt ((Finset.sup_lt_iff (by exact bot_lt_top)).mpr fun a _ => lt_top_iff_ne_top.mpr (h a))

theorem exp_nonneg (x : EReal) : 0 ≤ Ideal.exp x := by
  induction x using EReal.rec with
  | bot => simp
  | top => simp
  | coe r => rw [Ideal.exp_coe]; exact_mod_cast (Real.exp_pos r).le

theorem exp_pos_of_ne_bot (x : EReal) (h : x ≠ ⊥) : 0 < Ideal.exp x := by
  induction x using EReal.rec with
  | bot => exact absurd rfl h
  | top => simp
  | coe r => rw [Ideal.exp_coe]; exact_mod_cast Real.exp_pos r

/-- No score is +∞ and some context score is not −∞: the mass is positive. -/
theorem mass_pos (sl : α → EReal) (sc : β → EReal) (hl : ∀ a, sl a ≠ ⊤) (hc : ∀ b, sc b ≠ ⊤) (b : β)
    (hb : sc b ≠ ⊥) : 0 < mass sl sc := by
  have hp : peak sl sc ≠ ⊤ := by
    rw [peak, ne_eq, max_eq_top]
    exact not_or.mpr ⟨rowMax_ne_top _ hl, rowMax_ne_top _ hc⟩
  have hd : sc b - peak sl sc ≠ ⊥ := by
    rw [ne_eq, sub_eq_add_neg, EReal.add_eq_bot_iff, EReal.neg_eq_bot_iff]
    exact not_or.mpr ⟨hb, hp⟩
  have h1 : Ideal.exp (sc b - peak sl sc) ≤ ∑ b, Ideal.exp (sc b - peak sl sc) :=
    Finset.single_le_sum (f := fun b => Ideal.exp (sc b - peak sl sc)) (fun _ _ => exp_nonneg _) (Finset.mem_univ b)
  have h2 : 0 ≤ ∑ a, Ideal.exp (sl a - peak sl sc) := Finset.sum_nonneg fun _ _ => exp_nonneg _
  exact lt_of_lt_of_le (lt_of_lt_of_le (exp_pos_of_ne_bot _ hd) h1) (le_add_of_nonneg_left h2)

/-- A key of score −∞ has weight zero. -/
theorem weight_bot (sl : α → EReal) (sc : β → EReal) (h : mass sl sc ≠ 0) : weight sl sc ⊥ = 0 := by
  rw [weight, EReal.bot_sub, Ideal.exp_bot, Ideal.div, if_neg h, zero_mul]

/-- LEAVING OUT KEYS OF SCORE −∞: the attention over `α` is the one over `γ` where the keys outside
    the image of `e` score −∞. -/
theorem attend_restrict (e : γ → α) (he : Function.Injective e) (sl : α → EReal) (sc : β → EReal)
    (vl : α → EReal) (vc : β → EReal) (hout : ∀ a, a ∉ Set.range e → sl a = ⊥)
    (hl : ∀ a, sl a ≠ ⊤) (hc : ∀ b, sc b ≠ ⊤) (b : β) (hb : sc b ≠ ⊥) :
    attend sl sc vl vc = attend (sl ∘ e) sc (vl ∘ e) vc := by
  have hm : rowMax sl = rowMax (sl ∘ e) := by
    refine le_antisymm (rowMax_le _ _ fun a => ?_) (rowMax_le _ _ fun g => le_rowMax sl (e g))
    by_cases ha : a ∈ Set.range e
    · obtain ⟨g, rfl⟩ := ha; exact le_rowMax (sl ∘ e) g
    · rw [hout a ha]; exact bot_le
  have hp : peak sl sc = peak (sl ∘ e) sc := by rw [peak, peak, hm]
  have hsum : ∀ f : α → EReal, (∀ a, a ∉ Set.range e → f a = 0) → ∑ a, f a = ∑ g, f (e g) := fun f hf =>
    (Fintype.sum_of_injective e he (fun g => f (e g)) f hf fun _ => rfl).symm
  have hmass : mass sl sc = mass (sl ∘ e) sc := by
    unfold mass
    rw [hsum (fun a => Ideal.exp (sl a - peak sl sc)) fun a ha => by
      rw [hout a ha, EReal.bot_sub, Ideal.exp_bot], hp]
    rfl
  have hw : ∀ s, weight sl sc s = weight (sl ∘ e) sc s := fun s => by unfold weight; rw [hp, hmass]
  have h0 : mass sl sc ≠ 0 := (mass_pos sl sc hl hc b hb).ne'
  unfold attend
  rw [hsum (fun a => weight sl sc (sl a) * vl a) fun a ha => by
    rw [hout a ha, weight_bot _ _ h0, zero_mul]]
  simp only [hw, Function.comp]

/-- JOINED SCORES: the greatest of a row of `n + p` scores is the greater of its two parts' greatest. -/
theorem rowMax_joined {n p : ℕ} (s : Fin (n + p) → EReal) :
    rowMax s = peak (fun a => s (Fin.castAdd p a)) (fun b => s (Fin.natAdd n b)) := by
  refine le_antisymm (rowMax_le _ _ fun a => ?_) (max_le (rowMax_le _ _ fun a => le_rowMax s _) (rowMax_le _ _ fun a => le_rowMax s _))
  refine Fin.addCases (fun a => ?_) (fun b => ?_) a
  · exact le_max_of_le_left (le_rowMax (fun a => s (Fin.castAdd p a)) a)
  · exact le_max_of_le_right (le_rowMax (fun b => s (Fin.natAdd n b)) b)

end Cert.Attn

end
-- ==== Proof.Payloads.lean ====
/-
  The kernel's pure terms read at an index over the extended reals: the scores of one group of four grid
  rows, their softmax weights as `Attn.weight`, and the four stored blocks.
-/
module

public import proofs.«01_k».proof.Proof.Gen.KernelIdeal.Value
public import proofs.«01_k».proof.Proof.Attn
public import Idealize.ShloMosaic.Lib.Pipeline.Value
public import Idealize.ShloMosaic.Lib.ValueIdx
public import Idealize.ShloMosaic.Lib.Pointwise
public import Idealize.ShloMosaic.Lib.Tactic
public import Idealize.ShloMosaic.PureOps.Ideal.Laws

@[expose] public section

set_option maxRecDepth 16384

noncomputable section

namespace Cert.KernelIdeal.Nbr

open Cert.KernelIdeal Cert.KernelIdeal.Gen Cert.Attn
open Idealize.ShloMosaic Idealize.ShloMosaic.TcCoe Idealize.SL.Sem

/-- The scale of the scores, 1/√128 as a single-precision word. -/
abbrev scale : EReal := Ideal.ofBits .f32 0x3DB504F3#32

theorem ofBits_neg_inf : Ideal.ofBits .f32 0xFF800000#32 = ⊥ := by simp [Ideal.ofBits, Ideal.ieee]

theorem pay1 (x : Vec Ideal S256x128 .f32) : k0_pay1 (F := Ideal) x = x := by
  funext i; idx_vars i; unfold k0_pay1; pointwise
theorem pay2 (x : Vec Ideal S256x128 .f32) : k0_pay2 (F := Ideal) x = x := by
  funext i; idx_vars i; unfold k0_pay2; pointwise

/-- The context scores. -/
theorem pay4 (kc : FVec Ideal S256x128 .bf16) (q : Vec Ideal S256x128 .bf16) (c a : Fin 256) :
    k0_pay4 (F := Ideal) kc q (ix2 c a) = (∑ e : Fin 128, q (ix2 c e) * kc (ix2 a e)) * scale := by
  unfold k0_pay4; pointwise

theorem pay5 (q : Vec Ideal S256x128 .bf16) (kb : Vec Ideal S512x128 .bf16) (bias : Vec Ideal S1x1x64x512 .f32)
    (c : Fin 64) (a : Fin 512) :
    k0_pay5 (F := Ideal) q kb bias (ix2 c a)
      = (∑ e : Fin 128, q (ix2 ⟨c, by omega⟩ e) * kb (ix2 a e)) * scale + bias (ix4 0 0 c a) := by
  unfold k0_pay5; pointwise
theorem pay6 (q : Vec Ideal S256x128 .bf16) (kb : Vec Ideal S512x128 .bf16) (bias : Vec Ideal S1x1x64x512 .f32)
    (c : Fin 64) (a : Fin 512) :
    k0_pay6 (F := Ideal) q kb bias (ix2 c a)
      = (∑ e : Fin 128, q (ix2 ⟨64 + c, by omega⟩ e) * kb (ix2 a e)) * scale + bias (ix4 0 0 c a) := by
  unfold k0_pay6; pointwise
theorem pay8 (q : Vec Ideal S256x128 .bf16) (kb : Vec Ideal S512x128 .bf16) (bias : Vec Ideal S1x1x64x512 .f32)
    (c : Fin 64) (a : Fin 512) :
    k0_pay8 (F := Ideal) (k0_pay7 q kb) bias (ix2 c a)
      = (∑ e : Fin 128, q (ix2 ⟨128 + c, by omega⟩ e) * kb (ix2 a e)) * scale + bias (ix4 0 0 c a) := by
  unfold k0_pay8 k0_pay7; pointwise
theorem pay9 (q : Vec Ideal S256x128 .bf16) (kb : Vec Ideal S512x128 .bf16) (bias : Vec Ideal S1x1x64x512 .f32)
    (c : Fin 64) (a : Fin 512) :
    k0_pay9 (F := Ideal) q kb bias (ix2 c a)
      = (∑ e : Fin 128, q (ix2 ⟨192 + c, by omega⟩ e) * kb (ix2 a e)) * scale + bias (ix4 0 0 c a) := by
  unfold k0_pay9; pointwise

/-- A row of the context scores, and of the local scores of a band. -/
abbrev ctxRow (sc : FVec Ideal S256x256 .f32) (r : Fin 256) : Fin 256 → EReal := fun b => sc (ix2 r b)
abbrev locRow (sl : FVec Ideal S64x512 .f32) (c : Fin 64) : Fin 512 → EReal := fun a => sl (ix2 c a)

theorem pay17 (sc : FVec Ideal S256x256 .f32) (sl : FVec Ideal S64x512 .f32) (c : Fin 64) (a : Fin 512) :
    k0_pay17 (F := Ideal) (k0_pay12 sc sl) (k0_pay14 sc sl) (k0_pay15 sc sl) (ix2 c a)
      = weight (locRow sl c) (ctxRow sc ⟨c, by omega⟩) (sl (ix2 c a)) := by
  unfold k0_pay17 k0_pay16 k0_pay15 k0_pay14 k0_pay13 k0_pay12 k0_pay11 k0_pay10
  pointwise
  simp only [ofBits_neg_inf, Nat.zero_add]; rfl
theorem pay18 (sc : FVec Ideal S256x256 .f32) (sl : FVec Ideal S64x512 .f32) (c : Fin 64) (a : Fin 256) :
    k0_pay18 (F := Ideal) (k0_pay13 sc sl) (k0_pay14 sc sl) (k0_pay15 sc sl) (ix2 c a)
      = weight (locRow sl c) (ctxRow sc ⟨c, by omega⟩) (sc (ix2 ⟨c, by omega⟩ a)) := by
  unfold k0_pay18 k0_pay16 k0_pay15 k0_pay14 k0_pay13 k0_pay12 k0_pay11 k0_pay10
  pointwise
  simp only [ofBits_neg_inf, Nat.zero_add]; rfl
theorem pay23 (sc : FVec Ideal S256x256 .f32) (sl : FVec Ideal S64x512 .f32) (c : Fin 64) (a : Fin 512) :
    k0_pay23 (F := Ideal) sc sl (k0_pay10 sc) (ix2 c a)
      = weight (locRow sl c) (ctxRow sc ⟨64 + c, by omega⟩) (sl (ix2 c a)) := by
  unfold k0_pay23 k0_pay22 k0_pay21 k0_pay20 k0_pay19 k0_pay10
  pointwise
  simp only [ofBits_neg_inf]; rfl
theorem pay24 (sc : FVec Ideal S256x256 .f32) (sl : FVec Ideal S64x512 .f32) (c : Fin 64) (a : Fin 256) :
    k0_pay24 (F := Ideal) sc sl (k0_pay10 sc) (ix2 c a)
      = weight (locRow sl c) (ctxRow sc ⟨64 + c, by omega⟩) (sc (ix2 ⟨64 + c, by omega⟩ a)) := by
  unfold k0_pay24 k0_pay22 k0_pay21 k0_pay20 k0_pay19 k0_pay10
  pointwise
  simp only [ofBits_neg_inf]; rfl
theorem pay29 (sc : FVec Ideal S256x256 .f32) (sl : FVec Ideal S64x512 .f32) (c : Fin 64) (a : Fin 512) :
    k0_pay29 (F := Ideal) sc sl (k0_pay10 sc) (ix2 c a)
      = weight (locRow sl c) (ctxRow sc ⟨128 + c, by omega⟩) (sl (ix2 c a)) := by
  unfold k0_pay29 k0_pay28 k0_pay27 k0_pay26 k0_pay25 k0_pay10
  pointwise
  simp only [ofBits_neg_inf]; rfl
theorem pay30 (sc : FVec Ideal S256x256 .f32) (sl : FVec Ideal S64x512 .f32) (c : Fin 64) (a : Fin 256) :
    k0_pay30 (F := Ideal) sc sl (k0_pay10 sc) (ix2 c a)
      = weight (locRow sl c) (ctxRow sc ⟨128 + c, by omega⟩) (sc (ix2 ⟨128 + c, by omega⟩ a)) := by
  unfold k0_pay30 k0_pay28 k0_pay27 k0_pay26 k0_pay25 k0_pay10
  pointwise
  simp only [ofBits_neg_inf]; rfl
theorem pay36 (sc : FVec Ideal S256x256 .f32) (sl : FVec Ideal S64x512 .f32) (c : Fin 64) (a : Fin 512) :
    k0_pay36 (F := Ideal) sc sl (k0_pay10 sc) (k0_pay31 sl) (ix2 c a)
      = weight (locRow sl c) (ctxRow sc ⟨192 + c, by omega⟩) (sl (ix2 c a)) := by
  unfold k0_pay36 k0_pay35 k0_pay34 k0_pay33 k0_pay32 k0_pay31 k0_pay10
  pointwise
  simp only [ofBits_neg_inf]; rfl

theorem pay37_0 (vc : FVec Ideal S256x128 .bf16) (sc : FVec Ideal S256x256 .f32) (sl : FVec Ideal S64x512 .f32)
    (p0 p1 p2 : FVec Ideal S64x256 .bf16) (c : Fin 64) (d : Fin 128) :
    k0_pay37 (F := Ideal) vc sc sl (k0_pay10 sc) p0 p1 p2 (k0_pay31 sl) (ix2 ⟨c, by omega⟩ d)
      = ∑ b : Fin 256, p0 (ix2 c b) * vc (ix2 b d) := by
  unfold k0_pay37; pointwise
theorem pay37_1 (vc : FVec Ideal S256x128 .bf16) (sc : FVec Ideal S256x256 .f32) (sl : FVec Ideal S64x512 .f32)
    (p0 p1 p2 : FVec Ideal S64x256 .bf16) (c : Fin 64) (d : Fin 128) :
    k0_pay37 (F := Ideal) vc sc sl (k0_pay10 sc) p0 p1 p2 (k0_pay31 sl) (ix2 ⟨64 + c, by omega⟩ d)
      = ∑ b : Fin 256, p1 (ix2 c b) * vc (ix2 b d) := by
  unfold k0_pay37; pointwise
theorem pay37_2 (vc : FVec Ideal S256x128 .bf16) (sc : FVec Ideal S256x256 .f32) (sl : FVec Ideal S64x512 .f32)
    (p0 p1 p2 : FVec Ideal S64x256 .bf16) (c : Fin 64) (d : Fin 128) :
    k0_pay37 (F := Ideal) vc sc sl (k0_pay10 sc) p0 p1 p2 (k0_pay31 sl) (ix2 ⟨128 + c, by omega⟩ d)
      = ∑ b : Fin 256, p2 (ix2 c b) * vc (ix2 b d) := by
  unfold k0_pay37; pointwise
  simp only [dif_neg (show ¬ 128 + (c : ℕ) < 64 by omega), dif_neg (show ¬ 128 + (c : ℕ) - 64 < 64 by omega),
    show 128 + (c : ℕ) - 64 - 64 = c by omega, dif_pos c.isLt]
theorem pay37_3 (vc : FVec Ideal S256x128 .bf16) (sc : FVec Ideal S256x256 .f32) (sl : FVec Ideal S64x512 .f32)
    (p0 p1 p2 : FVec Ideal S64x256 .bf16) (c : Fin 64) (d : Fin 128) :
    k0_pay37 (F := Ideal) vc sc sl (k0_pay10 sc) p0 p1 p2 (k0_pay31 sl) (ix2 ⟨192 + c, by omega⟩ d)
      = ∑ b : Fin 256, weight (locRow sl c) (ctxRow sc ⟨192 + c, by omega⟩) (sc (ix2 ⟨192 + c, by omega⟩ b)) * vc (ix2 b d) := by
  unfold k0_pay37 k0_pay35 k0_pay34 k0_pay33 k0_pay32 k0_pay31 k0_pay10
  pointwise
  simp only [dif_neg (show ¬ 192 + (c : ℕ) < 64 by omega), dif_neg (show ¬ 192 + (c : ℕ) - 64 < 64 by omega),
    dif_neg (show ¬ 192 + (c : ℕ) - 64 - 64 < 64 by omega), show 192 + (c : ℕ) - 64 - 64 - 64 = c by omega]
  simp only [ofBits_neg_inf]; rfl

/-! ### The four stored blocks -/

/-- What the kernel stores for a band of 64 queries row `c` of the band being row `r` of the context scores. -/
abbrev bandOut (r : Fin 256) (vc : FVec Ideal S256x128 .bf16) (sc : FVec Ideal S256x256 .f32) (sl : FVec Ideal S64x512 .f32)
    (vb : Vec Ideal S512x128 .bf16) (c : Fin 64) (d : Fin 128) : EReal :=
  attend (locRow sl c) (ctxRow sc r) (fun a => vb (ix2 a d)) (fun b => vc (ix2 b d))

theorem store0 (vc : FVec Ideal S256x128 .bf16) (sc : FVec Ideal S256x256 .f32) (vb : Vec Ideal S512x128 .bf16)
    (sl0 sl3 : FVec Ideal S64x512 .f32) (p1 p2 : FVec Ideal S64x256 .bf16) (c : Fin 64) (d : Fin 128) :
    k0_pay38 (F := Ideal) vc sc vb sl3 (k0_pay10 sc) (k0_pay17 (k0_pay12 sc sl0) (k0_pay14 sc sl0) (k0_pay15 sc sl0))
      (k0_pay18 (k0_pay13 sc sl0) (k0_pay14 sc sl0) (k0_pay15 sc sl0)) p1 p2 (k0_pay31 sl3) (ix2 c d)
      = bandOut ⟨c, by omega⟩ vc sc sl0 vb c d := by
  unfold k0_pay38; pointwise
  rw [pay37_0]; simp only [pay17, pay18]; rfl
theorem store1 (vc : FVec Ideal S256x128 .bf16) (sc : FVec Ideal S256x256 .f32) (vb : Vec Ideal S512x128 .bf16)
    (sl0 sl3 : FVec Ideal S64x512 .f32) (p0 p2 : FVec Ideal S64x256 .bf16) (c : Fin 64) (d : Fin 128) :
    k0_pay39 (F := Ideal) vc sc vb sl3 (k0_pay10 sc) p0 (k0_pay23 sc sl0 (k0_pay10 sc)) (k0_pay24 sc sl0 (k0_pay10 sc)) p2
      (k0_pay31 sl3) (ix2 c d) = bandOut ⟨64 + c, by omega⟩ vc sc sl0 vb c d := by
  unfold k0_pay39; pointwise
  rw [pay37_1]; simp only [pay23, pay24]; rfl
theorem store2 (vc : FVec Ideal S256x128 .bf16) (sc : FVec Ideal S256x256 .f32) (vb : Vec Ideal S512x128 .bf16)
    (sl0 sl3 : FVec Ideal S64x512 .f32) (p0 p1 : FVec Ideal S64x256 .bf16) (c : Fin 64) (d : Fin 128) :
    k0_pay40 (F := Ideal) vc sc vb sl3 (k0_pay10 sc) p0 p1 (k0_pay29 sc sl0 (k0_pay10 sc)) (k0_pay30 sc sl0 (k0_pay10 sc))
      (k0_pay31 sl3) (ix2 c d) = bandOut ⟨128 + c, by omega⟩ vc sc sl0 vb c d := by
  unfold k0_pay40; pointwise
  rw [pay37_2]; simp only [pay29, pay30]; rfl
theorem store3 (vc : FVec Ideal S256x128 .bf16) (sc : FVec Ideal S256x256 .f32) (vb : Vec Ideal S512x128 .bf16)
    (sl3 : FVec Ideal S64x512 .f32) (p0 p1 p2 : FVec Ideal S64x256 .bf16) (c : Fin 64) (d : Fin 128) :
    k0_pay3 (F := Ideal) vb (k0_pay36 sc sl3 (k0_pay10 sc) (k0_pay31 sl3))
      (k0_pay37 vc sc sl3 (k0_pay10 sc) p0 p1 p2 (k0_pay31 sl3)) (constant S64x128 .f32 0x00000000#32) (ix2 c d)
      = bandOut ⟨192 + c, by omega⟩ vc sc sl3 vb c d := by
  unfold k0_pay3; pointwise
  rw [pay37_3]; simp only [pay36]; rfl

end Cert.KernelIdeal.Nbr

end
-- ==== Proof.Block.lean ====
module

public import proofs.«01_k».proof.Proof.Payloads
public import Idealize.ShloMosaic.Lib.Pipeline.ValueKit.Tiles
public import Idealize.ShloMosaic.Lib.Tactic

/-! One block of the attention: what the kernel writes for a batch and a head, as a function of its six input blocks. -/

@[expose] public section
set_option maxRecDepth 16384
noncomputable section
namespace Cert.KernelIdeal.Nbr
open Cert.KernelIdeal Cert.KernelIdeal.Gen Cert.Attn Idealize.ShloMosaic Idealize.ShloMosaic.TcCoe Idealize.SL.Sem

/-- The first image row of the eight rows that a query in image row `r` attends to. -/
def bandStart (r : ℕ) : ℕ := min (r - 4) 56

theorem bandStart_le (r : ℕ) : bandStart r ≤ 56 := min_le_right _ _

/-- The eight-row band begins at most seven rows above the query. -/
theorem bandStart_near (r : ℕ) (h : r < 64) : r ≤ bandStart r + 7 := by unfold bandStart; omega

/-- The band's keys and values: position `a` of the band that belongs to image row `r`. -/
abbrev bandRow (r : ℕ) (a : Fin 512) : Fin 4096 := ⟨bandStart r * 64 + a, by have := bandStart_le r; omega⟩

/-- The row pattern of the bias table that image row `r` uses. -/
abbrev biasRow (r : ℕ) : Fin 8 := ⟨bandStart r + 7 - r, by have := bandStart_le r; unfold bandStart; omega⟩

/-- One block's attention at query `q` and feature `d`, from the block's queries, keys, values, context keys, context
values and bias. -/
def blockAttn (x0 x1 x2 : Vec Ideal S4096x128 .bf16) (x3 x4 : Vec Ideal S256x128 .f32) (x5 : Vec Ideal S8x1x64x512 .f32)
    (q : Fin 4096) (d : Fin 128) : EReal :=
  attend
    (fun a : Fin 512 => (∑ e : Fin 128, x0 (ix2 q e) * x1 (ix2 (bandRow (q / 64) a) e)) * scale
      + x5 (ix4 (biasRow (q / 64)) 0 ⟨q % 64, by omega⟩ a))
    (fun b : Fin 256 => (∑ e : Fin 128, x0 (ix2 q e) * x3 (ix2 b e)) * scale)
    (fun a => x2 (ix2 (bandRow (q / 64) a) d))
    (fun b => x4 (ix2 b d))

/-- The same, as the contents of the output block. -/
def blockOut (x0 x1 x2 : Vec Ideal S4096x128 .bf16) (x3 x4 : Vec Ideal S256x128 .f32) (x5 : Vec Ideal S8x1x64x512 .f32) :
    Vec Ideal S4096x128 .bf16 := fun y => blockAttn x0 x1 x2 x3 x4 x5 (y 0) (y 1)

theorem off1_eq (k : Fin k0_t1_loop.trips) : k0_off1 k = ![256 * (k : ℕ), 0] := by revert k; decide +kernel
theorem off2_0 (k : Fin k0_t1_loop.trips) : k0_off2 k 0#32 = ![bandStart (4 * (k : ℕ) + 0) * 64, 0] := by revert k; decide +kernel
theorem off2_1 (k : Fin k0_t1_loop.trips) : k0_off2 k 1#32 = ![bandStart (4 * (k : ℕ) + 1) * 64, 0] := by revert k; decide +kernel
theorem off2_2 (k : Fin k0_t1_loop.trips) : k0_off2 k 2#32 = ![bandStart (4 * (k : ℕ) + 2) * 64, 0] := by revert k; decide +kernel
theorem off2_3 (k : Fin k0_t1_loop.trips) : k0_off2 k 3#32 = ![bandStart (4 * (k : ℕ) + 3) * 64, 0] := by revert k; decide +kernel
theorem off3_0 (k : Fin k0_t1_loop.trips) : k0_off3 k 0#32 = ![bandStart (4 * (k : ℕ) + 0) + 7 - (4 * (k : ℕ) + 0), 0, 0, 0] := by revert k; decide +kernel
theorem off3_1 (k : Fin k0_t1_loop.trips) : k0_off3 k 1#32 = ![bandStart (4 * (k : ℕ) + 1) + 7 - (4 * (k : ℕ) + 1), 0, 0, 0] := by revert k; decide +kernel
theorem off3_2 (k : Fin k0_t1_loop.trips) : k0_off3 k 2#32 = ![bandStart (4 * (k : ℕ) + 2) + 7 - (4 * (k : ℕ) + 2), 0, 0, 0] := by revert k; decide +kernel
theorem off3_3 (k : Fin k0_t1_loop.trips) : k0_off3 k 3#32 = ![bandStart (4 * (k : ℕ) + 3) + 7 - (4 * (k : ℕ) + 3), 0, 0, 0] := by revert k; decide +kernel
theorem off4_0 (k : Fin k0_t1_loop.trips) : k0_off4 k 0#32 = ![256 * (k : ℕ) + 64 * 0, 0] := by revert k; decide +kernel
theorem off4_1 (k : Fin k0_t1_loop.trips) : k0_off4 k 64#32 = ![256 * (k : ℕ) + 64 * 1, 0] := by revert k; decide +kernel
theorem off4_2 (k : Fin k0_t1_loop.trips) : k0_off4 k 128#32 = ![256 * (k : ℕ) + 64 * 2, 0] := by revert k; decide +kernel
theorem off4_3 (k : Fin k0_t1_loop.trips) : k0_off4 k 192#32 = ![256 * (k : ℕ) + 64 * 3, 0] := by revert k; decide +kernel

/-- A band's output is the block's attention at its queries: band `j` of trip `k` holds image row `4 k + j`. -/
theorem band_eq (x0 x1 x2 : Vec Ideal S4096x128 .bf16) (x3 x4 : Vec Ideal S256x128 .f32) (x5 : Vec Ideal S8x1x64x512 .f32)
    (k j : ℕ) (hk : k < 16) (hj : j < 4) (off1 off2 off4 : Fin 2 → ℕ) (off3 : Fin 4 → ℕ)
    (h1 : off1 = ![256 * k, 0]) (h2 : off2 = ![bandStart (4 * k + j) * 64, 0])
    (h3 : off3 = ![bandStart (4 * k + j) + 7 - (4 * k + j), 0, 0, 0]) (h4 : off4 = ![256 * k + 64 * j, 0])
    (inb1 : ∀ a : Fin 2, off1 a + (![256, 128] : Fin 2 → ℕ) a ≤ S4096x128.size a)
    (inb2 inb2' : ∀ a : Fin 2, off2 a + (![512, 128] : Fin 2 → ℕ) a ≤ S4096x128.size a)
    (inb3 : ∀ a : Fin 4, off3 a + (![1, 1, 64, 512] : Fin 4 → ℕ) a ≤ S8x1x64x512.size a)
    (inb4 : ∀ a : Fin 2, off4 a + (![64, 128] : Fin 2 → ℕ) a ≤ S4096x128.size a)
    (sl : FVec Ideal S64x512 .f32) (c : Fin 64) (d : Fin 128) (r : Fin 256) (hr : (r : ℕ) = 64 * j + c)
    (hsl : ∀ a : Fin 512, sl (ix2 c a)
      = (∑ e : Fin 128, View.ld x0 (Rect.unit (s := S4096x128) off1 ![256, 128] inb1) (ix2 r e)
          * View.ld x1 (Rect.unit (s := S4096x128) off2 ![512, 128] inb2) (ix2 a e)) * scale
        + View.ld x5 (Rect.unit (s := S8x1x64x512) off3 ![1, 1, 64, 512] inb3) (ix4 0 0 c a)) :
    bandOut r (k0_pay2 x4) (k0_pay4 (k0_pay1 x3) (View.ld x0 (Rect.unit (s := S4096x128) off1 ![256, 128] inb1))) sl
        (View.ld x2 (Rect.unit (s := S4096x128) off2 ![512, 128] inb2')) c d
      = blockOut x0 x1 x2 x3 x4 x5 ((Rect.unit (s := S4096x128) off4 ![64, 128] inb4).emb (ix2 c d)) := by
  subst h1 h2 h3 h4
  have hrow : 256 * k + 64 * j + (c : ℕ) < 4096 := by omega
  have hemb : (Rect.unit (s := S4096x128) ![256 * k + 64 * j, 0] ![64, 128] inb4).emb (ix2 c d)
      = ix2 (⟨256 * k + 64 * j + c, hrow⟩ : Fin 4096) d := by
    funext a; apply Fin.ext
    match a with
    | 0 => simp [Rect.emb_apply, ix2]
    | 1 => simp [Rect.emb_apply, ix2]
  have hdiv : (256 * k + 64 * j + (c : ℕ)) / 64 = 4 * k + j := by omega
  have hmod : (256 * k + 64 * j + (c : ℕ)) % 64 = c := by omega
  have hq : ∀ e : Fin 128, View.ld x0 (Rect.unit (s := S4096x128) ![256 * k, 0] ![256, 128] inb1) (ix2 r e)
      = x0 (ix2 (⟨256 * k + 64 * j + c, hrow⟩ : Fin 4096) e) := fun e =>
    View.ld_unit_apply_of _ _ _ _ _ _ fun a => by
      match a with
      | 0 => show 256 * k + 64 * j + (c : ℕ) = 256 * k + r; omega
      | 1 => show (e : ℕ) = 0 + e; omega
  have hk1 : ∀ (x : Vec Ideal S4096x128 .bf16) (inb : ∀ a : Fin 2, (![bandStart (4 * k + j) * 64, 0] : Fin 2 → ℕ) a + (![512, 128] : Fin 2 → ℕ) a ≤ S4096x128.size a) (a : Fin 512) (e : Fin 128),
      View.ld x (Rect.unit (s := S4096x128) ![bandStart (4 * k + j) * 64, 0] ![512, 128] inb) (ix2 a e)
      = x (ix2 (bandRow (4 * k + j) a) e) := fun x inb a e =>
    View.ld_unit_apply_of _ _ _ _ _ _ fun b => by
      match b with
      | 0 => rfl
      | 1 => show (e : ℕ) = 0 + e; omega
  have hb : ∀ a : Fin 512, View.ld x5 (Rect.unit (s := S8x1x64x512) ![bandStart (4 * k + j) + 7 - (4 * k + j), 0, 0, 0] ![1, 1, 64, 512] inb3) (ix4 0 0 c a)
      = x5 (ix4 (biasRow (4 * k + j)) 0 c a) := fun a =>
    View.ld_unit_apply_of _ _ _ _ _ _ fun b => by
      match b with
      | 0 => rfl
      | 1 => rfl
      | 2 => show (c : ℕ) = 0 + c; omega
      | 3 => show (a : ℕ) = 0 + a; omega
  rw [hemb]
  show _ = blockAttn x0 x1 x2 x3 x4 x5 (⟨256 * k + 64 * j + c, hrow⟩ : Fin 4096) d
  unfold blockAttn bandOut
  have e1 : locRow sl c = (fun a : Fin 512 => (∑ e : Fin 128, x0 (ix2 (⟨256 * k + 64 * j + c, hrow⟩ : Fin 4096) e) * x1 (ix2 (bandRow (4 * k + j) a) e)) * scale
      + x5 (ix4 (biasRow (4 * k + j)) 0 c a)) := by
    funext a
    refine (hsl a).trans ?_
    exact congrArg₂ (fun u v => u * scale + v)
      (Finset.sum_congr rfl fun e _ => congrArg₂ (· * ·) (hq e) (hk1 x1 inb2 a e)) (hb a)
  have e2 : ctxRow (k0_pay4 (k0_pay1 x3) (View.ld x0 (Rect.unit (s := S4096x128) ![256 * k, 0] ![256, 128] inb1))) r
      = (fun b : Fin 256 => (∑ e : Fin 128, x0 (ix2 (⟨256 * k + 64 * j + c, hrow⟩ : Fin 4096) e) * x3 (ix2 b e)) * scale) := by
    funext b
    refine (pay4 _ _ r b).trans ?_
    simp only [hq, pay1]
  rw [e1, e2, pay2]
  have e3 : (fun a : Fin 512 => View.ld x2 (Rect.unit (s := S4096x128) ![bandStart (4 * k + j) * 64, 0] ![512, 128] inb2') (ix2 a d))
      = fun a => x2 (ix2 (bandRow (4 * k + j) a) d) := funext fun a => hk1 x2 inb2' a d
  simp only [hdiv, hmod]
  exact congrArg (fun v => attend _ _ v _) e3

theorem trip_pieces (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S8x1x64x512 .f32) (harg7 : arg7.IsWhole) (arg8 : Memref sig .tc .vmem S4096x128 .bf16) (harg8 : arg8.IsWhole)
    (x0 x1 x2 : Vec Ideal S4096x128 .bf16) (x3 x4 : Vec Ideal S256x128 .f32) (x5 : Vec Ideal S8x1x64x512 .f32) (k : Fin k0_t1_loop.trips) :
    ∀ p ∈ tripL_k0_t1 (F := Ideal) Variants.none c none i arg2 harg2 arg3 harg3 arg4 harg4 arg5 harg5 arg6 harg6 arg7 harg7 arg8 harg8 x3 x4 (harg2.unread x0) (harg3.unread x1) (harg4.unread x2) (harg7.unread x5) k,
      ∀ x, p.2 x = blockOut x0 x1 x2 x3 x4 x5 (p.1.emb x) := by
  have hk : k.val < 16 := Nat.lt_of_lt_of_le k.isLt k0_t1_abs.2.1
  unfold tripL_k0_t1
  unfold trip_k0_t1
  dsimp only
  sl_unfold_words
  simp only [View.readAt_eq_ld, harg2.read_unread, harg3.read_unread, harg4.read_unread, harg7.read_unread]
  refine List.forall_mem_cons.2 ⟨?_, List.forall_mem_cons.2 ⟨?_, List.forall_mem_cons.2 ⟨?_, List.forall_mem_cons.2 ⟨?_, fun _ h => absurd h List.not_mem_nil⟩⟩⟩⟩
  · intro w; dsimp only; idx_vars w
    exact (store3 ..).trans (band_eq _ _ _ _ _ _ k 3 hk (by decide) _ _ _ _ (off1_eq k) (off2_3 k) (off3_3 k) (off4_3 k) _ _ _ _ _ _ w0 w1 _ rfl
      (fun a => pay9 _ _ _ w0 a))
  · intro w; dsimp only; idx_vars w
    exact (store2 ..).trans (band_eq _ _ _ _ _ _ k 2 hk (by decide) _ _ _ _ (off1_eq k) (off2_2 k) (off3_2 k) (off4_2 k) _ _ _ _ _ _ w0 w1 _ rfl
      (fun a => pay8 _ _ _ w0 a))
  · intro w; dsimp only; idx_vars w
    exact (store1 ..).trans (band_eq _ _ _ _ _ _ k 1 hk (by decide) _ _ _ _ (off1_eq k) (off2_1 k) (off3_1 k) (off4_1 k) _ _ _ _ _ _ w0 w1 _ rfl
      (fun a => pay6 _ _ _ w0 a))
  · intro w; dsimp only; idx_vars w
    exact (store0 ..).trans (band_eq _ _ _ _ _ _ k 0 hk (by decide) _ _ _ _ (off1_eq k) (off2_0 k) (off3_0 k) (off4_0 k) _ _ _ _ _ _ w0 w1 _ (Nat.zero_add _).symm
      (fun a => pay5 _ _ _ w0 a))

theorem pieces (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S8x1x64x512 .f32) (harg7 : arg7.IsWhole) (arg8 : Memref sig .tc .vmem S4096x128 .bf16) (harg8 : arg8.IsWhole)
    (x0 x1 x2 : Vec Ideal S4096x128 .bf16) (x3 x4 : Vec Ideal S256x128 .f32) (x5 : Vec Ideal S8x1x64x512 .f32) :
    ∀ n : ℕ, n ≤ k0_t1_loop.trips →
    ∀ p ∈ pb_k0_t1 (F := Ideal) Variants.none c none i arg2 harg2 arg3 harg3 arg4 harg4 arg5 harg5 arg6 harg6 arg7 harg7 arg8 harg8 x3 x4 (harg2.unread x0) (harg3.unread x1) (harg4.unread x2) (harg7.unread x5) n,
      ∀ x, p.2 x = blockOut x0 x1 x2 x3 x4 x5 (p.1.emb x)
  | 0, _ => fun _ h => absurd h List.not_mem_nil
  | n + 1, hn => by
    have e := pb_k0_t1_succ (F := Ideal) Variants.none c none i arg2 harg2 arg3 harg3 arg4 harg4 arg5 harg5 arg6 harg6 arg7 harg7 arg8 harg8 x3 x4 (harg2.unread x0) (harg3.unread x1) (harg4.unread x2) (harg7.unread x5) ⟨n, hn⟩
    rw [e]
    intro p hp
    rcases List.mem_append.1 hp with h | h
    · exact trip_pieces c i arg2 harg2 arg3 harg3 arg4 harg4 arg5 harg5 arg6 harg6 arg7 harg7 arg8 harg8 x0 x1 x2 x3 x4 x5 ⟨n, hn⟩ p h
    · exact pieces c i arg2 harg2 arg3 harg3 arg4 harg4 arg5 harg5 arg6 harg6 arg7 harg7 arg8 harg8 x0 x1 x2 x3 x4 x5 n (Nat.le_of_lt hn) p h

theorem run_pieces (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S8x1x64x512 .f32) (harg7 : arg7.IsWhole) (arg8 : Memref sig .tc .vmem S4096x128 .bf16) (harg8 : arg8.IsWhole)
    (x0 x1 x2 : Vec Ideal S4096x128 .bf16) (x3 x4 : Vec Ideal S256x128 .f32) (x5 : Vec Ideal S8x1x64x512 .f32) :
    ∀ p ∈ (kernelRun0_A (F := Ideal) c i arg2 harg2 arg3 harg3 arg4 harg4 arg5 harg5 arg6 harg6 arg7 harg7 arg8 harg8 x0 x1 x2 x3 x4 x5).1,
      ∀ x, p.2 x = blockOut x0 x1 x2 x3 x4 x5 (p.1.emb x) := by
  unfold kernelRun0_A
  dsimp only
  sl_unfold_words
  simp only [View.readAt_eq_ld, harg5.read_unread, harg6.read_unread]
  rw [View.ld_unit_zero (by funext a; match a with | 0 => rfl | 1 => rfl), View.ld_unit_zero (by funext a; match a with | 0 => rfl | 1 => rfl)]
  exact pieces c i arg2 harg2 arg3 harg3 arg4 harg4 arg5 harg5 arg6 harg6 arg7 harg7 arg8 harg8 x0 x1 x2 x3 x4 x5 _ le_rfl

/-- What the run leaves in the output block. -/
theorem out_eq (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S8x1x64x512 .f32) (harg7 : arg7.IsWhole) (arg8 : Memref sig .tc .vmem S4096x128 .bf16) (harg8 : arg8.IsWhole)
    (x0 x1 x2 : Vec Ideal S4096x128 .bf16) (x3 x4 : Vec Ideal S256x128 .f32) (x5 : Vec Ideal S8x1x64x512 .f32) :
    out0_A_6 (F := Ideal) c i arg2 harg2 arg3 harg3 arg4 harg4 arg5 harg5 arg6 harg6 arg7 harg7 arg8 harg8 x0 x1 x2 x3 x4 x5
      = blockOut x0 x1 x2 x3 x4 x5 := by
  unfold out0_A_6
  rw [View.read_writes_junk_eq_canon]
  funext y
  exact View.canon_apply_of_pieces _ _ (run_pieces c i arg2 harg2 arg3 harg3 arg4 harg4 arg5 harg5 arg6 harg6 arg7 harg7 arg8 harg8 x0 x1 x2 x3 x4 x5) y
    (cover0_A_6 c i arg2 harg2 arg3 harg3 arg4 harg4 arg5 harg5 arg6 harg6 arg7 harg7 arg8 harg8 x0 x1 x2 x3 x4 x5 y)

end Cert.KernelIdeal.Nbr
end
-- ==== Proof.Tables.lean ====
module

public import proofs.«01_k».proof.Proof.Block
public import Idealize.ShloMosaic.Lib.Pipeline.ValueKit

/-! The kernel's bias table: the relative-position bias laid out for a band of eight image rows, masked outside the window. -/

@[expose] public section
set_option maxRecDepth 16384
noncomputable section
namespace Cert.KernelIdeal.Nbr
open Cert.KernelIdeal Cert.KernelIdeal.Gen Cert.Attn Idealize.ShloMosaic Idealize.ShloMosaic.TcCoe Idealize.SL.Sem

/-- The first image column of the sixteen that a query in column `q` attends to. -/
def colStart (q : ℕ) : ℕ := min (q - 8) 48

/-- Whether a query in column `q` attends to column `k`. -/
abbrev inCols (q k : ℕ) : Prop := colStart q ≤ k ∧ k < colStart q + 16

/-- The column of the bias table for a query in column `q` and a key in column `k`. -/
abbrev biasCol (q k : ℕ) : Fin 31 := ⟨min (k + 15 - q) 30, by omega⟩

theorem lit2_eq : ∀ q k : Fin 64, lit2 (S64x64.rowMajor (ix2 q k)) = if inCols q k then 1#1 else 0#1 := by
  decide +kernel
theorem lit1_eq : ∀ q k : Fin 64, (lit1 (S64x64.rowMajor (ix2 q k))).toInt.toNat = min ((k : ℕ) + 15 - q) 30 := by
  decide +kernel
theorem lit0_eq : ∀ q k : Fin 8, (lit0 (S8x8.rowMajor (ix2 q k))).toInt.toNat = (q : ℕ) + k := by
  decide +kernel

/-- The gather of the table's columns. -/
theorem gather_cols {α : Type} (x : S16x8x8x31.Idx → α) (idx : IVec S64x64x1 32) (h : Fin 16) (p j : Fin 8) (q k : Fin 64)
    (n : Fin 31) (hn : min (idx (ix3 q k 0)).toInt.toNat 30 = n) :
    Host.gather gather_S16x8x8x31_S64x64x1_S16x8x8x64x64_012_3_n_n_3_2_16881 x idx (ix5 h p j q k) = x (ix4 h p j n) := by
  have hs : ∀ c, (gather_S16x8x8x31_S64x64x1_S16x8x8x64x64_012_3_n_n_3_2_16881).siIdx (ix5 h p j q k) c = ix3 q k 0 := by
    intro c; funext b; apply Fin.ext
    match b with
    | ⟨0, _⟩ => rfl
    | ⟨1, _⟩ => rfl
    | ⟨2, _⟩ => exact Nat.lt_one_iff.1 c.isLt
  unfold Host.gather
  congr 1
  funext a; apply Fin.ext
  match a with
  | ⟨0, _⟩ => exact Nat.zero_add _
  | ⟨1, _⟩ => exact Nat.zero_add _
  | ⟨2, _⟩ => exact Nat.zero_add _
  | ⟨3, _⟩ =>
    show (gather_S16x8x8x31_S64x64x1_S16x8x8x64x64_012_3_n_n_3_2_16881).start _ idx 3 = _
    unfold GatherDims.start
    rw [dif_pos (by decide), hs]
    exact hn

/-- The gather of the table's rows. -/
theorem gather_rows {α : Type} (x : S16x15x31.Idx → α) (idx : IVec S8x8x1 32) (h : Fin 16) (p j : Fin 8) (e : Fin 31)
    (n : Fin 15) (hn : min (idx (ix3 p j 0)).toInt.toNat 14 = n) :
    Host.gather gather_S16x15x31_S8x8x1_S16x8x8x31_03_1_n_n_1_2_16131 x idx (ix4 h p j e) = x (ix3 h n e) := by
  have hs : ∀ c, (gather_S16x15x31_S8x8x1_S16x8x8x31_03_1_n_n_1_2_16131).siIdx (ix4 h p j e) c = ix3 p j 0 := by
    intro c; funext b; apply Fin.ext
    match b with
    | ⟨0, _⟩ => rfl
    | ⟨1, _⟩ => rfl
    | ⟨2, _⟩ => exact Nat.lt_one_iff.1 c.isLt
  unfold Host.gather
  congr 1
  funext a; apply Fin.ext
  match a with
  | ⟨0, _⟩ => exact Nat.zero_add _
  | ⟨2, _⟩ => exact Nat.zero_add _
  | ⟨1, _⟩ =>
    show (gather_S16x15x31_S8x8x1_S16x8x8x31_03_1_n_n_1_2_16131).start _ idx 1 = _
    unfold GatherDims.start
    rw [dif_pos (by decide), hs]
    exact hn

variable (m : (ℓ : Loc nD τ sig) → Buf (Elt Ideal) ℓ)

/-- The context keys, one row per batch and position. -/
theorem V16 (c : Dev nD) (x : Fin 2048) (y : Fin 2048) :
    (V m c main_v16 : Vec Ideal S2048x2048 .f32) (ix2 x y)
      = (m ((c : Thread nD τ).loc main_arg1) : Vec Ideal S8x1x256x16x128 .f32)
          (ix5 ⟨x / 256, by omega⟩ 0 ⟨x % 256, by omega⟩ ⟨y / 128, by omega⟩ ⟨y % 128, by omega⟩) := by
  unfold V
  simp only [hostOps0, hostOps0_1, hostOps0_2, List.flatten_cons, List.flatten_nil, List.append_nil, List.cons_append, List.nil_append]
  after_results
  pointwise

/-- The context values, one row per batch and position. -/
theorem V18 (c : Dev nD) (x : Fin 2048) (y : Fin 2048) :
    (V m c main_v18 : Vec Ideal S2048x2048 .f32) (ix2 x y)
      = (m ((c : Thread nD τ).loc main_arg2) : Vec Ideal S8x1x256x16x128 .f32)
          (ix5 ⟨x / 256, by omega⟩ 0 ⟨x % 256, by omega⟩ ⟨y / 128, by omega⟩ ⟨y % 128, by omega⟩) := by
  unfold V
  simp only [hostOps0, hostOps0_1, hostOps0_2, List.flatten_cons, List.flatten_nil, List.append_nil, List.cons_append, List.nil_append]
  after_results
  pointwise

/-- The bias table at an index. -/
theorem V14 (c : Dev nD) (p : Fin 8) (h : Fin 16) (q : Fin 64) (a : Fin 512) :
    (V m c main_v14 : Vec Ideal S8x16x64x512 .f32) (ix4 p h q a)
      = if inCols q (a % 64) then (m ((c : Thread nD τ).loc main_arg3) : Vec Ideal S1x16x15x31 .f32)
          (ix4 0 h ⟨p + a / 64, by omega⟩ (biasCol q (a % 64))) else (⊥ : EReal) := by
  unfold V
  simp only [hostOps0, hostOps0_1, hostOps0_2, List.flatten_cons, List.flatten_nil, List.append_nil, List.cons_append, List.nil_append]
  after_results
  pointwise
  show Scalar.select (lit2 (S64x64.rowMajor (ix2 q ⟨a % 64, by omega⟩)))
    (Host.gather gather_S16x8x8x31_S64x64x1_S16x8x8x64x64_012_3_n_n_3_2_16881
      (Host.gather gather_S16x15x31_S8x8x1_S16x8x8x31_03_1_n_n_1_2_16131
        (fun i => m (c, Proc.tc.devRef main_arg3) (ix4 0 (i 0) (i 1) (i 2))) _) _
      (ix5 h p ⟨a / 64, by omega⟩ q ⟨a % 64, by omega⟩)) (Ideal.ofBits .f32 0xFF800000#32) = _
  rw [lit2_eq]
  rw [gather_cols _ _ _ _ _ _ _ (biasCol q (a % 64)) (by
    show min (lit1 (S64x64.rowMajor (ix2 q ⟨a % 64, by omega⟩))).toInt.toNat 30 = _
    rw [lit1_eq]; exact min_eq_left (min_le_right _ _))]
  rw [gather_rows _ _ _ _ _ _ ⟨p + a / 64, by omega⟩ (by
    show min (lit0 (S8x8.rowMajor (ix2 p ⟨a / 64, by omega⟩))).toInt.toNat 14 = _
    rw [lit0_eq]; show min ((p : ℕ) + a / 64) 14 = p + a / 64; omega)]
  by_cases hc : inCols q (a % 64)
  · rw [if_pos hc, if_pos hc]; rfl
  · rw [if_neg hc, if_neg hc]; exact ofBits_neg_inf

end Cert.KernelIdeal.Nbr
end
-- ==== Proof.Arrays.lean ====
module

public import proofs.«01_k».proof.Proof.Tables

/-! The kernel's result as a function of its arguments: each output block is one batch's and one head's attention. -/

@[expose] public section
set_option maxRecDepth 16384
noncomputable section
namespace Cert.KernelIdeal.Nbr
open Cert.KernelIdeal Cert.KernelIdeal.Gen Cert.Attn Idealize.ShloMosaic Idealize.ShloMosaic.TcCoe Idealize.SL.Sem

variable (m : (ℓ : Loc nD τ sig) → Buf (Elt Ideal) ℓ)

/-- Where each window's block lies: point `t` of the grid is batch `t / 16` and head `t % 16`. -/
theorem idx_facts : ∀ t : Fin cfg0.N,
    (win0_0.index t (0 : Fin 2) = t.val / 16 ∧ win0_0.index t (1 : Fin 2) = t.val % 16)
    ∧ (win0_1.index t (0 : Fin 2) = t.val / 16 ∧ win0_1.index t (1 : Fin 2) = 16 + t.val % 16)
    ∧ (win0_2.index t (0 : Fin 2) = t.val / 16 ∧ win0_2.index t (1 : Fin 2) = 32 + t.val % 16)
    ∧ (win0_3.index t (0 : Fin 2) = t.val / 16 ∧ win0_3.index t (1 : Fin 2) = t.val % 16)
    ∧ (win0_4.index t (0 : Fin 2) = t.val / 16 ∧ win0_4.index t (1 : Fin 2) = t.val % 16)
    ∧ (win0_5.index t (0 : Fin 4) = 0 ∧ win0_5.index t (1 : Fin 4) = t.val % 16 ∧ win0_5.index t (2 : Fin 4) = 0 ∧ win0_5.index t (3 : Fin 4) = 0)
    ∧ (win0_6.index t (0 : Fin 2) = t.val / 16 ∧ win0_6.index t (1 : Fin 2) = t.val % 16) :=
  (by decide +kernel : ∀ t : Fin grid0.N, _)

theorem N_lt (t : Fin cfg0.N) : t.val < 128 := t.isLt

/-- Row `r` of batch `b`. -/
abbrev row (b : Fin 8) (r : Fin 4096) : Fin 32768 := ⟨b * 4096 + r, by omega⟩
/-- Feature `e` of head `h` in part `p` of the projection: queries, keys, values. -/
abbrev feat (p : Fin 3) (h : Fin 16) (e : Fin 128) : Fin 6144 := ⟨p * 2048 + h * 128 + e, by omega⟩

/-- The local scores of a query against the eight image rows of its band, masked outside its sixteen columns. -/
def bandScore (a0 : Vec Ideal S32768x6144 .bf16) (a3 : Vec Ideal S1x16x15x31 .f32) (b : Fin 8) (h : Fin 16) (q : Fin 4096)
    (a : Fin 512) : EReal :=
  (∑ e : Fin 128, a0 (ix2 (row b q) (feat 0 h e)) * a0 (ix2 (row b (bandRow (q / 64) a)) (feat 1 h e))) * scale
    + if inCols (q % 64) (a % 64) then a3 (ix4 0 h ⟨bandStart (q / 64) + 7 - q / 64 + a / 64, by
        have := (biasRow (q / 64)).isLt; change bandStart (q / 64) + 7 - q / 64 < 8 at this; omega⟩ (biasCol (q % 64) (a % 64))) else ⊥

/-- The scores of a query against the context. -/
def ctxScore (a0 : Vec Ideal S32768x6144 .bf16) (a1 : Vec Ideal S8x1x256x16x128 .f32) (b : Fin 8) (h : Fin 16) (q : Fin 4096)
    (j : Fin 256) : EReal :=
  (∑ e : Fin 128, a0 (ix2 (row b q) (feat 0 h e)) * a1 (ix5 b 0 j h e)) * scale

/-- The kernel's result for a batch, a head, a query and a feature. -/
def kernelAttn (a0 : Vec Ideal S32768x6144 .bf16) (a1 a2 : Vec Ideal S8x1x256x16x128 .f32) (a3 : Vec Ideal S1x16x15x31 .f32)
    (b : Fin 8) (h : Fin 16) (q : Fin 4096) (d : Fin 128) : EReal :=
  attend (bandScore a0 a3 b h q) (ctxScore a0 a1 b h q)
    (fun a => a0 (ix2 (row b (bandRow (q / 64) a)) (feat 2 h d))) (fun j => a2 (ix5 b 0 j h d))

/-- The kernel's result. -/
def kernelOut (a0 : Vec Ideal S32768x6144 .bf16) (a1 a2 : Vec Ideal S8x1x256x16x128 .f32) (a3 : Vec Ideal S1x16x15x31 .f32) :
    Vec Ideal S32768x2048 .bf16 := fun i =>
  kernelAttn a0 a1 a2 a3 ⟨(i 0).val / 4096, by have : (i 0).val < 32768 := (i 0).isLt; omega⟩
    ⟨(i 1).val / 128, by have : (i 1).val < 2048 := (i 1).isLt; omega⟩ ⟨(i 0).val % 4096, by omega⟩ ⟨(i 1).val % 128, by omega⟩

abbrev batch (t : Fin cfg0.N) : Fin 8 := ⟨t.val / 16, by have := N_lt t; omega⟩
abbrev head (t : Fin cfg0.N) : Fin 16 := ⟨t.val % 16, by omega⟩

theorem blk0 (c : Dev nD) (t : Fin cfg0.N) (r : Fin 4096) (e : Fin 128) :
    (iblk m c 0 t : Vec Ideal S4096x128 .bf16) (ix2 r e)
      = (m ((c : Thread nD τ).loc main_arg0) : Vec Ideal S32768x6144 .bf16) (ix2 (row (batch t) r) (feat 0 (head t) e)) := by
  obtain ⟨⟨e0, e1⟩, -⟩ := idx_facts t
  show V m c main_arg0 (((cfg0.win 0).blk t).view.emb (ix2 r e)) = _
  rw [V_main_arg0]
  congr 1
  funext a; apply Fin.ext
  match a with
  | ⟨0, _⟩ => show win0_0.index t (0 : Fin 2) * 4096 + 1 * r.val = t.val / 16 * 4096 + r.val; omega
  | ⟨1, _⟩ => show win0_0.index t (1 : Fin 2) * 128 + 1 * e.val = 0 * 2048 + t.val % 16 * 128 + e.val; omega

theorem blk1 (c : Dev nD) (t : Fin cfg0.N) (r : Fin 4096) (e : Fin 128) :
    (iblk m c 1 t : Vec Ideal S4096x128 .bf16) (ix2 r e)
      = (m ((c : Thread nD τ).loc main_arg0) : Vec Ideal S32768x6144 .bf16) (ix2 (row (batch t) r) (feat 1 (head t) e)) := by
  obtain ⟨-, ⟨e0, e1⟩, -⟩ := idx_facts t
  show V m c main_arg0 (((cfg0.win 1).blk t).view.emb (ix2 r e)) = _
  rw [V_main_arg0]
  congr 1
  funext a; apply Fin.ext
  match a with
  | ⟨0, _⟩ => show win0_1.index t (0 : Fin 2) * 4096 + 1 * r.val = t.val / 16 * 4096 + r.val; omega
  | ⟨1, _⟩ => show win0_1.index t (1 : Fin 2) * 128 + 1 * e.val = 1 * 2048 + t.val % 16 * 128 + e.val; omega

theorem blk2 (c : Dev nD) (t : Fin cfg0.N) (r : Fin 4096) (e : Fin 128) :
    (iblk m c 2 t : Vec Ideal S4096x128 .bf16) (ix2 r e)
      = (m ((c : Thread nD τ).loc main_arg0) : Vec Ideal S32768x6144 .bf16) (ix2 (row (batch t) r) (feat 2 (head t) e)) := by
  obtain ⟨-, -, ⟨e0, e1⟩, -⟩ := idx_facts t
  show V m c main_arg0 (((cfg0.win 2).blk t).view.emb (ix2 r e)) = _
  rw [V_main_arg0]
  congr 1
  funext a; apply Fin.ext
  match a with
  | ⟨0, _⟩ => show win0_2.index t (0 : Fin 2) * 4096 + 1 * r.val = t.val / 16 * 4096 + r.val; omega
  | ⟨1, _⟩ => show win0_2.index t (1 : Fin 2) * 128 + 1 * e.val = 2 * 2048 + t.val % 16 * 128 + e.val; omega

theorem blk3 (c : Dev nD) (t : Fin cfg0.N) (j : Fin 256) (e : Fin 128) :
    (iblk m c 3 t : Vec Ideal S256x128 .f32) (ix2 j e)
      = (m ((c : Thread nD τ).loc main_arg1) : Vec Ideal S8x1x256x16x128 .f32) (ix5 (batch t) 0 j (head t) e) := by
  obtain ⟨-, -, -, ⟨e0, e1⟩, -⟩ := idx_facts t
  have hN := N_lt t
  have hi : (((cfg0.win 3).blk t).view.emb (ix2 j e)) = ix2 (⟨t.val / 16 * 256 + j, by omega⟩ : Fin 2048) (⟨t.val % 16 * 128 + e, by omega⟩ : Fin 2048) := by
    funext a; apply Fin.ext
    match a with
    | ⟨0, _⟩ => show win0_3.index t (0 : Fin 2) * 256 + 1 * j.val = t.val / 16 * 256 + j.val; omega
    | ⟨1, _⟩ => show win0_3.index t (1 : Fin 2) * 128 + 1 * e.val = t.val % 16 * 128 + e.val; omega
  show (V m c main_v16 : Vec Ideal S2048x2048 .f32) (((cfg0.win 3).blk t).view.emb (ix2 j e)) = _
  rw [hi, V16]
  congr 1
  funext a; apply Fin.ext
  match a with
  | ⟨0, _⟩ => show (t.val / 16 * 256 + j.val) / 256 = t.val / 16; omega
  | ⟨1, _⟩ => rfl
  | ⟨2, _⟩ => show (t.val / 16 * 256 + j.val) % 256 = j.val; omega
  | ⟨3, _⟩ => show (t.val % 16 * 128 + e.val) / 128 = t.val % 16; omega
  | ⟨4, _⟩ => show (t.val % 16 * 128 + e.val) % 128 = e.val; omega

theorem blk4 (c : Dev nD) (t : Fin cfg0.N) (j : Fin 256) (e : Fin 128) :
    (iblk m c 4 t : Vec Ideal S256x128 .f32) (ix2 j e)
      = (m ((c : Thread nD τ).loc main_arg2) : Vec Ideal S8x1x256x16x128 .f32) (ix5 (batch t) 0 j (head t) e) := by
  obtain ⟨-, -, -, -, ⟨e0, e1⟩, -⟩ := idx_facts t
  have hN := N_lt t
  have hi : (((cfg0.win 4).blk t).view.emb (ix2 j e)) = ix2 (⟨t.val / 16 * 256 + j, by omega⟩ : Fin 2048) (⟨t.val % 16 * 128 + e, by omega⟩ : Fin 2048) := by
    funext a; apply Fin.ext
    match a with
    | ⟨0, _⟩ => show win0_4.index t (0 : Fin 2) * 256 + 1 * j.val = t.val / 16 * 256 + j.val; omega
    | ⟨1, _⟩ => show win0_4.index t (1 : Fin 2) * 128 + 1 * e.val = t.val % 16 * 128 + e.val; omega
  show (V m c main_v18 : Vec Ideal S2048x2048 .f32) (((cfg0.win 4).blk t).view.emb (ix2 j e)) = _
  rw [hi, V18]
  congr 1
  funext a; apply Fin.ext
  match a with
  | ⟨0, _⟩ => show (t.val / 16 * 256 + j.val) / 256 = t.val / 16; omega
  | ⟨1, _⟩ => rfl
  | ⟨2, _⟩ => show (t.val / 16 * 256 + j.val) % 256 = j.val; omega
  | ⟨3, _⟩ => show (t.val % 16 * 128 + e.val) / 128 = t.val % 16; omega
  | ⟨4, _⟩ => show (t.val % 16 * 128 + e.val) % 128 = e.val; omega

theorem blk5 (c : Dev nD) (t : Fin cfg0.N) (p : Fin 8) (q : Fin 64) (a : Fin 512) :
    (iblk m c 5 t : Vec Ideal S8x1x64x512 .f32) (ix4 p 0 q a)
      = if inCols q (a % 64) then (m ((c : Thread nD τ).loc main_arg3) : Vec Ideal S1x16x15x31 .f32)
          (ix4 0 (head t) ⟨p + a / 64, by omega⟩ (biasCol q (a % 64))) else (⊥ : EReal) := by
  obtain ⟨-, -, -, -, -, ⟨e0, e1, e2, e3⟩, -⟩ := idx_facts t
  have hi : (((cfg0.win 5).blk t).view.emb (ix4 p 0 q a)) = ix4 p (head t) q a := by
    funext x; apply Fin.ext
    match x with
    | ⟨0, _⟩ => show win0_5.index t (0 : Fin 4) * 8 + 1 * p.val = p.val; omega
    | ⟨1, _⟩ => show win0_5.index t (1 : Fin 4) * 1 + 1 * 0 = t.val % 16; omega
    | ⟨2, _⟩ => show win0_5.index t (2 : Fin 4) * 64 + 1 * q.val = q.val; omega
    | ⟨3, _⟩ => show win0_5.index t (3 : Fin 4) * 512 + 1 * a.val = a.val; omega
  show (V m c main_v14 : Vec Ideal S8x16x64x512 .f32) (((cfg0.win 5).blk t).view.emb (ix4 p 0 q a)) = _
  rw [hi, V14]

/-- Where a point's output block lies. -/
theorem emb6 (t : Fin cfg0.N) (r : Fin 4096) (d : Fin 128) :
    (((cfg0.win 6).blk t).view.emb (ix2 r d)) = ix2 (⟨t.val / 16 * 4096 + r, by have := N_lt t; omega⟩ : Fin 32768) (⟨t.val % 16 * 128 + d, by omega⟩ : Fin 2048) := by
  obtain ⟨-, -, -, -, -, -, e0, e1⟩ := idx_facts t
  funext a; apply Fin.ext
  match a with
  | ⟨0, _⟩ => show win0_6.index t (0 : Fin 2) * 4096 + 1 * r.val = t.val / 16 * 4096 + r.val; omega
  | ⟨1, _⟩ => show win0_6.index t (1 : Fin 2) * 128 + 1 * d.val = t.val % 16 * 128 + d.val; omega

/-- A block's attention, over the arguments. -/
theorem block_eq (c : Dev nD) (t : Fin cfg0.N) (r : Fin 4096) (d : Fin 128) :
    blockAttn (iblk m c 0 t) (iblk m c 1 t) (iblk m c 2 t) (iblk m c 3 t) (iblk m c 4 t) (iblk m c 5 t) r d
      = kernelAttn (m ((c : Thread nD τ).loc main_arg0)) (m ((c : Thread nD τ).loc main_arg1)) (m ((c : Thread nD τ).loc main_arg2))
          (m ((c : Thread nD τ).loc main_arg3)) (batch t) (head t) r d := by
  unfold blockAttn kernelAttn bandScore ctxScore
  simp only [blk0, blk1, blk2, blk3, blk4, blk5]

theorem flushed6_eq (c : Dev nD) (t : Fin cfg0.N) :
    (dats m 0 c).flushed 6 t = ((cfg0.win 6).blk t).view.read (Elt Ideal)
      (kernelOut (m ((c : Thread nD τ).loc main_arg0)) (m ((c : Thread nD τ).loc main_arg1)) (m ((c : Thread nD τ).loc main_arg2))
          (m ((c : Thread nD τ).loc main_arg3))) := by
  rw [Cert.KernelIdeal.Value.flushed6_A, out_eq]
  funext j
  show blockOut _ _ _ _ _ _ j = kernelOut _ _ _ _ (((cfg0.win 6).blk t).view.emb j)
  idx_vars j
  refine Eq.trans ?_ (congrArg _ (emb6 t j0 j1).symm)
  refine (block_eq m c t j0 j1).trans ?_
  have hN := N_lt t
  show _ = kernelAttn _ _ _ _ _ _ _ _
  congr 1 <;> apply Fin.ext
  · show t.val / 16 = (t.val / 16 * 4096 + j0.val) / 4096; omega
  · show t.val % 16 = (t.val % 16 * 128 + j1.val) / 128; omega
  · show j0.val = (t.val / 16 * 4096 + j0.val) % 4096; omega
  · show j1.val = (t.val % 16 * 128 + j1.val) % 128; omega

theorem covered6 (i : S32768x2048.Idx) :
    ∃ t : Fin cfg0.N, (cfg0.win 6).flush t = true ∧ i ∈ ((cfg0.win 6).blk t).view.set := by
  idx_vars i
  have h1 : i0.val / 4096 * 16 + i1.val / 128 < cfg0.N := by
    show _ < 128; omega
  refine ⟨⟨_, h1⟩, flush0_6 _, ?_⟩
  have h := ((cfg0.win 6).blk (⟨_, h1⟩ : Fin cfg0.N)).view.emb_mem_set (ix2 (⟨i0.val % 4096, by omega⟩ : Fin 4096) (⟨i1.val % 128, by omega⟩ : Fin 128))
  rw [emb6] at h
  have e : (ix2 i0 i1 : S32768x2048.Idx)
      = ix2 (⟨(i0.val / 4096 * 16 + i1.val / 128) / 16 * 4096 + i0.val % 4096, by omega⟩ : Fin 32768)
          (⟨(i0.val / 4096 * 16 + i1.val / 128) % 16 * 128 + i1.val % 128, by omega⟩ : Fin 2048) := by
    funext a; apply Fin.ext
    match a with
    | ⟨0, _⟩ => show i0.val = (i0.val / 4096 * 16 + i1.val / 128) / 16 * 4096 + i0.val % 4096; omega
    | ⟨1, _⟩ => show i1.val = (i0.val / 4096 * 16 + i1.val / 128) % 16 * 128 + i1.val % 128; omega
  rw [e]
  exact h

/-- The result array after the run. -/
theorem final6 (c : Dev nD) : (dats m 0 c).arrAt 6 cfg0.N
    = kernelOut (m ((c : Thread nD τ).loc main_arg0)) (m ((c : Thread nD τ).loc main_arg1)) (m ((c : Thread nD τ).loc main_arg2))
          (m ((c : Thread nD τ).loc main_arg3)) :=
  (dats m 0 c).arrAt_eq_of_cover 6 _ (fun t _ => flushed6_eq m c t) covered6

end Cert.KernelIdeal.Nbr
end
-- ==== Proof.RefTables.lean ====
module

public import proofs.«01_k».proof.Proof.Gen.ReferenceIdeal.Read
public import proofs.«01_k».proof.Proof.Tables

/-! The reference's index tables: which rows and columns of the image a query attends to. -/

@[expose] public section
set_option maxRecDepth 16384
noncomputable section
namespace Cert.ReferenceIdeal.Nbr
open Cert.ReferenceIdeal Cert.ReferenceIdeal.Gen Cert.ReferenceIdeal.Read Cert.Attn Idealize.ShloMosaic Idealize.ShloMosaic.TcCoe Idealize.SL.Sem
open Cert.KernelIdeal.Nbr (bandStart colStart inCols biasCol)

/-- The first column of the thirty-two that query block `n` looks at. -/
def blockStart (n : ℕ) : ℕ := min (16 * n - 8) 32

theorem v92_eq : ∀ (r : Fin 64) (j : Fin 8), ((val_main_v92 (F := Ideal) : IVec S64x8x1 32) (ix3 r j 0)).toInt.toNat = bandStart r + j := by
  decide +kernel
theorem v133_eq : ∀ (r : Fin 64) (j : Fin 8), ((val_main_v133 (F := Ideal) : IVec S64x8x1 32) (ix3 r j 0)).toInt.toNat = bandStart r + j := by
  decide +kernel
theorem v83_eq : ∀ (r : Fin 64) (j : Fin 8), ((val_main_v83 (F := Ideal) : IVec S64x8x1 32) (ix3 r j 0)).toInt.toNat = bandStart r + 7 - (r : ℕ) + j := by
  decide +kernel
theorem v99_eq : ∀ (n : Fin 4) (j : Fin 32), ((val_main_v99 (F := Ideal) : IVec S4x32x1 32) (ix3 n j 0)).toInt.toNat = blockStart n + j := by
  decide +kernel
theorem v140_eq : ∀ (n : Fin 4) (j : Fin 32), ((val_main_v140 (F := Ideal) : IVec S4x32x1 32) (ix3 n j 0)).toInt.toNat = blockStart n + j := by
  decide +kernel
theorem v76_eq : ∀ (n : Fin 4) (q : Fin 16) (j : Fin 32), ((val_main_v76 (F := Ideal) : IVec S4x16x32x1 32) (ix4 n q j 0)).toInt.toNat
    = min (blockStart n + (j : ℕ) + 15 - (16 * (n : ℕ) + q)) 30 := by
  decide +kernel
theorem v37_eq : ∀ (n : Fin 4) (q : Fin 16) (j : Fin 32), (val_main_v37 (F := Ideal) : IVec S4x16x32 1) (ix3 n q j)
    = if inCols (16 * (n : ℕ) + q) (blockStart n + j) then 1#1 else 0#1 := by
  decide +kernel

end Cert.ReferenceIdeal.Nbr
end
-- ==== Proof.RefKeys.lean ====
module

public import proofs.«01_k».proof.Proof.RefTables
public import proofs.«01_k».proof.Proof.Arrays

/-! The reference's queries, neighbourhood keys and values, and biases, read at an index. -/

@[expose] public section
set_option maxRecDepth 16384
noncomputable section
namespace Cert.ReferenceIdeal.Nbr
open Cert.ReferenceIdeal Cert.ReferenceIdeal.Gen Cert.ReferenceIdeal.Read Cert.Attn Idealize.ShloMosaic Idealize.ShloMosaic.TcCoe Idealize.SL.Sem
open Cert.KernelIdeal.Nbr (bandStart colStart inCols biasCol row feat)

/-- The token in image row `r` and column `c`. -/
abbrev tok (r c : Fin 64) : Fin 4096 := ⟨r * 64 + c, by omega⟩
/-- The column of query `q` of block `n`. -/
abbrev qcol (n : Fin 4) (q : Fin 16) : Fin 64 := ⟨16 * n + q, by omega⟩
/-- The `j`-th row of the eight that image row `r` looks at. -/
abbrev krow (r : Fin 64) (j : Fin 8) : Fin 64 := ⟨bandStart r + j, by unfold bandStart; omega⟩
/-- The `j`-th column of the thirty-two that block `n` looks at. -/
abbrev kcol (n : Fin 4) (j : Fin 32) : Fin 64 := ⟨blockStart n + j, by unfold blockStart; omega⟩

variable (x0 : Vec Ideal S32768x6144 .bf16) (x3 : Vec Ideal S1x16x15x31 .f32)

theorem v68_at (b : Fin 8) (r : Fin 64) (n : Fin 4) (q h : Fin 16) (d : Fin 128) :
    (val_main_v68 (F := Ideal) x0 : Vec Ideal S8x64x4x16x16x128 .f32) (ix6 b r n q h d) = x0 (ix2 (row b (tok r (qcol n q))) (feat 0 h d)) := by
  unfold val_main_v68 val_main_v2 val_main_v1 val_main_v0
  pointwise
  refine congrArg x0 (congrArg₂ ix2 (Fin.ext ?_) (Fin.ext ?_))
  · show (b : ℕ) * 4096 + (r * 64 + n * 16 + q) = b * 4096 + (r * 64 + (16 * n + q)); omega
  · show (h : ℕ) * 128 + d = 0 * 2048 + h * 128 + d; omega

theorem v69_at (b : Fin 8) (r c : Fin 64) (h : Fin 16) (d : Fin 128) :
    (val_main_v69 (F := Ideal) x0 : Vec Ideal S8x64x64x16x128 .f32) (ix5 b r c h d) = x0 (ix2 (row b (tok r c)) (feat 1 h d)) := by
  unfold val_main_v69 val_main_v3 val_main_v1 val_main_v0
  pointwise
  refine congrArg x0 (congrArg₂ ix2 (Fin.ext ?_) (Fin.ext ?_))
  · show (b : ℕ) * 4096 + (r * 64 + c) = b * 4096 + (r * 64 + c); omega
  · show 2048 + ((h : ℕ) * 128 + d) = 1 * 2048 + h * 128 + d; omega

theorem v70_at (b : Fin 8) (r c : Fin 64) (h : Fin 16) (d : Fin 128) :
    (val_main_v70 (F := Ideal) x0 : Vec Ideal S8x64x64x16x128 .f32) (ix5 b r c h d) = x0 (ix2 (row b (tok r c)) (feat 2 h d)) := by
  unfold val_main_v70 val_main_v4 val_main_v1 val_main_v0
  pointwise
  refine congrArg x0 (congrArg₂ ix2 (Fin.ext ?_) (Fin.ext ?_))
  · show (b : ℕ) * 4096 + (r * 64 + c) = b * 4096 + (r * 64 + c); omega
  · show 4096 + ((h : ℕ) * 128 + d) = 2 * 2048 + h * 128 + d; omega

theorem v7_at (h : Fin 16) (p : Fin 15) (e : Fin 31) :
    (val_main_v7 (F := Ideal) x3 : Vec Ideal S16x15x31 .f32) (ix3 h p e) = x3 (ix4 0 h p e) := by
  unfold val_main_v7
  pointwise

/-- The gather of the bias's columns. -/
theorem gather_bias_cols {α : Type} (x : S16x15x31.Idx → α) (idx : IVec S4x16x32x1 32) (h : Fin 16) (p : Fin 15) (n : Fin 4)
    (q : Fin 16) (j : Fin 32) (e : Fin 31) (he : min (idx (ix4 n q j 0)).toInt.toNat 30 = e) :
    Host.gather gather_S16x15x31_S4x16x32x1_S16x15x4x16x32_01_2_n_n_2_3_16151 x idx (ix5 h p n q j) = x (ix3 h p e) := by
  have hs : ∀ c, (gather_S16x15x31_S4x16x32x1_S16x15x4x16x32_01_2_n_n_2_3_16151).siIdx (ix5 h p n q j) c = ix4 n q j 0 := by
    intro c; funext b; apply Fin.ext
    match b with
    | ⟨0, _⟩ => rfl
    | ⟨1, _⟩ => rfl
    | ⟨2, _⟩ => rfl
    | ⟨3, _⟩ => exact Nat.lt_one_iff.1 c.isLt
  unfold Host.gather
  congr 1
  funext a; apply Fin.ext
  match a with
  | ⟨0, _⟩ => exact Nat.zero_add _
  | ⟨1, _⟩ => exact Nat.zero_add _
  | ⟨2, _⟩ =>
    show (gather_S16x15x31_S4x16x32x1_S16x15x4x16x32_01_2_n_n_2_3_16151).start _ idx 2 = _
    unfold GatherDims.start
    rw [dif_pos (by decide), hs]
    exact he

/-- The gather of the bias's rows. -/
theorem gather_bias_rows {α : Type} (x : S16x15x4x16x32.Idx → α) (idx : IVec S64x8x1 32) (h : Fin 16) (r : Fin 64) (i : Fin 8) (n : Fin 4)
    (q : Fin 16) (j : Fin 32) (p : Fin 15) (hp : min (idx (ix3 r i 0)).toInt.toNat 14 = p) :
    Host.gather gather_S16x15x4x16x32_S64x8x1_S16x64x8x4x16x32_0345_1_n_n_1_2_16141632 x idx (ix6 h r i n q j) = x (ix5 h p n q j) := by
  have hs : ∀ c, (gather_S16x15x4x16x32_S64x8x1_S16x64x8x4x16x32_0345_1_n_n_1_2_16141632).siIdx (ix6 h r i n q j) c = ix3 r i 0 := by
    intro c; funext b; apply Fin.ext
    match b with
    | ⟨0, _⟩ => rfl
    | ⟨1, _⟩ => rfl
    | ⟨2, _⟩ => exact Nat.lt_one_iff.1 c.isLt
  unfold Host.gather
  congr 1
  funext a; apply Fin.ext
  match a with
  | ⟨0, _⟩ => exact Nat.zero_add _
  | ⟨2, _⟩ => exact Nat.zero_add _
  | ⟨3, _⟩ => exact Nat.zero_add _
  | ⟨4, _⟩ => exact Nat.zero_add _
  | ⟨1, _⟩ =>
    show (gather_S16x15x4x16x32_S64x8x1_S16x64x8x4x16x32_0345_1_n_n_1_2_16141632).start _ idx 1 = _
    unfold GatherDims.start
    rw [dif_pos (by decide), hs]
    exact hp

/-- The gather of the image's rows. -/
theorem gather_img_rows {α : Type} (x : S8x64x64x16x128.Idx → α) (idx : IVec S64x8x1 32) (b : Fin 8) (r : Fin 64) (i : Fin 8) (c : Fin 64)
    (h : Fin 16) (d : Fin 128) (p : Fin 64) (hp : min (idx (ix3 r i 0)).toInt.toNat 63 = p) :
    Host.gather gather_S8x64x64x16x128_S64x8x1_S8x64x8x64x16x128_0345_1_n_n_1_2_816416128 x idx (ix6 b r i c h d) = x (ix5 b p c h d) := by
  have hs : ∀ c', (gather_S8x64x64x16x128_S64x8x1_S8x64x8x64x16x128_0345_1_n_n_1_2_816416128).siIdx (ix6 b r i c h d) c' = ix3 r i 0 := by
    intro c; funext b; apply Fin.ext
    match b with
    | ⟨0, _⟩ => rfl
    | ⟨1, _⟩ => rfl
    | ⟨2, _⟩ => exact Nat.lt_one_iff.1 c.isLt
  unfold Host.gather
  congr 1
  funext a; apply Fin.ext
  match a with
  | ⟨0, _⟩ => exact Nat.zero_add _
  | ⟨2, _⟩ => exact Nat.zero_add _
  | ⟨3, _⟩ => exact Nat.zero_add _
  | ⟨4, _⟩ => exact Nat.zero_add _
  | ⟨1, _⟩ =>
    show (gather_S8x64x64x16x128_S64x8x1_S8x64x8x64x16x128_0345_1_n_n_1_2_816416128).start _ idx 1 = _
    unfold GatherDims.start
    rw [dif_pos (by decide), hs]
    exact hp

/-- The gather of the image's columns. -/
theorem gather_img_cols {α : Type} (x : S8x64x8x64x16x128.Idx → α) (idx : IVec S4x32x1 32) (b : Fin 8) (r : Fin 64) (i : Fin 8) (n : Fin 4)
    (j : Fin 32) (h : Fin 16) (d : Fin 128) (p : Fin 64) (hp : min (idx (ix3 n j 0)).toInt.toNat 63 = p) :
    Host.gather gather_S8x64x8x64x16x128_S4x32x1_S8x64x8x4x32x16x128_01256_3_n_n_3_2_8648116128 x idx (ix7 b r i n j h d) = x (ix6 b r i p h d) := by
  have hs : ∀ c', (gather_S8x64x8x64x16x128_S4x32x1_S8x64x8x4x32x16x128_01256_3_n_n_3_2_8648116128).siIdx (ix7 b r i n j h d) c' = ix3 n j 0 := by
    intro c; funext b; apply Fin.ext
    match b with
    | ⟨0, _⟩ => rfl
    | ⟨1, _⟩ => rfl
    | ⟨2, _⟩ => exact Nat.lt_one_iff.1 c.isLt
  unfold Host.gather
  congr 1
  funext a; apply Fin.ext
  match a with
  | ⟨0, _⟩ => exact Nat.zero_add _
  | ⟨1, _⟩ => exact Nat.zero_add _
  | ⟨2, _⟩ => exact Nat.zero_add _
  | ⟨4, _⟩ => exact Nat.zero_add _
  | ⟨5, _⟩ => exact Nat.zero_add _
  | ⟨3, _⟩ =>
    show (gather_S8x64x8x64x16x128_S4x32x1_S8x64x8x4x32x16x128_01256_3_n_n_3_2_8648116128).start _ idx 3 = _
    unfold GatherDims.start
    rw [dif_pos (by decide), hs]
    exact hp

/-- A neighbourhood's keys: key `a` is in the `a / 32`-th row and the `a % 32`-th column. -/
theorem v102_at (b : Fin 8) (r : Fin 64) (n : Fin 4) (a : Fin 256) (h : Fin 16) (d : Fin 128) :
    (val_main_v102 (F := Ideal) x0 : Vec Ideal S8x64x4x256x16x128 .f32) (ix6 b r n a h d)
      = x0 (ix2 (row b (tok (krow r ⟨a / 32, by omega⟩) (kcol n ⟨a % 32, by omega⟩))) (feat 1 h d)) := by
  unfold val_main_v102 val_main_v101 val_main_v100 val_main_v93
  pointwise
  rw [gather_img_cols _ _ _ _ _ _ _ _ _ (kcol n ⟨a % 32, by omega⟩) (by rw [v99_eq]; exact min_eq_left (Nat.le_of_lt_succ (kcol n ⟨a % 32, by omega⟩).isLt))]
  rw [gather_img_rows _ _ _ _ _ _ _ _ (krow r ⟨a / 32, by omega⟩) (by rw [v92_eq]; exact min_eq_left (Nat.le_of_lt_succ (krow r ⟨a / 32, by omega⟩).isLt))]
  exact v69_at ..

theorem v143_at (b : Fin 8) (r : Fin 64) (n : Fin 4) (a : Fin 256) (h : Fin 16) (d : Fin 128) :
    (val_main_v143 (F := Ideal) x0 : Vec Ideal S8x64x4x256x16x128 .f32) (ix6 b r n a h d)
      = x0 (ix2 (row b (tok (krow r ⟨a / 32, by omega⟩) (kcol n ⟨a % 32, by omega⟩))) (feat 2 h d)) := by
  unfold val_main_v143 val_main_v142 val_main_v141 val_main_v134
  pointwise
  rw [gather_img_cols _ _ _ _ _ _ _ _ _ (kcol n ⟨a % 32, by omega⟩) (by rw [v140_eq]; exact min_eq_left (Nat.le_of_lt_succ (kcol n ⟨a % 32, by omega⟩).isLt))]
  rw [gather_img_rows _ _ _ _ _ _ _ _ (krow r ⟨a / 32, by omega⟩) (by rw [v133_eq]; exact min_eq_left (Nat.le_of_lt_succ (krow r ⟨a / 32, by omega⟩).isLt))]
  exact v70_at ..

/-- The bias of a query and a key of its neighbourhood. -/
theorem v86_at (h : Fin 16) (r : Fin 64) (n : Fin 4) (q : Fin 16) (a : Fin 256) :
    (val_main_v86 (F := Ideal) x3 : Vec Ideal S16x64x4x16x256 .f32) (ix5 h r n q a)
      = x3 (ix4 0 h ⟨bandStart r + 7 - r + a / 32, by unfold bandStart; omega⟩ (biasCol (qcol n q) (kcol n ⟨a % 32, by omega⟩))) := by
  unfold val_main_v86 val_main_v85 val_main_v84 val_main_v77
  pointwise
  rw [gather_bias_rows _ _ _ _ _ _ _ _ ⟨bandStart r + 7 - r + a / 32, by unfold bandStart; omega⟩ (by
    rw [v83_eq]; show min (bandStart r + 7 - (r : ℕ) + a / 32) 14 = _; unfold bandStart; show _ = min ((r : ℕ) - 4) 56 + 7 - r + a / 32; omega)]
  rw [gather_bias_cols _ _ _ _ _ _ _ (biasCol (qcol n q) (kcol n ⟨a % 32, by omega⟩)) (by rw [v76_eq]; exact min_eq_left (min_le_right _ _))]
  exact v7_at ..

/-- Whether the reference counts a key of the neighbourhood. -/
theorem v40_at (n : Fin 4) (q : Fin 16) (a : Fin 256) :
    (val_main_v40 (F := Ideal) : IVec S4x16x256 1) (ix3 n q a) = if inCols (qcol n q) (kcol n ⟨a % 32, by omega⟩) then 1#1 else 0#1 := by
  refine Eq.trans ?_ (v37_eq n q ⟨a % 32, by omega⟩)
  unfold val_main_v40 val_main_v39 val_main_v38
  pointwise

end Cert.ReferenceIdeal.Nbr
end
-- ==== Proof.RefAttn.lean ====
module

public import proofs.«01_k».proof.Proof.RefKeys
public import Idealize.ShloMosaic.Lib.KernelVsHost

/-! The reference's scores, their softmax and its output, read at an index. -/

@[expose] public section
set_option maxRecDepth 16384
noncomputable section
namespace Cert.ReferenceIdeal.Nbr
open Cert.ReferenceIdeal Cert.ReferenceIdeal.Gen Cert.ReferenceIdeal.Read Cert.Attn Idealize.ShloMosaic Idealize.ShloMosaic.TcCoe Idealize.SL.Sem
open Cert.KernelIdeal.Nbr (bandStart colStart inCols biasCol row feat scale ctxScore ofBits_neg_inf)

variable (x0 : Vec Ideal S32768x6144 .bf16) (x1 x2 : Vec Ideal S8x1x256x16x128 .f32) (x3 : Vec Ideal S1x16x15x31 .f32)

/-- The token of key `a` in the neighbourhood of image row `r` and query block `n`. -/
abbrev nbrTok (r : Fin 64) (n : Fin 4) (a : Fin 256) : Fin 4096 := tok (krow r ⟨a / 32, by omega⟩) (kcol n ⟨a % 32, by omega⟩)

/-- The scores of a query against its neighbourhood, masked outside its sixteen columns. -/
def nbrScore (b : Fin 8) (h : Fin 16) (r : Fin 64) (n : Fin 4) (q : Fin 16) (a : Fin 256) : EReal :=
  if inCols (qcol n q) (kcol n ⟨a % 32, by omega⟩) then
    (∑ e : Fin 128, x0 (ix2 (row b (tok r (qcol n q))) (feat 0 h e)) * x0 (ix2 (row b (nbrTok r n a)) (feat 1 h e))) * scale
      + x3 (ix4 0 h ⟨bandStart r + 7 - r + a / 32, by unfold bandStart; omega⟩ (biasCol (qcol n q) (kcol n ⟨a % 32, by omega⟩)))
  else ⊥

theorem v103_at (b : Fin 8) (r : Fin 64) (h : Fin 16) (n : Fin 4) (q : Fin 16) (a : Fin 256) :
    (val_main_v103 (F := Ideal) x0 : Vec Ideal S8x64x16x4x16x256 .f32) (ix6 b r h n q a)
      = ∑ e : Fin 128, x0 (ix2 (row b (tok r (qcol n q))) (feat 0 h e)) * x0 (ix2 (row b (nbrTok r n a)) (feat 1 h e)) := by
  rw [val_main_v103_apply]
  refine Finset.sum_congr rfl fun e _ => congrArg₂ (· * ·) (Eq.trans (congrArg _ ?_) (v68_at x0 b r n q h e))
    (Eq.trans (congrArg _ ?_) (v102_at x0 b r n a h e))
  · funext i
    match i with | ⟨0, _⟩ => rfl | ⟨1, _⟩ => rfl | ⟨2, _⟩ => rfl | ⟨3, _⟩ => rfl | ⟨4, _⟩ => rfl | ⟨5, _⟩ => rfl
  · funext i
    match i with | ⟨0, _⟩ => rfl | ⟨1, _⟩ => rfl | ⟨2, _⟩ => rfl | ⟨3, _⟩ => rfl | ⟨4, _⟩ => rfl | ⟨5, _⟩ => rfl

theorem v110_at (b : Fin 8) (r : Fin 64) (h : Fin 16) (n : Fin 4) (q : Fin 16) (a : Fin 256) :
    (val_main_v110 (F := Ideal) x0 x3 : Vec Ideal S8x64x16x4x16x256 .f32) (ix6 b r h n q a) = nbrScore x0 x3 b h r n q a := by
  have e1 : (val_main_call4_v1 (F := Ideal) : IVec S8x64x16x4x16x256 1) (ix6 b r h n q a) = (val_main_v40 (F := Ideal) : IVec S4x16x256 1) (ix3 n q a) := by
    unfold val_main_call4_v1; pointwise
  have e2 : (val_main_v108 (F := Ideal) x3 : Vec Ideal S8x64x16x4x16x256 .f32) (ix6 b r h n q a) = (val_main_v86 (F := Ideal) x3 : Vec Ideal S16x64x4x16x256 .f32) (ix5 h r n q a) := by
    unfold val_main_v108 val_main_v107 val_main_v106; pointwise
  have e3 : (val_main_v104 (F := Ideal) : Vec Ideal S8x64x16x4x16x256 .f32) (ix6 b r h n q a) = scale := by
    unfold val_main_v104; pointwise; rfl
  have e4 : (val_main_call4_v2 (F := Ideal) : Vec Ideal S8x64x16x4x16x256 .f32) (ix6 b r h n q a) = (⊥ : EReal) := by
    unfold val_main_call4_v2; pointwise; exact ofBits_neg_inf
  rw [val_main_v110_apply, e1, v40_at, e4, val_main_v109_apply, val_main_v105_apply, v103_at, e2, v86_at, e3]
  unfold nbrScore
  by_cases hc : inCols (qcol n q) (kcol n ⟨a % 32, by omega⟩)
  · rw [if_pos hc, if_pos hc]; rfl
  · rw [if_neg hc, if_neg hc]; rfl

theorem v114_at (b : Fin 8) (r : Fin 64) (h : Fin 16) (n : Fin 4) (q : Fin 16) (j : Fin 256) :
    (val_main_v114 (F := Ideal) x0 x1 : Vec Ideal S8x64x16x4x16x256 .f32) (ix6 b r h n q j) = ctxScore x0 x1 b h (tok r (qcol n q)) j := by
  have e1 : (val_main_v112 (F := Ideal) x0 x1 : Vec Ideal S8x64x16x4x16x256 .f32) (ix6 b r h n q j) = (val_main_v111 (F := Ideal) x0 x1 : Vec Ideal S8x16x256x64x4x16 .f32) (ix6 b h j r n q) := by
    unfold val_main_v112; pointwise
  have e3 : (val_main_v113 (F := Ideal) : Vec Ideal S8x64x16x4x16x256 .f32) (ix6 b r h n q j) = scale := by
    unfold val_main_v113; pointwise; rfl
  have e5 (e : Fin 128) : (val_main_v5 (F := Ideal) x1 : Vec Ideal S8x256x16x128 .f32) (ix4 b j h e) = x1 (ix5 b 0 j h e) := by
    unfold val_main_v5; pointwise
  rw [val_main_v114_apply, e1, e3, val_main_v111_apply]
  refine congrArg (· * scale) (Finset.sum_congr rfl fun e _ => ?_)
  refine Eq.trans (congrArg₂ (· * ·) (Eq.trans (congrArg _ ?_) (e5 e)) (Eq.trans (congrArg _ ?_) (v68_at x0 b r n q h e))) (mul_comm _ _)
  · funext i
    match i with | ⟨0, _⟩ => rfl | ⟨1, _⟩ => rfl | ⟨2, _⟩ => rfl | ⟨3, _⟩ => rfl
  · funext i
    match i with | ⟨0, _⟩ => rfl | ⟨1, _⟩ => rfl | ⟨2, _⟩ => rfl | ⟨3, _⟩ => rfl | ⟨4, _⟩ => rfl | ⟨5, _⟩ => rfl

theorem v115_left (b : Fin 8) (r : Fin 64) (h : Fin 16) (n : Fin 4) (q : Fin 16) (a : Fin 256) :
    (val_main_v115 (F := Ideal) x0 x1 x3 : Vec Ideal S8x64x16x4x16x512 .f32) (ix6 b r h n q (Fin.castAdd 256 a)) = nbrScore x0 x3 b h r n q a := by
  refine Eq.trans ?_ (v110_at x0 x3 b r h n q a)
  unfold val_main_v115
  generalize (val_main_v110 (F := Ideal) x0 x3 : Vec Ideal S8x64x16x4x16x256 .f32) = y
  generalize (val_main_v114 (F := Ideal) x0 x1 : Vec Ideal S8x64x16x4x16x256 .f32) = z
  have ha : (Fin.castAdd 256 a : Fin 512) = ⟨a, by omega⟩ := rfl
  rw [ha]
  pointwise

theorem v115_right (b : Fin 8) (r : Fin 64) (h : Fin 16) (n : Fin 4) (q : Fin 16) (j : Fin 256) :
    (val_main_v115 (F := Ideal) x0 x1 x3 : Vec Ideal S8x64x16x4x16x512 .f32) (ix6 b r h n q (Fin.natAdd 256 j)) = ctxScore x0 x1 b h (tok r (qcol n q)) j := by
  refine Eq.trans ?_ (v114_at x0 x1 b r h n q j)
  unfold val_main_v115
  generalize (val_main_v110 (F := Ideal) x0 x3 : Vec Ideal S8x64x16x4x16x256 .f32) = y
  generalize (val_main_v114 (F := Ideal) x0 x1 : Vec Ideal S8x64x16x4x16x256 .f32) = z
  have hj : (Fin.natAdd 256 j : Fin 512) = ⟨256 + j, by omega⟩ := rfl
  rw [hj]
  pointwise

/-- The greatest score. -/
theorem v118_at (b : Fin 8) (r : Fin 64) (h : Fin 16) (n : Fin 4) (q : Fin 16) :
    (val_main_v118 (F := Ideal) x0 x1 x3 : Vec Ideal S8x64x16x4x16 .f32) (ix5 b r h n q)
      = peak (nbrScore x0 x3 b h r n q) (ctxScore x0 x1 b h (tok r (qcol n q))) := by
  have e1 : (val_main_v117 (F := Ideal) : Vec Ideal S8x64x16x4x16 .f32) (ix5 b r h n q) = (⊥ : EReal) := by
    unfold val_main_v117; pointwise; exact ofBits_neg_inf
  have e2 : (val_main_v116 (F := Ideal) x0 x1 x3 : Vec Ideal S8x64x16x4x16 .f32) (ix5 b r h n q)
      = rowMax (fun k : Fin (256 + 256) => (val_main_v115 (F := Ideal) x0 x1 x3 : Vec Ideal S8x64x16x4x16x512 .f32) (ix6 b r h n q k)) := by
    unfold val_main_v116 val_main_cst_26
    generalize (val_main_v115 (F := Ideal) x0 x1 x3 : Vec Ideal S8x64x16x4x16x512 .f32) = y
    pointwise
    rw [ofBits_neg_inf]
    refine le_antisymm (Finset.sup_le (s := Finset.filter _ Finset.univ) (f := y) fun i hi => ?_)
      (rowMax_le _ _ fun k => Finset.le_sup (f := y) (Finset.mem_filter.2 ⟨Finset.mem_univ _, funext fun a => Fin.ext ?_⟩))
    · have hd := (Finset.mem_filter.1 hi).2
      have hi' : i = ix6 b r h n q (i 5) := by
        funext a; apply Fin.ext
        match a with
        | ⟨0, _⟩ => exact congrArg Fin.val (congrFun hd 0)
        | ⟨1, _⟩ => exact congrArg Fin.val (congrFun hd 1)
        | ⟨2, _⟩ => exact congrArg Fin.val (congrFun hd 2)
        | ⟨3, _⟩ => exact congrArg Fin.val (congrFun hd 3)
        | ⟨4, _⟩ => exact congrArg Fin.val (congrFun hd 4)
        | ⟨5, _⟩ => rfl
      rw [hi']
      exact le_rowMax (fun k : Fin (256 + 256) => y (ix6 b r h n q k)) (i 5)
    · match a with | ⟨0, _⟩ => rfl | ⟨1, _⟩ => rfl | ⟨2, _⟩ => rfl | ⟨3, _⟩ => rfl | ⟨4, _⟩ => rfl
  rw [val_main_v118_apply, e1, e2, rowMax_joined]
  simp only [v115_left, v115_right]
  exact max_eq_right bot_le

/-- The softmax's weight of a key. -/
theorem v126_at (b : Fin 8) (r : Fin 64) (h : Fin 16) (n : Fin 4) (q : Fin 16) (k : Fin 512) :
    (val_main_v126 (F := Ideal) x0 x1 x3 : Vec Ideal S8x64x16x4x16x512 .f32) (ix6 b r h n q k)
      = weight (nbrScore x0 x3 b h r n q) (ctxScore x0 x1 b h (tok r (qcol n q))) ((val_main_v115 (F := Ideal) x0 x1 x3 : Vec Ideal S8x64x16x4x16x512 .f32) (ix6 b r h n q k)) := by
  have ex (k : Fin 512) : (val_main_v122 (F := Ideal) x0 x1 x3 : Vec Ideal S8x64x16x4x16x512 .f32) (ix6 b r h n q k)
      = Ideal.exp ((val_main_v115 (F := Ideal) x0 x1 x3 : Vec Ideal S8x64x16x4x16x512 .f32) (ix6 b r h n q k)
          - peak (nbrScore x0 x3 b h r n q) (ctxScore x0 x1 b h (tok r (qcol n q)))) := by
    have e : (val_main_v120 (F := Ideal) x0 x1 x3 : Vec Ideal S8x64x16x4x16x512 .f32) (ix6 b r h n q k) = (val_main_v118 (F := Ideal) x0 x1 x3 : Vec Ideal S8x64x16x4x16 .f32) (ix5 b r h n q) := by
      unfold val_main_v120 val_main_v119; pointwise
    rw [val_main_v122_apply, val_main_v121_apply, e, v118_at]; rfl
  have ed : (val_main_v125 (F := Ideal) x0 x1 x3 : Vec Ideal S8x64x16x4x16x512 .f32) (ix6 b r h n q k)
      = mass (nbrScore x0 x3 b h r n q) (ctxScore x0 x1 b h (tok r (qcol n q))) := by
    have e : (val_main_v125 (F := Ideal) x0 x1 x3 : Vec Ideal S8x64x16x4x16x512 .f32) (ix6 b r h n q k) = (val_main_v123 (F := Ideal) x0 x1 x3 : Vec Ideal S8x64x16x4x16 .f32) (ix5 b r h n q) := by
      unfold val_main_v125 val_main_v124; pointwise
    have ez : (val_main_cst_28 (F := Ideal) : Vec Ideal S_ .f32) (Shape.Idx.first h_S_) = (0 : EReal) := by
      show Ideal.ofBits .f32 0#32 = 0; exact Ideal.ofBits_zero _
    rw [e, val_main_v123_apply, ez, zero_add]
    refine (Fin.sum_univ_add (a := 256) (b := 256) _).trans (congrArg₂ (· + ·) (Finset.sum_congr rfl fun a _ => ?_) (Finset.sum_congr rfl fun j _ => ?_))
    · refine Eq.trans (congrArg _ ?_) ((ex (Fin.castAdd 256 a)).trans (by rw [v115_left]))
      funext i
      match i with | ⟨0, _⟩ => rfl | ⟨1, _⟩ => rfl | ⟨2, _⟩ => rfl | ⟨3, _⟩ => rfl | ⟨4, _⟩ => rfl | ⟨5, _⟩ => rfl
    · refine Eq.trans (congrArg _ ?_) ((ex (Fin.natAdd 256 j)).trans (by rw [v115_right]))
      funext i
      match i with | ⟨0, _⟩ => rfl | ⟨1, _⟩ => rfl | ⟨2, _⟩ => rfl | ⟨3, _⟩ => rfl | ⟨4, _⟩ => rfl | ⟨5, _⟩ => rfl
  rw [val_main_v126_apply, ex, ed]; rfl

/-- The attention's output. -/
theorem v149_at (b : Fin 8) (r : Fin 64) (n : Fin 4) (q h : Fin 16) (d : Fin 128) :
    (val_main_v149 (F := Ideal) x0 x1 x2 x3 : Vec Ideal S8x64x4x16x16x128 .f32) (ix6 b r n q h d)
      = attend (nbrScore x0 x3 b h r n q) (ctxScore x0 x1 b h (tok r (qcol n q)))
          (fun a => x0 (ix2 (row b (nbrTok r n a)) (feat 2 h d))) (fun j => x2 (ix5 b 0 j h d)) := by
  have e1 : (val_main_v145 (F := Ideal) x0 x1 x3 : Vec Ideal S8x64x4x16x16x128 .f32) (ix6 b r n q h d) = (val_main_v144 (F := Ideal) x0 x1 x3 : Vec Ideal S8x64x4x16x128x16 .f32) (ix6 b r n h d q) := by
    unfold val_main_v145; pointwise
  have e2 : (val_main_v148 (F := Ideal) x0 x1 x2 x3 : Vec Ideal S8x64x4x16x16x128 .f32) (ix6 b r n q h d) = (val_main_v147 (F := Ideal) x0 x1 x2 x3 : Vec Ideal S8x16x128x64x4x16 .f32) (ix6 b h d r n q) := by
    unfold val_main_v148; pointwise
  have w1 (a : Fin 256) : (val_main_v127 (F := Ideal) x0 x1 x3 : Vec Ideal S8x64x16x4x16x256 .f32) (ix6 b r h n q a)
      = weight (nbrScore x0 x3 b h r n q) (ctxScore x0 x1 b h (tok r (qcol n q))) (nbrScore x0 x3 b h r n q a) := by
    rw [← v115_left x0 x1 x3, ← v126_at, val_main_v127_apply]
    refine congrArg _ (funext fun i => ?_)
    match i with | ⟨0, _⟩ => rfl | ⟨1, _⟩ => rfl | ⟨2, _⟩ => rfl | ⟨3, _⟩ => rfl | ⟨4, _⟩ => rfl | ⟨5, _⟩ => rfl
  have w2 (j : Fin 256) : (val_main_v146 (F := Ideal) x0 x1 x3 : Vec Ideal S8x64x16x4x16x256 .f32) (ix6 b r h n q j)
      = weight (nbrScore x0 x3 b h r n q) (ctxScore x0 x1 b h (tok r (qcol n q))) (ctxScore x0 x1 b h (tok r (qcol n q)) j) := by
    rw [← v115_right x0 x1 x3, ← v126_at, val_main_v146_apply]
    refine congrArg _ (funext fun i => ?_)
    match i with | ⟨0, _⟩ => rfl | ⟨1, _⟩ => rfl | ⟨2, _⟩ => rfl | ⟨3, _⟩ => rfl | ⟨4, _⟩ => rfl | ⟨5, _⟩ => rfl
  have e6 (j : Fin 256) : (val_main_v6 (F := Ideal) x2 : Vec Ideal S8x256x16x128 .f32) (ix4 b j h d) = x2 (ix5 b 0 j h d) := by
    unfold val_main_v6; pointwise
  rw [val_main_v149_apply, e1, e2, val_main_v144_apply, val_main_v147_apply]
  refine congrArg₂ (· + ·) (Finset.sum_congr rfl fun a _ => ?_) (Finset.sum_congr rfl fun j _ => ?_)
  · refine Eq.trans (congrArg₂ (· * ·) (Eq.trans (congrArg _ ?_) (v143_at x0 b r n a h d)) (Eq.trans (congrArg _ ?_) (w1 a))) (mul_comm _ _)
    · funext i
      match i with | ⟨0, _⟩ => rfl | ⟨1, _⟩ => rfl | ⟨2, _⟩ => rfl | ⟨3, _⟩ => rfl | ⟨4, _⟩ => rfl | ⟨5, _⟩ => rfl
    · funext i
      match i with | ⟨0, _⟩ => rfl | ⟨1, _⟩ => rfl | ⟨2, _⟩ => rfl | ⟨3, _⟩ => rfl | ⟨4, _⟩ => rfl | ⟨5, _⟩ => rfl
  · refine Eq.trans (congrArg₂ (· * ·) (Eq.trans (congrArg _ ?_) (e6 j)) (Eq.trans (congrArg _ ?_) (w2 j))) (mul_comm _ _)
    · funext i
      match i with | ⟨0, _⟩ => rfl | ⟨1, _⟩ => rfl | ⟨2, _⟩ => rfl | ⟨3, _⟩ => rfl
    · funext i
      match i with | ⟨0, _⟩ => rfl | ⟨1, _⟩ => rfl | ⟨2, _⟩ => rfl | ⟨3, _⟩ => rfl | ⟨4, _⟩ => rfl | ⟨5, _⟩ => rfl

/-- The reference's result. -/
theorem v151_at (b : Fin 8) (r : Fin 64) (n : Fin 4) (q h : Fin 16) (d : Fin 128) :
    (val_main_v151 (F := Ideal) x0 x1 x2 x3 : Vec Ideal S32768x2048 .bf16) (ix2 (row b (tok r (qcol n q))) ⟨h * 128 + d, by omega⟩)
      = attend (nbrScore x0 x3 b h r n q) (ctxScore x0 x1 b h (tok r (qcol n q)))
          (fun a => x0 (ix2 (row b (nbrTok r n a)) (feat 2 h d))) (fun j => x2 (ix5 b 0 j h d)) := by
  refine Eq.trans ?_ (v149_at x0 x1 x2 x3 b r n q h d)
  unfold val_main_v151 val_main_v150
  pointwise
  refine congrArg _ (funext fun i => Fin.ext ?_)
  match i with
  | ⟨0, _⟩ => show ((b : ℕ) * 4096 + (r * 64 + (16 * n + q))) / 4096 = b; omega
  | ⟨1, _⟩ => show ((b : ℕ) * 4096 + (r * 64 + (16 * n + q))) / 64 % 64 = r; omega
  | ⟨2, _⟩ => show ((b : ℕ) * 4096 + (r * 64 + (16 * n + q))) / 16 % 4 = n; omega
  | ⟨3, _⟩ => show ((b : ℕ) * 4096 + (r * 64 + (16 * n + q))) % 16 = q; omega
  | ⟨4, _⟩ => rfl
  | ⟨5, _⟩ => rfl

end Cert.ReferenceIdeal.Nbr
end
-- ==== Proof.Join.lean ====
module

public import proofs.«01_k».proof.Proof.RefAttn
public import proofs.«01_k».proof.Proof.Gen.Pre_finite_scores
public import proofs.«01_k».proof.Defs

/-! The kernel's result is the reference's: the keys the kernel adds to a neighbourhood are masked. -/

@[expose] public section
set_option maxRecDepth 16384
noncomputable section
namespace Cert.ReferenceIdeal.Nbr
open Cert.ReferenceIdeal Cert.ReferenceIdeal.Gen Cert.ReferenceIdeal.Read Cert.Attn Idealize.ShloMosaic Idealize.ShloMosaic.TcCoe Idealize.SL.Sem
open Cert.KernelIdeal.Nbr (bandStart colStart inCols biasCol bandRow bandScore kernelAttn kernelOut row feat scale ctxScore ofBits_neg_inf)

/-- A value that is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {α : Type} (s : Finset α) (f : α → EReal) (hf : ∀ a, IsReal (f a)) : IsReal (∑ a ∈ s, f a) := by
  classical
  induction s using Finset.induction_on with
  | empty => exact ⟨0, by simp⟩
  | insert a s ha ih => rw [Finset.sum_insert ha]; exact (hf a).add ih
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem scale_real : IsReal scale := ⟨_, by simp [scale, Ideal.ofBits, Ideal.ieee]; rfl⟩

theorem ofBits_inf : Ideal.ofBits .f32 0x7F800000#32 = ⊤ := by simp [Ideal.ofBits, Ideal.ieee]

/-- What the precondition's comparison says. -/
theorem real_of_abs_lt (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

section
variable (x0 : Vec Ideal S32768x6144 .bf16) (x1 x2 : Vec Ideal S8x1x256x16x128 .f32) (x3 : Vec Ideal S1x16x15x31 .f32)

/-- The kernel's score of a query and a key of its band. -/
theorem bandScore_at (b : Fin 8) (h : Fin 16) (r c : Fin 64) (i : Fin 8) (k : Fin 64) :
    bandScore x0 x3 b h (tok r c) ⟨i * 64 + k, by omega⟩
      = (∑ e : Fin 128, x0 (ix2 (row b (tok r c)) (feat 0 h e)) * x0 (ix2 (row b (tok (krow r i) k)) (feat 1 h e))) * scale
        + if inCols c k then x3 (ix4 0 h ⟨bandStart r + 7 - r + i, by unfold bandStart; omega⟩ (biasCol c k)) else ⊥ := by
  have h1 : ((tok r c : Fin 4096) : ℕ) / 64 = r := by show ((r : ℕ) * 64 + c) / 64 = r; omega
  have h2 : ((tok r c : Fin 4096) : ℕ) % 64 = c := by show ((r : ℕ) * 64 + c) % 64 = c; omega
  have h3 : ((i : ℕ) * 64 + k) / 64 = i := by omega
  have h4 : ((i : ℕ) * 64 + k) % 64 = k := by omega
  have h5 : bandRow r ⟨i * 64 + k, by omega⟩ = tok (krow r i) k := by
    apply Fin.ext; show bandStart r * 64 + ((i : ℕ) * 64 + k) = (bandStart r + i) * 64 + k; omega
  unfold bandScore
  simp only [h1, h2, h3, h4, h5]

variable (hqk : ∀ (i : Fin 32768) (j : Fin 6144), (j : ℕ) < 4096 → IsReal (x0 (ix2 i j))) (h1 : ∀ i, IsReal (x1 i)) (h3 : ∀ i, IsReal (x3 i))
include hqk h1 h3

theorem real_q (b : Fin 8) (t : Fin 4096) (h : Fin 16) (e : Fin 128) : IsReal (x0 (ix2 (row b t) (feat 0 h e))) :=
  hqk _ _ (by show 0 * 2048 + (h : ℕ) * 128 + e < 4096; omega)
theorem real_k (b : Fin 8) (t : Fin 4096) (h : Fin 16) (e : Fin 128) : IsReal (x0 (ix2 (row b t) (feat 1 h e))) :=
  hqk _ _ (by show 1 * 2048 + (h : ℕ) * 128 + e < 4096; omega)

theorem ctxScore_real (b : Fin 8) (h : Fin 16) (t : Fin 4096) (j : Fin 256) : IsReal (ctxScore x0 x1 b h t j) :=
  (IsReal.sum _ _ fun e => (real_q x0 x1 x3 hqk h1 h3 b t h e).mul (h1 _)).mul scale_real

/-- The kernel's and the reference's attention agree. -/
theorem attn_eq (b : Fin 8) (r : Fin 64) (n : Fin 4) (q h : Fin 16) (d : Fin 128) :
    kernelAttn x0 x1 x2 x3 b h (tok r (qcol n q)) d
      = attend (nbrScore x0 x3 b h r n q) (ctxScore x0 x1 b h (tok r (qcol n q)))
          (fun a => x0 (ix2 (row b (nbrTok r n a)) (feat 2 h d))) (fun j => x2 (ix5 b 0 j h d)) := by
  have hn : blockStart n + 32 ≤ 64 := by unfold blockStart; omega
  have hsplit (a : Fin 512) : a = ⟨(⟨a / 64, by omega⟩ : Fin 8) * 64 + (⟨a % 64, by omega⟩ : Fin 64), by show (a : ℕ) / 64 * 64 + a % 64 < 512; omega⟩ := by
    apply Fin.ext; show (a : ℕ) = a / 64 * 64 + a % 64; omega
  let e : Fin 256 → Fin 512 := fun a => ⟨(⟨a / 32, by omega⟩ : Fin 8) * 64 + (kcol n ⟨a % 32, by omega⟩ : Fin 64), by omega⟩
  have hev (a : Fin 256) : ((e a : Fin 512) : ℕ) = a / 32 * 64 + (blockStart n + a % 32) := rfl
  unfold kernelAttn
  rw [attend_restrict e (fun a a' h => by
      have := congrArg Fin.val h; rw [hev, hev] at this; apply Fin.ext; omega)
    _ _ _ _ (fun a ha => ?_) (fun a => ?_) (fun j => (ctxScore_real x0 x1 x3 hqk h1 h3 b h _ j).ne_top) 0
    (ctxScore_real x0 x1 x3 hqk h1 h3 b h _ 0).ne_bot]
  · have e1 : bandScore x0 x3 b h (tok r (qcol n q)) ∘ e = nbrScore x0 x3 b h r n q := by
      funext a
      show bandScore x0 x3 b h (tok r (qcol n q)) ⟨(⟨a / 32, by omega⟩ : Fin 8) * 64 + (kcol n ⟨a % 32, by omega⟩ : Fin 64), _⟩ = _
      rw [bandScore_at]
      unfold nbrScore
      by_cases hc : inCols (qcol n q) (kcol n ⟨a % 32, by omega⟩)
      · rw [if_pos hc, if_pos hc]
      · rw [if_neg hc, if_neg hc, EReal.add_bot]
    have e2 : ((fun a : Fin 512 => x0 (ix2 (row b (bandRow (((tok r (qcol n q) : Fin 4096) : ℕ) / 64) a)) (feat 2 h d))) ∘ e)
        = fun a => x0 (ix2 (row b (nbrTok r n a)) (feat 2 h d)) := by
      funext a
      refine congrArg x0 (congrArg₂ ix2 (congrArg (row b) (Fin.ext ?_)) rfl)
      have hr : ((tok r (qcol n q) : Fin 4096) : ℕ) / 64 = r := by
        show ((r : ℕ) * 64 + (16 * n + q)) / 64 = r; omega
      show bandStart (((tok r (qcol n q) : Fin 4096) : ℕ) / 64) * 64 + ((a : ℕ) / 32 * 64 + (blockStart n + a % 32)) = (bandStart r + a / 32) * 64 + (blockStart n + a % 32)
      rw [hr]; omega
    rw [e1, e2]
  · rw [hsplit a, bandScore_at, if_neg, EReal.add_bot]
    rintro ⟨hl, hu⟩
    apply ha
    have hl' : colStart (16 * (n : ℕ) + q) ≤ (a : ℕ) % 64 := hl
    have hu' : (a : ℕ) % 64 < colStart (16 * (n : ℕ) + q) + 16 := hu
    have hb : blockStart n ≤ (a : ℕ) % 64 ∧ (a : ℕ) % 64 < blockStart n + 32 := by
      unfold colStart at hl' hu'; unfold blockStart; omega
    refine ⟨⟨(a : ℕ) / 64 * 32 + ((a : ℕ) % 64 - blockStart n), by omega⟩, Fin.ext ?_⟩
    rw [hev]
    show ((a : ℕ) / 64 * 32 + ((a : ℕ) % 64 - blockStart n)) / 32 * 64 + (blockStart n + ((a : ℕ) / 64 * 32 + ((a : ℕ) % 64 - blockStart n)) % 32) = a
    omega
  · rw [hsplit a, bandScore_at]
    have hs := (IsReal.sum Finset.univ _ fun e => (real_q x0 x1 x3 hqk h1 h3 b (tok r (qcol n q)) h e).mul
      (real_k x0 x1 x3 hqk h1 h3 b (tok (krow r ⟨a / 64, by omega⟩) ⟨a % 64, by omega⟩) h e)).mul scale_real
    by_cases hc : inCols (qcol n q) ((⟨a % 64, by omega⟩ : Fin 64) : ℕ)
    · rw [if_pos hc]; exact (hs.add (h3 _)).ne_top
    · rw [if_neg hc, EReal.add_bot]; exact bot_ne_top

/-- The kernel's result is the reference's. -/
theorem out_eq : kernelOut x0 x1 x2 x3 = (val_main_v151 (F := Ideal) x0 x1 x2 x3 : Vec Ideal S32768x2048 .bf16) := by
  funext i
  idx_vars i
  have hi : ix2 i0 i1 = (ix2 (row ⟨i0 / 4096, by omega⟩ (tok ⟨i0 % 4096 / 64, by omega⟩ (qcol ⟨i0 % 64 / 16, by omega⟩ ⟨i0 % 16, by omega⟩)))
      ⟨(⟨i1 / 128, by omega⟩ : Fin 16) * 128 + (⟨i1 % 128, by omega⟩ : Fin 128), by omega⟩ : S32768x2048.Idx) :=
    congrArg₂ ix2 (Fin.ext (by show (i0 : ℕ) = i0 / 4096 * 4096 + (i0 % 4096 / 64 * 64 + (16 * (i0 % 64 / 16) + i0 % 16)); omega))
      (Fin.ext (by show (i1 : ℕ) = i1 / 128 * 128 + i1 % 128; omega))
  refine Eq.trans ?_ ((v151_at x0 x1 x2 x3 ⟨i0 / 4096, by omega⟩ ⟨i0 % 4096 / 64, by omega⟩ ⟨i0 % 64 / 16, by omega⟩ ⟨i0 % 16, by omega⟩
    ⟨i1 / 128, by omega⟩ ⟨i1 % 128, by omega⟩).symm.trans (congrArg _ hi.symm))
  refine Eq.trans ?_ (attn_eq x0 x1 x2 x3 hqk h1 h3 _ _ _ _ _ _)
  unfold kernelOut
  refine congrArg (fun t => kernelAttn x0 x1 x2 x3 _ _ t _) (Fin.ext ?_)
  show (i0 : ℕ) % 4096 = i0 % 4096 / 64 * 64 + (16 * (i0 % 64 / 16) + i0 % 16)
  omega

end

/-- The precondition: the queries, the keys, the context keys and the biases are real. -/
theorem real_of_pre (x0 : Vec Ideal S32768x6144 .bf16) (x1 x2 : Vec Ideal S8x1x256x16x128 .f32) (x3 : Vec Ideal S1x16x15x31 .f32)
    [Cert.Pre_finite_scores.Facts]
    (h : (Cert.Pre_finite_scores.fn (F := Ideal) x0 x1 x2 x3).1 = (fun _ => 1#1) ∧ (Cert.Pre_finite_scores.fn (F := Ideal) x0 x1 x2 x3).2.1 = (fun _ => 1#1)
      ∧ (Cert.Pre_finite_scores.fn (F := Ideal) x0 x1 x2 x3).2.2 = (fun _ => 1#1)) :
    (∀ (i : Fin 32768) (j : Fin 6144), (j : ℕ) < 4096 → IsReal (x0 (ix2 i j))) ∧ (∀ i, IsReal (x1 i)) ∧ (∀ i, IsReal (x3 i)) := by
  obtain ⟨ha, hb, hc⟩ := h
  refine ⟨fun i j hj => ?_, fun i => ?_, fun i => ?_⟩
  · have := congrFun ha (ix2 i ⟨j, hj⟩)
    unfold Cert.Pre_finite_scores.fn at this
    dsimp only at this
    refine real_of_abs_lt _ (Eq.trans ?_ this)
    pointwise
    rfl
  · exact real_of_abs_lt _ (congrFun hb i)
  · exact real_of_abs_lt _ (congrFun hc i)

end Cert.ReferenceIdeal.Nbr
end
-- ==== Proof.MlpUp.lean ====
module

public import proofs.«01_k».proof.Proof.Gen.MlpUpIdeal.Value
public import proofs.«01_k».proof.Proof.Gen.MlpUpReferenceIdeal.Run
public import proofs.«01_k».proof.Proof.Gen.MlpUpReferenceIdeal.Read
public import Idealize.ShloMosaic.PureOps.Ideal
public import Idealize.ShloMosaic.Lib.Pointwise

/-! The first half of the feed-forward part: every block of the call is the squared positive part of a product's block. -/

@[expose] public section
set_option maxRecDepth 16384
noncomputable section
namespace Cert.MlpUpIdeal.Up
open Cert.MlpUpIdeal Cert.MlpUpIdeal.Gen Idealize.ShloMosaic Idealize.ShloMosaic.TcCoe Idealize.SL.Sem

variable (m : (ℓ : Loc nD τ sig) → Buf (Elt Ideal) ℓ)

/-- The squared positive part. -/
def sqPos (s : EReal) : EReal := max s 0 * max s 0

/-- The hidden activation of a token and a unit. -/
def hidden (a0 : Vec Ideal S32768x4096 .bf16) (a1 : Vec Ideal S1x4096x16384 .f32) (r : Fin 32768) (e : Fin 16384) : EReal :=
  sqPos (∑ k : Fin 4096, a0 (ix2 r k) * a1 (ix3 0 k e))

/-- All of them. -/
def hiddenAll (a0 : Vec Ideal S32768x4096 .bf16) (a1 : Vec Ideal S1x4096x16384 .f32) : Vec Ideal S32768x16384 .bf16 :=
  fun i => hidden a0 a1 (i 0) (i 1)

/-- What the body writes to a block. -/
theorem pay_apply (x0 : Vec Ideal S1024x4096 .bf16) (x1 : Vec Ideal S4096x1024 .bf16) (r e : Fin 1024) :
    k0_pay1 (F := Ideal) x0 x1 (ix2 r e) = sqPos (∑ k : Fin 4096, x0 (ix2 r k) * x1 (ix2 k e)) := by
  unfold k0_pay1 sqPos
  pointwise

theorem idx_facts : ∀ t : Fin cfg0.N,
    (win0_0.index t (0 : Fin 2) = t.val / 16 ∧ win0_0.index t (1 : Fin 2) = 0)
    ∧ (win0_1.index t (0 : Fin 2) = 0 ∧ win0_1.index t (1 : Fin 2) = t.val % 16)
    ∧ (win0_2.index t (0 : Fin 2) = t.val / 16 ∧ win0_2.index t (1 : Fin 2) = t.val % 16) :=
  (by decide +kernel : ∀ t : Fin grid0.N, _)

theorem N_lt (t : Fin cfg0.N) : t.val < 512 := t.isLt

theorem weights (c : Dev nD) (k : Fin 4096) (e : Fin 16384) :
    (V m c main_v1 : Vec Ideal S4096x16384 .bf16) (ix2 k e) = (m ((c : Thread nD τ).loc main_arg1) : Vec Ideal S1x4096x16384 .f32) (ix3 0 k e) := by
  unfold V
  simp only [hostOps0, List.flatten_cons, List.flatten_nil, List.append_nil, List.cons_append, List.nil_append]
  after_results
  pointwise

theorem blk0 (c : Dev nD) (t : Fin cfg0.N) (r : Fin 1024) (k : Fin 4096) :
    (iblk m c 0 t : Vec Ideal S1024x4096 .bf16) (ix2 r k)
      = (m ((c : Thread nD τ).loc main_arg0) : Vec Ideal S32768x4096 .bf16) (ix2 (⟨t.val / 16 * 1024 + r, by have := N_lt t; omega⟩ : Fin 32768) k) := by
  obtain ⟨⟨e0, e1⟩, -⟩ := idx_facts t
  show V m c main_arg0 (((cfg0.win 0).blk t).view.emb (ix2 r k)) = _
  rw [V_main_arg0]
  congr 1
  funext a; apply Fin.ext
  match a with
  | ⟨0, _⟩ => show win0_0.index t (0 : Fin 2) * 1024 + 1 * r.val = t.val / 16 * 1024 + r.val; omega
  | ⟨1, _⟩ => show win0_0.index t (1 : Fin 2) * 4096 + 1 * k.val = k.val; omega

theorem blk1 (c : Dev nD) (t : Fin cfg0.N) (k : Fin 4096) (e : Fin 1024) :
    (iblk m c 1 t : Vec Ideal S4096x1024 .bf16) (ix2 k e)
      = (m ((c : Thread nD τ).loc main_arg1) : Vec Ideal S1x4096x16384 .f32) (ix3 0 k (⟨t.val % 16 * 1024 + e, by omega⟩ : Fin 16384)) := by
  obtain ⟨-, ⟨e0, e1⟩, -⟩ := idx_facts t
  have hi : ((cfg0.win 1).blk t).view.emb (ix2 k e) = ix2 k (⟨t.val % 16 * 1024 + e, by omega⟩ : Fin 16384) := by
    funext a; apply Fin.ext
    match a with
    | ⟨0, _⟩ => show win0_1.index t (0 : Fin 2) * 4096 + 1 * k.val = k.val; omega
    | ⟨1, _⟩ => show win0_1.index t (1 : Fin 2) * 1024 + 1 * e.val = t.val % 16 * 1024 + e.val; omega
  show (V m c main_v1 : Vec Ideal S4096x16384 .bf16) (((cfg0.win 1).blk t).view.emb (ix2 k e)) = _
  rw [hi, weights]

/-- Where a point's block of the result lies. -/
theorem emb2 (t : Fin cfg0.N) (r e : Fin 1024) :
    (((cfg0.win 2).blk t).view.emb (ix2 r e)) = ix2 (⟨t.val / 16 * 1024 + r, by have := N_lt t; omega⟩ : Fin 32768) (⟨t.val % 16 * 1024 + e, by omega⟩ : Fin 16384) := by
  obtain ⟨-, -, e0, e1⟩ := idx_facts t
  funext a; apply Fin.ext
  match a with
  | ⟨0, _⟩ => show win0_2.index t (0 : Fin 2) * 1024 + 1 * r.val = t.val / 16 * 1024 + r.val; omega
  | ⟨1, _⟩ => show win0_2.index t (1 : Fin 2) * 1024 + 1 * e.val = t.val % 16 * 1024 + e.val; omega

theorem zero2 : (![0, 0] : Fin 2 → ℕ) = fun _ => 0 := by decide

theorem flushed2_eq (c : Dev nD) (t : Fin cfg0.N) :
    (dats m 0 c).flushed 2 t = ((cfg0.win 2).blk t).view.read (Elt Ideal)
      (hiddenAll (m ((c : Thread nD τ).loc main_arg0)) (m ((c : Thread nD τ).loc main_arg1))) := by
  rw [Cert.MlpUpIdeal.Value.flushed2]
  unfold out0_2
  rw [View.canon_unit_zero zero2, View.ld_unit_zero zero2, View.ld_unit_zero zero2]
  funext j
  show k0_pay1 (F := Ideal) _ _ j = hiddenAll _ _ (((cfg0.win 2).blk t).view.emb j)
  idx_vars j
  refine Eq.trans ?_ (congrArg _ (emb2 t j0 j1).symm)
  refine (pay_apply _ _ j0 j1).trans ?_
  show _ = sqPos _
  congr 1
  refine Finset.sum_congr rfl fun k _ => ?_
  rw [blk0, blk1]
  rfl

theorem covered2 (i : S32768x16384.Idx) :
    ∃ t : Fin cfg0.N, (cfg0.win 2).flush t = true ∧ i ∈ ((cfg0.win 2).blk t).view.set := by
  idx_vars i
  have h1 : i0.val / 1024 * 16 + i1.val / 1024 < cfg0.N := by
    show _ < 512; omega
  refine ⟨⟨_, h1⟩, flush0_2 _, ?_⟩
  have h := ((cfg0.win 2).blk (⟨_, h1⟩ : Fin cfg0.N)).view.emb_mem_set (ix2 (⟨i0.val % 1024, by omega⟩ : Fin 1024) (⟨i1.val % 1024, by omega⟩ : Fin 1024))
  rw [emb2] at h
  have e : (ix2 i0 i1 : S32768x16384.Idx)
      = ix2 (⟨(i0.val / 1024 * 16 + i1.val / 1024) / 16 * 1024 + i0.val % 1024, by omega⟩ : Fin 32768)
          (⟨(i0.val / 1024 * 16 + i1.val / 1024) % 16 * 1024 + i1.val % 1024, by omega⟩ : Fin 16384) := by
    funext a; apply Fin.ext
    match a with
    | ⟨0, _⟩ => show i0.val = (i0.val / 1024 * 16 + i1.val / 1024) / 16 * 1024 + i0.val % 1024; omega
    | ⟨1, _⟩ => show i1.val = (i0.val / 1024 * 16 + i1.val / 1024) % 16 * 1024 + i1.val % 1024; omega
  rw [e]
  exact h

/-- The result array after the run. -/
theorem final2 (c : Dev nD) : (dats m 0 c).arrAt 2 cfg0.N
    = hiddenAll (m ((c : Thread nD τ).loc main_arg0)) (m ((c : Thread nD τ).loc main_arg1)) :=
  (dats m 0 c).arrAt_eq_of_cover 2 _ (fun t _ => flushed2_eq m c t) covered2

end Cert.MlpUpIdeal.Up

namespace Cert.MlpUpReferenceIdeal.Up
open Cert.MlpUpReferenceIdeal Cert.MlpUpReferenceIdeal.Read Idealize.ShloMosaic

/-- The reference's hidden activations are the same. -/
theorem reference_eq (a0 : Vec Ideal S32768x4096 .bf16) (a1 : Vec Ideal S1x4096x16384 .f32) :
    val_main_v5 (F := Ideal) a0 a1 = Cert.MlpUpIdeal.Up.hiddenAll a0 a1 := by
  funext i
  idx_vars i
  unfold val_main_v5 val_main_v4 val_main_v3 val_main_v2 val_main_v1 val_main_v0 val_main_call0_v0 val_main_call0_cst
  show _ = Cert.MlpUpIdeal.Up.sqPos _
  unfold Cert.MlpUpIdeal.Up.sqPos
  pointwise

end Cert.MlpUpReferenceIdeal.Up
end
-- ==== Proof.Chunks.lean ====
module

public import Mathlib.Data.EReal.Basic
public import Mathlib.Algebra.BigOperators.Fin
public import Mathlib.Algebra.BigOperators.Group.Finset.Sigma

/-! A sum taken chunk by chunk. -/

@[expose] public section
noncomputable section
namespace Cert.Chunks

/-- A function on the first `n` numbers, zero elsewhere. -/
def ext {n : ℕ} (f : Fin n → EReal) (k : ℕ) : EReal := if h : k < n then f ⟨k, h⟩ else 0

theorem ext_of_lt {n : ℕ} (f : Fin n → EReal) (k : ℕ) (h : k < n) : ext f k = f ⟨k, h⟩ := dif_pos h

/-- The sum of chunk `s` of `w` terms. -/
def chunk {n : ℕ} (w : ℕ) (f : Fin n → EReal) (s : ℕ) : EReal := ∑ k : Fin w, ext f (s * w + k)

/-- The chunks add up to the sum. -/
theorem sum_chunk (p w n : ℕ) (hn : p * w = n) (f : Fin n → EReal) : ∑ s ∈ Finset.range p, chunk w f s = ∑ k : Fin n, f k := by
  subst hn
  rw [Finset.sum_range]
  unfold chunk
  rw [← Fintype.sum_prod_type' (fun (s : Fin p) (k : Fin w) => ext f (s.val * w + k.val))]
  refine Fintype.sum_equiv finProdFinEquiv _ _ fun x => ?_
  have e : x.1.val * w + x.2.val = (finProdFinEquiv x).val := by
    rw [finProdFinEquiv_apply_val, Nat.add_comm, Nat.mul_comm]
  rw [e, ext_of_lt f _ (finProdFinEquiv x).isLt]

end Cert.Chunks
end
-- ==== Proof.MlpDown.lean ====
module

public import proofs.«01_k».proof.Proof.Gen.MlpDownIdeal.Value
public import proofs.«01_k».proof.Proof.Gen.MlpDownReferenceIdeal.Run
public import proofs.«01_k».proof.Proof.Gen.MlpDownReferenceIdeal.Read
public import proofs.«01_k».proof.Proof.Chunks
public import Idealize.ShloMosaic.PureOps.Ideal
public import Idealize.ShloMosaic.Lib.Pointwise

/-! The second half of the feed-forward part: the product is accumulated over eight chunks of the hidden units, then gated and added to the stream. -/

@[expose] public section
set_option maxRecDepth 16384
noncomputable section
namespace Cert.MlpDownIdeal.Down
open Cert.MlpDownIdeal Cert.MlpDownIdeal.Gen Cert.Chunks Idealize.ShloMosaic Idealize.ShloMosaic.TcCoe Idealize.SL.Sem

theorem zero2 : (![0, 0] : Fin 2 → ℕ) = fun _ => 0 := by decide
theorem zero3 : (![0, 0, 0] : Fin 3 → ℕ) = fun _ => 0 := by decide

/-! ## The payloads -/

/-- A chunk's product. -/
def prod (x0 : Vec Ideal S1024x2048 .bf16) (x1 : Vec Ideal S2048x1024 .bf16) (r e : Fin 1024) : EReal :=
  ∑ k : Fin 2048, x0 (ix2 r k) * x1 (ix2 k e)

theorem pay2_apply (x0 : Vec Ideal S1024x2048 .bf16) (x1 : Vec Ideal S2048x1024 .bf16) (r e : Fin 1024) :
    k0_pay2 (F := Ideal) x0 x1 (ix2 r e) = prod x0 x1 r e := by
  unfold k0_pay2 k0_pay1 prod
  pointwise

theorem pay3_apply (x0 : Vec Ideal S1024x2048 .bf16) (x1 : Vec Ideal S2048x1024 .bf16) (acc : Vec Ideal S1024x1024 .f32) (r e : Fin 1024) :
    k0_pay3 (F := Ideal) x0 x1 acc (ix2 r e) = acc (ix2 r e) + prod x0 x1 r e := by
  unfold k0_pay3 k0_pay1 prod
  pointwise

theorem pay4_apply (x : Vec Ideal S1024x1024 .f32) (g : Vec Ideal S1x1x1024 .f32) (acc : Vec Ideal S1024x1024 .f32) (r e : Fin 1024) :
    k0_pay4 (F := Ideal) x g acc (ix2 r e) = x (ix2 r e) + g (ix3 0 0 e) * acc (ix2 r e) := by
  unfold k0_pay4
  pointwise

/-! ## What a point leaves -/

section Point
variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1024x1024 .f32) (harg8 : arg8.IsWhole)
  (x0 : Vec Ideal S1024x2048 .bf16) (x1 : Vec Ideal S2048x1024 .bf16) (x2 : Vec Ideal S1024x1024 .f32) (x3 : Vec Ideal S1x1x1024 .f32) (xs0 : Vec Ideal S1024x1024 .f32)

theorem first_acc (hc0 : cond0_0 i) (hc1 : ¬cond0_1 i) (hc2 : ¬cond0_2 i) :
    sout0_A_0 (F := Ideal) c i arg3 harg3 arg4 harg4 arg5 harg5 arg6 harg6 arg7 harg7 arg8 harg8 hc0 hc1 hc2 x0 x1 x2 x3 = k0_pay2 x0 x1 := by
  unfold sout0_A_0
  rw [View.read_writes_junk_eq_canon]
  unfold kernelRun0_A
  dsimp only
  sl_unfold_words
  simp only [View.readAt_eq_ld, harg3.read_unread, harg4.read_unread]
  rw [View.canon_unit_zero zero2, View.ld_unit_zero zero2, View.ld_unit_zero zero2]

theorem next_acc (hc0 : ¬cond0_0 i) (hc1 : cond0_1 i) (hc2 : ¬cond0_2 i) :
    sout0_B_0 (F := Ideal) c i arg3 harg3 arg4 harg4 arg5 harg5 arg6 harg6 arg7 harg7 arg8 harg8 hc0 hc1 hc2 x0 x1 x2 x3 xs0 = k0_pay3 x0 x1 xs0 := by
  unfold sout0_B_0
  rw [View.read_writes_junk_eq_canon]
  unfold kernelRun0_B
  dsimp only
  sl_unfold_words
  simp only [View.readAt_eq_ld, harg3.read_unread, harg4.read_unread, harg8.read_unread]
  rw [View.canon_unit_zero zero2, View.ld_unit_zero zero2, View.ld_unit_zero zero2, View.ld_unit_zero zero2]

theorem last_out (hc0 : ¬cond0_0 i) (hc1 : cond0_1 i) (hc2 : cond0_2 i) :
    out0_C_4 (F := Ideal) c i arg3 harg3 arg4 harg4 arg5 harg5 arg6 harg6 arg7 harg7 arg8 harg8 hc0 hc1 hc2 x0 x1 x2 x3 xs0 = k0_pay4 x2 x3 (k0_pay3 x0 x1 xs0) := by
  unfold out0_C_4
  rw [View.read_writes_junk_eq_canon]
  unfold kernelRun0_C
  dsimp only
  sl_unfold_words
  simp only [View.readAt_eq_ld, harg3.read_unread, harg4.read_unread, harg5.read_unread, harg6.read_unread, harg8.read_unread]
  rw [View.canon_unit_zero zero2, View.readCov_unit_zero _ zero2, View.ld_unit_zero zero2, View.ld_unit_zero zero3, View.ld_unit_zero zero2, View.ld_unit_zero zero2, View.ld_unit_zero zero2]
end Point

/-! ## The blocks -/

variable (m : (ℓ : Loc nD τ sig) → Buf (Elt Ideal) ℓ)

theorem idx_facts : ∀ t : Fin cfg0.N,
    (win0_0.index t (0 : Fin 2) = t.val / 32 ∧ win0_0.index t (1 : Fin 2) = t.val % 8)
    ∧ (win0_1.index t (0 : Fin 2) = t.val % 8 ∧ win0_1.index t (1 : Fin 2) = t.val / 8 % 4)
    ∧ (win0_2.index t (0 : Fin 2) = t.val / 32 ∧ win0_2.index t (1 : Fin 2) = t.val / 8 % 4)
    ∧ (win0_3.index t (0 : Fin 3) = t.val / 128 * 6 + 5 ∧ win0_3.index t (1 : Fin 3) = 0 ∧ win0_3.index t (2 : Fin 3) = t.val / 8 % 4)
    ∧ (win0_4.index t (0 : Fin 2) = t.val / 32 ∧ win0_4.index t (1 : Fin 2) = t.val / 8 % 4) :=
  (by decide +kernel : ∀ t : Fin grid0.N, _)

theorem N_lt (t : Fin cfg0.N) : t.val < 1024 := t.isLt

/-- The row of a point's block. -/
def row (t : Fin cfg0.N) (r : Fin 1024) : Fin 32768 := ⟨t.val / 32 * 1024 + r, by have := N_lt t; omega⟩

/-- The column of a point's block. -/
def col (t : Fin cfg0.N) (e : Fin 1024) : Fin 4096 := ⟨t.val / 8 % 4 * 1024 + e, by omega⟩

theorem weights (c : Dev nD) (k : Fin 16384) (e : Fin 4096) :
    (V m c main_v1 : Vec Ideal S16384x4096 .bf16) (ix2 k e) = (m ((c : Thread nD τ).loc main_arg3) : Vec Ideal S1x16384x4096 .f32) (ix3 0 k e) := by
  unfold V
  simp only [hostOps0, List.flatten_cons, List.flatten_nil, List.append_nil, List.cons_append, List.nil_append]
  after_results
  pointwise

theorem blk0 (c : Dev nD) (t : Fin cfg0.N) (r : Fin 1024) (k : Fin 2048) :
    (iblk m c 0 t : Vec Ideal S1024x2048 .bf16) (ix2 r k)
      = (m ((c : Thread nD τ).loc main_arg0) : Vec Ideal S32768x16384 .bf16) (ix2 (row t r) (⟨t.val % 8 * 2048 + k, by omega⟩ : Fin 16384)) := by
  obtain ⟨⟨e0, e1⟩, -⟩ := idx_facts t
  show V m c main_arg0 (((cfg0.win 0).blk t).view.emb (ix2 r k)) = _
  rw [V_main_arg0]
  congr 1
  funext a; apply Fin.ext
  match a with
  | ⟨0, _⟩ => show win0_0.index t (0 : Fin 2) * 1024 + 1 * r.val = t.val / 32 * 1024 + r.val; omega
  | ⟨1, _⟩ => show win0_0.index t (1 : Fin 2) * 2048 + 1 * k.val = t.val % 8 * 2048 + k.val; omega

theorem blk1 (c : Dev nD) (t : Fin cfg0.N) (k : Fin 2048) (e : Fin 1024) :
    (iblk m c 1 t : Vec Ideal S2048x1024 .bf16) (ix2 k e)
      = (m ((c : Thread nD τ).loc main_arg3) : Vec Ideal S1x16384x4096 .f32) (ix3 0 (⟨t.val % 8 * 2048 + k, by omega⟩ : Fin 16384) (col t e)) := by
  obtain ⟨-, ⟨e0, e1⟩, -⟩ := idx_facts t
  have hi : ((cfg0.win 1).blk t).view.emb (ix2 k e) = ix2 (⟨t.val % 8 * 2048 + k, by omega⟩ : Fin 16384) (col t e) := by
    funext a; apply Fin.ext
    match a with
    | ⟨0, _⟩ => show win0_1.index t (0 : Fin 2) * 2048 + 1 * k.val = t.val % 8 * 2048 + k.val; omega
    | ⟨1, _⟩ => show win0_1.index t (1 : Fin 2) * 1024 + 1 * e.val = t.val / 8 % 4 * 1024 + e.val; omega
  show (V m c main_v1 : Vec Ideal S16384x4096 .bf16) (((cfg0.win 1).blk t).view.emb (ix2 k e)) = _
  rw [hi, weights]

theorem blk2 (c : Dev nD) (t : Fin cfg0.N) (r e : Fin 1024) :
    (iblk m c 2 t : Vec Ideal S1024x1024 .f32) (ix2 r e)
      = (m ((c : Thread nD τ).loc main_arg1) : Vec Ideal S32768x4096 .f32) (ix2 (row t r) (col t e)) := by
  obtain ⟨-, -, ⟨e0, e1⟩, -⟩ := idx_facts t
  show V m c main_arg1 (((cfg0.win 2).blk t).view.emb (ix2 r e)) = _
  rw [V_main_arg1]
  congr 1
  funext a; apply Fin.ext
  match a with
  | ⟨0, _⟩ => show win0_2.index t (0 : Fin 2) * 1024 + 1 * r.val = t.val / 32 * 1024 + r.val; omega
  | ⟨1, _⟩ => show win0_2.index t (1 : Fin 2) * 1024 + 1 * e.val = t.val / 8 % 4 * 1024 + e.val; omega

theorem blk3 (c : Dev nD) (t : Fin cfg0.N) (e : Fin 1024) :
    (iblk m c 3 t : Vec Ideal S1x1x1024 .f32) (ix3 0 0 e)
      = (m ((c : Thread nD τ).loc main_arg2) : Vec Ideal S96x1x4096 .f32) (ix3 (⟨t.val / 128 * 6 + 5, by have := N_lt t; omega⟩ : Fin 96) 0 (col t e)) := by
  obtain ⟨-, -, -, ⟨e0, e1, e2⟩, -⟩ := idx_facts t
  show V m c main_arg2 (((cfg0.win 3).blk t).view.emb (ix3 0 0 e)) = _
  rw [V_main_arg2]
  congr 1
  funext a; apply Fin.ext
  match a with
  | ⟨0, _⟩ => show win0_3.index t (0 : Fin 3) * 1 + 1 * 0 = t.val / 128 * 6 + 5; omega
  | ⟨1, _⟩ => show win0_3.index t (1 : Fin 3) * 1 + 1 * 0 = 0; omega
  | ⟨2, _⟩ => show win0_3.index t (2 : Fin 3) * 1024 + 1 * e.val = t.val / 8 % 4 * 1024 + e.val; omega

theorem emb4 (t : Fin cfg0.N) (r e : Fin 1024) : ((cfg0.win 4).blk t).view.emb (ix2 r e) = ix2 (row t r) (col t e) := by
  obtain ⟨-, -, -, -, e0, e1⟩ := idx_facts t
  funext a; apply Fin.ext
  match a with
  | ⟨0, _⟩ => show win0_4.index t (0 : Fin 2) * 1024 + 1 * r.val = t.val / 32 * 1024 + r.val; omega
  | ⟨1, _⟩ => show win0_4.index t (1 : Fin 2) * 1024 + 1 * e.val = t.val / 8 % 4 * 1024 + e.val; omega

/-! ## The accumulation -/

/-- A term of a token's product. -/
def term (a : Vec Ideal S32768x16384 .bf16) (w : Vec Ideal S1x16384x4096 .f32) (r : Fin 32768) (e : Fin 4096) (k : Fin 16384) : EReal :=
  a (ix2 r k) * w (ix3 0 k e)

/-- The stream after the feed-forward part, the gate in row 5 of a sample's six. -/
def outAll (a : Vec Ideal S32768x16384 .bf16) (x : Vec Ideal S32768x4096 .f32) (g : Vec Ideal S96x1x4096 .f32) (w : Vec Ideal S1x16384x4096 .f32) :
    Vec Ideal S32768x4096 .f32 :=
  fun i => x i + g (ix3 (⟨(i 0).val / 4096 * 6 + 5, by have : (i 0).val < 32768 := (i 0).isLt; omega⟩ : Fin 96) 0 (i 1)) * ∑ k : Fin 16384, term a w (i 0) (i 1) k

/-- A point's product is its chunk of the sum. -/
theorem prod_blk (c : Dev nD) (t : Fin cfg0.N) (r e : Fin 1024) :
    prod (iblk m c 0 t) (iblk m c 1 t) r e
      = chunk 2048 (term (m ((c : Thread nD τ).loc main_arg0)) (m ((c : Thread nD τ).loc main_arg3)) (row t r) (col t e)) (t.val % 8) := by
  unfold prod chunk
  refine Finset.sum_congr rfl fun k _ => ?_
  rw [blk0, blk1, ext_of_lt _ _ (by omega)]
  rfl

/-- The accumulator after the point numbered `n`: the chunks so far. -/
theorem acc_eq (c : Dev nD) : ∀ (n : ℕ) (hn : n < cfg0.N) (_ : n % 8 ≠ 7) (r e : Fin 1024),
    ((outsAt0 m c n hn).2 : Vec Ideal S1024x1024 .f32) (ix2 r e)
      = ∑ s ∈ Finset.range (n % 8 + 1), chunk 2048 (term (m ((c : Thread nD τ).loc main_arg0)) (m ((c : Thread nD τ).loc main_arg3)) (row ⟨n, hn⟩ r) (col ⟨n, hn⟩ e)) s := by
  intro n
  induction n with
  | zero =>
    intro hn h7 r e
    rw [show outsAt0 m c 0 hn = _ from outsAt0_A m c ⟨0, hn⟩ rfl (by show ¬1 ≤ 0 % 8; omega) (by show ¬0 % 8 = 7; omega)]
    dsimp only
    rw [first_acc, pay2_apply, prod_blk]
    exact (Finset.sum_range_one _).symm
  | succ n ih =>
    intro hn h7 r e
    by_cases h0 : (n + 1) % 8 = 0
    · rw [show outsAt0 m c (n + 1) hn = _ from outsAt0_A m c ⟨n + 1, hn⟩ h0 (by show ¬1 ≤ (n + 1) % 8; omega) h7]
      dsimp only
      rw [first_acc, pay2_apply, prod_blk, h0]
      exact (Finset.sum_range_one _).symm
    · rw [show outsAt0 m c (n + 1) hn = _ from outsAt0_B m c ⟨n + 1, hn⟩ h0 (by show 1 ≤ (n + 1) % 8; omega) h7]
      dsimp only
      rw [next_acc, pay3_apply, prod_blk]
      have hn' : n < cfg0.N := Nat.lt_of_succ_lt hn
      have e1 : row ⟨n + 1, hn⟩ r = row ⟨n, hn'⟩ r := Fin.ext (by show (n + 1) / 32 * 1024 + r.val = n / 32 * 1024 + r.val; omega)
      have e2 : col ⟨n + 1, hn⟩ e = col ⟨n, hn'⟩ e := Fin.ext (by show (n + 1) / 8 % 4 * 1024 + e.val = n / 8 % 4 * 1024 + e.val; omega)
      have e3 : (n + 1) % 8 = n % 8 + 1 := by omega
      rw [e1, e2, e3, Finset.sum_range_succ _ (n % 8 + 1)]
      exact congrArg (· + _) (ih hn' (by omega) r e)

theorem flushed4_block (c : Dev nD) (t : Fin cfg0.N) (h7 : t.val % 8 = 7) :
    (dats m 0 c).flushed 4 t = ((cfg0.win 4).blk t).view.read (Elt Ideal)
      (outAll (m ((c : Thread nD τ).loc main_arg0)) (m ((c : Thread nD τ).loc main_arg1)) (m ((c : Thread nD τ).loc main_arg2)) (m ((c : Thread nD τ).loc main_arg3))) := by
  rw [Cert.MlpDownIdeal.Value.flushed4_C m c t (by omega) (by omega) h7, last_out]
  funext j
  show k0_pay4 (F := Ideal) _ _ _ j = outAll _ _ _ _ (((cfg0.win 4).blk t).view.emb j)
  idx_vars j
  refine Eq.trans ?_ (congrArg _ (emb4 t j0 j1).symm)
  rw [pay4_apply, pay3_apply, prod_blk, acc_eq m c (t.val - 1) _ (by omega), blk2, blk3]
  have hn' : t.val - 1 < cfg0.N := Nat.lt_of_le_of_lt (Nat.sub_le _ _) t.isLt
  have e1 : row ⟨t.val - 1, hn'⟩ j0 = row t j0 := Fin.ext (by show (t.val - 1) / 32 * 1024 + j0.val = t.val / 32 * 1024 + j0.val; omega)
  have e2 : col ⟨t.val - 1, hn'⟩ j1 = col t j1 := Fin.ext (by show (t.val - 1) / 8 % 4 * 1024 + j1.val = t.val / 8 % 4 * 1024 + j1.val; omega)
  rw [e1, e2, show (t.val - 1) % 8 + 1 = 7 from by omega, h7, ← Finset.sum_range_succ, sum_chunk 8 2048 16384 rfl]
  unfold outAll
  dsimp only
  refine congrArg₂ (· + ·) rfl (congrArg₂ (· * ·) (congrArg _ ?_) rfl)
  funext a; apply Fin.ext
  match a with
  | ⟨0, _⟩ => show t.val / 128 * 6 + 5 = (t.val / 32 * 1024 + j0.val) / 4096 * 6 + 5; omega
  | ⟨1, _⟩ => rfl
  | ⟨2, _⟩ => rfl

theorem covered4 (i : S32768x4096.Idx) : ∃ t : Fin cfg0.N, (cfg0.win 4).flush t = true ∧ i ∈ ((cfg0.win 4).blk t).view.set := by
  idx_vars i
  have h1 : (i0.val / 1024 * 4 + i1.val / 1024) * 8 + 7 < cfg0.N := by
    show _ < 1024; omega
  refine ⟨⟨_, h1⟩, (flush0_4 _).mpr (by dsimp only; omega), ?_⟩
  have h := ((cfg0.win 4).blk (⟨_, h1⟩ : Fin cfg0.N)).view.emb_mem_set (ix2 (⟨i0.val % 1024, by omega⟩ : Fin 1024) (⟨i1.val % 1024, by omega⟩ : Fin 1024))
  rw [emb4] at h
  have e : (ix2 i0 i1 : S32768x4096.Idx)
      = ix2 (row ⟨_, h1⟩ ⟨i0.val % 1024, by omega⟩) (col ⟨_, h1⟩ ⟨i1.val % 1024, by omega⟩) := by
    funext a; apply Fin.ext
    match a with
    | ⟨0, _⟩ => show i0.val = ((i0.val / 1024 * 4 + i1.val / 1024) * 8 + 7) / 32 * 1024 + i0.val % 1024; omega
    | ⟨1, _⟩ => show i1.val = ((i0.val / 1024 * 4 + i1.val / 1024) * 8 + 7) / 8 % 4 * 1024 + i1.val % 1024; omega
  rw [e]
  exact h

/-- The result array after the run. -/
theorem final4 (c : Dev nD) : (dats m 0 c).arrAt 4 cfg0.N
    = outAll (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t h => flushed4_block m c t ((flush0_4 t).mp h)) covered4

end Cert.MlpDownIdeal.Down

namespace Cert.MlpDownReferenceIdeal.Down
open Cert.MlpDownReferenceIdeal Cert.MlpDownReferenceIdeal.Read Idealize.ShloMosaic

/-- The reference's result is the same. -/
theorem reference_eq (a : Vec Ideal S32768x16384 .bf16) (x : Vec Ideal S32768x4096 .f32) (g : Vec Ideal S96x1x4096 .f32) (w : Vec Ideal S1x16384x4096 .f32) :
    val_main_v10 (F := Ideal) a x g w = Cert.MlpDownIdeal.Down.outAll a x g w := by
  funext i
  idx_vars i
  unfold val_main_v10 val_main_v9 val_main_v8 val_main_v7 val_main_v6 val_main_v5 val_main_v4 val_main_v3 val_main_v2 val_main_v1 val_main_v0
  unfold Cert.MlpDownIdeal.Down.outAll Cert.MlpDownIdeal.Down.term
  pointwise

end Cert.MlpDownReferenceIdeal.Down
end
-- ==== Proof.ProjRun.lean ====
module

public import proofs.«01_k».proof.Proof.Gen.ProjectionsIdeal.Frame

/-! The projections' run ends with its four results at the contents the last segment leaves. -/

@[expose] public section
set_option maxRecDepth 16384
noncomputable section
namespace Cert.ProjectionsIdeal.Proj

open Cert.ProjectionsIdeal Cert.ProjectionsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run leaves the four results at the last contents, and the arguments as launched. -/
theorem run : θ_run defs (onTc (τ := τ) (main (F := F))) ⟨m, fun _ => 0, ρ⟩ (fun r => ∀ c : Dev nD,
      r.2.mem ((c.tc : Thread nD τ).loc main_v27) = W8 m ρ c main_v27
      ∧ r.2.mem ((c.tc : Thread nD τ).loc main_v28) = W8 m ρ c main_v28
      ∧ r.2.mem ((c.tc : Thread nD τ).loc main_v21) = W8 m ρ c main_v21
      ∧ r.2.mem ((c.tc : Thread nD τ).loc main_v22) = W8 m ρ c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v27 (by decide)), h c _ (mem_uc main_v28 (by decide)), h c _ (mem_uc main_v21 (by decide)), h c _ (mem_uc main_v22 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.ProjectionsIdeal.Proj
end
-- ==== Proof.ProjRegions.lean ====
module

public import proofs.«01_k».proof.Proof.Gen.ProjectionsIdeal.Frame
public import Idealize.ShloMosaic.PureOps.Ideal
public import Idealize.ShloMosaic.Lib.Pointwise

/-! What each of the four calls of the projections leaves in its result array, from whatever contents it is entered with. -/

@[expose] public section
set_option maxRecDepth 16384
noncomputable section
namespace Cert.ProjectionsIdeal.Proj
open Cert.ProjectionsIdeal Cert.ProjectionsIdeal.Gen Idealize.ShloMosaic Idealize.ShloMosaic.TcCoe Idealize.SL.Sem

variable (V : (c : Dev nD) → (b : Ref sig .tc) → Buf (Elt Ideal) ((c : Thread nD τ).loc b))

theorem zero2 : (![0, 0] : Fin 2 → ℕ) = fun _ => 0 := by decide
theorem zero3 : (![0, 0, 0] : Fin 3 → ℕ) = fun _ => 0 := by decide

/-! ## The condition table's projection -/

/-- `x` times its logistic. -/
def silu (x : EReal) : EReal := x * Ideal.div (Ideal.ofBits .f32 0x3F800000#32) (Ideal.ofBits .f32 0x3F800000#32 + Ideal.exp (0 - x))

/-- A row of the conditions against a column of the weights, with its bias. -/
def modRow (x : Fin 4096 → EReal) (w : Fin 4096 → EReal) (b : EReal) : EReal := (∑ k : Fin 4096, silu (x k) * w k) + b

/-- The whole table. -/
def modAll (x : Vec Ideal S16x4096 .f32) (w : Vec Ideal S4096x24576 .f32) (b : Vec Ideal S1x24576 .f32) : Vec Ideal S16x24576 .f32 :=
  fun i => modRow (fun k => x (ix2 (i 0) k)) (fun k => w (ix2 k (i 1))) (b (ix2 0 (i 1)))

theorem pay0_apply (x : Vec Ideal S16x4096 .f32) (w : Vec Ideal S4096x512 .f32) (b : Vec Ideal S1x512 .f32) (r : Fin 16) (e : Fin 512) :
    k0_pay1 (F := Ideal) x w b (ix2 r e) = modRow (fun k => x (ix2 r k)) (fun k => w (ix2 k e)) (b (ix2 0 e)) := by
  unfold k0_pay1 modRow silu
  pointwise

theorem idx0 : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

theorem N0 (t : Fin cfg0.N) : t.val < 48 := t.isLt

theorem blk0_0 (c : Dev nD) (t : Fin cfg0.N) (r : Fin 16) (k : Fin 4096) :
    (iblk0 V c 0 t : Vec Ideal S16x4096 .f32) (ix2 r k) = (V c main_v5 : Vec Ideal S16x4096 .f32) (ix2 r k) := by
  obtain ⟨⟨e0, e1⟩, -⟩ := idx0 t
  show V c main_v5 (((cfg0.win 0).blk t).view.emb (ix2 r k)) = _
  congr 1
  funext a; apply Fin.ext
  match a with
  | ⟨0, _⟩ => show win0_0.index t (0 : Fin 2) * 16 + 1 * r.val = r.val; omega
  | ⟨1, _⟩ => show win0_0.index t (1 : Fin 2) * 4096 + 1 * k.val = k.val; omega

theorem blk0_1 (c : Dev nD) (t : Fin cfg0.N) (k : Fin 4096) (e : Fin 512) :
    (iblk0 V c 1 t : Vec Ideal S4096x512 .f32) (ix2 k e)
      = (V c main_v6 : Vec Ideal S4096x24576 .f32) (ix2 k (⟨t.val * 512 + e, by have := N0 t; omega⟩ : Fin 24576)) := by
  obtain ⟨-, ⟨e0, e1⟩, -⟩ := idx0 t
  show V c main_v6 (((cfg0.win 1).blk t).view.emb (ix2 k e)) = _
  congr 1
  funext a; apply Fin.ext
  match a with
  | ⟨0, _⟩ => show win0_1.index t (0 : Fin 2) * 4096 + 1 * k.val = k.val; omega
  | ⟨1, _⟩ => show win0_1.index t (1 : Fin 2) * 512 + 1 * e.val = t.val * 512 + e.val; omega

theorem blk0_2 (c : Dev nD) (t : Fin cfg0.N) (e : Fin 512) :
    (iblk0 V c 2 t : Vec Ideal S1x512 .f32) (ix2 0 e)
      = (V c main_v8 : Vec Ideal S1x24576 .f32) (ix2 0 (⟨t.val * 512 + e, by have := N0 t; omega⟩ : Fin 24576)) := by
  obtain ⟨-, -, ⟨e0, e1⟩, -⟩ := idx0 t
  show V c main_v8 (((cfg0.win 2).blk t).view.emb (ix2 0 e)) = _
  congr 1
  funext a; apply Fin.ext
  match a with
  | ⟨0, _⟩ => show win0_2.index t (0 : Fin 2) * 1 + 1 * 0 = 0; omega
  | ⟨1, _⟩ => show win0_2.index t (1 : Fin 2) * 512 + 1 * e.val = t.val * 512 + e.val; omega

theorem emb0 (t : Fin cfg0.N) (r : Fin 16) (e : Fin 512) :
    (((cfg0.win 3).blk t).view.emb (ix2 r e)) = ix2 r (⟨t.val * 512 + e, by have := N0 t; omega⟩ : Fin 24576) := by
  obtain ⟨-, -, -, e0, e1⟩ := idx0 t
  funext a; apply Fin.ext
  match a with
  | ⟨0, _⟩ => show win0_3.index t (0 : Fin 2) * 16 + 1 * r.val = r.val; omega
  | ⟨1, _⟩ => show win0_3.index t (1 : Fin 2) * 512 + 1 * e.val = t.val * 512 + e.val; omega

theorem flushed0 (c : Dev nD) (t : Fin cfg0.N) :
    (dat0 V c).flushed 3 t = ((cfg0.win 3).blk t).view.read (Elt Ideal) (modAll (V c main_v5) (V c main_v6) (V c main_v8)) := by
  show (cfg0.win 3).cut (grid0.coords t) ((dat0 V c).after 3 t) = _
  rw [after0_3]
  unfold out0_3
  rw [View.canon_unit_zero zero2, View.ld_unit_zero zero2, View.ld_unit_zero zero2, View.ld_unit_zero zero2]
  funext j
  show k0_pay1 (F := Ideal) _ _ _ j = modAll _ _ _ (((cfg0.win 3).blk t).view.emb j)
  idx_vars j
  refine Eq.trans ?_ (congrArg _ (emb0 t j0 j1).symm)
  refine (pay0_apply _ _ _ j0 j1).trans ?_
  rw [blk0_2 V c t j1, funext fun k => blk0_0 V c t j0 k, funext fun k => blk0_1 V c t k j1]
  rfl

theorem covered0 (i : S16x24576.Idx) :
    ∃ t : Fin cfg0.N, (cfg0.win 3).flush t = true ∧ i ∈ ((cfg0.win 3).blk t).view.set := by
  idx_vars i
  have h1 : i1.val / 512 < cfg0.N := by show _ < 48; omega
  refine ⟨⟨_, h1⟩, flush0_3 _, ?_⟩
  have h := ((cfg0.win 3).blk (⟨_, h1⟩ : Fin cfg0.N)).view.emb_mem_set (ix2 i0 (⟨i1.val % 512, by omega⟩ : Fin 512))
  rw [emb0] at h
  have e : (ix2 i0 i1 : S16x24576.Idx) = ix2 i0 (⟨i1.val / 512 * 512 + i1.val % 512, by omega⟩ : Fin 24576) := by
    funext a; apply Fin.ext
    match a with
    | ⟨0, _⟩ => rfl
    | ⟨1, _⟩ => show i1.val = i1.val / 512 * 512 + i1.val % 512; omega
  rw [e]
  exact h

/-- The table after the first call. -/
theorem final0 (c : Dev nD) : (dat0 V c).arrAt 3 cfg0.N = modAll (V c main_v5) (V c main_v6) (V c main_v8) :=
  (dat0 V c).arrAt_eq_of_cover 3 _ (fun t _ => flushed0 V c t) covered0

/-! ## The normalised tokens -/

/-- One entry `x j` of a token, normalised, weighted, scaled and shifted. -/
def normed (x : Fin 4096 → EReal) (j : Fin 4096) (w sc sh : EReal) : EReal :=
  x j * Ideal.rsqrt (Ideal.div (∑ k : Fin 4096, x k * x k) (Ideal.ofBits .f32 0x45800000#32) + Ideal.ofBits .f32 0x358637BD#32) * w
    * (Ideal.ofBits .f32 0x3F800000#32 + sc) + sh

/-- All of them, the shift at row 48 of the table and the scale at row 49. -/
def normAll (x : Vec Ideal S8192x4096 .f32) (w : Vec Ideal S1x4096 .f32) (md : Vec Ideal S96x1x4096 .f32) : Vec Ideal S8192x4096 .bf16 :=
  fun i => normed (fun k => x (ix2 (i 0) k)) (i 1) (w (ix2 0 (i 1))) (md (ix3 49 0 (i 1))) (md (ix3 48 0 (i 1)))

theorem pay1_apply (x : Vec Ideal S256x4096 .f32) (w : Vec Ideal S1x4096 .f32) (sc sh : Vec Ideal S1x1x4096 .f32) (r : Fin 256) (j : Fin 4096) :
    k1_pay1 (F := Ideal) x w sc sh (ix2 r j) = normed (fun k => x (ix2 r k)) j (w (ix2 0 j)) (sc (ix3 0 0 j)) (sh (ix3 0 0 j)) := by
  unfold k1_pay1 normed
  pointwise

theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 3) = 48 ∧ win1_2.index t (1 : Fin 3) = 0 ∧ win1_2.index t (2 : Fin 3) = 0)
    ∧ (win1_3.index t (0 : Fin 3) = 49 ∧ win1_3.index t (1 : Fin 3) = 0 ∧ win1_3.index t (2 : Fin 3) = 0)
    ∧ (win1_4.index t (0 : Fin 2) = t.val ∧ win1_4.index t (1 : Fin 2) = 0) :=
  (by decide +kernel : ∀ t : Fin grid1.N, _)

theorem N1 (t : Fin cfg1.N) : t.val < 32 := t.isLt

theorem blk1_0 (c : Dev nD) (t : Fin cfg1.N) (r : Fin 256) (k : Fin 4096) :
    (iblk1 V c 0 t : Vec Ideal S256x4096 .f32) (ix2 r k)
      = (V c main_v0 : Vec Ideal S8192x4096 .f32) (ix2 (⟨t.val * 256 + r, by have := N1 t; omega⟩ : Fin 8192) k) := by
  obtain ⟨⟨e0, e1⟩, -⟩ := idx1 t
  show V c main_v0 (((cfg1.win 0).blk t).view.emb (ix2 r k)) = _
  congr 1
  funext a; apply Fin.ext
  match a with
  | ⟨0, _⟩ => show win1_0.index t (0 : Fin 2) * 256 + 1 * r.val = t.val * 256 + r.val; omega
  | ⟨1, _⟩ => show win1_0.index t (1 : Fin 2) * 4096 + 1 * k.val = k.val; omega

theorem blk1_1 (c : Dev nD) (t : Fin cfg1.N) (k : Fin 4096) :
    (iblk1 V c 1 t : Vec Ideal S1x4096 .f32) (ix2 0 k) = (V c main_v18 : Vec Ideal S1x4096 .f32) (ix2 0 k) := by
  obtain ⟨-, ⟨e0, e1⟩, -⟩ := idx1 t
  show V c main_v18 (((cfg1.win 1).blk t).view.emb (ix2 0 k)) = _
  congr 1
  funext a; apply Fin.ext
  match a with
  | ⟨0, _⟩ => show win1_1.index t (0 : Fin 2) * 1 + 1 * 0 = 0; omega
  | ⟨1, _⟩ => show win1_1.index t (1 : Fin 2) * 4096 + 1 * k.val = k.val; omega

theorem blk1_2 (c : Dev nD) (t : Fin cfg1.N) (k : Fin 4096) :
    (iblk1 V c 2 t : Vec Ideal S1x1x4096 .f32) (ix3 0 0 k) = (V c main_v10 : Vec Ideal S96x1x4096 .f32) (ix3 48 0 k) := by
  obtain ⟨-, -, ⟨e0, e1, e2⟩, -⟩ := idx1 t
  show V c main_v10 (((cfg1.win 2).blk t).view.emb (ix3 0 0 k)) = _
  congr 1
  funext a; apply Fin.ext
  match a with
  | ⟨0, _⟩ => show win1_2.index t (0 : Fin 3) * 1 + 1 * 0 = 48; omega
  | ⟨1, _⟩ => show win1_2.index t (1 : Fin 3) * 1 + 1 * 0 = 0; omega
  | ⟨2, _⟩ => show win1_2.index t (2 : Fin 3) * 4096 + 1 * k.val = k.val; omega

theorem blk1_3 (c : Dev nD) (t : Fin cfg1.N) (k : Fin 4096) :
    (iblk1 V c 3 t : Vec Ideal S1x1x4096 .f32) (ix3 0 0 k) = (V c main_v10 : Vec Ideal S96x1x4096 .f32) (ix3 49 0 k) := by
  obtain ⟨-, -, -, ⟨e0, e1, e2⟩, -⟩ := idx1 t
  show V c main_v10 (((cfg1.win 3).blk t).view.emb (ix3 0 0 k)) = _
  congr 1
  funext a; apply Fin.ext
  match a with
  | ⟨0, _⟩ => show win1_3.index t (0 : Fin 3) * 1 + 1 * 0 = 49; omega
  | ⟨1, _⟩ => show win1_3.index t (1 : Fin 3) * 1 + 1 * 0 = 0; omega
  | ⟨2, _⟩ => show win1_3.index t (2 : Fin 3) * 4096 + 1 * k.val = k.val; omega

theorem emb1 (t : Fin cfg1.N) (r : Fin 256) (k : Fin 4096) :
    (((cfg1.win 4).blk t).view.emb (ix2 r k)) = ix2 (⟨t.val * 256 + r, by have := N1 t; omega⟩ : Fin 8192) k := by
  obtain ⟨-, -, -, -, e0, e1⟩ := idx1 t
  funext a; apply Fin.ext
  match a with
  | ⟨0, _⟩ => show win1_4.index t (0 : Fin 2) * 256 + 1 * r.val = t.val * 256 + r.val; omega
  | ⟨1, _⟩ => show win1_4.index t (1 : Fin 2) * 4096 + 1 * k.val = k.val; omega

theorem flushed1 (c : Dev nD) (t : Fin cfg1.N) :
    (dat1 V c).flushed 4 t = ((cfg1.win 4).blk t).view.read (Elt Ideal) (normAll (V c main_v0) (V c main_v18) (V c main_v10)) := by
  show (cfg1.win 4).cut (grid1.coords t) ((dat1 V c).after 4 t) = _
  rw [after1_4]
  unfold out1_4
  rw [View.canon_unit_zero zero2, View.ld_unit_zero zero2, View.ld_unit_zero zero2, View.ld_unit_zero zero3, View.ld_unit_zero zero3]
  funext j
  show k1_pay1 (F := Ideal) _ _ _ _ j = normAll _ _ _ (((cfg1.win 4).blk t).view.emb j)
  idx_vars j
  refine Eq.trans ?_ (congrArg _ (emb1 t j0 j1).symm)
  refine (pay1_apply _ _ _ _ j0 j1).trans ?_
  rw [blk1_1 V c t j1, blk1_2 V c t j1, blk1_3 V c t j1, funext fun k => blk1_0 V c t j0 k]
  rfl

theorem covered1 (i : S8192x4096.Idx) :
    ∃ t : Fin cfg1.N, (cfg1.win 4).flush t = true ∧ i ∈ ((cfg1.win 4).blk t).view.set := by
  idx_vars i
  have h1 : i0.val / 256 < cfg1.N := by show _ < 32; omega
  refine ⟨⟨_, h1⟩, flush1_4 _, ?_⟩
  have h := ((cfg1.win 4).blk (⟨_, h1⟩ : Fin cfg1.N)).view.emb_mem_set (ix2 (⟨i0.val % 256, by omega⟩ : Fin 256) i1)
  rw [emb1] at h
  have e : (ix2 i0 i1 : S8192x4096.Idx) = ix2 (⟨i0.val / 256 * 256 + i0.val % 256, by omega⟩ : Fin 8192) i1 := by
    funext a; apply Fin.ext
    match a with
    | ⟨0, _⟩ => show i0.val = i0.val / 256 * 256 + i0.val % 256; omega
    | ⟨1, _⟩ => rfl
  rw [e]
  exact h

/-- The tokens after the second call. -/
theorem final1 (c : Dev nD) : (dat1 V c).arrAt 4 cfg1.N = normAll (V c main_v0) (V c main_v18) (V c main_v10) :=
  (dat1 V c).arrAt_eq_of_cover 4 _ (fun t _ => flushed1 V c t) covered1

/-! ## The two products -/

/-- A product of the tokens with a matrix. -/
def mulAll {n : ℕ} (x : Vec Ideal S8192x4096 .bf16) (w : (⟨2, ![4096, n]⟩ : Shape).Idx → EReal) : (⟨2, ![8192, n]⟩ : Shape).Idx → EReal :=
  fun i => ∑ k : Fin 4096, x (ix2 (i 0) k) * w (ix2 k (i 1))

theorem pay2_apply (x0 : Vec Ideal S1024x4096 .bf16) (x1 : Vec Ideal S4096x1024 .bf16) (r e : Fin 1024) :
    k2_pay1 (F := Ideal) x0 x1 (ix2 r e) = ∑ k : Fin 4096, x0 (ix2 r k) * x1 (ix2 k e) := by
  unfold k2_pay1
  pointwise

theorem idx2 : ∀ t : Fin cfg2.N,
    (win2_0.index t (0 : Fin 2) = t.val / 6 ∧ win2_0.index t (1 : Fin 2) = 0)
    ∧ (win2_1.index t (0 : Fin 2) = 0 ∧ win2_1.index t (1 : Fin 2) = t.val % 6)
    ∧ (win2_2.index t (0 : Fin 2) = t.val / 6 ∧ win2_2.index t (1 : Fin 2) = t.val % 6) :=
  (by decide +kernel : ∀ t : Fin grid2.N, _)

theorem N2 (t : Fin cfg2.N) : t.val < 48 := t.isLt

theorem blk2_0 (c : Dev nD) (t : Fin cfg2.N) (r : Fin 1024) (k : Fin 4096) :
    (iblk2 V c 0 t : Vec Ideal S1024x4096 .bf16) (ix2 r k)
      = (V c main_v19 : Vec Ideal S8192x4096 .bf16) (ix2 (⟨t.val / 6 * 1024 + r, by have := N2 t; omega⟩ : Fin 8192) k) := by
  obtain ⟨⟨e0, e1⟩, -⟩ := idx2 t
  show V c main_v19 (((cfg2.win 0).blk t).view.emb (ix2 r k)) = _
  congr 1
  funext a; apply Fin.ext
  match a with
  | ⟨0, _⟩ => show win2_0.index t (0 : Fin 2) * 1024 + 1 * r.val = t.val / 6 * 1024 + r.val; omega
  | ⟨1, _⟩ => show win2_0.index t (1 : Fin 2) * 4096 + 1 * k.val = k.val; omega

theorem blk2_1 (c : Dev nD) (t : Fin cfg2.N) (k : Fin 4096) (e : Fin 1024) :
    (iblk2 V c 1 t : Vec Ideal S4096x1024 .bf16) (ix2 k e)
      = (V c main_v13 : Vec Ideal S4096x6144 .bf16) (ix2 k (⟨t.val % 6 * 1024 + e, by omega⟩ : Fin 6144)) := by
  obtain ⟨-, ⟨e0, e1⟩, -⟩ := idx2 t
  show V c main_v13 (((cfg2.win 1).blk t).view.emb (ix2 k e)) = _
  congr 1
  funext a; apply Fin.ext
  match a with
  | ⟨0, _⟩ => show win2_1.index t (0 : Fin 2) * 4096 + 1 * k.val = k.val; omega
  | ⟨1, _⟩ => show win2_1.index t (1 : Fin 2) * 1024 + 1 * e.val = t.val % 6 * 1024 + e.val; omega

theorem emb2 (t : Fin cfg2.N) (r e : Fin 1024) :
    (((cfg2.win 2).blk t).view.emb (ix2 r e))
      = ix2 (⟨t.val / 6 * 1024 + r, by have := N2 t; omega⟩ : Fin 8192) (⟨t.val % 6 * 1024 + e, by omega⟩ : Fin 6144) := by
  obtain ⟨-, -, e0, e1⟩ := idx2 t
  funext a; apply Fin.ext
  match a with
  | ⟨0, _⟩ => show win2_2.index t (0 : Fin 2) * 1024 + 1 * r.val = t.val / 6 * 1024 + r.val; omega
  | ⟨1, _⟩ => show win2_2.index t (1 : Fin 2) * 1024 + 1 * e.val = t.val % 6 * 1024 + e.val; omega

theorem flushed2 (c : Dev nD) (t : Fin cfg2.N) :
    (dat2 V c).flushed 2 t = ((cfg2.win 2).blk t).view.read (Elt Ideal) (mulAll (n := 6144) (V c main_v19) (V c main_v13)) := by
  show (cfg2.win 2).cut (grid2.coords t) ((dat2 V c).after 2 t) = _
  rw [after2_2]
  unfold out2_2
  rw [View.canon_unit_zero zero2, View.ld_unit_zero zero2, View.ld_unit_zero zero2]
  funext j
  show k2_pay1 (F := Ideal) _ _ j = mulAll (n := 6144) _ _ (((cfg2.win 2).blk t).view.emb j)
  idx_vars j
  refine Eq.trans ?_ (congrArg _ (emb2 t j0 j1).symm)
  refine (pay2_apply _ _ j0 j1).trans ?_
  refine Finset.sum_congr rfl fun k _ => ?_
  rw [blk2_0, blk2_1]
  rfl

theorem covered2 (i : S8192x6144.Idx) :
    ∃ t : Fin cfg2.N, (cfg2.win 2).flush t = true ∧ i ∈ ((cfg2.win 2).blk t).view.set := by
  idx_vars i
  have h1 : i0.val / 1024 * 6 + i1.val / 1024 < cfg2.N := by
    show _ < 48; omega
  refine ⟨⟨_, h1⟩, flush2_2 _, ?_⟩
  have h := ((cfg2.win 2).blk (⟨_, h1⟩ : Fin cfg2.N)).view.emb_mem_set (ix2 (⟨i0.val % 1024, by omega⟩ : Fin 1024) (⟨i1.val % 1024, by omega⟩ : Fin 1024))
  rw [emb2] at h
  have e : (ix2 i0 i1 : S8192x6144.Idx)
      = ix2 (⟨(i0.val / 1024 * 6 + i1.val / 1024) / 6 * 1024 + i0.val % 1024, by omega⟩ : Fin 8192)
          (⟨(i0.val / 1024 * 6 + i1.val / 1024) % 6 * 1024 + i1.val % 1024, by omega⟩ : Fin 6144) := by
    funext a; apply Fin.ext
    match a with
    | ⟨0, _⟩ => show i0.val = (i0.val / 1024 * 6 + i1.val / 1024) / 6 * 1024 + i0.val % 1024; omega
    | ⟨1, _⟩ => show i1.val = (i0.val / 1024 * 6 + i1.val / 1024) % 6 * 1024 + i1.val % 1024; omega
  rw [e]
  exact h

/-- The queries, keys and values after its call. -/
theorem final2 (c : Dev nD) : (dat2 V c).arrAt 2 cfg2.N = mulAll (n := 6144) (V c main_v19) (V c main_v13) :=
  (dat2 V c).arrAt_eq_of_cover 2 _ (fun t _ => flushed2 V c t) covered2

theorem pay3_apply (x0 : Vec Ideal S1024x4096 .bf16) (x1 : Vec Ideal S4096x1024 .bf16) (r e : Fin 1024) :
    k3_pay1 (F := Ideal) x0 x1 (ix2 r e) = ∑ k : Fin 4096, x0 (ix2 r k) * x1 (ix2 k e) := by
  unfold k3_pay1
  pointwise

theorem idx3 : ∀ t : Fin cfg3.N,
    (win3_0.index t (0 : Fin 2) = t.val / 8 ∧ win3_0.index t (1 : Fin 2) = 0)
    ∧ (win3_1.index t (0 : Fin 2) = 0 ∧ win3_1.index t (1 : Fin 2) = t.val % 8)
    ∧ (win3_2.index t (0 : Fin 2) = t.val / 8 ∧ win3_2.index t (1 : Fin 2) = t.val % 8) :=
  (by decide +kernel : ∀ t : Fin grid3.N, _)

theorem N3 (t : Fin cfg3.N) : t.val < 64 := t.isLt

theorem blk3_0 (c : Dev nD) (t : Fin cfg3.N) (r : Fin 1024) (k : Fin 4096) :
    (iblk3 V c 0 t : Vec Ideal S1024x4096 .bf16) (ix2 r k)
      = (V c main_v19 : Vec Ideal S8192x4096 .bf16) (ix2 (⟨t.val / 8 * 1024 + r, by have := N3 t; omega⟩ : Fin 8192) k) := by
  obtain ⟨⟨e0, e1⟩, -⟩ := idx3 t
  show V c main_v19 (((cfg3.win 0).blk t).view.emb (ix2 r k)) = _
  congr 1
  funext a; apply Fin.ext
  match a with
  | ⟨0, _⟩ => show win3_0.index t (0 : Fin 2) * 1024 + 1 * r.val = t.val / 8 * 1024 + r.val; omega
  | ⟨1, _⟩ => show win3_0.index t (1 : Fin 2) * 4096 + 1 * k.val = k.val; omega

theorem blk3_1 (c : Dev nD) (t : Fin cfg3.N) (k : Fin 4096) (e : Fin 1024) :
    (iblk3 V c 1 t : Vec Ideal S4096x1024 .bf16) (ix2 k e)
      = (V c main_v16 : Vec Ideal S4096x8192 .bf16) (ix2 k (⟨t.val % 8 * 1024 + e, by omega⟩ : Fin 8192)) := by
  obtain ⟨-, ⟨e0, e1⟩, -⟩ := idx3 t
  show V c main_v16 (((cfg3.win 1).blk t).view.emb (ix2 k e)) = _
  congr 1
  funext a; apply Fin.ext
  match a with
  | ⟨0, _⟩ => show win3_1.index t (0 : Fin 2) * 4096 + 1 * k.val = k.val; omega
  | ⟨1, _⟩ => show win3_1.index t (1 : Fin 2) * 1024 + 1 * e.val = t.val % 8 * 1024 + e.val; omega

theorem emb3 (t : Fin cfg3.N) (r e : Fin 1024) :
    (((cfg3.win 2).blk t).view.emb (ix2 r e))
      = ix2 (⟨t.val / 8 * 1024 + r, by have := N3 t; omega⟩ : Fin 8192) (⟨t.val % 8 * 1024 + e, by omega⟩ : Fin 8192) := by
  obtain ⟨-, -, e0, e1⟩ := idx3 t
  funext a; apply Fin.ext
  match a with
  | ⟨0, _⟩ => show win3_2.index t (0 : Fin 2) * 1024 + 1 * r.val = t.val / 8 * 1024 + r.val; omega
  | ⟨1, _⟩ => show win3_2.index t (1 : Fin 2) * 1024 + 1 * e.val = t.val % 8 * 1024 + e.val; omega

theorem flushed3 (c : Dev nD) (t : Fin cfg3.N) :
    (dat3 V c).flushed 2 t = ((cfg3.win 2).blk t).view.read (Elt Ideal) (mulAll (n := 8192) (V c main_v19) (V c main_v16)) := by
  show (cfg3.win 2).cut (grid3.coords t) ((dat3 V c).after 2 t) = _
  rw [after3_2]
  unfold out3_2
  rw [View.canon_unit_zero zero2, View.ld_unit_zero zero2, View.ld_unit_zero zero2]
  funext j
  show k3_pay1 (F := Ideal) _ _ j = mulAll (n := 8192) _ _ (((cfg3.win 2).blk t).view.emb j)
  idx_vars j
  refine Eq.trans ?_ (congrArg _ (emb3 t j0 j1).symm)
  refine (pay3_apply _ _ j0 j1).trans ?_
  refine Finset.sum_congr rfl fun k _ => ?_
  rw [blk3_0, blk3_1]
  rfl

theorem covered3 (i : S8192x8192.Idx) :
    ∃ t : Fin cfg3.N, (cfg3.win 2).flush t = true ∧ i ∈ ((cfg3.win 2).blk t).view.set := by
  idx_vars i
  have h1 : i0.val / 1024 * 8 + i1.val / 1024 < cfg3.N := by
    show _ < 64; omega
  refine ⟨⟨_, h1⟩, flush3_2 _, ?_⟩
  have h := ((cfg3.win 2).blk (⟨_, h1⟩ : Fin cfg3.N)).view.emb_mem_set (ix2 (⟨i0.val % 1024, by omega⟩ : Fin 1024) (⟨i1.val % 1024, by omega⟩ : Fin 1024))
  rw [emb3] at h
  have e : (ix2 i0 i1 : S8192x8192.Idx)
      = ix2 (⟨(i0.val / 1024 * 8 + i1.val / 1024) / 8 * 1024 + i0.val % 1024, by omega⟩ : Fin 8192)
          (⟨(i0.val / 1024 * 8 + i1.val / 1024) % 8 * 1024 + i1.val % 1024, by omega⟩ : Fin 8192) := by
    funext a; apply Fin.ext
    match a with
    | ⟨0, _⟩ => show i0.val = (i0.val / 1024 * 8 + i1.val / 1024) / 8 * 1024 + i0.val % 1024; omega
    | ⟨1, _⟩ => show i1.val = (i0.val / 1024 * 8 + i1.val / 1024) % 8 * 1024 + i1.val % 1024; omega
  rw [e]
  exact h

/-- The gates after its call. -/
theorem final3 (c : Dev nD) : (dat3 V c).arrAt 2 cfg3.N = mulAll (n := 8192) (V c main_v19) (V c main_v16) :=
  (dat3 V c).arrAt_eq_of_cover 2 _ (fun t _ => flushed3 V c t) covered3

end Cert.ProjectionsIdeal.Proj
end
-- ==== Proof.ProjAttn.lean ====
module

public import proofs.«01_k».proof.Proof.ProjRegions
public import proofs.«01_k».proof.Proof.Attn
public import Idealize.ShloMosaic.Lib.Pipeline.ValueKit.Tiles

/-! The attention of each sequence over its own tokens: the last call of the projections' program. -/

@[expose] public section
set_option maxRecDepth 16384
noncomputable section
namespace Cert.ProjectionsIdeal.Proj
open Cert.ProjectionsIdeal Cert.ProjectionsIdeal.Gen Idealize.ShloMosaic Idealize.ShloMosaic.TcCoe Idealize.SL.Sem

/-! ## One head -/

/-- The scores of a query against the 256 keys. -/
def score (q : Fin 128 → EReal) (k : Fin 256 → Fin 128 → EReal) (b : Fin 256) : EReal :=
  (∑ e : Fin 128, q e * k b e) * Ideal.ofBits .f32 0x3DB504F3#32

/-- The exponential of a score, below the greatest one. -/
def raised (s : Fin 256 → EReal) (b : Fin 256) : EReal := Ideal.exp (s b - Attn.rowMax s)

/-- The values summed with the scores' softmax. -/
def mixed (s v : Fin 256 → EReal) : EReal := ∑ b : Fin 256, Ideal.div (raised s b) (∑ a : Fin 256, raised s a) * v b

theorem neg_inf : Ideal.ofBits .f32 0xFF800000#32 = ⊥ := by simp [Ideal.ofBits, Ideal.ieee]

/-- What the kernel stores for a head, at token `r` and feature `d`. -/
theorem head_apply (q k v : Vec Ideal S256x128 .f32) (r : Fin 256) (d : Fin 128) :
    k4_pay2 (F := Ideal) q k v (ix2 r d)
      = mixed (score (fun e => q (ix2 r e)) (fun b e => k (ix2 b e))) (fun b => v (ix2 b d)) := by
  unfold k4_pay2 mixed raised score Attn.rowMax
  pointwise
  simp only [neg_inf]

/-! ## One sequence -/

/-- The first column of the head that column `c` belongs to, and the column of that head's feature `e`. -/
abbrev headCol (c : Fin 2048) (e : Fin 128) : Fin 2048 := ⟨c.val / 128 * 128 + e, by omega⟩

/-- The attention of a block of 256 tokens, its heads side by side. -/
def seqOut (x0 x1 x2 : Vec Ideal S256x2048 .f32) : Vec Ideal S256x2048 .bf16 := fun y =>
  mixed (score (fun e => x0 (ix2 (y 0) (headCol (y 1) e))) (fun b e => x1 (ix2 b (headCol (y 1) e)))) (fun b => x2 (ix2 b (y 1)))

/-- The 128 columns from `o`, read off a block. -/
theorem cols_apply (x : Vec Ideal S256x2048 .f32) (h : Fin 16) (inb : ∀ a : Fin 2, (![0, 128 * h.val] : Fin 2 → ℕ) a + (![256, 128] : Fin 2 → ℕ) a ≤ S256x2048.size a)
    (r : Fin 256) (e : Fin 128) :
    View.ld x (Rect.unit (s := S256x2048) ![0, 128 * h.val] ![256, 128] inb) (ix2 r e) = x (ix2 r (⟨128 * h.val + e, by omega⟩ : Fin 2048)) :=
  View.ld_unit_apply_of _ _ _ _ _ _ fun a => by
    match a with
    | 0 => show r.val = 0 + r.val; omega
    | 1 => rfl

/-- What is stored for head `h` is the block's attention on the head's columns. -/
theorem head_piece (x0 x1 x2 : Vec Ideal S256x2048 .f32) (h : Fin 16)
    (inb : ∀ a : Fin 2, (![0, 128 * h.val] : Fin 2 → ℕ) a + (![256, 128] : Fin 2 → ℕ) a ≤ S256x2048.size a) (y : S256x128.Idx) :
    k4_pay2 (F := Ideal) (View.ld x0 (Rect.unit (s := S256x2048) ![0, 128 * h.val] ![256, 128] inb))
        (View.ld x1 (Rect.unit (s := S256x2048) ![0, 128 * h.val] ![256, 128] inb))
        (View.ld x2 (Rect.unit (s := S256x2048) ![0, 128 * h.val] ![256, 128] inb)) y
      = seqOut x0 x1 x2 ((Rect.unit (s := S256x2048) ![0, 128 * h.val] ![256, 128] inb).emb y) := by
  idx_vars y
  have hemb : (Rect.unit (s := S256x2048) ![0, 128 * h.val] ![256, 128] inb).emb (ix2 y0 y1)
      = ix2 y0 (⟨128 * h.val + y1, by omega⟩ : Fin 2048) := by
    funext a; apply Fin.ext
    match a with
    | 0 => simp [Rect.emb_apply, ix2]
    | 1 => simp [Rect.emb_apply, ix2]
  have hcol (e : Fin 128) : headCol (⟨128 * h.val + y1, by omega⟩ : Fin 2048) e = ⟨128 * h.val + e, by omega⟩ :=
    Fin.ext (by show (128 * h.val + y1.val) / 128 * 128 + e.val = 128 * h.val + e.val; omega)
  refine (head_apply _ _ _ y0 y1).trans ?_
  rw [hemb]
  show _ = mixed (score (fun e => x0 (ix2 y0 (headCol (⟨128 * h.val + y1, by omega⟩ : Fin 2048) e)))
    (fun b e => x1 (ix2 b (headCol (⟨128 * h.val + y1, by omega⟩ : Fin 2048) e)))) (fun b => x2 (ix2 b (⟨128 * h.val + y1, by omega⟩ : Fin 2048)))
  simp only [hcol]
  exact congrArg₂ mixed (congrArg₂ score (funext fun e => cols_apply x0 h inb y0 e) (funext fun b => funext fun e => cols_apply x1 h inb b e))
    (funext fun b => cols_apply x2 h inb b y1)

/-- The sixteen stores leave the block's attention. -/
theorem out_block (x0 x1 x2 : Vec Ideal S256x2048 .f32) : out4_3 (F := Ideal) x0 x1 x2 = seqOut x0 x1 x2 := by
  funext y
  refine View.canon_apply_of_pieces (seqOut x0 x1 x2) _ ?_ y (cover4_3 _ _ _ _ _ _ _ _ _ _ _ _ _ _ _ _ y)
  simp only [List.forall_mem_cons]
  refine ⟨head_piece x0 x1 x2 15 _, head_piece x0 x1 x2 14 _, head_piece x0 x1 x2 13 _, head_piece x0 x1 x2 12 _, head_piece x0 x1 x2 11 _,
    head_piece x0 x1 x2 10 _, head_piece x0 x1 x2 9 _, head_piece x0 x1 x2 8 _, head_piece x0 x1 x2 7 _, head_piece x0 x1 x2 6 _,
    head_piece x0 x1 x2 5 _, head_piece x0 x1 x2 4 _, head_piece x0 x1 x2 3 _, head_piece x0 x1 x2 2 _, head_piece x0 x1 x2 1 _,
    head_piece x0 x1 x2 0 _, fun _ h => absurd h List.not_mem_nil⟩

/-! ## All sequences -/

/-- The attention of every sequence, from the projections: queries, keys and values side by side in each row. -/
def attnAll (x : Vec Ideal S8192x6144 .f32) : Vec Ideal S8192x2048 .bf16 := fun i =>
  mixed (score (fun e => x (ix2 (i 0) (⟨headCol (i 1) e, by omega⟩ : Fin 6144)))
      (fun b e => x (ix2 (⟨(i 0).val / 256 * 256 + b, by have h : (i 0).val < 8192 := (i 0).isLt; omega⟩ : Fin 8192) (⟨2048 + headCol (i 1) e, by omega⟩ : Fin 6144))))
    (fun b => x (ix2 (⟨(i 0).val / 256 * 256 + b, by have h : (i 0).val < 8192 := (i 0).isLt; omega⟩ : Fin 8192)
      (⟨4096 + (i 1).val, by have h : (i 1).val < 2048 := (i 1).isLt; omega⟩ : Fin 6144)))

theorem idx4 : ∀ t : Fin cfg4.N,
    (win4_0.index t (0 : Fin 2) = t.val ∧ win4_0.index t (1 : Fin 2) = 0)
    ∧ (win4_1.index t (0 : Fin 2) = t.val ∧ win4_1.index t (1 : Fin 2) = 1)
    ∧ (win4_2.index t (0 : Fin 2) = t.val ∧ win4_2.index t (1 : Fin 2) = 2)
    ∧ (win4_3.index t (0 : Fin 2) = t.val ∧ win4_3.index t (1 : Fin 2) = 0) :=
  (by decide +kernel : ∀ t : Fin grid4.N, _)

theorem N4 (t : Fin cfg4.N) : t.val < 32 := t.isLt

variable (V : (c : Dev nD) → (b : Ref sig .tc) → Buf (Elt Ideal) ((c : Thread nD τ).loc b))

theorem blk4_0 (c : Dev nD) (t : Fin cfg4.N) (r : Fin 256) (k : Fin 2048) :
    (iblk4 V c 0 t : Vec Ideal S256x2048 .f32) (ix2 r k)
      = (V c main_v20 : Vec Ideal S8192x6144 .f32) (ix2 (⟨t.val * 256 + r, by have := N4 t; omega⟩ : Fin 8192) (⟨k, by omega⟩ : Fin 6144)) := by
  obtain ⟨⟨e0, e1⟩, -⟩ := idx4 t
  show V c main_v20 (((cfg4.win 0).blk t).view.emb (ix2 r k)) = _
  congr 1
  funext a; apply Fin.ext
  match a with
  | ⟨0, _⟩ => show win4_0.index t (0 : Fin 2) * 256 + 1 * r.val = t.val * 256 + r.val; omega
  | ⟨1, _⟩ => show win4_0.index t (1 : Fin 2) * 2048 + 1 * k.val = k.val; omega

theorem blk4_1 (c : Dev nD) (t : Fin cfg4.N) (r : Fin 256) (k : Fin 2048) :
    (iblk4 V c 1 t : Vec Ideal S256x2048 .f32) (ix2 r k)
      = (V c main_v20 : Vec Ideal S8192x6144 .f32) (ix2 (⟨t.val * 256 + r, by have := N4 t; omega⟩ : Fin 8192) (⟨2048 + k, by omega⟩ : Fin 6144)) := by
  obtain ⟨-, ⟨e0, e1⟩, -⟩ := idx4 t
  show V c main_v20 (((cfg4.win 1).blk t).view.emb (ix2 r k)) = _
  congr 1
  funext a; apply Fin.ext
  match a with
  | ⟨0, _⟩ => show win4_1.index t (0 : Fin 2) * 256 + 1 * r.val = t.val * 256 + r.val; omega
  | ⟨1, _⟩ => show win4_1.index t (1 : Fin 2) * 2048 + 1 * k.val = 2048 + k.val; omega

theorem blk4_2 (c : Dev nD) (t : Fin cfg4.N) (r : Fin 256) (k : Fin 2048) :
    (iblk4 V c 2 t : Vec Ideal S256x2048 .f32) (ix2 r k)
      = (V c main_v20 : Vec Ideal S8192x6144 .f32) (ix2 (⟨t.val * 256 + r, by have := N4 t; omega⟩ : Fin 8192) (⟨4096 + k, by omega⟩ : Fin 6144)) := by
  obtain ⟨-, -, ⟨e0, e1⟩, -⟩ := idx4 t
  show V c main_v20 (((cfg4.win 2).blk t).view.emb (ix2 r k)) = _
  congr 1
  funext a; apply Fin.ext
  match a with
  | ⟨0, _⟩ => show win4_2.index t (0 : Fin 2) * 256 + 1 * r.val = t.val * 256 + r.val; omega
  | ⟨1, _⟩ => show win4_2.index t (1 : Fin 2) * 2048 + 1 * k.val = 4096 + k.val; omega

theorem emb4 (t : Fin cfg4.N) (r : Fin 256) (k : Fin 2048) :
    (((cfg4.win 3).blk t).view.emb (ix2 r k)) = ix2 (⟨t.val * 256 + r, by have := N4 t; omega⟩ : Fin 8192) k := by
  obtain ⟨-, -, -, e0, e1⟩ := idx4 t
  funext a; apply Fin.ext
  match a with
  | ⟨0, _⟩ => show win4_3.index t (0 : Fin 2) * 256 + 1 * r.val = t.val * 256 + r.val; omega
  | ⟨1, _⟩ => show win4_3.index t (1 : Fin 2) * 2048 + 1 * k.val = k.val; omega

theorem flushed4 (c : Dev nD) (t : Fin cfg4.N) :
    (dat4 V c).flushed 3 t = ((cfg4.win 3).blk t).view.read (Elt Ideal) (attnAll (V c main_v20)) := by
  show (cfg4.win 3).cut (grid4.coords t) ((dat4 V c).after 3 t) = _
  rw [after4_3, out_block]
  funext j
  show seqOut _ _ _ j = attnAll _ (((cfg4.win 3).blk t).view.emb j)
  idx_vars j
  refine Eq.trans ?_ (congrArg _ (emb4 t j0 j1).symm)
  unfold seqOut attnAll
  have ht := N4 t
  have hd (b : Fin 256) : (⟨(t.val * 256 + j0.val) / 256 * 256 + b, by omega⟩ : Fin 8192) = ⟨t.val * 256 + b, by omega⟩ :=
    Fin.ext (by show (t.val * 256 + j0.val) / 256 * 256 + b.val = t.val * 256 + b.val; omega)
  show mixed (score (fun e => (iblk4 V c 0 t : Vec Ideal S256x2048 .f32) (ix2 j0 (headCol j1 e))) (fun b e => (iblk4 V c 1 t : Vec Ideal S256x2048 .f32) (ix2 b (headCol j1 e))))
      (fun b => (iblk4 V c 2 t : Vec Ideal S256x2048 .f32) (ix2 b j1))
    = mixed (score _ (fun b e => (V c main_v20 : Vec Ideal S8192x6144 .f32)
        (ix2 (⟨(t.val * 256 + j0.val) / 256 * 256 + b, by omega⟩ : Fin 8192) (⟨2048 + headCol j1 e, by omega⟩ : Fin 6144))))
      (fun b => (V c main_v20 : Vec Ideal S8192x6144 .f32) (ix2 (⟨(t.val * 256 + j0.val) / 256 * 256 + b, by omega⟩ : Fin 8192) (⟨4096 + j1.val, by omega⟩ : Fin 6144)))
  simp only [blk4_0, blk4_1, blk4_2, hd]
  rfl

theorem covered4 (i : S8192x2048.Idx) :
    ∃ t : Fin cfg4.N, (cfg4.win 3).flush t = true ∧ i ∈ ((cfg4.win 3).blk t).view.set := by
  idx_vars i
  have h1 : i0.val / 256 < cfg4.N := by show _ < 32; omega
  refine ⟨⟨_, h1⟩, flush4_3 _, ?_⟩
  have h := ((cfg4.win 3).blk (⟨_, h1⟩ : Fin cfg4.N)).view.emb_mem_set (ix2 (⟨i0.val % 256, by omega⟩ : Fin 256) i1)
  rw [emb4] at h
  have e : (⟨i0.val / 256 * 256 + i0.val % 256, by omega⟩ : Fin 8192) = i0 := Fin.ext (by show i0.val / 256 * 256 + i0.val % 256 = i0.val; omega)
  exact (congrArg (fun r => (ix2 r i1 : S8192x2048.Idx) ∈ ((cfg4.win 3).blk (⟨_, h1⟩ : Fin cfg4.N)).view.set) e).mp h

/-- The attention's array after its call. -/
theorem final4 (c : Dev nD) : (dat4 V c).arrAt 3 cfg4.N = attnAll (V c main_v20) :=
  (dat4 V c).arrAt_eq_of_cover 3 _ (fun t _ => flushed4 V c t) covered4

end Cert.ProjectionsIdeal.Proj
end
-- ==== Proof.ProjHost.lean ====
module

public import proofs.«01_k».proof.Proof.ProjAttn
public import Idealize.ShloMosaic.Lib.Routing.OpsOne
public import Idealize.ShloMosaic.Lib.Routing.OpsSet

/-! The projections' results, read through the five calls and the host operations between them. -/

@[expose] public section
set_option maxRecDepth 16384
noncomputable section
namespace Cert.ProjectionsIdeal.Proj
open Cert.ProjectionsIdeal Cert.ProjectionsIdeal.Gen Idealize.ShloMosaic Idealize.ShloMosaic.TcCoe Idealize.SL.Sem Idealize.ShloMosaic.Routing

/-! ## The results as functions of the arguments -/

/-- The modulation of the context condition: entry `j` of the six parts laid side by side. -/
def md (a2 : Vec Ideal S4096 .f32) (a3 : Vec Ideal S1x4096x24576 .f32) (a4 : Vec Ideal S1x24576 .f32) (j : Fin 24576) : EReal :=
  modRow (fun k => a2 (ix1 k)) (fun k => a3 (ix3 0 k j)) (a4 (ix2 0 j))

/-- Entry `j` of the normalised and modulated token `t` of sequence `s`. -/
def tok (a0 : Vec Ideal S32x256x4096 .f32) (a2 : Vec Ideal S4096 .f32) (a3 : Vec Ideal S1x4096x24576 .f32) (a4 : Vec Ideal S1x24576 .f32)
    (a5 : Vec Ideal S1x4096 .f32) (s : Fin 32) (t : Fin 256) (j : Fin 4096) : EReal :=
  normed (fun k => a0 (ix3 s t k)) j (a5 (ix2 0 j)) (md a2 a3 a4 ⟨4096 + j, by omega⟩) (md a2 a3 a4 ⟨j, by omega⟩)

/-- Its projection on column `e` of the weights. -/
def proj (a0 : Vec Ideal S32x256x4096 .f32) (a2 : Vec Ideal S4096 .f32) (a3 : Vec Ideal S1x4096x24576 .f32) (a4 : Vec Ideal S1x24576 .f32)
    (a5 : Vec Ideal S1x4096 .f32) (a6 : Vec Ideal S1x4096x20928 .f32) (s : Fin 32) (t : Fin 256) (e : Fin 20928) : EReal :=
  ∑ k : Fin 4096, tok a0 a2 a3 a4 a5 s t k * a6 (ix3 0 k e)

/-- The projections on the 2048 columns from `o`, a head's 128 columns together. -/
def headsAll (o : ℕ) (ho : o + 2048 ≤ 20928) (a0 : Vec Ideal S32x256x4096 .f32) (a2 : Vec Ideal S4096 .f32) (a3 : Vec Ideal S1x4096x24576 .f32)
    (a4 : Vec Ideal S1x24576 .f32) (a5 : Vec Ideal S1x4096 .f32) (a6 : Vec Ideal S1x4096x20928 .f32) : Vec Ideal S32x1x256x16x128 .f32 :=
  fun i => proj a0 a2 a3 a4 a5 a6 (i 0) (i 2) ⟨o + ((i 3).val * 128 + (i 4).val), by
    have h3 : (i 3).val < 16 := (i 3).isLt; have h4 : (i 4).val < 128 := (i 4).isLt; omega⟩

/-- The projections on the last 8192 columns. -/
def gatesAll (a0 : Vec Ideal S32x256x4096 .f32) (a2 : Vec Ideal S4096 .f32) (a3 : Vec Ideal S1x4096x24576 .f32)
    (a4 : Vec Ideal S1x24576 .f32) (a5 : Vec Ideal S1x4096 .f32) (a6 : Vec Ideal S1x4096x20928 .f32) : Vec Ideal S8192x8192 .f32 :=
  fun i => proj a0 a2 a3 a4 a5 a6 ⟨(i 0).val / 256, by have h : (i 0).val < 8192 := (i 0).isLt; omega⟩ ⟨(i 0).val % 256, by omega⟩
    ⟨12736 + (i 1).val, by have h : (i 1).val < 8192 := (i 1).isLt; omega⟩

/-- The attention of every sequence over its own tokens: each head's queries, keys and values are 128 columns of the projections. -/
def attendedAll (a0 : Vec Ideal S32x256x4096 .f32) (a2 : Vec Ideal S4096 .f32) (a3 : Vec Ideal S1x4096x24576 .f32)
    (a4 : Vec Ideal S1x24576 .f32) (a5 : Vec Ideal S1x4096 .f32) (a6 : Vec Ideal S1x4096x20928 .f32) : Vec Ideal S8192x2048 .bf16 :=
  fun i => mixed
    (score (fun e => proj a0 a2 a3 a4 a5 a6 ⟨(i 0).val / 256, by have h : (i 0).val < 8192 := (i 0).isLt; omega⟩ ⟨(i 0).val % 256, by omega⟩ ⟨headCol (i 1) e, by omega⟩)
      (fun b e => proj a0 a2 a3 a4 a5 a6 ⟨(i 0).val / 256, by have h : (i 0).val < 8192 := (i 0).isLt; omega⟩ b ⟨2048 + headCol (i 1) e, by omega⟩))
    (fun b => proj a0 a2 a3 a4 a5 a6 ⟨(i 0).val / 256, by have h : (i 0).val < 8192 := (i 0).isLt; omega⟩ b
      ⟨4096 + (i 1).val, by have h : (i 1).val < 2048 := (i 1).isLt; omega⟩)

/-! ## A row written into a table -/

/-- Entry `j` of the row lands at row `k`, column `j`, where `k` is the one index word. -/
theorem lands_at {A N : ℕ} (d : ScatterDims (shape2 A N) (shape1 1) (shape1 N)) (hiw : d.insertedWindowDims = [0]) (hsd : d.scatterDimsToOperandDims = [0])
    (idx : IVec (shape1 1) 32) (k : Fin A) (hidx : (idx (ix1 0)).toInt = (k.val : Int)) (j : Fin N) (r : Fin A) (e : Fin N) :
    d.resultIdx? (ix1 j) idx = some (ix2 r e) ↔ r = k ∧ j = e := by
  have hm : (0 : Fin 2) ∈ d.scatterDimsToOperandDims := by rw [hsd]; exact List.mem_singleton.2 rfl
  have hkept : d.sKept = [1] := by
    show (shape2 A N).kept d.insertedWindowDims = _
    rw [hiw]
    rfl
  have w0 : d.window (ix1 j) 0 = 0 := by
    unfold ScatterDims.window
    rw [dif_neg fun h => (of_decide_eq_true (List.mem_filter.1 h).2) (by rw [hiw]; exact List.mem_singleton.2 rfl)]
  have w1 : d.window (ix1 j) 1 = j.val := by
    unfold ScatterDims.window
    rw [dif_pos (by rw [hkept]; exact List.mem_singleton.2 rfl)]
    have q : ∀ X : Fin 1, (ix1 j X).val = j.val := fun X => by
      obtain rfl : X = 0 := Subsingleton.elim _ _
      rfl
    exact q _
  have s1 : d.start (ix1 j) idx 1 = 0 := by
    unfold ScatterDims.start
    rw [dif_neg fun h => by rw [hsd] at h; exact absurd (List.mem_singleton.1 h) (by decide : (1 : Fin 2) ≠ 0)]
  have s0 : d.start (ix1 j) idx 0 = (k.val : Int) := by
    unfold ScatterDims.start
    rw [dif_pos hm]
    have hsi : d.siIdx (ix1 j) ⟨d.scatterDimsToOperandDims.idxOf 0, List.idxOf_lt_length_iff.2 hm⟩ = ix1 (0 : Fin 1) := by
      funext b
      match b with
      | ⟨0, _⟩ => exact Subsingleton.elim (α := Fin 1) _ _
    rw [hsi, hidx]
  refine (resultIdx?_ix2 d (ix1 j) idx r e).trans ?_
  rw [Fin.ext_iff, Fin.ext_iff, s0, w0, s1, w1]
  omega

/-- Row `k` of the table after a row is written there. -/
theorem row_written {α : Type} {A N : ℕ} (d : ScatterDims (shape2 A N) (shape1 1) (shape1 N)) (hiw : d.insertedWindowDims = [0]) (hsd : d.scatterDimsToOperandDims = [0])
    (x : (shape2 A N).Idx → α) (idx : IVec (shape1 1) 32) (u : (shape1 N).Idx → α) (k : Fin A) (hidx : (idx (ix1 0)).toInt = (k.val : Int)) (e : Fin N) :
    Host.scatter d (fun _ b => b) x idx u (ix2 k e) = u (ix1 e) :=
  scatter_set_hit d x idx u _ _ (fun j hj => (congrArg u (eq_ix1 j)).trans (congrArg (fun t => u (ix1 t))
      ((lands_at d hiw hsd idx k hidx (j 0) k e).1 ((congrArg (fun t => d.resultIdx? t idx) (eq_ix1 j).symm).trans hj)).2))
    (ix1 e) ((lands_at d hiw hsd idx k hidx e k e).2 ⟨rfl, rfl⟩)

variable (m : (ℓ : Loc nD τ sig) → Buf (Elt Ideal) ℓ) (ρ : Dev nD → PrngReg)

/-- An argument array as launched. -/
abbrev arg0 (c : Dev nD) : Vec Ideal S32x256x4096 .f32 := m ((c : Thread nD τ).loc main_arg0)
abbrev arg2 (c : Dev nD) : Vec Ideal S4096 .f32 := m ((c : Thread nD τ).loc main_arg2)
abbrev arg3 (c : Dev nD) : Vec Ideal S1x4096x24576 .f32 := m ((c : Thread nD τ).loc main_arg3)
abbrev arg4 (c : Dev nD) : Vec Ideal S1x24576 .f32 := m ((c : Thread nD τ).loc main_arg4)
abbrev arg5 (c : Dev nD) : Vec Ideal S1x4096 .f32 := m ((c : Thread nD τ).loc main_arg5)
abbrev arg6 (c : Dev nD) : Vec Ideal S1x4096x20928 .f32 := m ((c : Thread nD τ).loc main_arg6)

/-! ## Before the first call -/

theorem cond_row (c : Dev nD) (k : Fin 4096) : (V1 m ρ c main_v5 : Vec Ideal S16x4096 .f32) (ix2 8 k) = arg2 m c (ix1 k) := by
  show StableHlo.after hostOps0 (W0 m ρ c) main_v5 (ix2 8 k) = _
  simp only [hostOps0]
  after_results
  exact row_written (A := 16) (N := 4096) scatter_S16x4096_S1_S4096_0_0_0_0 rfl rfl _ _ _ (8 : Fin 16) (by decide) k

theorem mod_weights (c : Dev nD) (k : Fin 4096) (e : Fin 24576) :
    (V1 m ρ c main_v6 : Vec Ideal S4096x24576 .f32) (ix2 k e) = arg3 m c (ix3 0 k e) := by
  show StableHlo.after hostOps0 (W0 m ρ c) main_v6 (ix2 k e) = _
  simp only [hostOps0]
  after_results
  pointwise

theorem mod_bias (c : Dev nD) (e : Fin 24576) : (V1 m ρ c main_v8 : Vec Ideal S1x24576 .f32) (ix2 0 e) = arg4 m c (ix2 0 e) := by
  show StableHlo.after hostOps0 (W0 m ρ c) main_v8 (ix2 0 e) = _
  simp only [hostOps0]
  after_results
  pointwise

theorem tokens (c : Dev nD) (r : Fin 8192) (k : Fin 4096) : (V1 m ρ c main_v0 : Vec Ideal S8192x4096 .f32) (ix2 r k)
    = arg0 m c (ix3 (⟨r.val / 256, by omega⟩ : Fin 32) (⟨r.val % 256, by omega⟩ : Fin 256) k) := by
  show StableHlo.after hostOps0 (W0 m ρ c) main_v0 (ix2 r k) = _
  simp only [hostOps0]
  after_results
  pointwise

/-! ## Between the first call and the second -/

theorem table (c : Dev nD) : W2 m ρ c main_v9 = modAll (V1 m ρ c main_v5) (V1 m ρ c main_v6) (V1 m ρ c main_v8) :=
  (W2_arr m ρ c 3).trans (final0 (V1 m ρ) c)

theorem table_row (c : Dev nD) (e : Fin 24576) :
    (W2 m ρ c main_v9 : Vec Ideal S16x24576 .f32) (ix2 8 e) = md (arg2 m c) (arg3 m c) (arg4 m c) e := by
  rw [table]
  show modRow _ _ _ = modRow _ _ _
  congr 1
  · funext k; exact cond_row m ρ c k
  · funext k; exact mod_weights m ρ c k e
  · exact mod_bias m ρ c e

theorem shift_row (c : Dev nD) (k : Fin 4096) : (V3 m ρ c main_v10 : Vec Ideal S96x1x4096 .f32) (ix3 48 0 k)
    = md (arg2 m c) (arg3 m c) (arg4 m c) ⟨k, by omega⟩ := by
  rw [← table_row m ρ]
  show StableHlo.after hostOps1 (W2 m ρ c) main_v10 (ix3 48 0 k) = _
  simp only [hostOps1]
  after_results
  pointwise

theorem scale_row (c : Dev nD) (k : Fin 4096) : (V3 m ρ c main_v10 : Vec Ideal S96x1x4096 .f32) (ix3 49 0 k)
    = md (arg2 m c) (arg3 m c) (arg4 m c) ⟨4096 + k, by omega⟩ := by
  rw [← table_row m ρ]
  show StableHlo.after hostOps1 (W2 m ρ c) main_v10 (ix3 49 0 k) = _
  simp only [hostOps1]
  after_results
  pointwise

theorem attn_weights (c : Dev nD) (k : Fin 4096) (e : Fin 6144) : (V3 m ρ c main_v13 : Vec Ideal S4096x6144 .bf16) (ix2 k e)
    = arg6 m c (ix3 0 k (⟨e, by omega⟩ : Fin 20928)) := by
  rw [show arg6 m c = W2 m ρ c main_arg6 from (W2_args m ρ c main_arg6 (by decide)).symm]
  show StableHlo.after hostOps1 (W2 m ρ c) main_v13 (ix2 k e) = _
  simp only [hostOps1]
  after_results
  pointwise

theorem gate_weights (c : Dev nD) (k : Fin 4096) (e : Fin 8192) : (V3 m ρ c main_v16 : Vec Ideal S4096x8192 .bf16) (ix2 k e)
    = arg6 m c (ix3 0 k (⟨12736 + e, by omega⟩ : Fin 20928)) := by
  rw [show arg6 m c = W2 m ρ c main_arg6 from (W2_args m ρ c main_arg6 (by decide)).symm]
  show StableHlo.after hostOps1 (W2 m ρ c) main_v16 (ix2 k e) = _
  simp only [hostOps1]
  after_results
  pointwise

theorem norm_weights (c : Dev nD) (k : Fin 4096) : (V3 m ρ c main_v18 : Vec Ideal S1x4096 .f32) (ix2 0 k) = arg5 m c (ix2 0 k) := by
  rw [show arg5 m c = W2 m ρ c main_arg5 from (W2_args m ρ c main_arg5 (by decide)).symm]
  show StableHlo.after hostOps1 (W2 m ρ c) main_v18 (ix2 0 k) = _
  simp only [hostOps1]
  after_results
  pointwise

theorem tokens_kept (c : Dev nD) : V3 m ρ c main_v0 = V1 m ρ c main_v0 :=
  (W3_of m ρ c main_v0 (by decide)).trans (W2_of m ρ c main_v0 (by decide))

/-! ## The second call and the two products -/

theorem normal (c : Dev nD) (r : Fin 8192) (k : Fin 4096) : (V4 m ρ c main_v19 : Vec Ideal S8192x4096 .bf16) (ix2 r k)
    = tok (arg0 m c) (arg2 m c) (arg3 m c) (arg4 m c) (arg5 m c) ⟨r.val / 256, by omega⟩ ⟨r.val % 256, by omega⟩ k := by
  rw [show V4 m ρ c main_v19 = normAll (V3 m ρ c main_v0) (V3 m ρ c main_v18) (V3 m ρ c main_v10) from
    (W4_arr m ρ c 4).trans (final1 (V3 m ρ) c), tokens_kept]
  show normed _ _ _ _ _ = normed _ _ _ _ _
  congr 1
  · funext j; exact tokens m ρ c r j
  · exact norm_weights m ρ c k
  · exact scale_row m ρ c k
  · exact shift_row m ρ c k

theorem normal_kept (c : Dev nD) : V5 m ρ c main_v19 = V4 m ρ c main_v19 := W5_of m ρ c main_v19 (by decide)

/-- A token's projection on a column, from the weights the calls read. -/
theorem product (c : Dev nD) (r : Fin 8192) (w : Fin 4096 → EReal) (e : Fin 20928) (hw : ∀ k, w k = arg6 m c (ix3 0 k e))
    (x : Vec Ideal S8192x4096 .bf16) (hx : x = V4 m ρ c main_v19) :
    ∑ k : Fin 4096, x (ix2 r k) * w k
      = proj (arg0 m c) (arg2 m c) (arg3 m c) (arg4 m c) (arg5 m c) (arg6 m c) ⟨r.val / 256, by omega⟩ ⟨r.val % 256, by omega⟩ e := by
  subst hx
  exact Finset.sum_congr rfl fun k _ => congrArg₂ (· * ·) (normal m ρ c r k) (hw k)

theorem qkv (c : Dev nD) (r : Fin 8192) (e : Fin 6144) : (W6 m ρ c main_v20 : Vec Ideal S8192x6144 .f32) (ix2 r e)
    = proj (arg0 m c) (arg2 m c) (arg3 m c) (arg4 m c) (arg5 m c) (arg6 m c) ⟨r.val / 256, by omega⟩ ⟨r.val % 256, by omega⟩ ⟨e, by omega⟩ := by
  rw [show W6 m ρ c main_v20 = mulAll (n := 6144) (V4 m ρ c main_v19) (V4 m ρ c main_v13) from
    (W6_of m ρ c main_v20 (by decide)).trans ((W5_arr m ρ c 2).trans (final2 (V4 m ρ) c))]
  refine product m ρ c r _ _ (fun k => ?_) _ rfl
  rw [show V4 m ρ c main_v13 = V3 m ρ c main_v13 from W4_of m ρ c main_v13 (by decide)]
  exact attn_weights m ρ c k e

theorem gates (c : Dev nD) (r : Fin 8192) (e : Fin 8192) : (W6 m ρ c main_v21 : Vec Ideal S8192x8192 .f32) (ix2 r e)
    = proj (arg0 m c) (arg2 m c) (arg3 m c) (arg4 m c) (arg5 m c) (arg6 m c) ⟨r.val / 256, by omega⟩ ⟨r.val % 256, by omega⟩ ⟨12736 + e, by omega⟩ := by
  rw [show W6 m ρ c main_v21 = mulAll (n := 8192) (V4 m ρ c main_v19) (V5 m ρ c main_v16) from
    ((W6_arr m ρ c 2).trans (final3 (V5 m ρ) c)).trans (by rw [normal_kept])]
  refine product m ρ c r _ _ (fun k => ?_) _ rfl
  rw [show V5 m ρ c main_v16 = V3 m ρ c main_v16 from (W5_of m ρ c main_v16 (by decide)).trans (W4_of m ρ c main_v16 (by decide))]
  exact gate_weights m ρ c k e

/-! ## The four results -/

/-- The attention's call leaves what the projections hold. -/
theorem qkv_kept (c : Dev nD) : W7 m ρ c main_v20 = W6 m ρ c main_v20 := W7_of m ρ c main_v20 (by decide)

theorem result_attended (c : Dev nD) : W8 m ρ c main_v22
    = attendedAll (arg0 m c) (arg2 m c) (arg3 m c) (arg4 m c) (arg5 m c) (arg6 m c) := by
  rw [show W8 m ρ c main_v22 = attnAll (V6 m ρ c main_v20) from
    (W8_of m ρ c main_v22 (by decide)).trans ((W7_arr m ρ c 3).trans (final4 (V6 m ρ) c))]
  funext i
  idx_vars i
  have hs (b : Fin 256) (e : Fin 6144) : (W6 m ρ c main_v20 : Vec Ideal S8192x6144 .f32) (ix2 (⟨i0.val / 256 * 256 + b, by omega⟩ : Fin 8192) e)
      = proj (arg0 m c) (arg2 m c) (arg3 m c) (arg4 m c) (arg5 m c) (arg6 m c) ⟨i0.val / 256, by omega⟩ b ⟨e, by omega⟩ := by
    refine (qkv m ρ c _ e).trans ?_
    refine congrArg₂ (fun s t => proj _ _ _ _ _ _ s t _) (Fin.ext ?_) (Fin.ext ?_)
    · show (i0.val / 256 * 256 + b.val) / 256 = i0.val / 256; omega
    · show (i0.val / 256 * 256 + b.val) % 256 = b.val; omega
  exact congrArg₂ mixed
    (congrArg₂ score (funext fun e => qkv m ρ c i0 (⟨headCol i1 e, by omega⟩ : Fin 6144)) (funext fun b => funext fun e => hs b (⟨2048 + headCol i1 e, by omega⟩ : Fin 6144)))
    (funext fun b => hs b (⟨4096 + i1.val, by omega⟩ : Fin 6144))

theorem result_gates (c : Dev nD) : W8 m ρ c main_v21
    = gatesAll (arg0 m c) (arg2 m c) (arg3 m c) (arg4 m c) (arg5 m c) (arg6 m c) := by
  refine ((W8_of m ρ c main_v21 (by decide)).trans (W7_of m ρ c main_v21 (by decide))).trans ?_
  funext i
  idx_vars i
  exact gates m ρ c i0 i1

theorem result_keys (c : Dev nD) : W8 m ρ c main_v27
    = headsAll 2048 (by decide) (arg0 m c) (arg2 m c) (arg3 m c) (arg4 m c) (arg5 m c) (arg6 m c) := by
  funext i
  idx_vars i
  have h : W8 m ρ c main_v27 (ix5 i0 i1 i2 i3 i4)
      = (W6 m ρ c main_v20 : Vec Ideal S8192x6144 .f32) (ix2 (⟨i0.val * 256 + i2.val, by omega⟩ : Fin 8192) (⟨2048 + (i3.val * 128 + i4.val), by omega⟩ : Fin 6144)) := by
    rw [← qkv_kept m ρ c]
    show StableHlo.after hostOps5 (W7 m ρ c) main_v27 _ = _
    simp only [hostOps5]
    after_results
    pointwise
  refine h.trans ((qkv m ρ c _ _).trans ?_)
  refine congrArg₂ (fun s t => proj _ _ _ _ _ _ s t _) (Fin.ext ?_) (Fin.ext ?_)
  · show (i0.val * 256 + i2.val) / 256 = i0.val; omega
  · show (i0.val * 256 + i2.val) % 256 = i2.val; omega

theorem result_values (c : Dev nD) : W8 m ρ c main_v28
    = headsAll 4096 (by decide) (arg0 m c) (arg2 m c) (arg3 m c) (arg4 m c) (arg5 m c) (arg6 m c) := by
  funext i
  idx_vars i
  have h : W8 m ρ c main_v28 (ix5 i0 i1 i2 i3 i4)
      = (W6 m ρ c main_v20 : Vec Ideal S8192x6144 .f32) (ix2 (⟨i0.val * 256 + i2.val, by omega⟩ : Fin 8192) (⟨4096 + (i3.val * 128 + i4.val), by omega⟩ : Fin 6144)) := by
    rw [← qkv_kept m ρ c]
    show StableHlo.after hostOps5 (W7 m ρ c) main_v28 _ = _
    simp only [hostOps5]
    after_results
    pointwise
  refine h.trans ((qkv m ρ c _ _).trans ?_)
  refine congrArg₂ (fun s t => proj _ _ _ _ _ _ s t _) (Fin.ext ?_) (Fin.ext ?_)
  · show (i0.val * 256 + i2.val) / 256 = i0.val; omega
  · show (i0.val * 256 + i2.val) % 256 = i2.val; omega

end Cert.ProjectionsIdeal.Proj
end
-- ==== Proof.ProjRef.lean ====
module

public import proofs.«01_k».proof.Proof.ProjHost
public import proofs.«01_k».proof.Proof.Gen.ProjectionsReferenceIdeal.Run
public import proofs.«01_k».proof.Proof.Gen.ProjectionsReferenceIdeal.Read

/-! The projections of the reference are the same functions of the arguments. -/

@[expose] public section
set_option maxRecDepth 16384
noncomputable section
namespace Cert.ProjectionsReferenceIdeal.Proj
open Cert.ProjectionsReferenceIdeal Cert.ProjectionsReferenceIdeal.Read Idealize.ShloMosaic
open Cert.ProjectionsIdeal.Proj (silu modRow md normed tok proj headsAll gatesAll score raised mixed headCol attendedAll neg_inf)

variable (a0 : Vec Ideal S32x256x4096 .f32) (a2 : Vec Ideal S4096 .f32) (a3 : Vec Ideal S1x4096x24576 .f32)
  (a4 : Vec Ideal S1x24576 .f32) (a5 : Vec Ideal S1x4096 .f32) (a6 : Vec Ideal S1x4096x20928 .f32)

theorem silu_eq (k : Fin 4096) : val_main_v0 (F := Ideal) a2 (ix1 k) = silu (a2 (ix1 k)) := by
  unfold val_main_v0 val_main_call0_v5 val_main_call0_v4 val_main_call0_v3 val_main_call0_v2 val_main_call0_v1 val_main_call0_v0 val_main_call0_cst val_main_call0_cst_0 silu
  rw [zero_sub]
  pointwise

theorem md_eq (j : Fin 24576) : val_main_v4 (F := Ideal) a2 a3 a4 (ix1 j) = md a2 a3 a4 j := by
  unfold md modRow
  simp only [← silu_eq a2]
  unfold val_main_v4 val_main_v3 val_main_v2 val_main_v1
  generalize val_main_v0 (F := Ideal) a2 = y
  pointwise

theorem shift_eq (k : Fin 4096) : val_main_v6 (F := Ideal) a2 a3 a4 (ix2 0 k) = md a2 a3 a4 ⟨k, by omega⟩ := by
  rw [← md_eq]
  unfold val_main_v6 val_main_v5
  generalize val_main_v4 (F := Ideal) a2 a3 a4 = y
  pointwise

theorem scale_eq (k : Fin 4096) : val_main_v7 (F := Ideal) a2 a3 a4 (ix2 0 k) = md a2 a3 a4 ⟨4096 + k, by omega⟩ := by
  rw [← md_eq]
  unfold val_main_v7 val_main_v5
  generalize val_main_v4 (F := Ideal) a2 a3 a4 = y
  pointwise

theorem tok_eq (s : Fin 32) (t : Fin 256) (j : Fin 4096) :
    val_main_v33 (F := Ideal) a0 a2 a3 a4 a5 (ix3 s t j) = tok a0 a2 a3 a4 a5 s t j := by
  unfold tok normed
  rw [← shift_eq, ← scale_eq]
  unfold val_main_v33 val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v15 val_main_v14 val_main_v13 val_main_v12
    val_main_cst val_main_cst_0 val_main_cst_1 val_main_cst_2
  generalize val_main_v6 (F := Ideal) a2 a3 a4 = sh
  generalize val_main_v7 (F := Ideal) a2 a3 a4 = sc
  pointwise

theorem proj_eq (s : Fin 32) (t : Fin 256) (e : Fin 20928) :
    val_main_v35 (F := Ideal) a0 a2 a3 a4 a5 a6 (ix3 s t e) = proj a0 a2 a3 a4 a5 a6 s t e := by
  unfold proj
  simp only [← tok_eq]
  unfold val_main_v35 val_main_v34
  generalize val_main_v33 (F := Ideal) a0 a2 a3 a4 a5 = y
  pointwise

/-- A head's queries, keys and values. -/
theorem query_eq (s : Fin 32) (t : Fin 256) (h : Fin 16) (e : Fin 128) : val_main_v41 (F := Ideal) a0 a2 a3 a4 a5 a6 (ix4 s t h e)
    = proj a0 a2 a3 a4 a5 a6 s t (⟨h.val * 128 + e.val, by omega⟩ : Fin 20928) := by
  rw [← proj_eq]
  unfold val_main_v41 val_main_v38 val_main_v36
  generalize val_main_v35 (F := Ideal) a0 a2 a3 a4 a5 a6 = y
  pointwise

theorem key_eq (s : Fin 32) (t : Fin 256) (h : Fin 16) (e : Fin 128) : val_main_v42 (F := Ideal) a0 a2 a3 a4 a5 a6 (ix4 s t h e)
    = proj a0 a2 a3 a4 a5 a6 s t (⟨2048 + (h.val * 128 + e.val), by omega⟩ : Fin 20928) := by
  rw [← proj_eq]
  unfold val_main_v42 val_main_v39 val_main_v36
  generalize val_main_v35 (F := Ideal) a0 a2 a3 a4 a5 a6 = y
  pointwise

theorem value_eq (s : Fin 32) (t : Fin 256) (h : Fin 16) (e : Fin 128) : val_main_v43 (F := Ideal) a0 a2 a3 a4 a5 a6 (ix4 s t h e)
    = proj a0 a2 a3 a4 a5 a6 s t (⟨4096 + (h.val * 128 + e.val), by omega⟩ : Fin 20928) := by
  rw [← proj_eq]
  unfold val_main_v43 val_main_v40 val_main_v36
  generalize val_main_v35 (F := Ideal) a0 a2 a3 a4 a5 a6 = y
  pointwise

/-- The scores of a query, from the head's queries and keys. -/
theorem score_eq (s : Fin 32) (h : Fin 16) (t b : Fin 256) : val_main_v46 (F := Ideal) a0 a2 a3 a4 a5 a6 (ix4 s h t b)
    = score (fun e => val_main_v41 (F := Ideal) a0 a2 a3 a4 a5 a6 (ix4 s t h e)) (fun b e => val_main_v42 (F := Ideal) a0 a2 a3 a4 a5 a6 (ix4 s b h e)) b := by
  unfold val_main_v46 val_main_v45 val_main_v44 val_main_cst_3 score
  generalize val_main_v41 (F := Ideal) a0 a2 a3 a4 a5 a6 = q
  generalize val_main_v42 (F := Ideal) a0 a2 a3 a4 a5 a6 = k
  pointwise

/-- The greatest score of a query. -/
theorem peak_eq (s : Fin 32) (h : Fin 16) (t : Fin 256) : val_main_v49 (F := Ideal) a0 a2 a3 a4 a5 a6 (ix3 s h t)
    = Attn.rowMax (fun b : Fin 256 => val_main_v46 (F := Ideal) a0 a2 a3 a4 a5 a6 (ix4 s h t b)) := by
  have e1 : (val_main_v48 (F := Ideal) : Vec Ideal S32x16x256 .f32) (ix3 s h t) = (⊥ : EReal) := by
    unfold val_main_v48; pointwise; exact neg_inf
  have e2 : (val_main_v47 (F := Ideal) a0 a2 a3 a4 a5 a6 : Vec Ideal S32x16x256 .f32) (ix3 s h t)
      = Attn.rowMax (fun b : Fin 256 => val_main_v46 (F := Ideal) a0 a2 a3 a4 a5 a6 (ix4 s h t b)) := by
    unfold val_main_v47 val_main_cst_4
    generalize (val_main_v46 (F := Ideal) a0 a2 a3 a4 a5 a6 : Vec Ideal S32x16x256x256 .f32) = y
    pointwise
    rw [neg_inf]
    rfl
  rw [val_main_v49_apply, e1, e2]
  exact max_eq_right bot_le

theorem raised_eq (s : Fin 32) (h : Fin 16) (t b : Fin 256) : val_main_v53 (F := Ideal) a0 a2 a3 a4 a5 a6 (ix4 s h t b)
    = raised (fun b : Fin 256 => val_main_v46 (F := Ideal) a0 a2 a3 a4 a5 a6 (ix4 s h t b)) b := by
  unfold raised
  rw [← peak_eq]
  unfold val_main_v53 val_main_v52 val_main_v51 val_main_v50
  generalize val_main_v49 (F := Ideal) a0 a2 a3 a4 a5 a6 = p
  generalize val_main_v46 (F := Ideal) a0 a2 a3 a4 a5 a6 = y
  pointwise

theorem weight_eq (s : Fin 32) (h : Fin 16) (t b : Fin 256) : val_main_v57 (F := Ideal) a0 a2 a3 a4 a5 a6 (ix4 s h t b)
    = Ideal.div (val_main_v53 (F := Ideal) a0 a2 a3 a4 a5 a6 (ix4 s h t b))
        (∑ a : Fin 256, val_main_v53 (F := Ideal) a0 a2 a3 a4 a5 a6 (ix4 s h t a)) := by
  unfold val_main_v57 val_main_v56 val_main_v55 val_main_v54 val_main_cst_6
  generalize val_main_v53 (F := Ideal) a0 a2 a3 a4 a5 a6 = y
  pointwise

theorem attended_at (i0 : Fin 8192) (i1 : Fin 2048) : val_main_v61 (F := Ideal) a0 a2 a3 a4 a5 a6 (ix2 i0 i1)
    = ∑ b : Fin 256, val_main_v57 (F := Ideal) a0 a2 a3 a4 a5 a6 (ix4 (⟨i0.val / 256, by omega⟩ : Fin 32) (⟨i1.val / 128, by omega⟩ : Fin 16) (⟨i0.val % 256, by omega⟩ : Fin 256) b)
        * val_main_v43 (F := Ideal) a0 a2 a3 a4 a5 a6 (ix4 (⟨i0.val / 256, by omega⟩ : Fin 32) b (⟨i1.val / 128, by omega⟩ : Fin 16) (⟨i1.val % 128, by omega⟩ : Fin 128)) := by
  simp only [mul_comm (val_main_v57 (F := Ideal) a0 a2 a3 a4 a5 a6 _)]
  unfold val_main_v61 val_main_v60 val_main_v59 val_main_v58
  generalize val_main_v57 (F := Ideal) a0 a2 a3 a4 a5 a6 = p
  generalize val_main_v43 (F := Ideal) a0 a2 a3 a4 a5 a6 = v
  pointwise

theorem attended_eq : val_main_v61 (F := Ideal) a0 a2 a3 a4 a5 a6 = attendedAll a0 a2 a3 a4 a5 a6 := by
  funext i
  idx_vars i
  refine (attended_at a0 a2 a3 a4 a5 a6 i0 i1).trans ?_
  simp only [weight_eq, raised_eq, score_eq, query_eq, key_eq, value_eq]
  have hv (b : Fin 256) : proj a0 a2 a3 a4 a5 a6 (⟨i0.val / 256, by omega⟩ : Fin 32) b (⟨4096 + (i1.val / 128 * 128 + i1.val % 128), by omega⟩ : Fin 20928)
      = proj a0 a2 a3 a4 a5 a6 (⟨i0.val / 256, by omega⟩ : Fin 32) b (⟨4096 + i1.val, by omega⟩ : Fin 20928) :=
    congrArg (proj a0 a2 a3 a4 a5 a6 _ b) (Fin.ext (by show 4096 + (i1.val / 128 * 128 + i1.val % 128) = 4096 + i1.val; omega))
  simp only [hv]
  rfl

theorem keys_eq : val_main_v62 (F := Ideal) a0 a2 a3 a4 a5 a6 = headsAll 2048 (by decide) a0 a2 a3 a4 a5 a6 := by
  funext i
  idx_vars i
  show _ = proj a0 a2 a3 a4 a5 a6 i0 i2 (⟨2048 + (i3.val * 128 + i4.val), by omega⟩ : Fin 20928)
  rw [← proj_eq]
  unfold val_main_v62 val_main_v42 val_main_v39 val_main_v36
  generalize val_main_v35 (F := Ideal) a0 a2 a3 a4 a5 a6 = y
  pointwise

theorem values_eq : val_main_v63 (F := Ideal) a0 a2 a3 a4 a5 a6 = headsAll 4096 (by decide) a0 a2 a3 a4 a5 a6 := by
  funext i
  idx_vars i
  show _ = proj a0 a2 a3 a4 a5 a6 i0 i2 (⟨4096 + (i3.val * 128 + i4.val), by omega⟩ : Fin 20928)
  rw [← proj_eq]
  unfold val_main_v63 val_main_v43 val_main_v40 val_main_v36
  generalize val_main_v35 (F := Ideal) a0 a2 a3 a4 a5 a6 = y
  pointwise

theorem gates_eq : val_main_v64 (F := Ideal) a0 a2 a3 a4 a5 a6 = gatesAll a0 a2 a3 a4 a5 a6 := by
  funext i
  idx_vars i
  show _ = proj a0 a2 a3 a4 a5 a6 (⟨i0.val / 256, by omega⟩ : Fin 32) (⟨i0.val % 256, by omega⟩ : Fin 256) (⟨12736 + i1.val, by omega⟩ : Fin 20928)
  rw [← proj_eq]
  unfold val_main_v64 val_main_v37
  generalize val_main_v35 (F := Ideal) a0 a2 a3 a4 a5 a6 = y
  pointwise

end Cert.ProjectionsReferenceIdeal.Proj
end
-- ==== Proof.OutProj.lean ====
module

public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Chunks
public import Idealize.ShloMosaic.PureOps.Ideal
public import Idealize.ShloMosaic.Lib.Pointwise

/-! The output projection of the mixers: the product is accumulated over two chunks of the channels, then gated and added to the stream. -/

@[expose] public section
set_option maxRecDepth 16384
noncomputable section
namespace Cert.OutProjIdeal.Out
open Cert.OutProjIdeal Cert.OutProjIdeal.Gen Cert.Chunks Idealize.ShloMosaic Idealize.ShloMosaic.TcCoe Idealize.SL.Sem

theorem zero2 : (![0, 0] : Fin 2 → ℕ) = fun _ => 0 := by decide
theorem zero3 : (![0, 0, 0] : Fin 3 → ℕ) = fun _ => 0 := by decide

/-! ## The payloads -/

/-- A chunk's product. -/
def prod (x0 : Vec Ideal S1024x2048 .bf16) (x1 : Vec Ideal S2048x1024 .bf16) (r e : Fin 1024) : EReal :=
  ∑ k : Fin 2048, x0 (ix2 r k) * x1 (ix2 k e)

theorem pay2_apply (x0 : Vec Ideal S1024x2048 .bf16) (x1 : Vec Ideal S2048x1024 .bf16) (r e : Fin 1024) :
    k0_pay2 (F := Ideal) x0 x1 (ix2 r e) = prod x0 x1 r e := by
  unfold k0_pay2 k0_pay1 prod
  pointwise

theorem pay3_apply (x0 : Vec Ideal S1024x2048 .bf16) (x1 : Vec Ideal S2048x1024 .bf16) (acc : Vec Ideal S1024x1024 .f32) (r e : Fin 1024) :
    k0_pay3 (F := Ideal) x0 x1 acc (ix2 r e) = acc (ix2 r e) + prod x0 x1 r e := by
  unfold k0_pay3 k0_pay1 prod
  pointwise

theorem pay4_apply (x : Vec Ideal S1024x1024 .f32) (g : Vec Ideal S1x1x1024 .f32) (acc : Vec Ideal S1024x1024 .f32) (r e : Fin 1024) :
    k0_pay4 (F := Ideal) x g acc (ix2 r e) = x (ix2 r e) + g (ix3 0 0 e) * acc (ix2 r e) := by
  unfold k0_pay4
  pointwise

/-! ## What a point leaves -/

section Point
variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1024x1024 .f32) (harg8 : arg8.IsWhole)
  (x0 : Vec Ideal S1024x2048 .bf16) (x1 : Vec Ideal S2048x1024 .bf16) (x2 : Vec Ideal S1024x1024 .f32) (x3 : Vec Ideal S1x1x1024 .f32) (xs0 : Vec Ideal S1024x1024 .f32)

theorem first_acc (hc0 : cond0_0 i) (hc1 : ¬cond0_1 i) (hc2 : ¬cond0_2 i) :
    sout0_A_0 (F := Ideal) c i arg3 harg3 arg4 harg4 arg5 harg5 arg6 harg6 arg7 harg7 arg8 harg8 hc0 hc1 hc2 x0 x1 x2 x3 = k0_pay2 x0 x1 := by
  unfold sout0_A_0
  rw [View.read_writes_junk_eq_canon]
  unfold kernelRun0_A
  dsimp only
  sl_unfold_words
  simp only [View.readAt_eq_ld, harg3.read_unread, harg4.read_unread]
  rw [View.canon_unit_zero zero2, View.ld_unit_zero zero2, View.ld_unit_zero zero2]

theorem last_out (hc0 : ¬cond0_0 i) (hc1 : cond0_1 i) (hc2 : cond0_2 i) :
    out0_B_4 (F := Ideal) c i arg3 harg3 arg4 harg4 arg5 harg5 arg6 harg6 arg7 harg7 arg8 harg8 hc0 hc1 hc2 x0 x1 x2 x3 xs0 = k0_pay4 x2 x3 (k0_pay3 x0 x1 xs0) := by
  unfold out0_B_4
  rw [View.read_writes_junk_eq_canon]
  unfold kernelRun0_B
  dsimp only
  sl_unfold_words
  simp only [View.readAt_eq_ld, harg3.read_unread, harg4.read_unread, harg5.read_unread, harg6.read_unread, harg8.read_unread]
  rw [View.canon_unit_zero zero2, View.readCov_unit_zero _ zero2, View.ld_unit_zero zero2, View.ld_unit_zero zero3, View.ld_unit_zero zero2, View.ld_unit_zero zero2, View.ld_unit_zero zero2]
end Point

/-! ## The blocks -/

variable (m : (ℓ : Loc nD τ sig) → Buf (Elt Ideal) ℓ)

theorem idx_facts : ∀ t : Fin cfg0.N,
    (win0_0.index t (0 : Fin 2) = t.val / 8 ∧ win0_0.index t (1 : Fin 2) = t.val % 2)
    ∧ (win0_1.index t (0 : Fin 2) = t.val % 2 ∧ win0_1.index t (1 : Fin 2) = t.val / 2 % 4)
    ∧ (win0_2.index t (0 : Fin 2) = t.val / 8 ∧ win0_2.index t (1 : Fin 2) = t.val / 2 % 4)
    ∧ (win0_3.index t (0 : Fin 3) = t.val / 32 * 6 + 2 ∧ win0_3.index t (1 : Fin 3) = 0 ∧ win0_3.index t (2 : Fin 3) = t.val / 2 % 4)
    ∧ (win0_4.index t (0 : Fin 2) = t.val / 8 ∧ win0_4.index t (1 : Fin 2) = t.val / 2 % 4) :=
  (by decide +kernel : ∀ t : Fin grid0.N, _)

theorem N_lt (t : Fin cfg0.N) : t.val < 256 := t.isLt

/-- The row of a point's block. -/
def row (t : Fin cfg0.N) (r : Fin 1024) : Fin 32768 := ⟨t.val / 8 * 1024 + r, by have := N_lt t; omega⟩

/-- The column of a point's block. -/
def col (t : Fin cfg0.N) (e : Fin 1024) : Fin 4096 := ⟨t.val / 2 % 4 * 1024 + e, by omega⟩

theorem weights (c : Dev nD) (k : Fin 4096) (e : Fin 4096) :
    (V m c main_v1 : Vec Ideal S4096x4096 .bf16) (ix2 k e) = (m ((c : Thread nD τ).loc main_arg3) : Vec Ideal S1x4096x4096 .f32) (ix3 0 k e) := by
  unfold V
  simp only [hostOps0, List.flatten_cons, List.flatten_nil, List.append_nil, List.cons_append, List.nil_append]
  after_results
  pointwise

theorem blk0 (c : Dev nD) (t : Fin cfg0.N) (r : Fin 1024) (k : Fin 2048) :
    (iblk m c 0 t : Vec Ideal S1024x2048 .bf16) (ix2 r k)
      = (m ((c : Thread nD τ).loc main_arg0) : Vec Ideal S32768x4096 .bf16) (ix2 (row t r) (⟨t.val % 2 * 2048 + k, by omega⟩ : Fin 4096)) := by
  obtain ⟨⟨e0, e1⟩, -⟩ := idx_facts t
  show V m c main_arg0 (((cfg0.win 0).blk t).view.emb (ix2 r k)) = _
  rw [V_main_arg0]
  congr 1
  funext a; apply Fin.ext
  match a with
  | ⟨0, _⟩ => show win0_0.index t (0 : Fin 2) * 1024 + 1 * r.val = t.val / 8 * 1024 + r.val; omega
  | ⟨1, _⟩ => show win0_0.index t (1 : Fin 2) * 2048 + 1 * k.val = t.val % 2 * 2048 + k.val; omega

theorem blk1 (c : Dev nD) (t : Fin cfg0.N) (k : Fin 2048) (e : Fin 1024) :
    (iblk m c 1 t : Vec Ideal S2048x1024 .bf16) (ix2 k e)
      = (m ((c : Thread nD τ).loc main_arg3) : Vec Ideal S1x4096x4096 .f32) (ix3 0 (⟨t.val % 2 * 2048 + k, by omega⟩ : Fin 4096) (col t e)) := by
  obtain ⟨-, ⟨e0, e1⟩, -⟩ := idx_facts t
  have hi : ((cfg0.win 1).blk t).view.emb (ix2 k e) = ix2 (⟨t.val % 2 * 2048 + k, by omega⟩ : Fin 4096) (col t e) := by
    funext a; apply Fin.ext
    match a with
    | ⟨0, _⟩ => show win0_1.index t (0 : Fin 2) * 2048 + 1 * k.val = t.val % 2 * 2048 + k.val; omega
    | ⟨1, _⟩ => show win0_1.index t (1 : Fin 2) * 1024 + 1 * e.val = t.val / 2 % 4 * 1024 + e.val; omega
  show (V m c main_v1 : Vec Ideal S4096x4096 .bf16) (((cfg0.win 1).blk t).view.emb (ix2 k e)) = _
  rw [hi, weights]

theorem blk2 (c : Dev nD) (t : Fin cfg0.N) (r e : Fin 1024) :
    (iblk m c 2 t : Vec Ideal S1024x1024 .f32) (ix2 r e)
      = (m ((c : Thread nD τ).loc main_arg1) : Vec Ideal S32768x4096 .f32) (ix2 (row t r) (col t e)) := by
  obtain ⟨-, -, ⟨e0, e1⟩, -⟩ := idx_facts t
  show V m c main_arg1 (((cfg0.win 2).blk t).view.emb (ix2 r e)) = _
  rw [V_main_arg1]
  congr 1
  funext a; apply Fin.ext
  match a with
  | ⟨0, _⟩ => show win0_2.index t (0 : Fin 2) * 1024 + 1 * r.val = t.val / 8 * 1024 + r.val; omega
  | ⟨1, _⟩ => show win0_2.index t (1 : Fin 2) * 1024 + 1 * e.val = t.val / 2 % 4 * 1024 + e.val; omega

theorem blk3 (c : Dev nD) (t : Fin cfg0.N) (e : Fin 1024) :
    (iblk m c 3 t : Vec Ideal S1x1x1024 .f32) (ix3 0 0 e)
      = (m ((c : Thread nD τ).loc main_arg2) : Vec Ideal S96x1x4096 .f32) (ix3 (⟨t.val / 32 * 6 + 2, by have := N_lt t; omega⟩ : Fin 96) 0 (col t e)) := by
  obtain ⟨-, -, -, ⟨e0, e1, e2⟩, -⟩ := idx_facts t
  show V m c main_arg2 (((cfg0.win 3).blk t).view.emb (ix3 0 0 e)) = _
  rw [V_main_arg2]
  congr 1
  funext a; apply Fin.ext
  match a with
  | ⟨0, _⟩ => show win0_3.index t (0 : Fin 3) * 1 + 1 * 0 = t.val / 32 * 6 + 2; omega
  | ⟨1, _⟩ => show win0_3.index t (1 : Fin 3) * 1 + 1 * 0 = 0; omega
  | ⟨2, _⟩ => show win0_3.index t (2 : Fin 3) * 1024 + 1 * e.val = t.val / 2 % 4 * 1024 + e.val; omega

theorem emb4 (t : Fin cfg0.N) (r e : Fin 1024) : ((cfg0.win 4).blk t).view.emb (ix2 r e) = ix2 (row t r) (col t e) := by
  obtain ⟨-, -, -, -, e0, e1⟩ := idx_facts t
  funext a; apply Fin.ext
  match a with
  | ⟨0, _⟩ => show win0_4.index t (0 : Fin 2) * 1024 + 1 * r.val = t.val / 8 * 1024 + r.val; omega
  | ⟨1, _⟩ => show win0_4.index t (1 : Fin 2) * 1024 + 1 * e.val = t.val / 2 % 4 * 1024 + e.val; omega

/-! ## The accumulation -/

/-- A term of a token's product. -/
def term (a : Vec Ideal S32768x4096 .bf16) (w : Vec Ideal S1x4096x4096 .f32) (r : Fin 32768) (e : Fin 4096) (k : Fin 4096) : EReal :=
  a (ix2 r k) * w (ix3 0 k e)

/-- The stream after the mixers, the gate in row 2 of a sample's six. -/
def outAll (a : Vec Ideal S32768x4096 .bf16) (x : Vec Ideal S32768x4096 .f32) (g : Vec Ideal S96x1x4096 .f32) (w : Vec Ideal S1x4096x4096 .f32) :
    Vec Ideal S32768x4096 .f32 :=
  fun i => x i + g (ix3 (⟨(i 0).val / 4096 * 6 + 2, by have : (i 0).val < 32768 := (i 0).isLt; omega⟩ : Fin 96) 0 (i 1)) * ∑ k : Fin 4096, term a w (i 0) (i 1) k

/-- A point's product is its chunk of the sum. -/
theorem prod_blk (c : Dev nD) (t : Fin cfg0.N) (r e : Fin 1024) :
    prod (iblk m c 0 t) (iblk m c 1 t) r e
      = chunk 2048 (term (m ((c : Thread nD τ).loc main_arg0)) (m ((c : Thread nD τ).loc main_arg3)) (row t r) (col t e)) (t.val % 2) := by
  unfold prod chunk
  refine Finset.sum_congr rfl fun k _ => ?_
  rw [blk0, blk1, ext_of_lt _ _ (by omega)]
  rfl

/-- The accumulator after an even point: the first chunk. -/
theorem acc_eq (c : Dev nD) (n : ℕ) (hn : n < cfg0.N) (h0 : n % 2 = 0) (r e : Fin 1024) :
    ((outsAt0 m c n hn).2 : Vec Ideal S1024x1024 .f32) (ix2 r e)
      = chunk 2048 (term (m ((c : Thread nD τ).loc main_arg0)) (m ((c : Thread nD τ).loc main_arg3)) (row ⟨n, hn⟩ r) (col ⟨n, hn⟩ e)) 0 := by
  rw [show outsAt0 m c n hn = _ from outsAt0_A m c ⟨n, hn⟩ h0 (by show ¬n % 2 = 1; omega) (by show ¬n % 2 = 1; omega)]
  dsimp only
  rw [first_acc, pay2_apply, prod_blk]
  exact congrArg _ h0

theorem flushed4_block (c : Dev nD) (t : Fin cfg0.N) (h1' : t.val % 2 = 1) :
    (dats m 0 c).flushed 4 t = ((cfg0.win 4).blk t).view.read (Elt Ideal)
      (outAll (m ((c : Thread nD τ).loc main_arg0)) (m ((c : Thread nD τ).loc main_arg1)) (m ((c : Thread nD τ).loc main_arg2)) (m ((c : Thread nD τ).loc main_arg3))) := by
  rw [Cert.OutProjIdeal.Value.flushed4_B m c t (by omega) h1' h1', last_out]
  funext j
  show k0_pay4 (F := Ideal) _ _ _ j = outAll _ _ _ _ (((cfg0.win 4).blk t).view.emb j)
  idx_vars j
  refine Eq.trans ?_ (congrArg _ (emb4 t j0 j1).symm)
  rw [pay4_apply, pay3_apply, prod_blk, acc_eq m c (t.val - 1) _ (by omega), blk2, blk3]
  have hn' : t.val - 1 < cfg0.N := Nat.lt_of_le_of_lt (Nat.sub_le _ _) t.isLt
  have e1 : row ⟨t.val - 1, hn'⟩ j0 = row t j0 := Fin.ext (by show (t.val - 1) / 8 * 1024 + j0.val = t.val / 8 * 1024 + j0.val; omega)
  have e2 : col ⟨t.val - 1, hn'⟩ j1 = col t j1 := Fin.ext (by show (t.val - 1) / 2 % 4 * 1024 + j1.val = t.val / 2 % 4 * 1024 + j1.val; omega)
  have hs := sum_chunk 2 2048 4096 rfl (term (m ((c : Thread nD τ).loc main_arg0)) (m ((c : Thread nD τ).loc main_arg3)) (row t j0) (col t j1))
  rw [Finset.sum_range_succ, Finset.sum_range_one] at hs
  rw [e1, e2, h1', hs]
  unfold outAll
  dsimp only
  refine congrArg₂ (· + ·) rfl (congrArg₂ (· * ·) (congrArg _ ?_) rfl)
  funext a; apply Fin.ext
  match a with
  | ⟨0, _⟩ => show t.val / 32 * 6 + 2 = (t.val / 8 * 1024 + j0.val) / 4096 * 6 + 2; omega
  | ⟨1, _⟩ => rfl
  | ⟨2, _⟩ => rfl

theorem covered4 (i : S32768x4096.Idx) : ∃ t : Fin cfg0.N, (cfg0.win 4).flush t = true ∧ i ∈ ((cfg0.win 4).blk t).view.set := by
  idx_vars i
  have h1 : (i0.val / 1024 * 4 + i1.val / 1024) * 2 + 1 < cfg0.N := by
    show _ < 256; omega
  refine ⟨⟨_, h1⟩, (flush0_4 _).mpr (by dsimp only; omega), ?_⟩
  have h := ((cfg0.win 4).blk (⟨_, h1⟩ : Fin cfg0.N)).view.emb_mem_set (ix2 (⟨i0.val % 1024, by omega⟩ : Fin 1024) (⟨i1.val % 1024, by omega⟩ : Fin 1024))
  rw [emb4] at h
  have e : (ix2 i0 i1 : S32768x4096.Idx)
      = ix2 (row ⟨_, h1⟩ ⟨i0.val % 1024, by omega⟩) (col ⟨_, h1⟩ ⟨i1.val % 1024, by omega⟩) := by
    funext a; apply Fin.ext
    match a with
    | ⟨0, _⟩ => show i0.val = ((i0.val / 1024 * 4 + i1.val / 1024) * 2 + 1) / 8 * 1024 + i0.val % 1024; omega
    | ⟨1, _⟩ => show i1.val = ((i0.val / 1024 * 4 + i1.val / 1024) * 2 + 1) / 2 % 4 * 1024 + i1.val % 1024; omega
  rw [e]
  exact h

/-- The result array after the run. -/
theorem final4 (c : Dev nD) : (dats m 0 c).arrAt 4 cfg0.N
    = outAll (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t h => flushed4_block m c t ((flush0_4 t).mp h)) covered4

end Cert.OutProjIdeal.Out

namespace Cert.OutProjReferenceIdeal.Out
open Cert.OutProjReferenceIdeal Cert.OutProjReferenceIdeal.Read Idealize.ShloMosaic

/-- The reference's result is the same. -/
theorem reference_eq (a : Vec Ideal S32768x4096 .bf16) (x : Vec Ideal S32768x4096 .f32) (g : Vec Ideal S96x1x4096 .f32) (w : Vec Ideal S1x4096x4096 .f32) :
    val_main_v10 (F := Ideal) a x g w = Cert.OutProjIdeal.Out.outAll a x g w := by
  funext i
  idx_vars i
  unfold val_main_v10 val_main_v9 val_main_v8 val_main_v7 val_main_v6 val_main_v5 val_main_v4 val_main_v3 val_main_v2 val_main_v1 val_main_v0
  unfold Cert.OutProjIdeal.Out.outAll Cert.OutProjIdeal.Out.term
  pointwise

end Cert.OutProjReferenceIdeal.Out
end
-- ==== Proof.Merge.lean ====
module

public import proofs.«01_k».proof.Proof.Gen.MergeIdeal.Value
public import proofs.«01_k».proof.Proof.Gen.MergeReferenceIdeal.Run
public import proofs.«01_k».proof.Proof.Gen.MergeReferenceIdeal.Read
public import Idealize.ShloMosaic.PureOps.Ideal
public import Idealize.ShloMosaic.Lib.Pointwise

/-! The merge of the two mixers: two products, each scaled by a gate. The second mixer's channels come with the head last, and so do the
rows of its weights; the reference's sum runs over the same channels in another order. -/

@[expose] public section
set_option maxRecDepth 16384
noncomputable section
namespace Cert.MergeIdeal.Mix
open Cert.MergeIdeal Cert.MergeIdeal.Gen Idealize.ShloMosaic Idealize.ShloMosaic.TcCoe Idealize.SL.Sem

theorem zero2 : (![0, 0] : Fin 2 → ℕ) = fun _ => 0 := by decide

/-- The logistic function. -/
def gate (x : EReal) : EReal := Ideal.div (Ideal.ofBits .f32 0x3F800000#32) (Ideal.ofBits .f32 0x3F800000#32 + Ideal.exp (-x))

/-- The channel at place `k` where the head is the last index: place `32 n + h` is channel `64 h + n`. -/
def chan (k : Fin 2048) : Fin 2048 := ⟨k.val % 32 * 64 + k.val / 32, by omega⟩

/-- The place of a channel where the head is the last index. -/
def place (j : Fin 2048) : Fin 2048 := ⟨j.val % 64 * 32 + j.val / 64, by omega⟩

/-- Channels and places correspond. -/
def chanEquiv : Fin 2048 ≃ Fin 2048 where
  toFun := chan
  invFun := place
  left_inv k := Fin.ext (by show (k.val % 32 * 64 + k.val / 32) % 64 * 32 + (k.val % 32 * 64 + k.val / 32) / 64 = k.val; omega)
  right_inv j := Fin.ext (by show (j.val % 64 * 32 + j.val / 64) % 32 * 64 + (j.val % 64 * 32 + j.val / 64) / 32 = j.val; omega)

/-- A token's product with a column of the first mixer's weights. -/
def attnDot (x : Vec Ideal S32768x2048 .bf16) (w : Vec Ideal S1x2048x4096 .f32) (r : Fin 32768) (e : Fin 4096) : EReal :=
  ∑ k : Fin 2048, x (ix2 r k) * w (ix3 0 k e)

/-- A token's product with a column of the second mixer's weights, over the places. -/
def rwkvDot (x : Vec Ideal S32768x2048 .bf16) (w : Vec Ideal S1x2048x4096 .f32) (r : Fin 32768) (e : Fin 4096) : EReal :=
  ∑ k : Fin 2048, x (ix2 r k) * w (ix3 0 (chan k) e)

/-- The same sum over the channels. -/
theorem rwkvDot_eq (x : Vec Ideal S32768x2048 .bf16) (w : Vec Ideal S1x2048x4096 .f32) (r : Fin 32768) (e : Fin 4096) :
    rwkvDot x w r e = ∑ j : Fin 2048, x (ix2 r (place j)) * w (ix3 0 j e) := by
  unfold rwkvDot
  refine Fintype.sum_equiv chanEquiv _ _ fun k => ?_
  have h : place (chanEquiv k) = k := chanEquiv.left_inv k
  rw [h]
  rfl

/-- The merged value of a token and a column. -/
def merged (oa orr : Vec Ideal S32768x2048 .bf16) (pg : Vec Ideal S32768x8192 .f32) (wa wr : Vec Ideal S1x2048x4096 .f32) (r : Fin 32768) (e : Fin 4096) : EReal :=
  gate (pg (ix2 r (⟨e, by omega⟩ : Fin 8192))) * attnDot oa wa r e + gate (pg (ix2 r (⟨4096 + e, by omega⟩ : Fin 8192))) * rwkvDot orr wr r e

/-- All of them. -/
def mergedAll (oa orr : Vec Ideal S32768x2048 .bf16) (pg : Vec Ideal S32768x8192 .f32) (wa wr : Vec Ideal S1x2048x4096 .f32) : Vec Ideal S32768x4096 .bf16 :=
  fun i => merged oa orr pg wa wr (i 0) (i 1)

/-- What the body writes to a block. -/
theorem pay_apply (x0 : Vec Ideal S512x2048 .bf16) (x1 : Vec Ideal S2048x1024 .bf16) (x2 : Vec Ideal S512x2048 .bf16) (x3 : Vec Ideal S2048x1024 .bf16)
    (x4 x5 : Vec Ideal S512x1024 .f32) (r : Fin 512) (e : Fin 1024) :
    k0_pay1 (F := Ideal) x0 x1 x2 x3 x4 x5 (ix2 r e)
      = gate (x4 (ix2 r e)) * (∑ k : Fin 2048, x0 (ix2 r k) * x1 (ix2 k e)) + gate (x5 (ix2 r e)) * ∑ k : Fin 2048, x2 (ix2 r k) * x3 (ix2 k e) := by
  unfold k0_pay1 gate
  rw [← zero_sub (x4 (ix2 r e)), ← zero_sub (x5 (ix2 r e))]
  pointwise

variable (m : (ℓ : Loc nD τ sig) → Buf (Elt Ideal) ℓ)

theorem idx_facts : ∀ t : Fin cfg0.N,
    (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = 0)
    ∧ (win0_3.index t (0 : Fin 2) = 0 ∧ win0_3.index t (1 : Fin 2) = t.val % 4)
    ∧ (win0_4.index t (0 : Fin 2) = t.val / 4 ∧ win0_4.index t (1 : Fin 2) = t.val % 4)
    ∧ (win0_5.index t (0 : Fin 2) = t.val / 4 ∧ win0_5.index t (1 : Fin 2) = t.val % 4 + 4)
    ∧ (win0_6.index t (0 : Fin 2) = t.val / 4 ∧ win0_6.index t (1 : Fin 2) = t.val % 4) :=
  (by decide +kernel : ∀ t : Fin grid0.N, _)

theorem N_lt (t : Fin cfg0.N) : t.val < 256 := t.isLt

/-- The row of a point's block. -/
def row (t : Fin cfg0.N) (r : Fin 512) : Fin 32768 := ⟨t.val / 4 * 512 + r, by have := N_lt t; omega⟩

/-- The column of a point's block. -/
def col (t : Fin cfg0.N) (e : Fin 1024) : Fin 4096 := ⟨t.val % 4 * 1024 + e, by omega⟩

theorem attn_weights (c : Dev nD) (k : Fin 2048) (e : Fin 4096) :
    (V m c main_v1 : Vec Ideal S2048x4096 .bf16) (ix2 k e) = (m ((c : Thread nD τ).loc main_arg3) : Vec Ideal S1x2048x4096 .f32) (ix3 0 k e) := by
  unfold V
  simp only [hostOps0, List.flatten_cons, List.flatten_nil, List.append_nil, List.cons_append, List.nil_append]
  after_results
  pointwise

theorem rwkv_weights (c : Dev nD) (k : Fin 2048) (e : Fin 4096) :
    (V m c main_v8 : Vec Ideal S2048x4096 .bf16) (ix2 k e) = (m ((c : Thread nD τ).loc main_arg4) : Vec Ideal S1x2048x4096 .f32) (ix3 0 (chan k) e) := by
  unfold V chan
  simp only [hostOps0, List.flatten_cons, List.flatten_nil, List.append_nil, List.cons_append, List.nil_append]
  after_results
  pointwise

theorem blk0 (c : Dev nD) (t : Fin cfg0.N) (r : Fin 512) (k : Fin 2048) :
    (iblk m c 0 t : Vec Ideal S512x2048 .bf16) (ix2 r k) = (m ((c : Thread nD τ).loc main_arg0) : Vec Ideal S32768x2048 .bf16) (ix2 (row t r) k) := by
  obtain ⟨⟨e0, e1⟩, -⟩ := idx_facts t
  show V m c main_arg0 (((cfg0.win 0).blk t).view.emb (ix2 r k)) = _
  rw [V_main_arg0]
  congr 1
  funext a; apply Fin.ext
  match a with
  | ⟨0, _⟩ => show win0_0.index t (0 : Fin 2) * 512 + 1 * r.val = t.val / 4 * 512 + r.val; omega
  | ⟨1, _⟩ => show win0_0.index t (1 : Fin 2) * 2048 + 1 * k.val = k.val; omega

theorem blk1 (c : Dev nD) (t : Fin cfg0.N) (k : Fin 2048) (e : Fin 1024) :
    (iblk m c 1 t : Vec Ideal S2048x1024 .bf16) (ix2 k e) = (m ((c : Thread nD τ).loc main_arg3) : Vec Ideal S1x2048x4096 .f32) (ix3 0 k (col t e)) := by
  obtain ⟨-, ⟨e0, e1⟩, -⟩ := idx_facts t
  have hi : ((cfg0.win 1).blk t).view.emb (ix2 k e) = ix2 k (col t e) := by
    funext a; apply Fin.ext
    match a with
    | ⟨0, _⟩ => show win0_1.index t (0 : Fin 2) * 2048 + 1 * k.val = k.val; omega
    | ⟨1, _⟩ => show win0_1.index t (1 : Fin 2) * 1024 + 1 * e.val = t.val % 4 * 1024 + e.val; omega
  show (V m c main_v1 : Vec Ideal S2048x4096 .bf16) (((cfg0.win 1).blk t).view.emb (ix2 k e)) = _
  rw [hi, attn_weights]

theorem blk2 (c : Dev nD) (t : Fin cfg0.N) (r : Fin 512) (k : Fin 2048) :
    (iblk m c 2 t : Vec Ideal S512x2048 .bf16) (ix2 r k) = (m ((c : Thread nD τ).loc main_arg1) : Vec Ideal S32768x2048 .bf16) (ix2 (row t r) k) := by
  obtain ⟨-, -, ⟨e0, e1⟩, -⟩ := idx_facts t
  show V m c main_arg1 (((cfg0.win 2).blk t).view.emb (ix2 r k)) = _
  rw [V_main_arg1]
  congr 1
  funext a; apply Fin.ext
  match a with
  | ⟨0, _⟩ => show win0_2.index t (0 : Fin 2) * 512 + 1 * r.val = t.val / 4 * 512 + r.val; omega
  | ⟨1, _⟩ => show win0_2.index t (1 : Fin 2) * 2048 + 1 * k.val = k.val; omega

theorem blk3 (c : Dev nD) (t : Fin cfg0.N) (k : Fin 2048) (e : Fin 1024) :
    (iblk m c 3 t : Vec Ideal S2048x1024 .bf16) (ix2 k e) = (m ((c : Thread nD τ).loc main_arg4) : Vec Ideal S1x2048x4096 .f32) (ix3 0 (chan k) (col t e)) := by
  obtain ⟨-, -, -, ⟨e0, e1⟩, -⟩ := idx_facts t
  have hi : ((cfg0.win 3).blk t).view.emb (ix2 k e) = ix2 k (col t e) := by
    funext a; apply Fin.ext
    match a with
    | ⟨0, _⟩ => show win0_3.index t (0 : Fin 2) * 2048 + 1 * k.val = k.val; omega
    | ⟨1, _⟩ => show win0_3.index t (1 : Fin 2) * 1024 + 1 * e.val = t.val % 4 * 1024 + e.val; omega
  show (V m c main_v8 : Vec Ideal S2048x4096 .bf16) (((cfg0.win 3).blk t).view.emb (ix2 k e)) = _
  rw [hi, rwkv_weights]

theorem blk4 (c : Dev nD) (t : Fin cfg0.N) (r : Fin 512) (e : Fin 1024) :
    (iblk m c 4 t : Vec Ideal S512x1024 .f32) (ix2 r e)
      = (m ((c : Thread nD τ).loc main_arg2) : Vec Ideal S32768x8192 .f32) (ix2 (row t r) (⟨col t e, by omega⟩ : Fin 8192)) := by
  obtain ⟨-, -, -, -, ⟨e0, e1⟩, -⟩ := idx_facts t
  show V m c main_arg2 (((cfg0.win 4).blk t).view.emb (ix2 r e)) = _
  rw [V_main_arg2]
  congr 1
  funext a; apply Fin.ext
  match a with
  | ⟨0, _⟩ => show win0_4.index t (0 : Fin 2) * 512 + 1 * r.val = t.val / 4 * 512 + r.val; omega
  | ⟨1, _⟩ => show win0_4.index t (1 : Fin 2) * 1024 + 1 * e.val = t.val % 4 * 1024 + e.val; omega

theorem blk5 (c : Dev nD) (t : Fin cfg0.N) (r : Fin 512) (e : Fin 1024) :
    (iblk m c 5 t : Vec Ideal S512x1024 .f32) (ix2 r e)
      = (m ((c : Thread nD τ).loc main_arg2) : Vec Ideal S32768x8192 .f32) (ix2 (row t r) (⟨4096 + col t e, by omega⟩ : Fin 8192)) := by
  obtain ⟨-, -, -, -, -, ⟨e0, e1⟩, -⟩ := idx_facts t
  show V m c main_arg2 (((cfg0.win 5).blk t).view.emb (ix2 r e)) = _
  rw [V_main_arg2]
  congr 1
  funext a; apply Fin.ext
  match a with
  | ⟨0, _⟩ => show win0_5.index t (0 : Fin 2) * 512 + 1 * r.val = t.val / 4 * 512 + r.val; omega
  | ⟨1, _⟩ => show win0_5.index t (1 : Fin 2) * 1024 + 1 * e.val = 4096 + (t.val % 4 * 1024 + e.val); omega

/-- Where a point's block of the result lies. -/
theorem emb6 (t : Fin cfg0.N) (r : Fin 512) (e : Fin 1024) : ((cfg0.win 6).blk t).view.emb (ix2 r e) = ix2 (row t r) (col t e) := by
  obtain ⟨-, -, -, -, -, -, e0, e1⟩ := idx_facts t
  funext a; apply Fin.ext
  match a with
  | ⟨0, _⟩ => show win0_6.index t (0 : Fin 2) * 512 + 1 * r.val = t.val / 4 * 512 + r.val; omega
  | ⟨1, _⟩ => show win0_6.index t (1 : Fin 2) * 1024 + 1 * e.val = t.val % 4 * 1024 + e.val; omega

theorem flushed6_eq (c : Dev nD) (t : Fin cfg0.N) :
    (dats m 0 c).flushed 6 t = ((cfg0.win 6).blk t).view.read (Elt Ideal)
      (mergedAll (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.MergeIdeal.Value.flushed6]
  unfold out0_6
  rw [View.canon_unit_zero zero2, View.ld_unit_zero zero2, View.ld_unit_zero zero2, View.ld_unit_zero zero2, View.ld_unit_zero zero2, View.ld_unit_zero zero2,
    View.ld_unit_zero zero2]
  funext j
  show k0_pay1 (F := Ideal) _ _ _ _ _ _ j = mergedAll _ _ _ _ _ (((cfg0.win 6).blk t).view.emb j)
  idx_vars j
  refine Eq.trans ?_ (congrArg _ (emb6 t j0 j1).symm)
  refine (pay_apply _ _ _ _ _ _ j0 j1).trans ?_
  show _ = merged _ _ _ _ _ (row t j0) (col t j1)
  rw [blk4, blk5]
  unfold merged attnDot rwkvDot
  refine congrArg₂ (· + ·) (congrArg₂ (· * ·) rfl ?_) (congrArg₂ (· * ·) rfl ?_)
  · refine Finset.sum_congr rfl fun k _ => ?_
    rw [blk0, blk1]
  · refine Finset.sum_congr rfl fun k _ => ?_
    rw [blk2, blk3]

theorem covered6 (i : S32768x4096.Idx) : ∃ t : Fin cfg0.N, (cfg0.win 6).flush t = true ∧ i ∈ ((cfg0.win 6).blk t).view.set := by
  idx_vars i
  have h1 : i0.val / 512 * 4 + i1.val / 1024 < cfg0.N := by
    show _ < 256; omega
  refine ⟨⟨_, h1⟩, flush0_6 _, ?_⟩
  have h := ((cfg0.win 6).blk (⟨_, h1⟩ : Fin cfg0.N)).view.emb_mem_set (ix2 (⟨i0.val % 512, by omega⟩ : Fin 512) (⟨i1.val % 1024, by omega⟩ : Fin 1024))
  rw [emb6] at h
  have e : (ix2 i0 i1 : S32768x4096.Idx)
      = ix2 (row ⟨_, h1⟩ ⟨i0.val % 512, by omega⟩) (col ⟨_, h1⟩ ⟨i1.val % 1024, by omega⟩) := by
    funext a; apply Fin.ext
    match a with
    | ⟨0, _⟩ => show i0.val = (i0.val / 512 * 4 + i1.val / 1024) / 4 * 512 + i0.val % 512; omega
    | ⟨1, _⟩ => show i1.val = (i0.val / 512 * 4 + i1.val / 1024) % 4 * 1024 + i1.val % 1024; omega
  rw [e]
  exact h

/-- The result array after the run. -/
theorem final6 (c : Dev nD) : (dats m 0 c).arrAt 6 cfg0.N
    = mergedAll (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed6_eq m c t) covered6

end Cert.MergeIdeal.Mix

namespace Cert.MergeReferenceIdeal.Mix
open Cert.MergeReferenceIdeal Cert.MergeReferenceIdeal.Read Cert.MergeIdeal.Mix Idealize.ShloMosaic

/-- The second mixer's channels in the reference's order. -/
theorem channels (orr : Vec Ideal S32768x2048 .bf16) (r : Fin 32768) (j : Fin 2048) :
    val_main_v3 (F := Ideal) orr (ix2 r j) = orr (ix2 r (place j)) := by
  unfold val_main_v3 val_main_v2 val_main_v1 val_main_v0 place
  pointwise

theorem gates (pg : Vec Ideal S32768x8192 .f32) (r : Fin 32768) (e : Fin 8192) : val_main_v9 (F := Ideal) pg (ix2 r e) = gate (pg (ix2 r e)) := by
  unfold val_main_v9 val_main_v8 val_main_v7 val_main_v6 val_main_v5 val_main_v4 val_main_cst val_main_cst_0 gate
  pointwise

/-- The reference's result is the same. -/
theorem reference_eq (oa orr : Vec Ideal S32768x2048 .bf16) (pg : Vec Ideal S32768x8192 .f32) (wa wr : Vec Ideal S1x2048x4096 .f32) :
    val_main_v20 (F := Ideal) oa orr pg wa wr = mergedAll oa orr pg wa wr := by
  funext i
  idx_vars i
  show _ = merged oa orr pg wa wr i0 i1
  unfold merged
  rw [rwkvDot_eq]
  simp only [← channels, ← gates]
  unfold attnDot val_main_v20 val_main_v19 val_main_v18 val_main_v17 val_main_v16 val_main_v15 val_main_v14 val_main_v13 val_main_v12 val_main_v11 val_main_v10
  generalize val_main_v3 (F := Ideal) orr = y
  generalize val_main_v9 (F := Ideal) pg = z
  pointwise

end Cert.MergeReferenceIdeal.Mix
end
-- ==== Proof.RwkvProj.lean ====
module

public import proofs.«01_k».proof.Proof.Gen.RwkvProjIdeal.Value
public import proofs.«01_k».proof.Proof.Gen.RwkvProjReferenceIdeal.Run
public import proofs.«01_k».proof.Proof.Gen.RwkvProjReferenceIdeal.Read
public import Idealize.ShloMosaic.PureOps.Ideal
public import Idealize.ShloMosaic.Lib.Pointwise

/-! The projection onto the second mixer's columns, with the time step first in the result. The call's weights are the layer's columns in
another order, with two groups of zero columns between them. -/

@[expose] public section
set_option maxRecDepth 16384
noncomputable section
namespace Cert.RwkvProjIdeal.Cols
open Cert.RwkvProjIdeal Cert.RwkvProjIdeal.Gen Idealize.ShloMosaic Idealize.ShloMosaic.TcCoe Idealize.SL.Sem

theorem zero2 : (![0, 0] : Fin 2 → ℕ) = fun _ => 0 := by decide
theorem zero3 : (![0, 0, 0] : Fin 3 → ℕ) = fun _ => 0 := by decide

/-- The integer zero as a float. -/
theorem sitofp_zero : (FloatOps.sitofp (F := Ideal) FTy.f32 (0#32) : EReal) = 0 := by
  show (((0#32 : BitVec 32).toInt : ℝ) : EReal) = 0
  simp

/-- The layer's column that the call's column `n` holds: the columns r, k, v with the head last, w_down, zeros, a_down, zeros, g_down. -/
def source (n : ℕ) : Option ℕ :=
  if n < 6144 then some (6144 + (n / 2048 * 2048 + n % 32 * 64 + n / 32 % 64))
  else if n < 6240 then some (6144 + n)
  else if n < 6272 then none
  else if n < 6368 then some (6112 + n)
  else if n < 6400 then none
  else some (6080 + n)

/-- The call's weight at row `k` and column `n`. -/
def weight (w : Vec Ideal S1x4096x20928 .f32) (k : Fin 4096) (n : Fin 6656) : EReal :=
  match source n with
  | some j => if hj : j < 20928 then w (ix3 0 k ⟨j, hj⟩) else 0
  | none => 0

theorem weight_some (w : Vec Ideal S1x4096x20928 .f32) (k : Fin 4096) (n : Fin 6656) (j : Fin 20928) (hs : source n = some j.val) :
    weight w k n = w (ix3 0 k j) := by
  unfold weight
  rw [hs]
  exact dif_pos j.isLt

theorem weight_none (w : Vec Ideal S1x4096x20928 .f32) (k : Fin 4096) (n : Fin 6656) (hs : source n = none) : weight w k n = 0 := by
  unfold weight
  rw [hs]

theorem source_rkv {n : ℕ} (h : n < 6144) : source n = some (6144 + (n / 2048 * 2048 + n % 32 * 64 + n / 32 % 64)) := if_pos h
theorem source_w {n : ℕ} (h : ¬n < 6144) (h' : n < 6240) : source n = some (6144 + n) := (if_neg h).trans (if_pos h')
theorem source_z {n : ℕ} (h : ¬n < 6240) (h' : n < 6272) : source n = none :=
  (if_neg (by omega)).trans ((if_neg h).trans (if_pos h'))
theorem source_a {n : ℕ} (h : ¬n < 6272) (h' : n < 6368) : source n = some (6112 + n) :=
  (if_neg (by omega)).trans ((if_neg (by omega)).trans ((if_neg h).trans (if_pos h')))
theorem source_z' {n : ℕ} (h : ¬n < 6368) (h' : n < 6400) : source n = none :=
  (if_neg (by omega)).trans ((if_neg (by omega)).trans ((if_neg (by omega)).trans ((if_neg h).trans (if_pos h'))))
theorem source_g {n : ℕ} (h : ¬n < 6400) : source n = some (6080 + n) :=
  (if_neg (by omega)).trans ((if_neg (by omega)).trans ((if_neg (by omega)).trans ((if_neg (by omega)).trans (if_neg h))))

/-- The product of a token and a column. -/
def proj (h : Vec Ideal S32768x4096 .bf16) (w : Vec Ideal S1x4096x20928 .f32) (r : Fin 32768) (n : Fin 6656) : EReal :=
  ∑ k : Fin 4096, h (ix2 r k) * weight w k n

theorem proj_some (h : Vec Ideal S32768x4096 .bf16) (w : Vec Ideal S1x4096x20928 .f32) (r : Fin 32768) (n : Fin 6656) (j : Fin 20928)
    (hs : source n = some j.val) : proj h w r n = ∑ k : Fin 4096, h (ix2 r k) * w (ix3 0 k j) :=
  Finset.sum_congr rfl fun k _ => congrArg _ (weight_some w k n j hs)

theorem proj_none (h : Vec Ideal S32768x4096 .bf16) (w : Vec Ideal S1x4096x20928 .f32) (r : Fin 32768) (n : Fin 6656)
    (hs : source n = none) : proj h w r n = 0 :=
  Finset.sum_eq_zero fun k _ => (congrArg _ (weight_none w k n hs)).trans (mul_zero _)

/-- All of them, by time step, sample and column. -/
def projAll (h : Vec Ideal S32768x4096 .bf16) (w : Vec Ideal S1x4096x20928 .f32) : Vec Ideal S4096x8x6656 .f32 :=
  fun i => proj h w (⟨(i 1).val * 4096 + (i 0).val, by have h0 : (i 0).val < 4096 := (i 0).isLt; have h1 : (i 1).val < 8 := (i 1).isLt; omega⟩ : Fin 32768) (i 2)

theorem pay_apply (x : Vec Ideal S8x128x4096 .bf16) (w : Vec Ideal S4096x512 .bf16) (t : Fin 128) (b : Fin 8) (e : Fin 512) :
    k0_pay1 (F := Ideal) x w (ix3 t b e) = ∑ k : Fin 4096, x (ix3 b t k) * w (ix2 k e) := by
  unfold k0_pay1
  pointwise

variable (m : (ℓ : Loc nD τ sig) → Buf (Elt Ideal) ℓ)

theorem tokens (c : Dev nD) (b : Fin 8) (t : Fin 4096) (k : Fin 4096) :
    (V m c main_v15 : Vec Ideal S8x4096x4096 .bf16) (ix3 b t k)
      = (m ((c : Thread nD τ).loc main_arg0) : Vec Ideal S32768x4096 .bf16) (ix2 (⟨b.val * 4096 + t.val, by omega⟩ : Fin 32768) k) := by
  unfold V
  simp only [hostOps0, List.flatten_cons, List.flatten_nil, List.append_nil, List.cons_append, List.nil_append]
  after_results
  pointwise

theorem weights (c : Dev nD) (k : Fin 4096) (n : Fin 6656) :
    (V m c main_v14 : Vec Ideal S4096x6656 .bf16) (ix2 k n) = weight (m ((c : Thread nD τ).loc main_arg1) : Vec Ideal S1x4096x20928 .f32) k n := by
  unfold V
  simp only [hostOps0, List.flatten_cons, List.flatten_nil, List.append_nil, List.cons_append, List.nil_append]
  after_results
  pointwise
  split_ifs
  all_goals try (rename_i hx; exact (hx rfl).elim)
  all_goals
    generalize_proofs
    after_results_steps
    simp -implicitDefEqProofs only [StableHlo.TRef.toBuf, StableHlo.TRef.ofBuf, cast_cast, cast_eq]
    pointwise
    try split_ifs
  · exact (weight_some _ k n _ (source_rkv (by omega))).symm
  · exact (weight_some _ k n _ ((source_w (by omega) (by omega)).trans (congrArg some (by dsimp only; omega)))).symm
  · exact sitofp_zero.trans (weight_none _ k n (source_z (by omega) (by omega))).symm
  · exact (weight_some _ k n _ ((source_a (by omega) (by omega)).trans (congrArg some (by dsimp only; omega)))).symm
  · exact sitofp_zero.trans (weight_none _ k n (source_z' (by omega) (by omega))).symm
  · exact (weight_some _ k n _ ((source_g (by omega)).trans (congrArg some (by dsimp only; omega)))).symm

/-! ## The blocks -/

theorem idx_facts : ∀ t : Fin cfg0.N,
    (win0_0.index t (0 : Fin 3) = 0 ∧ win0_0.index t (1 : Fin 3) = t.val / 13 ∧ win0_0.index t (2 : Fin 3) = 0)
    ∧ (win0_1.index t (0 : Fin 2) = 0 ∧ win0_1.index t (1 : Fin 2) = t.val % 13)
    ∧ (win0_2.index t (0 : Fin 3) = t.val / 13 ∧ win0_2.index t (1 : Fin 3) = 0 ∧ win0_2.index t (2 : Fin 3) = t.val % 13) :=
  (by decide +kernel : ∀ t : Fin grid0.N, _)

theorem N_lt (t : Fin cfg0.N) : t.val < 416 := t.isLt

/-- The time step of a point's block. -/
def step (t : Fin cfg0.N) (r : Fin 128) : Fin 4096 := ⟨t.val / 13 * 128 + r, by have := N_lt t; omega⟩

/-- The column of a point's block. -/
def col (t : Fin cfg0.N) (e : Fin 512) : Fin 6656 := ⟨t.val % 13 * 512 + e, by omega⟩

theorem blk0 (c : Dev nD) (t : Fin cfg0.N) (b : Fin 8) (r : Fin 128) (k : Fin 4096) :
    (iblk m c 0 t : Vec Ideal S8x128x4096 .bf16) (ix3 b r k)
      = (m ((c : Thread nD τ).loc main_arg0) : Vec Ideal S32768x4096 .bf16) (ix2 (⟨b.val * 4096 + (step t r).val, by omega⟩ : Fin 32768) k) := by
  obtain ⟨⟨e0, e1, e2⟩, -⟩ := idx_facts t
  have hi : ((cfg0.win 0).blk t).view.emb (ix3 b r k) = ix3 b (step t r) k := by
    funext a; apply Fin.ext
    match a with
    | ⟨0, _⟩ => show win0_0.index t (0 : Fin 3) * 8 + 1 * b.val = b.val; omega
    | ⟨1, _⟩ => show win0_0.index t (1 : Fin 3) * 128 + 1 * r.val = t.val / 13 * 128 + r.val; omega
    | ⟨2, _⟩ => show win0_0.index t (2 : Fin 3) * 4096 + 1 * k.val = k.val; omega
  show (V m c main_v15 : Vec Ideal S8x4096x4096 .bf16) (((cfg0.win 0).blk t).view.emb (ix3 b r k)) = _
  rw [hi, tokens]

theorem blk1 (c : Dev nD) (t : Fin cfg0.N) (k : Fin 4096) (e : Fin 512) :
    (iblk m c 1 t : Vec Ideal S4096x512 .bf16) (ix2 k e)
      = weight (m ((c : Thread nD τ).loc main_arg1) : Vec Ideal S1x4096x20928 .f32) k (col t e) := by
  obtain ⟨-, ⟨e0, e1⟩, -⟩ := idx_facts t
  have hi : ((cfg0.win 1).blk t).view.emb (ix2 k e) = ix2 k (col t e) := by
    funext a; apply Fin.ext
    match a with
    | ⟨0, _⟩ => show win0_1.index t (0 : Fin 2) * 4096 + 1 * k.val = k.val; omega
    | ⟨1, _⟩ => show win0_1.index t (1 : Fin 2) * 512 + 1 * e.val = t.val % 13 * 512 + e.val; omega
  show (V m c main_v14 : Vec Ideal S4096x6656 .bf16) (((cfg0.win 1).blk t).view.emb (ix2 k e)) = _
  rw [hi, weights]

/-- Where a point's block of the result lies. -/
theorem emb2 (t : Fin cfg0.N) (r : Fin 128) (b : Fin 8) (e : Fin 512) :
    ((cfg0.win 2).blk t).view.emb (ix3 r b e) = ix3 (step t r) b (col t e) := by
  obtain ⟨-, -, e0, e1, e2⟩ := idx_facts t
  funext a; apply Fin.ext
  match a with
  | ⟨0, _⟩ => show win0_2.index t (0 : Fin 3) * 128 + 1 * r.val = t.val / 13 * 128 + r.val; omega
  | ⟨1, _⟩ => show win0_2.index t (1 : Fin 3) * 8 + 1 * b.val = b.val; omega
  | ⟨2, _⟩ => show win0_2.index t (2 : Fin 3) * 512 + 1 * e.val = t.val % 13 * 512 + e.val; omega

theorem flushed2_eq (c : Dev nD) (t : Fin cfg0.N) :
    (dats m 0 c).flushed 2 t = ((cfg0.win 2).blk t).view.read (Elt Ideal)
      (projAll (m ((c : Thread nD τ).loc main_arg0)) (m ((c : Thread nD τ).loc main_arg1))) := by
  rw [Cert.RwkvProjIdeal.Value.flushed2]
  unfold out0_2
  rw [View.canon_unit_zero zero3, View.ld_unit_zero zero3, View.ld_unit_zero zero2]
  funext j
  show k0_pay1 (F := Ideal) _ _ j = projAll _ _ (((cfg0.win 2).blk t).view.emb j)
  idx_vars j
  refine Eq.trans ?_ (congrArg _ (emb2 t j0 j1 j2).symm)
  refine (pay_apply _ _ j0 j1 j2).trans ?_
  show _ = proj _ _ (⟨j1.val * 4096 + (step t j0).val, _⟩ : Fin 32768) (col t j2)
  unfold proj
  refine Finset.sum_congr rfl fun k _ => ?_
  rw [blk0, blk1]

theorem covered2 (i : S4096x8x6656.Idx) : ∃ t : Fin cfg0.N, (cfg0.win 2).flush t = true ∧ i ∈ ((cfg0.win 2).blk t).view.set := by
  idx_vars i
  have h1 : i0.val / 128 * 13 + i2.val / 512 < cfg0.N := by
    show _ < 416; omega
  refine ⟨⟨_, h1⟩, flush0_2 _, ?_⟩
  have h := ((cfg0.win 2).blk (⟨_, h1⟩ : Fin cfg0.N)).view.emb_mem_set (ix3 (⟨i0.val % 128, by omega⟩ : Fin 128) i1 (⟨i2.val % 512, by omega⟩ : Fin 512))
  rw [emb2] at h
  have e : (ix3 i0 i1 i2 : S4096x8x6656.Idx)
      = ix3 (step ⟨_, h1⟩ ⟨i0.val % 128, by omega⟩) i1 (col ⟨_, h1⟩ ⟨i2.val % 512, by omega⟩) := by
    funext a; apply Fin.ext
    match a with
    | ⟨0, _⟩ => show i0.val = (i0.val / 128 * 13 + i2.val / 512) / 13 * 128 + i0.val % 128; omega
    | ⟨1, _⟩ => rfl
    | ⟨2, _⟩ => show i2.val = (i0.val / 128 * 13 + i2.val / 512) % 13 * 512 + i2.val % 512; omega
  rw [e]
  exact h

/-- The result array after the run. -/
theorem final2 (c : Dev nD) : (dats m 0 c).arrAt 2 cfg0.N
    = projAll (m ((c : Thread nD τ).loc main_arg0)) (m ((c : Thread nD τ).loc main_arg1)) :=
  (dats m 0 c).arrAt_eq_of_cover 2 _ (fun t _ => flushed2_eq m c t) covered2

end Cert.RwkvProjIdeal.Cols

namespace Cert.RwkvProjReferenceIdeal.Cols
open Cert.RwkvProjReferenceIdeal Cert.RwkvProjReferenceIdeal.Read Cert.RwkvProjIdeal.Cols Idealize.ShloMosaic

theorem dot_eq (h : Vec Ideal S32768x4096 .bf16) (w : Vec Ideal S1x4096x20928 .f32) (r : Fin 32768) (n : Fin 20928) :
    val_main_v2 (F := Ideal) h w (ix2 r n) = ∑ k : Fin 4096, h (ix2 r k) * w (ix3 0 k n) := by
  unfold val_main_v2 val_main_v1 val_main_v0
  pointwise

/-- The reference's result is the same. -/
theorem reference_eq (h : Vec Ideal S32768x4096 .bf16) (w : Vec Ideal S1x4096x20928 .f32) :
    val_main_v14 (F := Ideal) h w = projAll h w := by
  funext i
  idx_vars i
  show _ = proj h w (⟨i1.val * 4096 + i0.val, by omega⟩ : Fin 32768) i2
  unfold val_main_v14 val_main_v13 val_main_v12 val_main_v11 val_main_v10 val_main_v9 val_main_v8 val_main_v7 val_main_v6 val_main_v5 val_main_v4 val_main_v3 val_main_cst
  have hd := dot_eq h w
  revert hd
  generalize val_main_v2 (F := Ideal) h w = y
  intro hd
  pointwise
  split_ifs
  all_goals try (rename_i hx; exact (hx rfl).elim)
  · exact (hd _ _).trans (proj_some h w _ i2 _ (source_rkv (by omega))).symm
  · exact (hd _ _).trans (proj_some h w _ i2 _ ((source_w (by omega) (by omega)).trans (congrArg some (by dsimp only; omega)))).symm
  · exact (proj_none h w _ i2 (source_z (by omega) (by omega))).symm
  · exact (hd _ _).trans (proj_some h w _ i2 _ ((source_a (by omega) (by omega)).trans (congrArg some (by dsimp only; omega)))).symm
  · exact (proj_none h w _ i2 (source_z' (by omega) (by omega))).symm
  · exact (hd _ _).trans (proj_some h w _ i2 _ ((source_g (by omega)).trans (congrArg some (by dsimp only; omega)))).symm

end Cert.RwkvProjReferenceIdeal.Cols
end
-- ==== Proof.FinalNorm.lean ====
module

public import proofs.«01_k».proof.Proof.Gen.FinalNormIdeal.Frame
public import proofs.«01_k».proof.Proof.Gen.FinalNormReferenceIdeal.Run
public import proofs.«01_k».proof.Proof.Gen.FinalNormReferenceIdeal.Read
public import Idealize.ShloMosaic.PureOps.Ideal
public import Idealize.ShloMosaic.Lib.Pointwise
public import Idealize.ShloMosaic.Lib.Routing.OpsOne

/-! The final norm of the context tokens and of the latent tokens: two calls of one kernel, each on blocks of 256 tokens. -/

@[expose] public section
set_option maxRecDepth 16384
noncomputable section
namespace Cert.FinalNormIdeal.Norm

section Run
open Cert.FinalNormIdeal Cert.FinalNormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run leaves the two results at the last contents, and the arguments as launched. -/
theorem run : θ_run defs (onTc (τ := τ) (main (F := F))) ⟨m, fun _ => 0, ρ⟩ (fun r => ∀ c : Dev nD,
      r.2.mem ((c.tc : Thread nD τ).loc main_v2) = W5 m ρ c main_v2
      ∧ r.2.mem ((c.tc : Thread nD τ).loc main_v5) = W5 m ρ c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v2 (by decide)), h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Run

open Cert.FinalNormIdeal Cert.FinalNormIdeal.Gen Idealize.ShloMosaic Idealize.ShloMosaic.TcCoe Idealize.SL.Sem

theorem zero2 : (![0, 0] : Fin 2 → ℕ) = fun _ => 0 := by decide

/-! ## The values -/

/-- One entry `x j` of a token, normalised and weighted. -/
def normed (x : Fin 4096 → EReal) (j : Fin 4096) (w : EReal) : EReal :=
  x j * Ideal.rsqrt (Ideal.div (∑ k : Fin 4096, x k * x k) (Ideal.ofBits .f32 0x45800000#32) + Ideal.ofBits .f32 0x358637BD#32) * w

/-- All the tokens. -/
def normAll {n : ℕ} (x : (⟨2, ![n, 4096]⟩ : Shape).Idx → EReal) (w : Vec Ideal S1x4096 .f32) : (⟨2, ![n, 4096]⟩ : Shape).Idx → EReal :=
  fun i => normed (fun k => x (ix2 (i 0) k)) (i 1) (w (ix2 0 (i 1)))

/-- The context tokens, by sequence and place. -/
def promptAll (x : Vec Ideal S8192x4096 .f32) (w : Vec Ideal S4096 .f32) : Vec Ideal S32x256x4096 .f32 :=
  fun i => normed (fun k => x (ix2 (⟨(i 0).val * 256 + (i 1).val, by
    have h0 : (i 0).val < 32 := (i 0).isLt; have h1 : (i 1).val < 256 := (i 1).isLt; omega⟩ : Fin 8192) k)) (i 2) (w (ix1 (i 2)))

/-- The latent tokens, by sample and place. -/
def sampleAll (x : Vec Ideal S32768x4096 .f32) (w : Vec Ideal S4096 .f32) : Vec Ideal S8x4096x4096 .f32 :=
  fun i => normed (fun k => x (ix2 (⟨(i 0).val * 4096 + (i 1).val, by
    have h0 : (i 0).val < 8 := (i 0).isLt; have h1 : (i 1).val < 4096 := (i 1).isLt; omega⟩ : Fin 32768) k)) (i 2) (w (ix1 (i 2)))

/-- What the kernel stores at a point. -/
theorem pay_apply (x : Vec Ideal S256x4096 .f32) (w : Vec Ideal S1x4096 .f32) (r : Fin 256) (j : Fin 4096) :
    k0_pay1 (F := Ideal) x w (ix2 r j) = normed (fun k => x (ix2 r k)) j (w (ix2 0 j)) := by
  unfold k0_pay1 normed
  pointwise

/-! ## Blocks of 256 rows, in an array of any number of rows -/

/-- The index at row `r` of block `b`, from its coordinates as the block's origin and an offset. -/
theorem in_block {n : ℕ} (e : (⟨2, ![n, 4096]⟩ : Shape).Idx) (p f b : ℕ) (r : Fin 256) (k : Fin 4096) (h0 : (e 0).val = p * 256 + 1 * r.val)
    (h1 : (e 1).val = f * 4096 + 1 * k.val) (hp : p = b) (hf : f = 0) (hr : b * 256 + r.val < n) : e = ix2 (⟨b * 256 + r, hr⟩ : Fin n) k := by
  subst hp hf
  funext a; apply Fin.ext
  match a with
  | ⟨0, _⟩ => exact h0.trans (by show p * 256 + 1 * r.val = p * 256 + r.val; omega)
  | ⟨1, _⟩ => exact h1.trans (by show 0 * 4096 + 1 * k.val = k.val; omega)

/-- An index of the weights' one row, likewise. -/
theorem in_row (e : S1x4096.Idx) (f : ℕ) (k : Fin 4096) (h1 : (e 1).val = f * 4096 + 1 * k.val) (hf : f = 0) : e = ix2 0 k := by
  subst hf
  funext a
  match a with
  | ⟨0, _⟩ => exact Subsingleton.elim (α := Fin 1) _ _
  | ⟨1, _⟩ => exact Fin.ext (h1.trans (by show 0 * 4096 + 1 * k.val = k.val; omega))

/-- A block of the normalised tokens from the same block of the tokens: `e`, `u` and `o` place a block's index in the tokens, in
the weights and in the result. -/
theorem block_eq {n : ℕ} (X : (⟨2, ![n, 4096]⟩ : Shape).Idx → EReal) (W : Vec Ideal S1x4096 .f32) (b : ℕ) (hb : ∀ r : Fin 256, b * 256 + r.val < n)
    (e o : S256x4096.Idx → (⟨2, ![n, 4096]⟩ : Shape).Idx) (u : S1x4096.Idx → S1x4096.Idx)
    (he : ∀ (r : Fin 256) (k : Fin 4096), e (ix2 r k) = ix2 (⟨b * 256 + r, hb r⟩ : Fin n) k) (hu : ∀ k : Fin 4096, u (ix2 0 k) = ix2 0 k)
    (ho : ∀ (r : Fin 256) (k : Fin 4096), o (ix2 r k) = ix2 (⟨b * 256 + r, hb r⟩ : Fin n) k) (j : S256x4096.Idx) :
    k0_pay1 (F := Ideal) (fun i => X (e i)) (fun i => W (u i)) j = normAll X W (o j) := by
  idx_vars j
  refine (pay_apply _ _ j0 j1).trans ?_
  rw [ho, hu, funext fun k => congrArg X (he j0 k)]
  rfl

/-- Every index lies in the block of its row. -/
theorem in_some_block {n : ℕ} (S : Finset (⟨2, ![n, 4096]⟩ : Shape).Idx) (i0 : Fin n) (i1 : Fin 4096) (h : i0.val / 256 * 256 + i0.val % 256 < n)
    (hm : ix2 (⟨i0.val / 256 * 256 + i0.val % 256, h⟩ : Fin n) i1 ∈ S) : ix2 i0 i1 ∈ S := by
  rwa [show (⟨i0.val / 256 * 256 + i0.val % 256, h⟩ : Fin n) = i0 from Fin.ext (by show i0.val / 256 * 256 + i0.val % 256 = i0.val; omega)] at hm

/-! ## The two calls -/

variable (V : (c : Dev nD) → (b : Ref sig .tc) → Buf (Elt Ideal) ((c : Thread nD τ).loc b))

/-- The origin of each block of the context tokens' call. -/
theorem idx0 : ∀ t : Fin cfg0.N,
    (win0_0.index t (0 : Fin 2) = t.val ∧ win0_0.index t (1 : Fin 2) = 0) ∧ win0_1.index t (1 : Fin 2) = 0
    ∧ (win0_2.index t (0 : Fin 2) = t.val ∧ win0_2.index t (1 : Fin 2) = 0) :=
  (by decide +kernel : ∀ t : Fin grid0.N, _)

theorem rows0 (t : Fin cfg0.N) (r : Fin 256) : t.val * 256 + r.val < 8192 := by have h : t.val < 32 := t.isLt; omega

theorem emb0 (t : Fin cfg0.N) (r : Fin 256) (k : Fin 4096) :
    ((cfg0.win 2).blk t).view.emb (ix2 r k) = ix2 (⟨t.val * 256 + r, rows0 t r⟩ : Fin 8192) k :=
  in_block _ _ _ _ r k rfl rfl (idx0 t).2.2.1 (idx0 t).2.2.2 _

theorem flushed0 (c : Dev nD) (t : Fin cfg0.N) :
    (dat0 V c).flushed 2 t = ((cfg0.win 2).blk t).view.read (Elt Ideal) (normAll (n := 8192) (V c main_arg0) (V c main_v0)) := by
  show (cfg0.win 2).cut (grid0.coords t) ((dat0 V c).after 2 t) = _
  rw [after0_2]
  unfold out0_2
  rw [View.canon_unit_zero zero2, View.ld_unit_zero zero2, View.ld_unit_zero zero2]
  funext j
  exact block_eq (V c main_arg0) (V c main_v0) t.val (rows0 t) ((cfg0.win 0).blk t).view.emb ((cfg0.win 2).blk t).view.emb ((cfg0.win 1).blk t).view.emb
    (fun r k => in_block _ _ _ _ r k rfl rfl (idx0 t).1.1 (idx0 t).1.2 _) (fun k => in_row _ _ k rfl (idx0 t).2.1) (emb0 t) j

theorem covered0 (i : S8192x4096.Idx) : ∃ t : Fin cfg0.N, (cfg0.win 2).flush t = true ∧ i ∈ ((cfg0.win 2).blk t).view.set := by
  idx_vars i
  have h1 : i0.val / 256 < cfg0.N := by show _ < 32; omega
  exact ⟨⟨_, h1⟩, flush0_2 _, in_some_block _ i0 i1 (by omega)
    (emb0 ⟨_, h1⟩ (⟨i0.val % 256, by omega⟩ : Fin 256) i1 ▸ ((cfg0.win 2).blk (⟨_, h1⟩ : Fin cfg0.N)).view.emb_mem_set _)⟩

/-- The context tokens after their call. -/
theorem final0 (c : Dev nD) : (dat0 V c).arrAt 2 cfg0.N = normAll (n := 8192) (V c main_arg0) (V c main_v0) :=
  (dat0 V c).arrAt_eq_of_cover 2 _ (fun t _ => flushed0 V c t) covered0

/-- The origin of each block of the latent tokens' call. -/
theorem idx1 : ∀ t : Fin cfg1.N,
    (win1_0.index t (0 : Fin 2) = t.val ∧ win1_0.index t (1 : Fin 2) = 0) ∧ win1_1.index t (1 : Fin 2) = 0
    ∧ (win1_2.index t (0 : Fin 2) = t.val ∧ win1_2.index t (1 : Fin 2) = 0) :=
  (by decide +kernel : ∀ t : Fin grid1.N, _)

theorem rows1 (t : Fin cfg1.N) (r : Fin 256) : t.val * 256 + r.val < 32768 := by have h : t.val < 128 := t.isLt; omega

theorem emb1 (t : Fin cfg1.N) (r : Fin 256) (k : Fin 4096) :
    ((cfg1.win 2).blk t).view.emb (ix2 r k) = ix2 (⟨t.val * 256 + r, rows1 t r⟩ : Fin 32768) k :=
  in_block _ _ _ _ r k rfl rfl (idx1 t).2.2.1 (idx1 t).2.2.2 _

theorem flushed1 (c : Dev nD) (t : Fin cfg1.N) :
    (dat1 V c).flushed 2 t = ((cfg1.win 2).blk t).view.read (Elt Ideal) (normAll (n := 32768) (V c main_arg1) (V c main_v3)) := by
  show (cfg1.win 2).cut (grid1.coords t) ((dat1 V c).after 2 t) = _
  rw [after1_2]
  unfold out1_2
  rw [View.canon_unit_zero zero2, View.ld_unit_zero zero2, View.ld_unit_zero zero2]
  funext j
  exact block_eq (V c main_arg1) (V c main_v3) t.val (rows1 t) ((cfg1.win 0).blk t).view.emb ((cfg1.win 2).blk t).view.emb ((cfg1.win 1).blk t).view.emb
    (fun r k => in_block _ _ _ _ r k rfl rfl (idx1 t).1.1 (idx1 t).1.2 _) (fun k => in_row _ _ k rfl (idx1 t).2.1) (emb1 t) j

theorem covered1 (i : S32768x4096.Idx) : ∃ t : Fin cfg1.N, (cfg1.win 2).flush t = true ∧ i ∈ ((cfg1.win 2).blk t).view.set := by
  idx_vars i
  have h1 : i0.val / 256 < cfg1.N := by show _ < 128; omega
  exact ⟨⟨_, h1⟩, flush1_2 _, in_some_block _ i0 i1 (by omega)
    (emb1 ⟨_, h1⟩ (⟨i0.val % 256, by omega⟩ : Fin 256) i1 ▸ ((cfg1.win 2).blk (⟨_, h1⟩ : Fin cfg1.N)).view.emb_mem_set _)⟩

/-- The latent tokens after their call. -/
theorem final1 (c : Dev nD) : (dat1 V c).arrAt 2 cfg1.N = normAll (n := 32768) (V c main_arg1) (V c main_v3) :=
  (dat1 V c).arrAt_eq_of_cover 2 _ (fun t _ => flushed1 V c t) covered1

/-! ## The results -/

variable (m : (ℓ : Loc nD τ sig) → Buf (Elt Ideal) ℓ) (ρ : Dev nD → PrngReg)

theorem weights0 (c : Dev nD) (k : Fin 4096) : (V1 m ρ c main_v0 : Vec Ideal S1x4096 .f32) (ix2 0 k)
    = (m ((c : Thread nD τ).loc main_arg2) : Vec Ideal S4096 .f32) (ix1 k) := by
  show StableHlo.after hostOps0 (W0 m ρ c) main_v0 (ix2 0 k) = _
  simp only [hostOps0]
  after_results
  pointwise

theorem weights1 (c : Dev nD) (k : Fin 4096) : (V3 m ρ c main_v3 : Vec Ideal S1x4096 .f32) (ix2 0 k)
    = (m ((c : Thread nD τ).loc main_arg2) : Vec Ideal S4096 .f32) (ix1 k) := by
  rw [show m ((c : Thread nD τ).loc main_arg2) = W2 m ρ c main_arg2 from (W2_args m ρ c main_arg2 (by decide)).symm]
  show StableHlo.after hostOps1 (W2 m ρ c) main_v3 (ix2 0 k) = _
  simp only [hostOps1]
  after_results
  pointwise

theorem result_prompt (c : Dev nD) : W5 m ρ c main_v2
    = promptAll (m ((c : Thread nD τ).loc main_arg0)) (m ((c : Thread nD τ).loc main_arg2)) := by
  refine ((W5_of m ρ c main_v2 (by decide)).trans (W4_of m ρ c main_v2 (by decide))).trans ?_
  funext i
  idx_vars i
  have h : W3 m ρ c main_v2 (ix3 i0 i1 i2)
      = (W2 m ρ c main_v1 : Vec Ideal S8192x4096 .f32) (ix2 (⟨i0.val * 256 + i1.val, by omega⟩ : Fin 8192) i2) := by
    show StableHlo.after hostOps1 (W2 m ρ c) main_v2 _ = _
    simp only [hostOps1]
    after_results
    pointwise
  refine h.trans ?_
  rw [show W2 m ρ c main_v1 = normAll (n := 8192) (V1 m ρ c main_arg0) (V1 m ρ c main_v0) from (W2_arr m ρ c 2).trans (final0 (V1 m ρ) c),
    show V1 m ρ c main_arg0 = m ((c : Thread nD τ).loc main_arg0) from W1_args m ρ c main_arg0 (by decide)]
  exact congrArg (normed _ _) (weights0 m ρ c i2)

theorem result_sample (c : Dev nD) : W5 m ρ c main_v5
    = sampleAll (m ((c : Thread nD τ).loc main_arg1)) (m ((c : Thread nD τ).loc main_arg2)) := by
  funext i
  idx_vars i
  have h : W5 m ρ c main_v5 (ix3 i0 i1 i2)
      = (W4 m ρ c main_v4 : Vec Ideal S32768x4096 .f32) (ix2 (⟨i0.val * 4096 + i1.val, by omega⟩ : Fin 32768) i2) := by
    show StableHlo.after hostOps2 (W4 m ρ c) main_v5 _ = _
    simp only [hostOps2]
    after_results
    pointwise
  refine h.trans ?_
  rw [show W4 m ρ c main_v4 = normAll (n := 32768) (V3 m ρ c main_arg1) (V3 m ρ c main_v3) from (W4_arr m ρ c 2).trans (final1 (V3 m ρ) c),
    show V3 m ρ c main_arg1 = m ((c : Thread nD τ).loc main_arg1) from W3_args m ρ c main_arg1 (by decide)]
  exact congrArg (normed _ _) (weights1 m ρ c i2)

end Cert.FinalNormIdeal.Norm

namespace Cert.FinalNormReferenceIdeal.Norm
open Cert.FinalNormReferenceIdeal Cert.FinalNormReferenceIdeal.Read Idealize.ShloMosaic

/-- The reference's context tokens are the same. -/
theorem prompt_eq (x : Vec Ideal S8192x4096 .f32) (w : Vec Ideal S4096 .f32) :
    val_main_v13 (F := Ideal) x w = Cert.FinalNormIdeal.Norm.promptAll x w := by
  funext i
  idx_vars i
  unfold val_main_v13 val_main_v12 val_main_v11 val_main_v10 val_main_v9 val_main_v8 val_main_v7 val_main_v6 val_main_v5 val_main_v4 val_main_v3 val_main_v2 val_main_v1 val_main_v0
    val_main_cst val_main_cst_0 val_main_cst_1
  unfold Cert.FinalNormIdeal.Norm.promptAll Cert.FinalNormIdeal.Norm.normed
  pointwise

/-- The reference's latent tokens are the same. -/
theorem sample_eq (x : Vec Ideal S32768x4096 .f32) (w : Vec Ideal S4096 .f32) :
    val_main_v27 (F := Ideal) x w = Cert.FinalNormIdeal.Norm.sampleAll x w := by
  funext i
  idx_vars i
  unfold val_main_v27 val_main_v26 val_main_v25 val_main_v24 val_main_v23 val_main_v22 val_main_v21 val_main_v20 val_main_v19 val_main_v18 val_main_v17 val_main_v16 val_main_v15 val_main_v14
    val_main_cst_2 val_main_cst_3 val_main_cst_4
  unfold Cert.FinalNormIdeal.Norm.sampleAll Cert.FinalNormIdeal.Norm.normed
  pointwise

end Cert.FinalNormReferenceIdeal.Norm
end
-- ==== Proof.HeadSum.lean ====
module

public import Idealize.ShloMosaic.PureOps.Ideal
public import Idealize.ShloMosaic.Lib.Pointwise
public import Idealize.ShloMosaic.Lib.Pipeline.Value

/-! The sum over a head's 64 channels, in rows of 2048 channels whose head is the last of a channel's two indices: sixteen slices of 128
lanes are added, then the four lanes of a head by two rotations, and the sum is written to all channels of the head. -/

@[expose] public section
set_option maxRecDepth 16384
noncomputable section
namespace Cert.HeadSum
open Idealize.ShloMosaic Idealize.ShloMosaic.TcCoe

variable {R : ℕ}

/-- `R` rows of 2048 channels. -/
abbrev Rows (R : ℕ) : Shape := ⟨2, ![R, 2048]⟩

/-- `R` rows of 128 lanes. -/
abbrev Lanes (R : ℕ) : Shape := ⟨2, ![R, 128]⟩

theorem slices (j : ℕ) (h : j < 16) : (Rows R).Slices ![0, 128 * j] (Lanes R) :=
  ⟨rfl, fun a => match a with
    | ⟨0, _⟩ => (by show 0 + R ≤ R; omega)
    | ⟨1, _⟩ => (by show 128 * j + 128 ≤ 2048; omega)⟩

theorem rotates : (Lanes R).Rotates 1 none := ⟨le_refl 2, fun q h => nomatch h⟩

theorem joins (s : FVec Ideal (Lanes R) .f32) :
    Shape.Concatenates ((List.replicate 16 (⟨Lanes R, s⟩ : (s : Shape) × (s.Idx → EReal))).map (·.1)) (Rows R) 1 := by
  rw [List.map_replicate]
  refine ⟨by rw [List.length_replicate]; decide, fun s hs => ?_, ?_⟩
  · rw [List.eq_of_mem_replicate hs]
    exact ⟨rfl, fun b hb => match b with
      | ⟨0, _⟩ => rfl
      | ⟨1, _⟩ => (hb rfl).elim⟩
  · rw [List.map_replicate, List.sum_replicate, dif_pos rfl]
    rfl

/-- The slices up to the one numbered `j`, added in turn. -/
def lanes (y : FVec Ideal (Rows R) .f32) : (j : ℕ) → j < 16 → FVec Ideal (Lanes R) .f32
  | 0, h => extractStridedSlice (Lanes R) ![0, 128 * 0] y (slices 0 h)
  | j + 1, h => addf (lanes y j (by omega)) (extractStridedSlice (Lanes R) ![0, 128 * (j + 1)] y (slices (j + 1) h))

/-- The four lanes of each head, added by two rotations. -/
def folded (s : FVec Ideal (Lanes R) .f32) : FVec Ideal (Lanes R) .f32 :=
  addf (addf s (dynamicRotate 1 64#32 none s rotates)) (dynamicRotate 1 32#32 none (addf s (dynamicRotate 1 64#32 none s rotates)) rotates)

/-- The lanes written sixteen times. -/
def spread (s : FVec Ideal (Lanes R) .f32) : FVec Ideal (Rows R) .f32 :=
  concatenate (Rows R) 1 (List.replicate 16 ⟨Lanes R, s⟩) (joins s)

/-- The sum over each head's channels, at all of them. -/
def headSum (y : FVec Ideal (Rows R) .f32) : FVec Ideal (Rows R) .f32 := spread (folded (lanes y 15 (by decide)))

/-- Two indices agree when their coordinates do. -/
theorem idx_ext {m n : ℕ} (a b : (⟨2, ![m, n]⟩ : Shape).Idx) (h0 : (a 0).val = (b 0).val) (h1 : (a 1).val = (b 1).val) : a = b :=
  funext fun i => match i with
    | ⟨0, _⟩ => Fin.ext h0
    | ⟨1, _⟩ => Fin.ext h1

theorem lanes_apply (y : FVec Ideal (Rows R) .f32) (r : Fin R) (l : Fin 128) : ∀ (j : ℕ) (h : j < 16),
    lanes y j h (ix2 r l) = ∑ i : Fin (j + 1), y (ix2 r (⟨i.val * 128 + l.val, by omega⟩ : Fin 2048))
  | 0, h => by
    rw [Fin.sum_univ_succ, Fin.sum_univ_zero, add_zero]
    unfold lanes
    refine congrArg y (idx_ext _ _ ?_ ?_)
    · show 0 + r.val = r.val; omega
    · show 128 * 0 + l.val = 0 * 128 + l.val; omega
  | j + 1, h => by
    rw [Fin.sum_univ_castSucc]
    unfold lanes
    refine congrArg₂ (· + ·) (lanes_apply y r l j (by omega)) (congrArg y (idx_ext _ _ ?_ ?_))
    · show 0 + r.val = r.val; omega
    · show 128 * (j + 1) + l.val = (j + 1) * 128 + l.val; omega

/-- A rotation by `n` lanes. -/
theorem rotate_apply (s : FVec Ideal (Lanes R) .f32) (n : BitVec 32) (r : Fin R) (l k : Fin 128) (hn : n.toNat < 128)
    (hk : k.val = (l.val + 128 - n.toNat) % 128) : dynamicRotate 1 n none s rotates (ix2 r l) = s (ix2 r k) := by
  rw [Pointwise.dynamicRotate_apply]
  refine congrArg s (idx_ext _ _ ?_ ?_)
  · rfl
  · refine Eq.trans ?_ hk.symm
    show (l.val + 128 - n.toNat % 128) % 128 = _
    rw [Nat.mod_eq_of_lt hn]

theorem folded_apply (s : FVec Ideal (Lanes R) .f32) (r : Fin R) (l : Fin 128) :
    folded s (ix2 r l) = (s (ix2 r l) + s (ix2 r ⟨(l.val + 64) % 128, by omega⟩))
      + (s (ix2 r ⟨(l.val + 96) % 128, by omega⟩) + s (ix2 r ⟨(l.val + 32) % 128, by omega⟩)) := by
  have once (k : Fin 128) : addf s (dynamicRotate 1 64#32 none s rotates) (ix2 r k) = s (ix2 r k) + s (ix2 r ⟨(k.val + 64) % 128, by omega⟩) :=
    congrArg (s (ix2 r k) + ·) (rotate_apply s 64#32 r k _ (by decide) (by show _ = (k.val + 128 - 64) % 128; dsimp only; omega))
  refine congrArg₂ (· + ·) (once l) ((rotate_apply _ 32#32 r l (⟨(l.val + 96) % 128, by omega⟩ : Fin 128) (by decide)
    (by show _ = (l.val + 128 - 32) % 128; dsimp only; omega)).trans ((once _).trans ?_))
  exact congrArg (_ + ·) (congrArg s (congrArg (ix2 r) (Fin.ext (by dsimp only; omega))))

theorem spread_apply (s : FVec Ideal (Lanes R) .f32) (r : Fin R) (c : Fin 2048) :
    spread s (ix2 r c) = s (ix2 r ⟨c.val % 128, by omega⟩) := by
  unfold spread
  exact concatenate_replicate_apply 1 16 s (joins s) rfl (ix2 r c) (ix2 r ⟨c.val % 128, by omega⟩) rfl fun b hb => match b with
    | ⟨0, _⟩ => rfl
    | ⟨1, _⟩ => (hb rfl).elim

/-- A sum over 64 channels, as a sum over 16 slices of four. -/
theorem sum_slices (f : Fin 64 → EReal) :
    ∑ n : Fin 64, f n = ((∑ i : Fin 16, f ⟨i.val * 4, by omega⟩) + (∑ i : Fin 16, f ⟨i.val * 4 + 1, by omega⟩))
      + ((∑ i : Fin 16, f ⟨i.val * 4 + 2, by omega⟩) + ∑ i : Fin 16, f ⟨i.val * 4 + 3, by omega⟩) := by
  rw [← (finProdFinEquiv (m := 16) (n := 4)).sum_comp f, Fintype.sum_prod_type]
  simp only [Fin.sum_univ_four, Finset.sum_add_distrib]
  have e (a : Fin 4) (i : Fin 16) : (finProdFinEquiv (i, a) : Fin 64) = ⟨i.val * 4 + a.val, by omega⟩ :=
    Fin.ext (by show a.val + 4 * i.val = i.val * 4 + a.val; omega)
  simp only [e]
  exact add_assoc _ _ _

/-- What every channel holds: its head's sum. -/
theorem headSum_apply (y : FVec Ideal (Rows R) .f32) (r : Fin R) (c : Fin 2048) :
    headSum y (ix2 r c) = ∑ n : Fin 64, y (ix2 r (⟨n.val * 32 + c.val % 32, by omega⟩ : Fin 2048)) := by
  unfold headSum
  rw [spread_apply, folded_apply, sum_slices]
  simp only [lanes_apply]
  have part (a b : ℕ) (hb : b < 128) (ha : a < 4) (h : b = a * 32 + c.val % 32) :
      ∑ i : Fin 16, y (ix2 r (⟨i.val * 128 + b, by omega⟩ : Fin 2048))
        = ∑ i : Fin 16, y (ix2 r (⟨(i.val * 4 + a) * 32 + c.val % 32, by omega⟩ : Fin 2048)) :=
    Finset.sum_congr rfl fun i _ => congrArg y (congrArg (ix2 r) (Fin.ext (by dsimp only; omega)))
  have hc : c.val % 128 / 32 = 0 ∨ c.val % 128 / 32 = 1 ∨ c.val % 128 / 32 = 2 ∨ c.val % 128 / 32 = 3 := by omega
  rcases hc with h | h | h | h
  · rw [part 0 _ (by omega) (by omega) (by omega), part 2 _ (by omega) (by omega) (by omega), part 3 _ (by omega) (by omega) (by omega),
      part 1 _ (by omega) (by omega) (by omega)]
    ac_rfl
  · rw [part 1 _ (by omega) (by omega) (by omega), part 3 _ (by omega) (by omega) (by omega), part 0 _ (by omega) (by omega) (by omega),
      part 2 _ (by omega) (by omega) (by omega)]
    ac_rfl
  · rw [part 2 _ (by omega) (by omega) (by omega), part 0 _ (by omega) (by omega) (by omega), part 1 _ (by omega) (by omega) (by omega),
      part 3 _ (by omega) (by omega) (by omega)]
    ac_rfl
  · rw [part 3 _ (by omega) (by omega) (by omega), part 1 _ (by omega) (by omega) (by omega), part 2 _ (by omega) (by omega) (by omega),
      part 0 _ (by omega) (by omega) (by omega)]
    ac_rfl

end Cert.HeadSum
end
-- ==== Proof.RwkvGate.lean ====
module

public import proofs.«01_k».proof.Proof.Gen.RwkvGateIdeal.Value
public import proofs.«01_k».proof.Proof.Gen.RwkvGateReferenceIdeal.Run
public import proofs.«01_k».proof.Proof.Gen.RwkvGateReferenceIdeal.Read
public import proofs.«01_k».proof.Proof.HeadSum
public import Idealize.ShloMosaic.PureOps.Ideal
public import Idealize.ShloMosaic.Lib.Pointwise

/-! The end of the second mixer: both directions' results, normalised over each head, the bonus and the gate. -/

@[expose] public section
set_option maxRecDepth 16384
noncomputable section
namespace Cert.RwkvGateIdeal.Gate
open Cert.RwkvGateIdeal Cert.RwkvGateIdeal.Gen Cert.HeadSum Idealize.ShloMosaic Idealize.ShloMosaic.TcCoe Idealize.SL.Sem

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

/-! ## The values -/

/-- The mean of a head's channels. -/
def mean (y : Fin 64 → EReal) : EReal := Ideal.div (∑ k : Fin 64, y k) (Ideal.ofBits .f32 0x42800000#32)

/-- A channel's deviation from the mean. -/
def dev (y : Fin 64 → EReal) (n : Fin 64) : EReal := y n - mean y

/-- A channel after the group norm, with its weight and its bias. -/
def normed (y : Fin 64 → EReal) (n : Fin 64) (w b : EReal) : EReal :=
  dev y n * Ideal.rsqrt (mean (fun k => dev y k * dev y k) + Ideal.ofBits .f32 0x3A27C5AC#32) * w + b

/-- Channel `n` of head `h`, the head last. -/
def chan (n : Fin 64) (h : Fin 32) : Fin 2048 := ⟨n.val * 32 + h.val, by omega⟩

theorem chan_eq (c : Fin 2048) : chan ⟨c.val / 32, by omega⟩ ⟨c.val % 32, by omega⟩ = c :=
  Fin.ext (by show c.val / 32 * 32 + c.val % 32 = c.val; omega)

/-- The layer's place of a channel, the head first. -/
def place (n : Fin 64) (h : Fin 32) : Fin 2048 := ⟨h.val * 64 + n.val, by omega⟩

/-- The row of a time step and a sample. -/
def row (t : Fin 4096) (b : Fin 8) : Fin 32768 := ⟨t.val * 8 + b.val, by omega⟩

/-- One entry of the result. -/
def gated (y : Vec Ideal S2x32768x2048 .f32) (bonus g : Vec Ideal S32768x2048 .f32) (w b : Vec Ideal S1x2048 .f32)
    (r : Fin 32768) (n : Fin 64) (h : Fin 32) : EReal :=
  (normed (fun k => y (ix3 0 r (chan k h))) n (w (ix2 0 (place n h))) (b (ix2 0 (place n h)))
    + normed (fun k => y (ix3 1 r (chan k h))) n (w (ix2 0 (place n h))) (b (ix2 0 (place n h))) + bonus (ix2 r (chan n h)))
    * g (ix2 r (chan n h))

/-- All of them, by sample, time step and channel. -/
def gatedAll (y : Vec Ideal S2x32768x2048 .f32) (bonus g : Vec Ideal S32768x2048 .f32) (w b : Vec Ideal S1x2048 .f32) : Vec Ideal S8x4096x2048 .bf16 :=
  fun i => gated y bonus g w b (row (i 1) (i 0)) ⟨(i 2).val / 32, by have : (i 2).val < 2048 := (i 2).isLt; omega⟩ ⟨(i 2).val % 32, by omega⟩

theorem gatedAll_apply (y : Vec Ideal S2x32768x2048 .f32) (bonus g : Vec Ideal S32768x2048 .f32) (w b : Vec Ideal S1x2048 .f32)
    (s : Fin 8) (t : Fin 4096) (n : Fin 64) (h : Fin 32) : gatedAll y bonus g w b (ix3 s t (chan n h)) = gated y bonus g w b (row t s) n h :=
  congrArg₂ (gated y bonus g w b (row t s)) (Fin.ext (by show (n.val * 32 + h.val) / 32 = n.val; omega))
    (Fin.ext (by show (n.val * 32 + h.val) % 32 = h.val; omega))

theorem bits_64 : Ideal.ofBits .f32 0x42800000#32 = ((64 : ℝ) : EReal) := by
  simp [Ideal.ofBits, Ideal.ieee, -EReal.coe_mul]; norm_num

theorem bits_64th : Ideal.ofBits .f32 0x3C800000#32 = (((64 : ℝ)⁻¹ : ℝ) : EReal) := by
  simp [Ideal.ofBits, Ideal.ieee, -EReal.coe_mul]; norm_num

/-- The kernel multiplies by 1/64 where the mean is a quotient. -/
theorem mean_eq (y : Fin 64 → EReal) : (∑ k : Fin 64, y k) * Ideal.ofBits .f32 0x3C800000#32 = mean y := by
  unfold mean Ideal.div
  rw [bits_64, bits_64th, if_neg (by norm_num), ← EReal.coe_inv]

/-! ## The kernel's terms -/

/-- The deviations of all rows. -/
def centred (y : FVec Ideal S256x2048 .f32) : FVec Ideal S256x2048 .f32 :=
  subf y (mulf (headSum y) (broadcast S256x2048 (Scalar.ofBits .f32 0x3C800000#32 : Ideal .f32)))

/-- The group norm of all rows, from the deviations. -/
def scaled (w b : FVec Ideal S1x2048 .f32) (y : FVec Ideal S256x2048 .f32) : FVec Ideal S256x2048 .f32 :=
  addf (mulf (mulf y (rsqrt (addf (mulf (headSum (mulf y y)) (broadcast S256x2048 (Scalar.ofBits .f32 0x3C800000#32 : Ideal .f32)))
    (broadcast S256x2048 (Scalar.ofBits .f32 0x3A27C5AC#32 : Ideal .f32))))) (broadcastTo S256x2048 w broadcasts_S1x2048_S256x2048))
    (broadcastTo S256x2048 b broadcasts_S1x2048_S256x2048)

/-- The rest of the kernel, from both directions' normalised rows. -/
def tail (y z : FVec Ideal S256x2048 .f32) (bonus g : Vec Ideal S32x8x2048 .f32) : FVec Ideal S8x32x2048 .bf16 :=
  truncf .bf16 (transpose S8x32x2048 [1, 0, 2] (shapeCast S32x8x2048
    (mulf (addf (addf y z) (shapeCast S256x2048 (shapeCast S32x8x2048 bonus shapeCasts_S32x8x2048_S32x8x2048) shapeCasts_S32x8x2048_S256x2048))
      (shapeCast S256x2048 (shapeCast S32x8x2048 g shapeCasts_S32x8x2048_S32x8x2048) shapeCasts_S32x8x2048_S256x2048))
    shapeCasts_S256x2048_S32x8x2048) transposes_S32x8x2048_p1_0_2_S8x32x2048) bitsLt_bf16_f32

theorem pay4_eq (x : Vec Ideal S1x32x8x2048 .f32) : k0_pay4 (F := Ideal) x = centred (k0_pay7 x) := rfl

theorem pay9_eq (x : Vec Ideal S1x32x8x2048 .f32) : k0_pay9 (F := Ideal) (k0_pay7 x) (k0_pay8 x) = centred (k0_pay7 x) := rfl

theorem pay6_eq (w b : FVec Ideal S1x2048 .f32) (x : Vec Ideal S1x32x8x2048 .f32) :
    k0_pay6 (F := Ideal) w b (k0_pay4 x) (k0_pay5 x) = scaled w b (k0_pay4 x) := rfl

theorem pay1_eq (w b : FVec Ideal S1x2048 .f32) (y : FVec Ideal S256x2048 .f32) (p : FVec Ideal S256x2048 .f32) (q : FVec Ideal S256x128 .f32)
    (bonus g : Vec Ideal S32x8x2048 .f32) :
    k0_pay1 (F := Ideal) w b y (k0_pay9 p q) (k0_pay10 p q) (k0_pay11 p q) (k0_pay12 p q) bonus g
      = tail y (scaled w b (k0_pay9 p q)) bonus g := rfl

theorem pay2_eq (w : Vec Ideal S1x2048 .f32) (c : Fin 2048) : k0_pay2 (F := Ideal) w (ix2 0 c) = w (ix2 0 c) := by
  unfold k0_pay2
  pointwise

theorem pay3_eq (w : Vec Ideal S1x2048 .f32) (c : Fin 2048) : k0_pay3 (F := Ideal) w (ix2 0 c) = w (ix2 0 c) := by
  unfold k0_pay3
  pointwise

theorem pay7_apply (x : Vec Ideal S1x32x8x2048 .f32) (t : Fin 32) (b : Fin 8) (c : Fin 2048) :
    k0_pay7 (F := Ideal) x (ix2 (⟨t.val * 8 + b.val, by omega⟩ : Fin 256) c) = x (ix4 0 t b c) := by
  unfold k0_pay7
  pointwise

theorem headSum_chan (y : FVec Ideal S256x2048 .f32) (r : Fin 256) (n : Fin 64) (h : Fin 32) :
    headSum y (ix2 r (chan n h)) = ∑ k : Fin 64, y (ix2 r (chan k h)) :=
  (headSum_apply y r (chan n h)).trans (Finset.sum_congr rfl fun k _ => congrArg y (congrArg (ix2 r) (Fin.ext (by
    show k.val * 32 + (n.val * 32 + h.val) % 32 = k.val * 32 + h.val; omega))))

theorem centred_apply (y : FVec Ideal S256x2048 .f32) (r : Fin 256) (n : Fin 64) (h : Fin 32) :
    centred y (ix2 r (chan n h)) = dev (fun k => y (ix2 r (chan k h))) n :=
  congrArg (y (ix2 r (chan n h)) - ·) ((congrArg (· * Ideal.ofBits .f32 0x3C800000#32) (headSum_chan y r n h)).trans (mean_eq _))

theorem scaled_apply (w b : FVec Ideal S1x2048 .f32) (y : FVec Ideal S256x2048 .f32) (r : Fin 256) (n : Fin 64) (h : Fin 32) :
    scaled w b (centred y) (ix2 r (chan n h)) = normed (fun k => y (ix2 r (chan k h))) n (w (ix2 0 (chan n h))) (b (ix2 0 (chan n h))) := by
  have hs : headSum (mulf (centred y) (centred y)) (ix2 r (chan n h)) * Ideal.ofBits .f32 0x3C800000#32
      = mean (fun k => dev (fun k => y (ix2 r (chan k h))) k * dev (fun k => y (ix2 r (chan k h))) k) := by
    rw [headSum_chan, ← mean_eq]
    exact congrArg (· * _) (Finset.sum_congr rfl fun k _ => congrArg₂ (· * ·) (centred_apply y r k h) (centred_apply y r k h))
  unfold normed
  rw [← hs, ← centred_apply y r n h]
  generalize centred y = z
  unfold scaled
  generalize headSum (mulf z z) = u
  generalize chan n h = c
  pointwise

theorem tail_apply (y z : FVec Ideal S256x2048 .f32) (bonus g : Vec Ideal S32x8x2048 .f32) (b : Fin 8) (t : Fin 32) (c : Fin 2048) :
    tail y z bonus g (ix3 b t c) = (y (ix2 (⟨t.val * 8 + b.val, by omega⟩ : Fin 256) c) + z (ix2 (⟨t.val * 8 + b.val, by omega⟩ : Fin 256) c)
      + bonus (ix3 t b c)) * g (ix3 t b c) := by
  unfold tail
  pointwise

variable (m : (ℓ : Loc nD τ sig) → Buf (Elt Ideal) ℓ)

/-- The call's arguments. -/
def dirs (c : Dev nD) : Vec Ideal S2x32768x2048 .f32 := m ((c : Thread nD τ).loc main_arg0)
def bonusOf (c : Dev nD) : Vec Ideal S32768x2048 .f32 := m ((c : Thread nD τ).loc main_arg1)
def gateOf (c : Dev nD) : Vec Ideal S32768x2048 .f32 := m ((c : Thread nD τ).loc main_arg2)
def weightOf (c : Dev nD) : Vec Ideal S1x2048 .f32 := m ((c : Thread nD τ).loc main_arg3)
def biasOf (c : Dev nD) : Vec Ideal S1x2048 .f32 := m ((c : Thread nD τ).loc main_arg4)

theorem host_dirs0 (c : Dev nD) (d : Fin 2) (t : Fin 4096) (b : Fin 8) (k : Fin 2048) :
    (V m c main_v8 : Vec Ideal S2x4096x8x2048 .f32) (ix4 d t b k) = dirs m c (ix3 d (row t b) k) := by
  unfold V
  simp only [hostOps0, List.flatten_cons, List.flatten_nil, List.append_nil, List.cons_append, List.nil_append]
  after_results
  pointwise
  rfl

theorem host_dirs1 (c : Dev nD) (d : Fin 2) (t : Fin 4096) (b : Fin 8) (k : Fin 2048) :
    (V m c main_v9 : Vec Ideal S2x4096x8x2048 .f32) (ix4 d t b k) = dirs m c (ix3 d (row t b) k) := by
  unfold V
  simp only [hostOps0, List.flatten_cons, List.flatten_nil, List.append_nil, List.cons_append, List.nil_append]
  after_results
  pointwise
  rfl

theorem host_bonus (c : Dev nD) (t : Fin 4096) (b : Fin 8) (k : Fin 2048) :
    (V m c main_v10 : Vec Ideal S4096x8x2048 .f32) (ix3 t b k) = bonusOf m c (ix2 (row t b) k) := by
  unfold V
  simp only [hostOps0, List.flatten_cons, List.flatten_nil, List.append_nil, List.cons_append, List.nil_append]
  after_results
  pointwise
  rfl

theorem host_gate (c : Dev nD) (t : Fin 4096) (b : Fin 8) (k : Fin 2048) :
    (V m c main_v11 : Vec Ideal S4096x8x2048 .f32) (ix3 t b k) = gateOf m c (ix2 (row t b) k) := by
  unfold V
  simp only [hostOps0, List.flatten_cons, List.flatten_nil, List.append_nil, List.cons_append, List.nil_append]
  after_results
  pointwise
  rfl

theorem place_eq (n : Fin 64) (h : Fin 32) (i : S1x2048.Idx) (e : (i 1).val = (chan n h).val % 32 * 64 + (chan n h).val / 32) :
    i = ix2 0 (place n h) := by
  funext a; apply Fin.ext
  match a with
  | ⟨0, _⟩ => exact Nat.lt_one_iff.1 (i 0).isLt
  | ⟨1, _⟩ => exact e.trans (by show (n.val * 32 + h.val) % 32 * 64 + (n.val * 32 + h.val) / 32 = h.val * 64 + n.val; omega)

theorem host_weight (c : Dev nD) (n : Fin 64) (h : Fin 32) :
    (V m c main_v12 : Vec Ideal S1x2048 .f32) (ix2 0 (chan n h)) = weightOf m c (ix2 0 (place n h)) := by
  unfold V
  simp only [hostOps0, List.flatten_cons, List.flatten_nil, List.append_nil, List.cons_append, List.nil_append]
  after_results
  have e := fun i => place_eq n h i
  revert e
  generalize chan n h = k
  intro e
  pointwise
  exact congrArg (weightOf m c) (e _ rfl)

theorem host_bias (c : Dev nD) (n : Fin 64) (h : Fin 32) :
    (V m c main_v13 : Vec Ideal S1x2048 .f32) (ix2 0 (chan n h)) = biasOf m c (ix2 0 (place n h)) := by
  unfold V
  simp only [hostOps0, List.flatten_cons, List.flatten_nil, List.append_nil, List.cons_append, List.nil_append]
  after_results
  have e := fun i => place_eq n h i
  revert e
  generalize chan n h = k
  intro e
  pointwise
  exact congrArg (biasOf m c) (e _ rfl)

/-! ## The blocks -/

theorem idx_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 1 ∧ win0_1.index t (1 : Fin 4) = t.val ∧ win0_1.index t (2 : Fin 4) = 0 ∧ win0_1.index t (3 : Fin 4) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = 0 ∧ win0_6.index t (1 : Fin 3) = t.val ∧ win0_6.index t (2 : Fin 3) = 0) :=
  (by decide +kernel : ∀ t : Fin grid0.N, _)

theorem N_lt (t : Fin cfg0.N) : t.val < 128 := t.isLt

/-- The time step of a point's block. -/
def step (t : Fin cfg0.N) (r : Fin 32) : Fin 4096 := ⟨t.val * 32 + r, by have := N_lt t; omega⟩

theorem blk0 (c : Dev nD) (t : Fin cfg0.N) (r : Fin 32) (b : Fin 8) (k : Fin 2048) :
    (iblk m c 0 t : Vec Ideal S1x32x8x2048 .f32) (ix4 0 r b k) = dirs m c (ix3 0 (row (step t r) b) k) := by
  obtain ⟨⟨e0, e1, e2, e3⟩, -⟩ := idx_facts t
  have hi : ((cfg0.win 0).blk t).view.emb (ix4 0 r b k) = ix4 0 (step t r) b k := by
    funext a; apply Fin.ext
    match a with
    | ⟨0, _⟩ => show win0_0.index t (0 : Fin 4) * 1 + 1 * 0 = 0; omega
    | ⟨1, _⟩ => show win0_0.index t (1 : Fin 4) * 32 + 1 * r.val = t.val * 32 + r.val; omega
    | ⟨2, _⟩ => show win0_0.index t (2 : Fin 4) * 8 + 1 * b.val = b.val; omega
    | ⟨3, _⟩ => show win0_0.index t (3 : Fin 4) * 2048 + 1 * k.val = k.val; omega
  show (V m c main_v8 : Vec Ideal S2x4096x8x2048 .f32) (((cfg0.win 0).blk t).view.emb (ix4 0 r b k)) = _
  rw [hi, host_dirs0]

theorem blk1 (c : Dev nD) (t : Fin cfg0.N) (r : Fin 32) (b : Fin 8) (k : Fin 2048) :
    (iblk m c 1 t : Vec Ideal S1x32x8x2048 .f32) (ix4 0 r b k) = dirs m c (ix3 1 (row (step t r) b) k) := by
  obtain ⟨-, ⟨e0, e1, e2, e3⟩, -⟩ := idx_facts t
  have hi : ((cfg0.win 1).blk t).view.emb (ix4 0 r b k) = ix4 1 (step t r) b k := by
    funext a; apply Fin.ext
    match a with
    | ⟨0, _⟩ => show win0_1.index t (0 : Fin 4) * 1 + 1 * 0 = 1; omega
    | ⟨1, _⟩ => show win0_1.index t (1 : Fin 4) * 32 + 1 * r.val = t.val * 32 + r.val; omega
    | ⟨2, _⟩ => show win0_1.index t (2 : Fin 4) * 8 + 1 * b.val = b.val; omega
    | ⟨3, _⟩ => show win0_1.index t (3 : Fin 4) * 2048 + 1 * k.val = k.val; omega
  show (V m c main_v9 : Vec Ideal S2x4096x8x2048 .f32) (((cfg0.win 1).blk t).view.emb (ix4 0 r b k)) = _
  rw [hi, host_dirs1]

theorem blk2 (c : Dev nD) (t : Fin cfg0.N) (r : Fin 32) (b : Fin 8) (k : Fin 2048) :
    (iblk m c 2 t : Vec Ideal S32x8x2048 .f32) (ix3 r b k) = bonusOf m c (ix2 (row (step t r) b) k) := by
  obtain ⟨-, -, ⟨e0, e1, e2⟩, -⟩ := idx_facts t
  have hi : ((cfg0.win 2).blk t).view.emb (ix3 r b k) = ix3 (step t r) b k := by
    funext a; apply Fin.ext
    match a with
    | ⟨0, _⟩ => show win0_2.index t (0 : Fin 3) * 32 + 1 * r.val = t.val * 32 + r.val; omega
    | ⟨1, _⟩ => show win0_2.index t (1 : Fin 3) * 8 + 1 * b.val = b.val; omega
    | ⟨2, _⟩ => show win0_2.index t (2 : Fin 3) * 2048 + 1 * k.val = k.val; omega
  show (V m c main_v10 : Vec Ideal S4096x8x2048 .f32) (((cfg0.win 2).blk t).view.emb (ix3 r b k)) = _
  rw [hi, host_bonus]

theorem blk3 (c : Dev nD) (t : Fin cfg0.N) (r : Fin 32) (b : Fin 8) (k : Fin 2048) :
    (iblk m c 3 t : Vec Ideal S32x8x2048 .f32) (ix3 r b k) = gateOf m c (ix2 (row (step t r) b) k) := by
  obtain ⟨-, -, -, ⟨e0, e1, e2⟩, -⟩ := idx_facts t
  have hi : ((cfg0.win 3).blk t).view.emb (ix3 r b k) = ix3 (step t r) b k := by
    funext a; apply Fin.ext
    match a with
    | ⟨0, _⟩ => show win0_3.index t (0 : Fin 3) * 32 + 1 * r.val = t.val * 32 + r.val; omega
    | ⟨1, _⟩ => show win0_3.index t (1 : Fin 3) * 8 + 1 * b.val = b.val; omega
    | ⟨2, _⟩ => show win0_3.index t (2 : Fin 3) * 2048 + 1 * k.val = k.val; omega
  show (V m c main_v11 : Vec Ideal S4096x8x2048 .f32) (((cfg0.win 3).blk t).view.emb (ix3 r b k)) = _
  rw [hi, host_gate]

theorem blk4 (c : Dev nD) (t : Fin cfg0.N) (n : Fin 64) (h : Fin 32) :
    (iblk m c 4 t : Vec Ideal S1x2048 .f32) (ix2 0 (chan n h)) = weightOf m c (ix2 0 (place n h)) := by
  obtain ⟨-, -, -, -, ⟨e0, e1⟩, -⟩ := idx_facts t
  have hi : ((cfg0.win 4).blk t).view.emb (ix2 0 (chan n h)) = ix2 0 (chan n h) := by
    funext a; apply Fin.ext
    match a with
    | ⟨0, _⟩ => show win0_4.index t (0 : Fin 2) * 1 + 1 * 0 = 0; omega
    | ⟨1, _⟩ => show win0_4.index t (1 : Fin 2) * 2048 + 1 * (chan n h).val = (chan n h).val; omega
  show (V m c main_v12 : Vec Ideal S1x2048 .f32) (((cfg0.win 4).blk t).view.emb (ix2 0 (chan n h))) = _
  rw [hi, host_weight]

theorem blk5 (c : Dev nD) (t : Fin cfg0.N) (n : Fin 64) (h : Fin 32) :
    (iblk m c 5 t : Vec Ideal S1x2048 .f32) (ix2 0 (chan n h)) = biasOf m c (ix2 0 (place n h)) := by
  obtain ⟨-, -, -, -, -, ⟨e0, e1⟩, -⟩ := idx_facts t
  have hi : ((cfg0.win 5).blk t).view.emb (ix2 0 (chan n h)) = ix2 0 (chan n h) := by
    funext a; apply Fin.ext
    match a with
    | ⟨0, _⟩ => show win0_5.index t (0 : Fin 2) * 1 + 1 * 0 = 0; omega
    | ⟨1, _⟩ => show win0_5.index t (1 : Fin 2) * 2048 + 1 * (chan n h).val = (chan n h).val; omega
  show (V m c main_v13 : Vec Ideal S1x2048 .f32) (((cfg0.win 5).blk t).view.emb (ix2 0 (chan n h))) = _
  rw [hi, host_bias]

/-- Where a point's block of the result lies. -/
theorem emb6 (t : Fin cfg0.N) (b : Fin 8) (r : Fin 32) (k : Fin 2048) :
    ((cfg0.win 6).blk t).view.emb (ix3 b r k) = ix3 b (step t r) k := by
  obtain ⟨-, -, -, -, -, -, e0, e1, e2⟩ := idx_facts t
  funext a; apply Fin.ext
  match a with
  | ⟨0, _⟩ => show win0_6.index t (0 : Fin 3) * 8 + 1 * b.val = b.val; omega
  | ⟨1, _⟩ => show win0_6.index t (1 : Fin 3) * 32 + 1 * r.val = t.val * 32 + r.val; omega
  | ⟨2, _⟩ => show win0_6.index t (2 : Fin 3) * 2048 + 1 * k.val = k.val; omega

/-- One direction's normalised entry, from the direction's block. -/
theorem direction (w b : Vec Ideal S1x2048 .f32) (x : Vec Ideal S1x32x8x2048 .f32) (t : Fin 32) (s : Fin 8) (n : Fin 64) (h : Fin 32) :
    scaled (k0_pay2 (F := Ideal) w) (k0_pay3 (F := Ideal) b) (centred (k0_pay7 x)) (ix2 (⟨t.val * 8 + s.val, by omega⟩ : Fin 256) (chan n h))
      = normed (fun k => x (ix4 0 t s (chan k h))) n (w (ix2 0 (chan n h))) (b (ix2 0 (chan n h))) := by
  rw [scaled_apply, pay2_eq, pay3_eq]
  exact congrArg (normed · n _ _) (funext fun k => pay7_apply x t s (chan k h))

theorem flushed6_eq (c : Dev nD) (t : Fin cfg0.N) :
    (dats m 0 c).flushed 6 t = ((cfg0.win 6).blk t).view.read (Elt Ideal)
      (gatedAll (dirs m c) (bonusOf m c) (gateOf m c) (weightOf m c) (biasOf m c)) := by
  rw [Cert.RwkvGateIdeal.Value.flushed6]
  unfold out0_6 k0_pay16 k0_pay15 k0_pay14 k0_pay13
  rw [View.canon_unit_zero zero3, View.ld_unit_zero zero2, View.ld_unit_zero zero2, View.ld_unit_zero zero4, View.ld_unit_zero zero4,
    View.ld_unit_zero zero3, View.ld_unit_zero zero3, pay6_eq, pay1_eq, pay4_eq, pay9_eq]
  funext j
  show tail _ _ _ _ j = gatedAll _ _ _ _ _ (((cfg0.win 6).blk t).view.emb j)
  idx_vars j
  refine Eq.trans ?_ (congrArg _ (emb6 t j0 j1 j2).symm)
  rw [← chan_eq j2, gatedAll_apply, tail_apply, direction, direction, blk2, blk3, blk4, blk5]
  unfold gated
  refine congrArg₂ (fun y z => (normed y _ _ _ + normed z _ _ _ + _) * _) (funext fun k => ?_) (funext fun k => ?_)
  · exact blk0 m c t j1 j0 _
  · exact blk1 m c t j1 j0 _

theorem covered6 (i : S8x4096x2048.Idx) : ∃ t : Fin cfg0.N, (cfg0.win 6).flush t = true ∧ i ∈ ((cfg0.win 6).blk t).view.set := by
  idx_vars i
  have h1 : i1.val / 32 < cfg0.N := by
    show _ < 128; omega
  refine ⟨⟨_, h1⟩, flush0_6 _, ?_⟩
  have h := ((cfg0.win 6).blk (⟨_, h1⟩ : Fin cfg0.N)).view.emb_mem_set (ix3 i0 (⟨i1.val % 32, by omega⟩ : Fin 32) i2)
  rw [emb6] at h
  have e : (ix3 i0 i1 i2 : S8x4096x2048.Idx) = ix3 i0 (step ⟨_, h1⟩ ⟨i1.val % 32, by omega⟩) i2 := by
    funext a; apply Fin.ext
    match a with
    | ⟨0, _⟩ => rfl
    | ⟨1, _⟩ => show i1.val = i1.val / 32 * 32 + i1.val % 32; omega
    | ⟨2, _⟩ => rfl
  rw [e]
  exact h

/-- The result array after the run. -/
theorem final6 (c : Dev nD) : (dats m 0 c).arrAt 6 cfg0.N = gatedAll (dirs m c) (bonusOf m c) (gateOf m c) (weightOf m c) (biasOf m c) :=
  (dats m 0 c).arrAt_eq_of_cover 6 _ (fun t _ => flushed6_eq m c t) covered6

end Cert.RwkvGateIdeal.Gate

namespace Cert.RwkvGateReferenceIdeal.Gate
open Cert.RwkvGateReferenceIdeal Cert.RwkvGateReferenceIdeal.Read Cert.RwkvGateIdeal.Gate Idealize.ShloMosaic

theorem heads0 (y : Vec Ideal S2x32768x2048 .f32) (s : Fin 8) (t : Fin 4096) (h : Fin 32) (n : Fin 64) :
    val_main_v3 (F := Ideal) y (ix4 s t h n) = y (ix3 0 (row t s) (chan n h)) := by
  unfold val_main_v3 val_main_v2 val_main_v1 val_main_v0
  pointwise
  rfl

theorem heads1 (y : Vec Ideal S2x32768x2048 .f32) (s : Fin 8) (t : Fin 4096) (h : Fin 32) (n : Fin 64) :
    val_main_v34 (F := Ideal) y (ix4 s t h n) = y (ix3 1 (row t s) (chan n h)) := by
  unfold val_main_v34 val_main_v33 val_main_v32 val_main_v31
  pointwise
  rfl

theorem norm0 (y : Vec Ideal S2x32768x2048 .f32) (s : Fin 8) (t : Fin 4096) (h : Fin 32) (n : Fin 64) (w b : EReal) :
    val_main_v21 (F := Ideal) y (ix4 s t h n) * w + b = normed (fun k => y (ix3 0 (row t s) (chan k h))) n w b := by
  have e := fun k => heads0 y s t h k
  simp only [← e]
  unfold val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_cst val_main_cst_0
    val_main_cst_1 val_main_cst_2 val_main_cst_3
  generalize val_main_v3 (F := Ideal) y = z
  pointwise
  rfl

/-- The second direction in the first one's place. -/
def second (y : Vec Ideal S2x32768x2048 .f32) : Vec Ideal S2x32768x2048 .f32 := fun i => y (ix3 1 (i 1) (i 2))

theorem second_eq (y : Vec Ideal S2x32768x2048 .f32) : val_main_v52 (F := Ideal) y = val_main_v21 (second y) := by
  have e : val_main_v34 (F := Ideal) y = val_main_v3 (second y) := by
    funext i
    idx_vars i
    exact (heads1 y i0 i1 i2 i3).trans (heads0 (second y) i0 i1 i2 i3).symm
  unfold val_main_v52 val_main_v51 val_main_v50 val_main_v49 val_main_v48 val_main_v47 val_main_v46 val_main_v45 val_main_v44 val_main_v43
    val_main_v42 val_main_v41 val_main_v40 val_main_v39 val_main_v38 val_main_v37 val_main_v36 val_main_v35
  rw [e]
  rfl

theorem norm1 (y : Vec Ideal S2x32768x2048 .f32) (s : Fin 8) (t : Fin 4096) (h : Fin 32) (n : Fin 64) (w b : EReal) :
    val_main_v52 (F := Ideal) y (ix4 s t h n) * w + b = normed (fun k => y (ix3 1 (row t s) (chan k h))) n w b := by
  rw [second_eq]
  exact norm0 (second y) s t h n w b

/-- The reference's result is the same. -/
theorem reference_eq (y : Vec Ideal S2x32768x2048 .f32) (bonus g : Vec Ideal S32768x2048 .f32) (w b : Vec Ideal S1x2048 .f32) :
    val_main_v74 (F := Ideal) y bonus g w b = gatedAll y bonus g w b := by
  funext i
  idx_vars i
  show _ = gated y bonus g w b (row i1 i0) (⟨i2.val / 32, by omega⟩ : Fin 64) (⟨i2.val % 32, by omega⟩ : Fin 32)
  unfold gated
  rw [← norm0 y i0 i1, ← norm1 y i0 i1]
  unfold val_main_v74 val_main_v73 val_main_v72 val_main_v71 val_main_v70 val_main_v69 val_main_v68 val_main_v67 val_main_v66 val_main_v65
    val_main_v64 val_main_v63 val_main_v62 val_main_v61 val_main_v60 val_main_v59 val_main_v58 val_main_v57 val_main_v56 val_main_v55
    val_main_v54 val_main_v53 val_main_v30 val_main_v29 val_main_v28 val_main_v27 val_main_v26 val_main_v25 val_main_v24 val_main_v23 val_main_v22
  generalize val_main_v21 (F := Ideal) y = p
  generalize val_main_v52 (F := Ideal) y = q
  rw [chan_eq]
  have e0 : ∀ h, (⟨(i2.val % 32 * 64 + i2.val / 32) / 64, h⟩ : Fin 32) = ⟨i2.val % 32, by omega⟩ := fun h => Fin.ext (by dsimp only; omega)
  have e1 : ∀ h, (⟨(i2.val % 32 * 64 + i2.val / 32) % 64, h⟩ : Fin 64) = ⟨i2.val / 32, by omega⟩ := fun h => Fin.ext (by dsimp only; omega)
  pointwise
  rw [e0, e1]
  rfl

end Cert.RwkvGateReferenceIdeal.Gate
end
-- ==== Proof.RwkvPreValues.lean ====
module

public import proofs.«01_k».proof.RwkvPreIdeal
public import proofs.«01_k».proof.Proof.RwkvGate
public import Idealize.ShloMosaic.PureOps.Ideal
public import Idealize.ShloMosaic.Lib.Pointwise

/-! The values that the second mixer prepares for its recurrence. -/

@[expose] public section
set_option maxRecDepth 16384
noncomputable section
namespace Cert.RwkvPreIdeal.Pre
open Cert.RwkvPreIdeal Cert.RwkvGateIdeal.Gate Idealize.ShloMosaic Idealize.ShloMosaic.TcCoe

/-! ## The token shift -/

/-- A value moved towards the mean of its two neighbours. -/
def shift (x p n μ : EReal) : EReal := x + μ * (Ideal.ofBits .f32 0x3F000000#32 * (p + n) - x)

/-- The value one time step before, zero at the start. -/
def before (p : Vec Ideal S32768x6656 .f32) (r : Fin 32768) (j : Fin 6656) : EReal :=
  if r.val < 8 then 0 else p (ix2 ⟨r.val - 8, by omega⟩ j)

/-- The value one time step after, zero at the end. -/
def after (p : Vec Ideal S32768x6656 .f32) (r : Fin 32768) (j : Fin 6656) : EReal :=
  if h : r.val + 8 < 32768 then p (ix2 ⟨r.val + 8, h⟩ j) else 0

/-- A shifted entry. -/
def shifted (p : Vec Ideal S32768x6656 .f32) (r : Fin 32768) (j : Fin 6656) (μ : EReal) : EReal :=
  shift (p (ix2 r j)) (before p r j) (after p r j) μ

/-- One of the parts of 2048 channels, from its first column. -/
def part (p : Vec Ideal S32768x6656 .f32) (mu : Vec Ideal S1x6592 .f32) (o : ℕ) (ho : o ≤ 4096) (r : Fin 32768) (n : Fin 64) (h : Fin 32) : EReal :=
  shifted p r ⟨o + (chan n h).val, by omega⟩ (mu (ix2 0 ⟨o + (place n h).val, by omega⟩))

/-- One of the smaller parts, from its first column and its first weight. -/
def small (p : Vec Ideal S32768x6656 .f32) (mu : Vec Ideal S1x6592 .f32) (K o u : ℕ) (ho : o + K ≤ 6656) (hu : u + K ≤ 6592) (r : Fin 32768) (k : Fin K) : EReal :=
  shifted p r ⟨o + k.val, by omega⟩ (mu (ix2 0 ⟨u + k.val, by omega⟩))

abbrev partR (p : Vec Ideal S32768x6656 .f32) (mu : Vec Ideal S1x6592 .f32) := part p mu 0 (by omega)
abbrev partK (p : Vec Ideal S32768x6656 .f32) (mu : Vec Ideal S1x6592 .f32) := part p mu 2048 (by omega)
abbrev partV (p : Vec Ideal S32768x6656 .f32) (mu : Vec Ideal S1x6592 .f32) := part p mu 4096 (by omega)
abbrev partW (p : Vec Ideal S32768x6656 .f32) (mu : Vec Ideal S1x6592 .f32) := small p mu 96 6144 6144 (by omega) (by omega)
abbrev partA (p : Vec Ideal S32768x6656 .f32) (mu : Vec Ideal S1x6592 .f32) := small p mu 96 6272 6240 (by omega) (by omega)
abbrev partG (p : Vec Ideal S32768x6656 .f32) (mu : Vec Ideal S1x6592 .f32) := small p mu 256 6400 6336 (by omega) (by omega)

/-! ## The values of a head -/

/-- The logistic function. -/
def sigmoid (x : EReal) : EReal := Ideal.div (Ideal.ofBits .f32 0x3F800000#32) (Ideal.ofBits .f32 0x3F800000#32 + Ideal.exp (-x))

/-- A head divided by its length. -/
def unitOf (y : Fin 64 → EReal) (n : Fin 64) : EReal :=
  Ideal.div (y n) (max (Ideal.sqrt (∑ k : Fin 64, y k * y k)) (Ideal.ofBits .f32 0x2B8CBCCC#32))

/-- The logarithm of `1 + exp x`. -/
def softplus (x : EReal) : EReal := max x 0 + Ideal.log1p (Ideal.exp (-max x (-x)))

/-- The decay. -/
def decayOf (x : EReal) : EReal := Ideal.exp (-Ideal.exp (-softplus (-x) - Ideal.ofBits .f32 0x3F000000#32))

/-- The key after the first interpolation, from the key, its rate and the weight. -/
def keyOf (k a w : EReal) : EReal := k * (Ideal.ofBits .f32 0x3F800000#32 + (a - Ideal.ofBits .f32 0x3F800000#32) * w)

/-- A small part's image under one direction's weights. -/
def lift (b : Vec Ideal S1x2x2048 .f32) (w : Vec Ideal S1x2x96x2048 .f32) (x : Fin 96 → EReal) (d : Fin 2) (c : Fin 2048) : EReal :=
  b (ix3 0 d c) + ∑ k : Fin 96, x k * w (ix4 0 d k c)

section
variable (p : Vec Ideal S32768x6656 .f32) (mu : Vec Ideal S1x6592 .f32) (w0 : Vec Ideal S1x2x2048 .f32) (w2 : Vec Ideal S1x2x96x2048 .f32)
  (a0 : Vec Ideal S1x2x2048 .f32) (a2 : Vec Ideal S1x2x96x2048 .f32) (g2 : Vec Ideal S1x256x2048 .f32) (kk ka : Vec Ideal S1x2048 .f32)
  (rk : Vec Ideal S1x32x64 .f32) (d : Fin 2) (r : Fin 32768) (n : Fin 64) (h : Fin 32)

/-- The normalised key. -/
def unitKey : EReal := unitOf (fun k => partK p mu r k h * kk (ix2 0 (place k h))) n

/-- The decay of a direction. -/
def decay : EReal := decayOf (lift w0 w2 (fun k => Ideal.tanh (partW p mu r k)) d (place n h))

/-- The rate of a direction. -/
def rate : EReal := sigmoid (lift a0 a2 (partA p mu r) d (place n h))

/-- The key of a direction. -/
def key : EReal := keyOf (partK p mu r n h) (rate p mu a0 a2 d r n h) (ka (ix2 0 (place n h)))

/-- The normalised key with the rate of a direction. -/
def ratedKey : EReal := unitKey p mu kk r n h * rate p mu a0 a2 d r n h

/-- The gate. -/
def gateVal : EReal := ∑ k : Fin 256, sigmoid (partG p mu r k) * g2 (ix3 0 k (place n h))

/-- A head's product of receptance and key. -/
def headMatch : EReal := ∑ k : Fin 64, partR p mu r k h * rk (ix3 0 h k) * key p mu a0 a2 ka d r k h

/-- The bonus, with both directions. -/
def bonusVal : EReal := (headMatch p mu a0 a2 ka rk 0 r h + headMatch p mu a0 a2 ka rk 1 r h) * partV p mu r n h
end

/-! ## By row and channel -/

/-- An array of rows and channels, from its values by channel and head. -/
def rows (f : Fin 32768 → Fin 64 → Fin 32 → EReal) : Vec Ideal S32768x2048 .f32 :=
  fun i => f (i 0) ⟨(i 1).val / 32, by have : (i 1).val < 2048 := (i 1).isLt; omega⟩ ⟨(i 1).val % 32, by omega⟩

/-- The same for both directions. -/
def rows2 (f : Fin 2 → Fin 32768 → Fin 64 → Fin 32 → EReal) : Vec Ideal S2x32768x2048 .f32 :=
  fun i => f (i 0) (i 1) ⟨(i 2).val / 32, by have : (i 2).val < 2048 := (i 2).isLt; omega⟩ ⟨(i 2).val % 32, by omega⟩

theorem rows_apply (f : Fin 32768 → Fin 64 → Fin 32 → EReal) (r : Fin 32768) (n : Fin 64) (h : Fin 32) : rows f (ix2 r (chan n h)) = f r n h :=
  congrArg₂ (f r) (Fin.ext (by show (n.val * 32 + h.val) / 32 = n.val; omega)) (Fin.ext (by show (n.val * 32 + h.val) % 32 = h.val; omega))

theorem rows2_apply (f : Fin 2 → Fin 32768 → Fin 64 → Fin 32 → EReal) (d : Fin 2) (r : Fin 32768) (n : Fin 64) (h : Fin 32) :
    rows2 f (ix3 d r (chan n h)) = f d r n h :=
  congrArg₂ (f d r) (Fin.ext (by show (n.val * 32 + h.val) / 32 = n.val; omega)) (Fin.ext (by show (n.val * 32 + h.val) % 32 = h.val; omega))

end Cert.RwkvPreIdeal.Pre
end
-- ==== Proof.RwkvPreHost.lean ====
module

public import proofs.«01_k».proof.Proof.Gen.RwkvPreIdeal.Value
public import proofs.«01_k».proof.Proof.RwkvPreValues

/-! The arrays that the call for the second mixer's beginning is launched on. -/

@[expose] public section
set_option maxRecDepth 16384
noncomputable section
namespace Cert.RwkvPreIdeal.Pre
open Cert.RwkvPreIdeal Cert.RwkvPreIdeal.Gen Cert.RwkvGateIdeal.Gate Idealize.ShloMosaic Idealize.ShloMosaic.TcCoe Idealize.SL.Sem

/-- The integer zero as a float. -/
theorem sitofp_zero : (FloatOps.sitofp (F := Ideal) FTy.f32 (0#32) : EReal) = 0 := by
  show (((0#32 : BitVec 32).toInt : ℝ) : EReal) = 0
  simp

variable (m : (ℓ : Loc nD τ sig) → Buf (Elt Ideal) ℓ)

/-- The call's arguments. -/
def pOf (c : Dev nD) : Vec Ideal S32768x6656 .f32 := m ((c : Thread nD τ).loc main_arg0)
def muOf (c : Dev nD) : Vec Ideal S1x6592 .f32 := m ((c : Thread nD τ).loc main_arg1)
def w0Of (c : Dev nD) : Vec Ideal S1x2x2048 .f32 := m ((c : Thread nD τ).loc main_arg2)
def w2Of (c : Dev nD) : Vec Ideal S1x2x96x2048 .f32 := m ((c : Thread nD τ).loc main_arg3)
def a0Of (c : Dev nD) : Vec Ideal S1x2x2048 .f32 := m ((c : Thread nD τ).loc main_arg4)
def a2Of (c : Dev nD) : Vec Ideal S1x2x96x2048 .f32 := m ((c : Thread nD τ).loc main_arg5)
def g2Of (c : Dev nD) : Vec Ideal S1x256x2048 .f32 := m ((c : Thread nD τ).loc main_arg6)
def kkOf (c : Dev nD) : Vec Ideal S1x2048 .f32 := m ((c : Thread nD τ).loc main_arg7)
def kaOf (c : Dev nD) : Vec Ideal S1x2048 .f32 := m ((c : Thread nD τ).loc main_arg8)
def rkOf (c : Dev nD) : Vec Ideal S1x32x64 .f32 := m ((c : Thread nD τ).loc main_arg9)

/-- The layer's place of a channel, the head last. -/
def toPlace (k : Fin 2048) : Fin 2048 := ⟨k.val % 32 * 64 + k.val / 32, by omega⟩

theorem toPlace_chan (n : Fin 64) (h : Fin 32) : toPlace (chan n h) = place n h :=
  Fin.ext (by show (n.val * 32 + h.val) % 32 * 64 + (n.val * 32 + h.val) / 32 = h.val * 64 + n.val; omega)

theorem host_p (c : Dev nD) : (V m c main_arg0 : Vec Ideal S32768x6656 .f32) = pOf m c := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  rfl

/-- The layer's weight of the token shift that column `j` has. -/
def muAt (j : ℕ) : ℕ :=
  if j < 6144 then j / 2048 * 2048 + (j % 32 * 64 + j / 32 % 64) else if j < 6240 then j else if j < 6368 then j - 32 else j - 64

set_option maxRecDepth 200000 in
theorem host_mu (c : Dev nD) (j : Fin 6656) (u : Fin 6592) (hu : u.val = muAt j.val)
    (hp : j.val < 6240 ∨ (6272 ≤ j.val ∧ j.val < 6368) ∨ 6400 ≤ j.val) :
    (V m c main_v14 : Vec Ideal S1x6656 .f32) (ix2 0 j) = muOf m c (ix2 0 u) := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  split_ifs
  all_goals try (rename_i hx; exact (hx rfl).elim)
  all_goals
    generalize_proofs
    after_results_steps
    simp -implicitDefEqProofs only [StableHlo.TRef.toBuf, StableHlo.TRef.ofBuf, cast_cast, cast_eq]
    pointwise
    try split_ifs
  all_goals first
    | (exfalso; omega)
    | (refine congrArg (muOf m c) (congrArg (ix2 0) (Fin.ext ?_))
       unfold muAt at hu
       split_ifs at hu <;> dsimp only <;> omega)

theorem host_w0 (c : Dev nD) (d : Fin 2) (k : Fin 2048) :
    (V m c main_v19 : Vec Ideal S2x1x2048 .f32) (ix3 d 0 k) = w0Of m c (ix3 0 d (toPlace k)) := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  rfl

theorem host_w2 (c : Dev nD) (d : Fin 2) (i : Fin 128) (k : Fin 2048) :
    (V m c main_v25 : Vec Ideal S2x128x2048 .bf16) (ix3 d i k) = if hi : i.val < 96 then w2Of m c (ix4 0 d ⟨i.val, hi⟩ (toPlace k)) else 0 := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  generalize_proofs
  simp -implicitDefEqProofs only [StableHlo.TRef.toBuf, StableHlo.TRef.ofBuf, cast_cast, cast_eq]
  pointwise
  split_ifs
  · rfl
  · exact sitofp_zero

theorem host_a0 (c : Dev nD) (d : Fin 2) (k : Fin 2048) :
    (V m c main_v30 : Vec Ideal S2x1x2048 .f32) (ix3 d 0 k) = a0Of m c (ix3 0 d (toPlace k)) := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  rfl

theorem host_a2 (c : Dev nD) (d : Fin 2) (i : Fin 128) (k : Fin 2048) :
    (V m c main_v36 : Vec Ideal S2x128x2048 .bf16) (ix3 d i k) = if hi : i.val < 96 then a2Of m c (ix4 0 d ⟨i.val, hi⟩ (toPlace k)) else 0 := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  generalize_proofs
  simp -implicitDefEqProofs only [StableHlo.TRef.toBuf, StableHlo.TRef.ofBuf, cast_cast, cast_eq]
  pointwise
  split_ifs
  · rfl
  · exact sitofp_zero

theorem host_g2 (c : Dev nD) (i : Fin 256) (k : Fin 2048) :
    (V m c main_v42 : Vec Ideal S256x2048 .bf16) (ix2 i k) = g2Of m c (ix3 0 i (toPlace k)) := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  generalize_proofs
  simp -implicitDefEqProofs only [StableHlo.TRef.toBuf, StableHlo.TRef.ofBuf, cast_cast, cast_eq]
  pointwise
  rfl

theorem host_kk (c : Dev nD) (k : Fin 2048) :
    (V m c main_v56 : Vec Ideal S1x2048 .f32) (ix2 0 k) = kkOf m c (ix2 0 (toPlace k)) := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  rfl

theorem host_ka (c : Dev nD) (k : Fin 2048) :
    (V m c main_v57 : Vec Ideal S1x2048 .f32) (ix2 0 k) = kaOf m c (ix2 0 (toPlace k)) := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  rfl

theorem host_rk (c : Dev nD) (k : Fin 2048) :
    (V m c main_v58 : Vec Ideal S1x2048 .f32) (ix2 0 k) = rkOf m c (ix3 0 (⟨k.val % 32, by omega⟩ : Fin 32) (⟨k.val / 32, by omega⟩ : Fin 64)) := by
  unfold V
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  refine congrArg (rkOf m c) (congrArg₂ (ix3 0) (Fin.ext ?_) (Fin.ext ?_))
  · dsimp only; omega
  · dsimp only; omega

end Cert.RwkvPreIdeal.Pre
end
-- ==== Proof.RwkvPreTerms.lean ====
module

public import proofs.«01_k».proof.Proof.Gen.RwkvPreIdeal.Frame
public import proofs.«01_k».proof.Proof.HeadSum
public import proofs.«01_k».proof.Proof.RwkvPreValues

/-! The kernel's terms for the second mixer's beginning, entry by entry. -/

@[expose] public section
set_option maxRecDepth 16384
noncomputable section
namespace Cert.RwkvPreIdeal.Pre
open Cert.RwkvPreIdeal Cert.RwkvPreIdeal.Gen Cert.RwkvGateIdeal.Gate Cert.HeadSum Idealize.ShloMosaic Idealize.ShloMosaic.TcCoe Idealize.SL.Sem

/-! ## The token shift -/

/-- Whether a point is the one numbered `z`, as the kernel finds it: by the remainder modulo the number of points. -/
def isPoint (n z : BitVec 32) : BitVec 1 :=
  let v2 : BitVec 32 := Scalar.select (Scalar.cmpi .eq 256#32 0#32) 1#32 256#32
  let v3 : BitVec 32 := Scalar.remsi n v2
  Scalar.cmpi .eq (Scalar.select (Scalar.andi (Scalar.xori (Scalar.cmpi .slt v3 0#32) (Scalar.cmpi .slt v2 0#32)) (Scalar.cmpi .ne v3 0#32)) (Scalar.addi v3 v2) v3) z

theorem isPoint_first : ∀ n : Fin 256, isPoint (BitVec.ofNat 32 n.val) 0#32 = if n.val = 0 then 1#1 else 0#1 := by decide +kernel

theorem isPoint_last : ∀ n : Fin 256, isPoint (BitVec.ofNat 32 n.val) 255#32 = if n.val = 255 then 1#1 else 0#1 := by decide +kernel

theorem pay2_apply (i : grid0.Coords) (x : Vec Ideal S128x6656 .f32) (y : Vec Ideal S8x6656 .f32) (q : Fin 128) (j : Fin 6656) :
    k0_pay2 (F := Ideal) i x y (ix2 q j)
      = if hq : q.val < 8 then (if (i 0).val = 0 then 0 else y (ix2 ⟨q.val, hq⟩ j)) else x (ix2 ⟨q.val - 8, by omega⟩ j) := by
  have e : k0_pay2 (F := Ideal) i x y = concatenate S128x6656 0 [⟨S8x6656, (Scalar.select (isPoint (BitVec.ofNat 32 (i 0).val) 0#32)
      (broadcast S8x6656 (Scalar.ofBits .f32 0x00000000#32 : Ideal .f32)) y : FVec Ideal S8x6656 .f32)⟩,
      ⟨S120x6656, extractStridedSlice S120x6656 ![0, 0] x slices_S128x6656_o0_0_S120x6656⟩] concatenates_S8x6656_S120x6656_S128x6656_d0 := rfl
  rw [e, isPoint_first (i 0)]
  by_cases h0 : (i 0).val = 0
  · rw [if_pos h0]
    simp only [if_pos h0]
    pointwise
  · rw [if_neg h0]
    simp only [if_neg h0]
    pointwise

theorem pay3_apply (i : grid0.Coords) (x : Vec Ideal S128x6656 .f32) (y : Vec Ideal S8x6656 .f32) (q : Fin 128) (j : Fin 6656) :
    k0_pay3 (F := Ideal) i x y (ix2 q j)
      = if hq : q.val < 120 then x (ix2 ⟨8 + q.val, by omega⟩ j) else (if (i 0).val = 255 then 0 else y (ix2 ⟨q.val - 120, by omega⟩ j)) := by
  have e : k0_pay3 (F := Ideal) i x y = concatenate S128x6656 0 [
      ⟨S120x6656, extractStridedSlice S120x6656 ![8, 0] x slices_S128x6656_o8_0_S120x6656⟩, ⟨S8x6656, (Scalar.select (isPoint (BitVec.ofNat 32 (i 0).val) 255#32)
      (broadcast S8x6656 (Scalar.ofBits .f32 0x00000000#32 : Ideal .f32)) y : FVec Ideal S8x6656 .f32)⟩] concatenates_S120x6656_S8x6656_S128x6656_d0 := rfl
  rw [e, isPoint_last (i 0)]
  by_cases h0 : (i 0).val = 255
  · rw [if_pos h0]
    simp only [if_pos h0]
    pointwise
  · rw [if_neg h0]
    simp only [if_neg h0]
    pointwise

theorem pay5_apply (x y z : Vec Ideal S128x6656 .f32) (w : Vec Ideal S1x6656 .f32) (q : Fin 128) (j : Fin 6656) :
    k0_pay5 (F := Ideal) x y z (k0_pay4 w) (ix2 q j) = shift (x (ix2 q j)) (y (ix2 q j)) (z (ix2 q j)) (w (ix2 0 j)) := by
  unfold k0_pay5 k0_pay4 shift
  pointwise

section
variable (x y z : FVec Ideal S128x6656 .f32) (w : FVec Ideal S1x6656 .f32) (q : Fin 128)

theorem pay6_apply (c : Fin 2048) : k0_pay6 (F := Ideal) x y z w (ix2 q c) = k0_pay5 (F := Ideal) x y z w (ix2 q ⟨0 + c.val, by omega⟩) := by
  unfold k0_pay6
  generalize k0_pay5 (F := Ideal) x y z w = s
  pointwise

theorem pay7_apply (c : Fin 2048) : k0_pay7 (F := Ideal) x y z w (ix2 q c) = k0_pay5 (F := Ideal) x y z w (ix2 q ⟨2048 + c.val, by omega⟩) := by
  unfold k0_pay7
  generalize k0_pay5 (F := Ideal) x y z w = s
  pointwise

theorem pay8_apply (c : Fin 2048) : k0_pay8 (F := Ideal) x y z w (ix2 q c) = k0_pay5 (F := Ideal) x y z w (ix2 q ⟨4096 + c.val, by omega⟩) := by
  unfold k0_pay8
  generalize k0_pay5 (F := Ideal) x y z w = s
  pointwise

theorem pay9_apply (k : Fin 128) : k0_pay9 (F := Ideal) x y z w (ix2 q k) = Ideal.tanh (k0_pay5 (F := Ideal) x y z w (ix2 q ⟨6144 + k.val, by omega⟩)) := by
  unfold k0_pay9
  generalize k0_pay5 (F := Ideal) x y z w = s
  pointwise

theorem pay10_apply (k : Fin 128) : k0_pay10 (F := Ideal) x y z w (ix2 q k) = k0_pay5 (F := Ideal) x y z w (ix2 q ⟨6272 + k.val, by omega⟩) := by
  unfold k0_pay10
  generalize k0_pay5 (F := Ideal) x y z w = s
  pointwise

theorem pay11_apply (k : Fin 256) : k0_pay11 (F := Ideal) x y z w (ix2 q k) = sigmoid (k0_pay5 (F := Ideal) x y z w (ix2 q ⟨6400 + k.val, by omega⟩)) := by
  unfold k0_pay11 sigmoid
  generalize k0_pay5 (F := Ideal) x y z w = s
  pointwise
  rw [zero_sub]
end

/-! ## The values of a head -/

theorem headSum_chan (y : FVec Ideal S128x2048 .f32) (r : Fin 128) (n : Fin 64) (h : Fin 32) :
    headSum y (ix2 r (chan n h)) = ∑ k : Fin 64, y (ix2 r (chan k h)) :=
  (headSum_apply y r (chan n h)).trans (Finset.sum_congr rfl fun k _ => congrArg y (congrArg (ix2 r) (Fin.ext (by
    show k.val * 32 + (n.val * 32 + h.val) % 32 = k.val * 32 + h.val; omega))))

/-- Each head divided by its length. -/
def unitRows (y : FVec Ideal S128x2048 .f32) : FVec Ideal S128x2048 .f32 :=
  divf y (maximumf (sqrt (headSum (mulf y y))) (broadcast S128x2048 (Scalar.ofBits .f32 0x2B8CBCCC#32 : Ideal .f32)))

theorem pay15_eq (x y z : FVec Ideal S128x6656 .f32) (w : FVec Ideal S1x6656 .f32) (kk : Vec Ideal S1x2048 .f32) :
    k0_pay15 (F := Ideal) (k0_pay12 x y z w kk) (k0_pay13 x y z w kk) (k0_pay14 x y z w kk) = unitRows (k0_pay12 x y z w kk) := rfl

theorem unitRows_apply (y : FVec Ideal S128x2048 .f32) (q : Fin 128) (n : Fin 64) (h : Fin 32) :
    unitRows y (ix2 q (chan n h)) = unitOf (fun k => y (ix2 q (chan k h))) n := by
  unfold unitOf
  have e : headSum (mulf y y) (ix2 q (chan n h)) = ∑ k : Fin 64, y (ix2 q (chan k h)) * y (ix2 q (chan k h)) := headSum_chan (mulf y y) q n h
  rw [← e]
  show _ = Ideal.div (y (ix2 q (chan n h))) _
  unfold unitRows
  generalize headSum (mulf y y) = u
  generalize chan n h = c
  pointwise

theorem pay12_apply (x y z : FVec Ideal S128x6656 .f32) (w : FVec Ideal S1x6656 .f32) (kk : Vec Ideal S1x2048 .f32) (q : Fin 128) (c : Fin 2048) :
    k0_pay12 (F := Ideal) x y z w kk (ix2 q c) = k0_pay7 (F := Ideal) x y z w (ix2 q c) * kk (ix2 0 c) := by
  unfold k0_pay12
  generalize k0_pay7 (F := Ideal) x y z w = s
  pointwise

theorem pay16_apply (x : FVec Ideal S128x256 .bf16) (g : Vec Ideal S256x2048 .bf16) (q : Fin 128) (c : Fin 2048) :
    k0_pay16 (F := Ideal) x g (ix2 q c) = ∑ k : Fin 256, x (ix2 q k) * g (ix2 k c) := by
  unfold k0_pay16
  pointwise

theorem pay17_apply (x : FVec Ideal S128x2048 .f32) (w : Vec Ideal S1x2048 .f32) (q : Fin 128) (c : Fin 2048) :
    k0_pay17 (F := Ideal) x w (ix2 q c) = x (ix2 q c) * w (ix2 0 c) := by
  unfold k0_pay17
  pointwise

theorem pay18_apply (x : FVec Ideal S128x128 .bf16) (b : Vec Ideal S1x1x2048 .f32) (w : Vec Ideal S1x128x2048 .bf16) (q : Fin 128) (c : Fin 2048) :
    k0_pay18 (F := Ideal) x b w (ix2 q c) = b (ix3 0 0 c) + ∑ k : Fin 128, x (ix2 q k) * w (ix3 0 k c) := by
  unfold k0_pay18
  pointwise

theorem pay19_apply (x : FVec Ideal S128x2048 .f32) (q : Fin 128) (c : Fin 2048) : k0_pay19 (F := Ideal) x (ix3 0 q c) = decayOf (x (ix2 q c)) := by
  unfold k0_pay19 decayOf softplus Ideal.log1p
  pointwise
  simp only [zero_sub]
  rfl

theorem pay20_apply (x : FVec Ideal S128x128 .bf16) (b : Vec Ideal S1x1x2048 .f32) (w : Vec Ideal S1x128x2048 .bf16) (q : Fin 128) (c : Fin 2048) :
    k0_pay20 (F := Ideal) x b w (ix2 q c) = sigmoid (k0_pay18 (F := Ideal) x b w (ix2 q c)) := by
  rw [pay18_apply]
  unfold k0_pay20 sigmoid
  pointwise
  rw [zero_sub]

theorem pay22_apply (k a : FVec Ideal S128x2048 .f32) (w : Vec Ideal S1x2048 .f32) (q : Fin 128) (c : Fin 2048) :
    k0_pay22 (F := Ideal) k a k0_pay21 w (ix2 q c) = keyOf (k (ix2 q c)) (a (ix2 q c)) (w (ix2 0 c)) := by
  unfold k0_pay22 k0_pay21 keyOf
  pointwise

theorem pay23_apply (k a : FVec Ideal S128x2048 .f32) (w : Vec Ideal S1x2048 .f32) (q : Fin 128) (c : Fin 2048) :
    k0_pay23 (F := Ideal) k a k0_pay21 w (ix3 0 q c) = k0_pay22 (F := Ideal) k a k0_pay21 w (ix2 q c) := by
  unfold k0_pay23
  generalize k0_pay22 (F := Ideal) k a k0_pay21 w = s
  pointwise

theorem pay24_apply (x a : FVec Ideal S128x2048 .f32) (q : Fin 128) (c : Fin 2048) :
    k0_pay24 (F := Ideal) x a (ix3 0 q c) = x (ix2 q c) * a (ix2 q c) := by
  unfold k0_pay24
  pointwise

/-! The second direction's terms are the first one's. -/

theorem pay28_eq (x : FVec Ideal S128x128 .bf16) (b : Vec Ideal S1x1x2048 .f32) (w : Vec Ideal S1x128x2048 .bf16) :
    k0_pay28 (F := Ideal) x b w = k0_pay19 (k0_pay18 x b w) := rfl

theorem pay30_eq (x : FVec Ideal S128x128 .bf16) (b : Vec Ideal S1x1x2048 .f32) (w : Vec Ideal S1x128x2048 .bf16) :
    k0_pay30 (F := Ideal) x (k0_pay29 b) w = k0_pay20 x b w := rfl

theorem pay32_eq (k : FVec Ideal S128x2048 .f32) (x : FVec Ideal S128x128 .bf16) (b : Vec Ideal S1x1x2048 .f32) (w : Vec Ideal S1x128x2048 .bf16) (v : Vec Ideal S1x2048 .f32) :
    k0_pay32 (F := Ideal) k x (k0_pay29 b) w v = k0_pay23 k (k0_pay20 x b w) k0_pay21 v := rfl

theorem pay33_eq (x : FVec Ideal S128x128 .bf16) (k : FVec Ideal S128x2048 .f32) (b : Vec Ideal S1x1x2048 .f32) (w : Vec Ideal S1x128x2048 .bf16) :
    k0_pay33 (F := Ideal) x k (k0_pay29 b) w = k0_pay24 k (k0_pay20 x b w) := rfl

/-- The bonus of all rows, from the value, the receptance with its weight, and both directions' keys. -/
def bonusRows (v x y z : FVec Ideal S128x2048 .f32) : FVec Ideal S128x2048 .f32 := mulf (addf (headSum (mulf x y)) (headSum (mulf x z))) v

theorem pay1_eq (v k x a : FVec Ideal S128x2048 .f32) (xa : FVec Ideal S128x128 .bf16) (b : Vec Ideal S1x1x2048 .f32) (w : Vec Ideal S1x128x2048 .bf16) (u : Vec Ideal S1x2048 .f32) :
    k0_pay1 (F := Ideal) v (k0_pay27 (k0_pay25 k x a k0_pay21 u) (k0_pay26 k x a k0_pay21 u)) (k0_pay34 k xa x (k0_pay29 b) w u)
        (k0_pay35 k xa x (k0_pay29 b) w u) (k0_pay36 k xa x (k0_pay29 b) w u)
      = bonusRows v x (k0_pay22 k a k0_pay21 u) (k0_pay22 k (k0_pay20 xa b w) k0_pay21 u) := rfl

theorem bonusRows_apply (v x y z : FVec Ideal S128x2048 .f32) (q : Fin 128) (n : Fin 64) (h : Fin 32) :
    bonusRows v x y z (ix2 q (chan n h)) = ((∑ k : Fin 64, x (ix2 q (chan k h)) * y (ix2 q (chan k h)))
      + ∑ k : Fin 64, x (ix2 q (chan k h)) * z (ix2 q (chan k h))) * v (ix2 q (chan n h)) :=
  congrArg (· * v (ix2 q (chan n h))) (congrArg₂ (· + ·) (headSum_chan (mulf x y) q n h) (headSum_chan (mulf x z) q n h))

end Cert.RwkvPreIdeal.Pre
end
-- ==== Proof.RwkvPre.lean ====
module

public import proofs.«01_k».proof.Proof.Gen.RwkvPreIdeal.Value
public import proofs.«01_k».proof.Proof.RwkvPreHost
public import proofs.«01_k».proof.Proof.RwkvPreTerms

/-! The beginning of the second mixer: what the call leaves in its eight results. -/

@[expose] public section
set_option maxRecDepth 16384
noncomputable section
namespace Cert.RwkvPreIdeal.Pre
open Cert.RwkvPreIdeal Cert.RwkvPreIdeal.Gen Cert.RwkvGateIdeal.Gate Cert.HeadSum Idealize.ShloMosaic Idealize.ShloMosaic.TcCoe Idealize.SL.Sem

variable (m : (ℓ : Loc nD τ sig) → Buf (Elt Ideal) ℓ)

/-! ## The blocks -/

theorem idx_facts : ∀ t : Fin cfg0.N,
    (grid0.coords t (0 : Fin 1)).val = t.val
    ∧ (win0_0.index t (0 : Fin 2) = t.val ∧ win0_0.index t (1 : Fin 2) = 0)
    ∧ (win0_1.index t (0 : Fin 2) = t.val * 16 - 1 ∧ win0_1.index t (1 : Fin 2) = 0)
    ∧ (win0_2.index t (0 : Fin 2) = min (t.val * 16 + 16) 4095 ∧ win0_2.index t (1 : Fin 2) = 0) :=
  (by decide +kernel : ∀ t : Fin grid0.N, _)

theorem idx_whole : ∀ t : Fin cfg0.N,
    (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem idx_results : ∀ t : Fin cfg0.N,
    (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 3) = 0 ∧ win0_15.index t (1 : Fin 3) = t.val ∧ win0_15.index t (2 : Fin 3) = 0)
    ∧ (win0_16.index t (0 : Fin 3) = 0 ∧ win0_16.index t (1 : Fin 3) = t.val ∧ win0_16.index t (2 : Fin 3) = 0)
    ∧ (win0_17.index t (0 : Fin 3) = 0 ∧ win0_17.index t (1 : Fin 3) = t.val ∧ win0_17.index t (2 : Fin 3) = 0)
    ∧ (win0_18.index t (0 : Fin 2) = t.val ∧ win0_18.index t (1 : Fin 2) = 0)
    ∧ (win0_19.index t (0 : Fin 2) = t.val ∧ win0_19.index t (1 : Fin 2) = 0) :=
  (by decide +kernel : ∀ t : Fin grid0.N, _)

theorem N_lt (t : Fin cfg0.N) : t.val < 256 := t.isLt

/-- The row of a point's block. -/
def rowOf (t : Fin cfg0.N) (q : Fin 128) : Fin 32768 := ⟨t.val * 128 + q.val, by have := N_lt t; omega⟩

theorem blk0 (c : Dev nD) (t : Fin cfg0.N) (q : Fin 128) (j : Fin 6656) :
    (iblk m c 0 t : Vec Ideal S128x6656 .f32) (ix2 q j) = pOf m c (ix2 (rowOf t q) j) := by
  obtain ⟨-, ⟨e0, e1⟩, -⟩ := idx_facts t
  have hi : ((cfg0.win 0).blk t).view.emb (ix2 q j) = ix2 (rowOf t q) j := by
    funext a; apply Fin.ext
    match a with
    | ⟨0, _⟩ => show win0_0.index t (0 : Fin 2) * 128 + 1 * q.val = t.val * 128 + q.val; omega
    | ⟨1, _⟩ => show win0_0.index t (1 : Fin 2) * 6656 + 1 * j.val = j.val; omega
  show (V m c main_arg0 : Vec Ideal S32768x6656 .f32) (((cfg0.win 0).blk t).view.emb (ix2 q j)) = _
  rw [hi, host_p]

theorem blk1 (c : Dev nD) (t : Fin cfg0.N) (ht : t.val ≠ 0) (q : Fin 128) (hq : q.val < 8) (j : Fin 6656) :
    (iblk m c 1 t : Vec Ideal S8x6656 .f32) (ix2 (⟨q.val, hq⟩ : Fin 8) j) = pOf m c (ix2 ⟨(rowOf t q).val - 8, by omega⟩ j) := by
  obtain ⟨-, -, ⟨e0, e1⟩, -⟩ := idx_facts t
  have hi : ((cfg0.win 1).blk t).view.emb (ix2 (⟨q.val, hq⟩ : Fin 8) j) = ix2 (⟨(rowOf t q).val - 8, by omega⟩ : Fin 32768) j := by
    funext a; apply Fin.ext
    match a with
    | ⟨0, _⟩ => show win0_1.index t (0 : Fin 2) * 8 + 1 * q.val = t.val * 128 + q.val - 8; omega
    | ⟨1, _⟩ => show win0_1.index t (1 : Fin 2) * 6656 + 1 * j.val = j.val; omega
  show (V m c main_arg0 : Vec Ideal S32768x6656 .f32) (((cfg0.win 1).blk t).view.emb (ix2 (⟨q.val, hq⟩ : Fin 8) j)) = _
  rw [hi, host_p]

theorem blk2 (c : Dev nD) (t : Fin cfg0.N) (q : Fin 128) (hq : ¬q.val < 120) (hr : (rowOf t q).val + 8 < 32768) (j : Fin 6656) :
    (iblk m c 2 t : Vec Ideal S8x6656 .f32) (ix2 (⟨q.val - 120, by omega⟩ : Fin 8) j) = pOf m c (ix2 ⟨(rowOf t q).val + 8, hr⟩ j) := by
  obtain ⟨-, -, -, e0, e1⟩ := idx_facts t
  have hi : ((cfg0.win 2).blk t).view.emb (ix2 (⟨q.val - 120, by omega⟩ : Fin 8) j) = ix2 (⟨(rowOf t q).val + 8, hr⟩ : Fin 32768) j := by
    funext a; apply Fin.ext
    match a with
    | ⟨0, _⟩ =>
      have hr' : t.val * 128 + q.val + 8 < 32768 := hr
      show win0_2.index t (0 : Fin 2) * 8 + 1 * (q.val - 120) = t.val * 128 + q.val + 8
      omega
    | ⟨1, _⟩ => show win0_2.index t (1 : Fin 2) * 6656 + 1 * j.val = j.val; omega
  show (V m c main_arg0 : Vec Ideal S32768x6656 .f32) (((cfg0.win 2).blk t).view.emb (ix2 (⟨q.val - 120, by omega⟩ : Fin 8) j)) = _
  rw [hi, host_p]

theorem blk3 (c : Dev nD) (t : Fin cfg0.N) : (iblk m c 3 t : Vec Ideal S1x6656 .f32) = (V m c main_v14 : Vec Ideal S1x6656 .f32) := by
  obtain ⟨⟨e0, e1⟩, -⟩ := idx_whole t
  funext i
  refine congrArg (V m c main_v14 : Vec Ideal S1x6656 .f32) ?_
  show ((cfg0.win 3).blk t).view.emb i = i
  funext a; apply Fin.ext
  match a with
  | ⟨0, _⟩ => show win0_3.index t (0 : Fin 2) * 1 + 1 * (i 0).val = (i 0).val; omega
  | ⟨1, _⟩ => show win0_3.index t (1 : Fin 2) * 6656 + 1 * (i 1).val = (i 1).val; omega

theorem blk4 (c : Dev nD) (t : Fin cfg0.N) : (iblk m c 4 t : Vec Ideal S2x1x2048 .f32) = (V m c main_v19 : Vec Ideal S2x1x2048 .f32) := by
  obtain ⟨-, ⟨e0, e1, e2⟩, -⟩ := idx_whole t
  funext i
  refine congrArg (V m c main_v19 : Vec Ideal S2x1x2048 .f32) ?_
  show ((cfg0.win 4).blk t).view.emb i = i
  funext a; apply Fin.ext
  match a with
  | ⟨0, _⟩ => show win0_4.index t (0 : Fin 3) * 2 + 1 * (i 0).val = (i 0).val; omega
  | ⟨1, _⟩ => show win0_4.index t (1 : Fin 3) * 1 + 1 * (i 1).val = (i 1).val; omega
  | ⟨2, _⟩ => show win0_4.index t (2 : Fin 3) * 2048 + 1 * (i 2).val = (i 2).val; omega

theorem blk5 (c : Dev nD) (t : Fin cfg0.N) : (iblk m c 5 t : Vec Ideal S2x128x2048 .bf16) = (V m c main_v25 : Vec Ideal S2x128x2048 .bf16) := by
  obtain ⟨-, -, ⟨e0, e1, e2⟩, -⟩ := idx_whole t
  funext i
  refine congrArg (V m c main_v25 : Vec Ideal S2x128x2048 .bf16) ?_
  show ((cfg0.win 5).blk t).view.emb i = i
  funext a; apply Fin.ext
  match a with
  | ⟨0, _⟩ => show win0_5.index t (0 : Fin 3) * 2 + 1 * (i 0).val = (i 0).val; omega
  | ⟨1, _⟩ => show win0_5.index t (1 : Fin 3) * 128 + 1 * (i 1).val = (i 1).val; omega
  | ⟨2, _⟩ => show win0_5.index t (2 : Fin 3) * 2048 + 1 * (i 2).val = (i 2).val; omega

theorem blk6 (c : Dev nD) (t : Fin cfg0.N) : (iblk m c 6 t : Vec Ideal S2x1x2048 .f32) = (V m c main_v30 : Vec Ideal S2x1x2048 .f32) := by
  obtain ⟨-, -, -, ⟨e0, e1, e2⟩, -⟩ := idx_whole t
  funext i
  refine congrArg (V m c main_v30 : Vec Ideal S2x1x2048 .f32) ?_
  show ((cfg0.win 6).blk t).view.emb i = i
  funext a; apply Fin.ext
  match a with
  | ⟨0, _⟩ => show win0_6.index t (0 : Fin 3) * 2 + 1 * (i 0).val = (i 0).val; omega
  | ⟨1, _⟩ => show win0_6.index t (1 : Fin 3) * 1 + 1 * (i 1).val = (i 1).val; omega
  | ⟨2, _⟩ => show win0_6.index t (2 : Fin 3) * 2048 + 1 * (i 2).val = (i 2).val; omega

theorem blk7 (c : Dev nD) (t : Fin cfg0.N) : (iblk m c 7 t : Vec Ideal S2x128x2048 .bf16) = (V m c main_v36 : Vec Ideal S2x128x2048 .bf16) := by
  obtain ⟨-, -, -, -, ⟨e0, e1, e2⟩, -⟩ := idx_whole t
  funext i
  refine congrArg (V m c main_v36 : Vec Ideal S2x128x2048 .bf16) ?_
  show ((cfg0.win 7).blk t).view.emb i = i
  funext a; apply Fin.ext
  match a with
  | ⟨0, _⟩ => show win0_7.index t (0 : Fin 3) * 2 + 1 * (i 0).val = (i 0).val; omega
  | ⟨1, _⟩ => show win0_7.index t (1 : Fin 3) * 128 + 1 * (i 1).val = (i 1).val; omega
  | ⟨2, _⟩ => show win0_7.index t (2 : Fin 3) * 2048 + 1 * (i 2).val = (i 2).val; omega

theorem blk8 (c : Dev nD) (t : Fin cfg0.N) : (iblk m c 8 t : Vec Ideal S256x2048 .bf16) = (V m c main_v42 : Vec Ideal S256x2048 .bf16) := by
  obtain ⟨-, -, -, -, -, ⟨e0, e1⟩, -⟩ := idx_whole t
  funext i
  refine congrArg (V m c main_v42 : Vec Ideal S256x2048 .bf16) ?_
  show ((cfg0.win 8).blk t).view.emb i = i
  funext a; apply Fin.ext
  match a with
  | ⟨0, _⟩ => show win0_8.index t (0 : Fin 2) * 256 + 1 * (i 0).val = (i 0).val; omega
  | ⟨1, _⟩ => show win0_8.index t (1 : Fin 2) * 2048 + 1 * (i 1).val = (i 1).val; omega

theorem blk9 (c : Dev nD) (t : Fin cfg0.N) : (iblk m c 9 t : Vec Ideal S1x2048 .f32) = (V m c main_v56 : Vec Ideal S1x2048 .f32) := by
  obtain ⟨-, -, -, -, -, -, ⟨e0, e1⟩, -⟩ := idx_whole t
  funext i
  refine congrArg (V m c main_v56 : Vec Ideal S1x2048 .f32) ?_
  show ((cfg0.win 9).blk t).view.emb i = i
  funext a; apply Fin.ext
  match a with
  | ⟨0, _⟩ => show win0_9.index t (0 : Fin 2) * 1 + 1 * (i 0).val = (i 0).val; omega
  | ⟨1, _⟩ => show win0_9.index t (1 : Fin 2) * 2048 + 1 * (i 1).val = (i 1).val; omega

theorem blk10 (c : Dev nD) (t : Fin cfg0.N) : (iblk m c 10 t : Vec Ideal S1x2048 .f32) = (V m c main_v57 : Vec Ideal S1x2048 .f32) := by
  obtain ⟨-, -, -, -, -, -, -, ⟨e0, e1⟩, -⟩ := idx_whole t
  funext i
  refine congrArg (V m c main_v57 : Vec Ideal S1x2048 .f32) ?_
  show ((cfg0.win 10).blk t).view.emb i = i
  funext a; apply Fin.ext
  match a with
  | ⟨0, _⟩ => show win0_10.index t (0 : Fin 2) * 1 + 1 * (i 0).val = (i 0).val; omega
  | ⟨1, _⟩ => show win0_10.index t (1 : Fin 2) * 2048 + 1 * (i 1).val = (i 1).val; omega

theorem blk11 (c : Dev nD) (t : Fin cfg0.N) : (iblk m c 11 t : Vec Ideal S1x2048 .f32) = (V m c main_v58 : Vec Ideal S1x2048 .f32) := by
  obtain ⟨-, -, -, -, -, -, -, -, e0, e1⟩ := idx_whole t
  funext i
  refine congrArg (V m c main_v58 : Vec Ideal S1x2048 .f32) ?_
  show ((cfg0.win 11).blk t).view.emb i = i
  funext a; apply Fin.ext
  match a with
  | ⟨0, _⟩ => show win0_11.index t (0 : Fin 2) * 1 + 1 * (i 0).val = (i 0).val; omega
  | ⟨1, _⟩ => show win0_11.index t (1 : Fin 2) * 2048 + 1 * (i 1).val = (i 1).val; omega

/-! ## The parts of a block -/

/-- The rows of a point's block with their shift. -/
abbrev prevB (c : Dev nD) (t : Fin cfg0.N) : FVec Ideal S128x6656 .f32 := k0_pay2 (grid0.coords t) (iblk m c 0 t) (iblk m c 1 t)
abbrev nextB (c : Dev nD) (t : Fin cfg0.N) : FVec Ideal S128x6656 .f32 := k0_pay3 (grid0.coords t) (iblk m c 0 t) (iblk m c 2 t)
abbrev muB (c : Dev nD) (t : Fin cfg0.N) : FVec Ideal S1x6656 .f32 := k0_pay4 (iblk m c 3 t)

theorem prev_eq (c : Dev nD) (t : Fin cfg0.N) (q : Fin 128) (j : Fin 6656) : prevB m c t (ix2 q j) = before (pOf m c) (rowOf t q) j := by
  have hc := (idx_facts t).1
  have hr : (rowOf t q).val = t.val * 128 + q.val := rfl
  refine (pay2_apply _ _ _ q j).trans ?_
  unfold before
  by_cases hq : q.val < 8
  · rw [dif_pos hq]
    by_cases ht : t.val = 0
    · rw [if_pos (hc.trans ht), if_pos (by omega)]
    · rw [if_neg (fun h => ht (hc.symm.trans h)), if_neg (by omega), blk1 m c t ht q hq j]
  · rw [dif_neg hq, if_neg (by omega), blk0]
    exact congrArg (fun r => pOf m c (ix2 r j)) (Fin.ext (by show t.val * 128 + (q.val - 8) = t.val * 128 + q.val - 8; omega))

theorem next_eq (c : Dev nD) (t : Fin cfg0.N) (q : Fin 128) (j : Fin 6656) : nextB m c t (ix2 q j) = after (pOf m c) (rowOf t q) j := by
  have hc := (idx_facts t).1
  have hr : (rowOf t q).val = t.val * 128 + q.val := rfl
  have hN := N_lt t
  refine (pay3_apply _ _ _ q j).trans ?_
  unfold after
  by_cases hq : q.val < 120
  · rw [dif_pos hq, dif_pos (by omega), blk0]
    exact congrArg (fun r => pOf m c (ix2 r j)) (Fin.ext (by show t.val * 128 + (8 + q.val) = t.val * 128 + q.val + 8; omega))
  · rw [dif_neg hq]
    by_cases ht : t.val = 255
    · rw [if_pos (hc.trans ht), dif_neg (by omega)]
    · rw [if_neg (fun h => ht (hc.symm.trans h)), dif_pos (by omega), blk2 m c t q hq (by omega) j]

theorem shift_eq (c : Dev nD) (t : Fin cfg0.N) (q : Fin 128) (j : Fin 6656) (u : Fin 6592) (hu : u.val = muAt j.val)
    (hp : j.val < 6240 ∨ (6272 ≤ j.val ∧ j.val < 6368) ∨ 6400 ≤ j.val) :
    k0_pay5 (F := Ideal) (iblk m c 0 t) (prevB m c t) (nextB m c t) (muB m c t) (ix2 q j) = shifted (pOf m c) (rowOf t q) j (muOf m c (ix2 0 u)) := by
  refine (pay5_apply _ _ _ _ q j).trans ?_
  rw [prev_eq, next_eq, blk0, blk3, host_mu m c j u hu hp]
  rfl

theorem part_eq (c : Dev nD) (t : Fin cfg0.N) (q : Fin 128) (o : ℕ) (ho : o ≤ 4096) (ho' : o % 2048 = 0) (n : Fin 64) (h : Fin 32) :
    k0_pay5 (F := Ideal) (iblk m c 0 t) (prevB m c t) (nextB m c t) (muB m c t) (ix2 q ⟨o + (chan n h).val, by omega⟩)
      = part (pOf m c) (muOf m c) o ho (rowOf t q) n h :=
  shift_eq m c t q _ _ (by
    have h1 : (chan n h).val = n.val * 32 + h.val := rfl
    have h2 : (place n h).val = h.val * 64 + n.val := rfl
    unfold muAt
    rw [if_pos (by dsimp only; omega)]
    dsimp only
    rw [h1, h2]
    have hn := n.isLt
    have hh := h.isLt
    have e1 : (o + (n.val * 32 + h.val)) / 32 = o / 2048 * 64 + n.val := by omega
    have e2 : (o + (n.val * 32 + h.val)) % 32 = h.val := by omega
    have e3 : (o + (n.val * 32 + h.val)) / 2048 = o / 2048 := by omega
    rw [e1, e2, e3]
    omega) (by dsimp only; omega)

theorem rB (c : Dev nD) (t : Fin cfg0.N) (q : Fin 128) (n : Fin 64) (h : Fin 32) :
    k0_pay6 (F := Ideal) (iblk m c 0 t) (prevB m c t) (nextB m c t) (muB m c t) (ix2 q (chan n h)) = partR (pOf m c) (muOf m c) (rowOf t q) n h :=
  (pay6_apply _ _ _ _ q _).trans (part_eq m c t q 0 (by omega) rfl n h)

theorem kB (c : Dev nD) (t : Fin cfg0.N) (q : Fin 128) (n : Fin 64) (h : Fin 32) :
    k0_pay7 (F := Ideal) (iblk m c 0 t) (prevB m c t) (nextB m c t) (muB m c t) (ix2 q (chan n h)) = partK (pOf m c) (muOf m c) (rowOf t q) n h :=
  (pay7_apply _ _ _ _ q _).trans (part_eq m c t q 2048 (by omega) rfl n h)

theorem vB (c : Dev nD) (t : Fin cfg0.N) (q : Fin 128) (n : Fin 64) (h : Fin 32) :
    k0_pay8 (F := Ideal) (iblk m c 0 t) (prevB m c t) (nextB m c t) (muB m c t) (ix2 q (chan n h)) = partV (pOf m c) (muOf m c) (rowOf t q) n h :=
  (pay8_apply _ _ _ _ q _).trans (part_eq m c t q 4096 (by omega) rfl n h)

theorem wB (c : Dev nD) (t : Fin cfg0.N) (q : Fin 128) (k : Fin 96) :
    k0_pay9 (F := Ideal) (iblk m c 0 t) (prevB m c t) (nextB m c t) (muB m c t) (ix2 q ⟨k.val, by omega⟩) = Ideal.tanh (partW (pOf m c) (muOf m c) (rowOf t q) k) :=
  (pay9_apply _ _ _ _ q _).trans (congrArg Ideal.tanh (shift_eq m c t q _ _ (by unfold muAt; split_ifs <;> dsimp only at * <;> omega) (by dsimp only; omega)))

theorem aB (c : Dev nD) (t : Fin cfg0.N) (q : Fin 128) (k : Fin 96) :
    k0_pay10 (F := Ideal) (iblk m c 0 t) (prevB m c t) (nextB m c t) (muB m c t) (ix2 q ⟨k.val, by omega⟩) = partA (pOf m c) (muOf m c) (rowOf t q) k :=
  (pay10_apply _ _ _ _ q _).trans (shift_eq m c t q _ _ (by unfold muAt; split_ifs <;> dsimp only at * <;> omega) (by dsimp only; omega))

theorem gB (c : Dev nD) (t : Fin cfg0.N) (q : Fin 128) (k : Fin 256) :
    k0_pay11 (F := Ideal) (iblk m c 0 t) (prevB m c t) (nextB m c t) (muB m c t) (ix2 q k) = sigmoid (partG (pOf m c) (muOf m c) (rowOf t q) k) :=
  (pay11_apply _ _ _ _ q _).trans (congrArg sigmoid (shift_eq m c t q _ _ (by unfold muAt; split_ifs <;> dsimp only at * <;> omega) (by dsimp only; omega)))

/-! ## One direction -/

/-- Rows of the weights beyond the layer's 96 are zero. -/
theorem sum_padded (x : Fin 128 → EReal) (w : Fin 96 → EReal) :
    ∑ k : Fin 128, x k * (if hk : k.val < 96 then w ⟨k.val, hk⟩ else 0) = ∑ k : Fin 96, x ⟨k.val, by omega⟩ * w k := by
  refine (Fin.sum_univ_add (a := 96) (b := 32) (fun k : Fin (96 + 32) => x k * (if hk : k.val < 96 then w ⟨k.val, hk⟩ else 0))).trans ?_
  rw [Finset.sum_eq_zero (s := (Finset.univ : Finset (Fin 32)))
    (fun k _ => (congrArg (x _ * ·) (dif_neg (by show ¬ 96 + k.val < 96; omega))).trans (mul_zero _)), add_zero]
  exact Finset.sum_congr rfl fun k _ => congrArg (x _ * ·) (dif_pos k.isLt)

/-- A direction's slice of the two. -/
def slice1 (b : Vec Ideal S2x1x2048 .f32) (d : Fin 2) : Vec Ideal S1x1x2048 .f32 := fun i => b (ix3 d 0 (i 2))
def slice128 (w : Vec Ideal S2x128x2048 .bf16) (d : Fin 2) : Vec Ideal S1x128x2048 .bf16 := fun i => w (ix3 d (i 1) (i 2))

theorem ld0 (x : Vec Ideal S128x6656 .f32) : View.ld x r0_0 = x := View.ld_unit_zero zero2 _ _
theorem ld1 (x : Vec Ideal S8x6656 .f32) : View.ld x r0_1 = x := View.ld_unit_zero zero2 _ _
theorem ld2 (x : Vec Ideal S1x6656 .f32) : View.ld x r0_2 = x := View.ld_unit_zero zero2 _ _
theorem ld3 (x : Vec Ideal S1x2048 .f32) : View.ld x r0_3 = x := View.ld_unit_zero zero2 _ _
theorem ld5 (x : Vec Ideal S256x2048 .bf16) : View.ld x r0_5 = x := View.ld_unit_zero zero2 _ _

theorem ld6 (x : Vec Ideal S2x1x2048 .f32) : View.ld x r0_6 = slice1 x 0 := by
  funext i
  refine congrArg x (funext fun a => Fin.ext ?_)
  match a with
  | ⟨0, _⟩ => show 0 + 1 * (i 0).val = 0; have : (i 0).val < 1 := (i 0).isLt; omega
  | ⟨1, _⟩ => show 0 + 1 * (i 1).val = 0; have : (i 1).val < 1 := (i 1).isLt; omega
  | ⟨2, _⟩ => show 0 + 1 * (i 2).val = (i 2).val; omega

theorem ld8 (x : Vec Ideal S2x1x2048 .f32) : View.ld x r0_8 = slice1 x 1 := by
  funext i
  refine congrArg x (funext fun a => Fin.ext ?_)
  match a with
  | ⟨0, _⟩ => show 1 + 1 * (i 0).val = 1; have : (i 0).val < 1 := (i 0).isLt; omega
  | ⟨1, _⟩ => show 0 + 1 * (i 1).val = 0; have : (i 1).val < 1 := (i 1).isLt; omega
  | ⟨2, _⟩ => show 0 + 1 * (i 2).val = (i 2).val; omega

theorem ld7 (x : Vec Ideal S2x128x2048 .bf16) : View.ld x r0_7 = slice128 x 0 := by
  funext i
  refine congrArg x (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem ld9 (x : Vec Ideal S2x128x2048 .bf16) : View.ld x r0_9 = slice128 x 1 := by
  funext i
  refine congrArg x (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

/-- Both directions' stores, read back. -/
theorem both_apply (f g : Vec Ideal S1x128x2048 .f32) (v : Fin 2 → EReal) (d : Fin 2) (q : Fin 128) (c : Fin 2048)
    (hg : g (ix3 0 q c) = v 0) (hf : f (ix3 0 q c) = v 1) :
    (View.canon [⟨r0_9, f⟩, ⟨r0_7, g⟩] : Vec Ideal S2x128x2048 .f32) (ix3 d q c) = v d := by
  match d with
  | 0 =>
    have h7 : r0_7.emb (ix3 (0 : Fin 1) q c) = (ix3 0 q c : S2x128x2048.Idx) := by
      funext a; apply Fin.ext
      match a with
      | ⟨0, _⟩ => rfl
      | ⟨1, _⟩ => show 0 + 1 * q.val = q.val; omega
      | ⟨2, _⟩ => show 0 + 1 * c.val = c.val; omega
    refine (View.canon_cons_of_not_mem _ _ fun h => ?_).trans ?_
    · obtain ⟨x, hx⟩ := r0_9.exists_idx_of_mem h
      have e : 1 + 1 * (x 0).val = 0 := congrArg (fun i : S2x128x2048.Idx => (i 0).val) hx
      omega
    · exact ((congrArg (View.canon _) h7.symm).trans (View.canon_cons_emb r0_7 g [] _)).trans hg
  | 1 =>
    have h9 : r0_9.emb (ix3 (0 : Fin 1) q c) = (ix3 1 q c : S2x128x2048.Idx) := by
      funext a; apply Fin.ext
      match a with
      | ⟨0, _⟩ => rfl
      | ⟨1, _⟩ => show 0 + 1 * q.val = q.val; omega
      | ⟨2, _⟩ => show 0 + 1 * c.val = c.val; omega
    exact ((congrArg (View.canon _) h9.symm).trans (View.canon_cons_emb r0_9 f _ _)).trans hf

theorem liftW_eq (c : Dev nD) (t : Fin cfg0.N) (d : Fin 2) (x : FVec Ideal S128x128 .bf16) (y : Fin 96 → EReal) (q : Fin 128) (n : Fin 64) (h : Fin 32)
    (hy : ∀ k, x (ix2 q ⟨k.val, by omega⟩) = y k) :
    k0_pay18 (F := Ideal) x (slice1 (iblk m c 4 t) d) (slice128 (iblk m c 5 t) d) (ix2 q (chan n h)) = lift (w0Of m c) (w2Of m c) y d (place n h) := by
  refine (pay18_apply _ _ _ q _).trans ?_
  rw [blk4, blk5, ← toPlace_chan]
  generalize chan n h = k
  refine congrArg₂ (· + ·) (host_w0 m c d k) ?_
  refine (Finset.sum_congr rfl fun i _ => congrArg (x (ix2 q i) * ·) (host_w2 m c d i k)).trans ?_
  refine (sum_padded (fun i => x (ix2 q i)) (fun i => w2Of m c (ix4 0 d i (toPlace k)))).trans ?_
  exact Finset.sum_congr rfl fun i _ => congrArg (· * _) (hy i)

theorem liftA_eq (c : Dev nD) (t : Fin cfg0.N) (d : Fin 2) (x : FVec Ideal S128x128 .bf16) (y : Fin 96 → EReal) (q : Fin 128) (n : Fin 64) (h : Fin 32)
    (hy : ∀ k, x (ix2 q ⟨k.val, by omega⟩) = y k) :
    k0_pay18 (F := Ideal) x (slice1 (iblk m c 6 t) d) (slice128 (iblk m c 7 t) d) (ix2 q (chan n h)) = lift (a0Of m c) (a2Of m c) y d (place n h) := by
  refine (pay18_apply _ _ _ q _).trans ?_
  rw [blk6, blk7, ← toPlace_chan]
  generalize chan n h = k
  refine congrArg₂ (· + ·) (host_a0 m c d k) ?_
  refine (Finset.sum_congr rfl fun i _ => congrArg (x (ix2 q i) * ·) (host_a2 m c d i k)).trans ?_
  refine (sum_padded (fun i => x (ix2 q i)) (fun i => a2Of m c (ix4 0 d i (toPlace k)))).trans ?_
  exact Finset.sum_congr rfl fun i _ => congrArg (· * _) (hy i)

/-- The rates of a point's block. -/
abbrev rateB (c : Dev nD) (t : Fin cfg0.N) (d : Fin 2) : FVec Ideal S128x2048 .f32 :=
  k0_pay20 (k0_pay10 (iblk m c 0 t) (prevB m c t) (nextB m c t) (muB m c t)) (slice1 (iblk m c 6 t) d) (slice128 (iblk m c 7 t) d)

/-- The keys of a point's block. -/
abbrev keyB (c : Dev nD) (t : Fin cfg0.N) (d : Fin 2) : FVec Ideal S128x2048 .f32 :=
  k0_pay22 (k0_pay7 (iblk m c 0 t) (prevB m c t) (nextB m c t) (muB m c t)) (rateB m c t d) k0_pay21 (iblk m c 10 t)

/-- The normalised keys of a point's block. -/
abbrev unitB (c : Dev nD) (t : Fin cfg0.N) : FVec Ideal S128x2048 .f32 :=
  unitRows (k0_pay12 (iblk m c 0 t) (prevB m c t) (nextB m c t) (muB m c t) (iblk m c 9 t))

theorem rateB_eq (c : Dev nD) (t : Fin cfg0.N) (d : Fin 2) (q : Fin 128) (n : Fin 64) (h : Fin 32) :
    rateB m c t d (ix2 q (chan n h)) = rate (pOf m c) (muOf m c) (a0Of m c) (a2Of m c) d (rowOf t q) n h :=
  (pay20_apply _ _ _ q _).trans (congrArg sigmoid (liftA_eq m c t d _ _ q n h fun k => aB m c t q k))

theorem keyB_eq (c : Dev nD) (t : Fin cfg0.N) (d : Fin 2) (q : Fin 128) (n : Fin 64) (h : Fin 32) :
    keyB m c t d (ix2 q (chan n h)) = key (pOf m c) (muOf m c) (a0Of m c) (a2Of m c) (kaOf m c) d (rowOf t q) n h := by
  refine (pay22_apply _ _ _ q _).trans ?_
  rw [kB, rateB_eq, blk10, host_ka, toPlace_chan]
  rfl

theorem unitB_eq (c : Dev nD) (t : Fin cfg0.N) (q : Fin 128) (n : Fin 64) (h : Fin 32) :
    unitB m c t (ix2 q (chan n h)) = unitKey (pOf m c) (muOf m c) (kkOf m c) (rowOf t q) n h := by
  refine (unitRows_apply _ q n h).trans (congrArg (unitOf · n) (funext fun k => ?_))
  refine (pay12_apply _ _ _ _ _ q _).trans ?_
  rw [kB, blk9, host_kk, toPlace_chan]

/-- The receptance with its weight. -/
theorem receptB_eq (c : Dev nD) (t : Fin cfg0.N) (q : Fin 128) (n : Fin 64) (h : Fin 32) :
    k0_pay17 (F := Ideal) (k0_pay6 (iblk m c 0 t) (prevB m c t) (nextB m c t) (muB m c t)) (iblk m c 11 t) (ix2 q (chan n h))
      = partR (pOf m c) (muOf m c) (rowOf t q) n h * rkOf m c (ix3 0 h n) := by
  refine (pay17_apply _ _ q _).trans (congrArg₂ (· * ·) (rB m c t q n h) ?_)
  rw [blk11, host_rk]
  exact congrArg (rkOf m c) (congrArg₂ (ix3 0) (Fin.ext (by show (n.val * 32 + h.val) % 32 = h.val; omega))
    (Fin.ext (by show (n.val * 32 + h.val) / 32 = n.val; omega)))

/-! ## The results -/

theorem rowOf_div (i : Fin 32768) (h : i.val / 128 < cfg0.N) : rowOf ⟨i.val / 128, h⟩ ⟨i.val % 128, by omega⟩ = i :=
  Fin.ext (by show i.val / 128 * 128 + i.val % 128 = i.val; omega)

theorem emb12 (t : Fin cfg0.N) (q : Fin 128) (k : Fin 2048) : ((cfg0.win 12).blk t).view.emb (ix2 q k) = ix2 (rowOf t q) k := by
  obtain ⟨⟨e0, e1⟩, -⟩ := idx_results t
  funext a; apply Fin.ext
  match a with
  | ⟨0, _⟩ => show win0_12.index t (0 : Fin 2) * 128 + 1 * q.val = t.val * 128 + q.val; omega
  | ⟨1, _⟩ => show win0_12.index t (1 : Fin 2) * 2048 + 1 * k.val = k.val; omega

theorem flushed12_eq (c : Dev nD) (t : Fin cfg0.N) :
    (dats m 0 c).flushed 12 t = ((cfg0.win 12).blk t).view.read (Elt Ideal) (rows (partR (pOf m c) (muOf m c))) := by
  rw [Cert.RwkvPreIdeal.Value.flushed12]
  unfold out0_12 k0_pay40 k0_pay39 k0_pay38 k0_pay37
  rw [View.canon_unit_zero zero2]
  simp only [ld0, ld1, ld2, ld3, ld5]
  funext j
  show (k0_pay6 (F := Ideal) (iblk m c 0 t) (prevB m c t) (nextB m c t) (muB m c t) : Vec Ideal S128x2048 .f32) j = rows (partR (pOf m c) (muOf m c)) (((cfg0.win 12).blk t).view.emb j)
  idx_vars j
  refine Eq.trans ?_ (congrArg _ (emb12 t j0 j1).symm)
  rw [← chan_eq j1, rows_apply]
  generalize (⟨j1.val / 32, _⟩ : Fin 64) = n
  generalize (⟨j1.val % 32, _⟩ : Fin 32) = h
  exact rB m c t j0 n h

theorem covered12 (i : S32768x2048.Idx) : ∃ t : Fin cfg0.N, (cfg0.win 12).flush t = true ∧ i ∈ ((cfg0.win 12).blk t).view.set := by
  idx_vars i
  have h1 : i0.val / 128 < cfg0.N := by
    show _ < 256; omega
  refine ⟨⟨_, h1⟩, flush0_12 _, ?_⟩
  have h := ((cfg0.win 12).blk (⟨_, h1⟩ : Fin cfg0.N)).view.emb_mem_set (ix2 (⟨i0.val % 128, by omega⟩ : Fin 128) i1)
  rw [emb12, rowOf_div] at h
  exact h

/-- The result array after the run. -/
theorem final12 (c : Dev nD) : (dats m 0 c).arrAt 12 cfg0.N = rows (partR (pOf m c) (muOf m c)) :=
  (dats m 0 c).arrAt_eq_of_cover 12 _ (fun t _ => flushed12_eq m c t) covered12

theorem emb13 (t : Fin cfg0.N) (q : Fin 128) (k : Fin 2048) : ((cfg0.win 13).blk t).view.emb (ix2 q k) = ix2 (rowOf t q) k := by
  obtain ⟨-, ⟨e0, e1⟩, -⟩ := idx_results t
  funext a; apply Fin.ext
  match a with
  | ⟨0, _⟩ => show win0_13.index t (0 : Fin 2) * 128 + 1 * q.val = t.val * 128 + q.val; omega
  | ⟨1, _⟩ => show win0_13.index t (1 : Fin 2) * 2048 + 1 * k.val = k.val; omega

theorem flushed13_eq (c : Dev nD) (t : Fin cfg0.N) :
    (dats m 0 c).flushed 13 t = ((cfg0.win 13).blk t).view.read (Elt Ideal) (rows (partV (pOf m c) (muOf m c))) := by
  rw [Cert.RwkvPreIdeal.Value.flushed13]
  unfold out0_13 k0_pay42 k0_pay39 k0_pay38 k0_pay37
  rw [View.canon_unit_zero zero2]
  simp only [ld0, ld1, ld2, ld3, ld5]
  funext j
  show (k0_pay8 (F := Ideal) (iblk m c 0 t) (prevB m c t) (nextB m c t) (muB m c t) : Vec Ideal S128x2048 .f32) j = rows (partV (pOf m c) (muOf m c)) (((cfg0.win 13).blk t).view.emb j)
  idx_vars j
  refine Eq.trans ?_ (congrArg _ (emb13 t j0 j1).symm)
  rw [← chan_eq j1, rows_apply]
  generalize (⟨j1.val / 32, _⟩ : Fin 64) = n
  generalize (⟨j1.val % 32, _⟩ : Fin 32) = h
  exact vB m c t j0 n h

theorem covered13 (i : S32768x2048.Idx) : ∃ t : Fin cfg0.N, (cfg0.win 13).flush t = true ∧ i ∈ ((cfg0.win 13).blk t).view.set := by
  idx_vars i
  have h1 : i0.val / 128 < cfg0.N := by
    show _ < 256; omega
  refine ⟨⟨_, h1⟩, flush0_13 _, ?_⟩
  have h := ((cfg0.win 13).blk (⟨_, h1⟩ : Fin cfg0.N)).view.emb_mem_set (ix2 (⟨i0.val % 128, by omega⟩ : Fin 128) i1)
  rw [emb13, rowOf_div] at h
  exact h

/-- The result array after the run. -/
theorem final13 (c : Dev nD) : (dats m 0 c).arrAt 13 cfg0.N = rows (partV (pOf m c) (muOf m c)) :=
  (dats m 0 c).arrAt_eq_of_cover 13 _ (fun t _ => flushed13_eq m c t) covered13

theorem emb14 (t : Fin cfg0.N) (q : Fin 128) (k : Fin 2048) : ((cfg0.win 14).blk t).view.emb (ix2 q k) = ix2 (rowOf t q) k := by
  obtain ⟨-, -, ⟨e0, e1⟩, -⟩ := idx_results t
  funext a; apply Fin.ext
  match a with
  | ⟨0, _⟩ => show win0_14.index t (0 : Fin 2) * 128 + 1 * q.val = t.val * 128 + q.val; omega
  | ⟨1, _⟩ => show win0_14.index t (1 : Fin 2) * 2048 + 1 * k.val = k.val; omega

theorem flushed14_eq (c : Dev nD) (t : Fin cfg0.N) :
    (dats m 0 c).flushed 14 t = ((cfg0.win 14).blk t).view.read (Elt Ideal) (rows (unitKey (pOf m c) (muOf m c) (kkOf m c))) := by
  rw [Cert.RwkvPreIdeal.Value.flushed14]
  unfold out0_14 k0_pay47 k0_pay46 k0_pay45 k0_pay39 k0_pay38 k0_pay37
  rw [View.canon_unit_zero zero2]
  simp only [ld0, ld1, ld2, ld3, ld5, pay15_eq]
  funext j
  show (unitB m c t : Vec Ideal S128x2048 .f32) j = rows (unitKey (pOf m c) (muOf m c) (kkOf m c)) (((cfg0.win 14).blk t).view.emb j)
  idx_vars j
  refine Eq.trans ?_ (congrArg _ (emb14 t j0 j1).symm)
  rw [← chan_eq j1, rows_apply]
  generalize (⟨j1.val / 32, _⟩ : Fin 64) = n
  generalize (⟨j1.val % 32, _⟩ : Fin 32) = h
  exact unitB_eq m c t j0 n h

theorem covered14 (i : S32768x2048.Idx) : ∃ t : Fin cfg0.N, (cfg0.win 14).flush t = true ∧ i ∈ ((cfg0.win 14).blk t).view.set := by
  idx_vars i
  have h1 : i0.val / 128 < cfg0.N := by
    show _ < 256; omega
  refine ⟨⟨_, h1⟩, flush0_14 _, ?_⟩
  have h := ((cfg0.win 14).blk (⟨_, h1⟩ : Fin cfg0.N)).view.emb_mem_set (ix2 (⟨i0.val % 128, by omega⟩ : Fin 128) i1)
  rw [emb14, rowOf_div] at h
  exact h

/-- The result array after the run. -/
theorem final14 (c : Dev nD) : (dats m 0 c).arrAt 14 cfg0.N = rows (unitKey (pOf m c) (muOf m c) (kkOf m c)) :=
  (dats m 0 c).arrAt_eq_of_cover 14 _ (fun t _ => flushed14_eq m c t) covered14

theorem emb15 (t : Fin cfg0.N) (d : Fin 2) (q : Fin 128) (k : Fin 2048) : ((cfg0.win 15).blk t).view.emb (ix3 d q k) = ix3 d (rowOf t q) k := by
  obtain ⟨-, -, -, ⟨e0, e1, e2⟩, -⟩ := idx_results t
  funext a; apply Fin.ext
  match a with
  | ⟨0, _⟩ => show win0_15.index t (0 : Fin 3) * 2 + 1 * d.val = d.val; omega
  | ⟨1, _⟩ => show win0_15.index t (1 : Fin 3) * 128 + 1 * q.val = t.val * 128 + q.val; omega
  | ⟨2, _⟩ => show win0_15.index t (2 : Fin 3) * 2048 + 1 * k.val = k.val; omega

theorem flushed15_eq (c : Dev nD) (t : Fin cfg0.N) :
    (dats m 0 c).flushed 15 t = ((cfg0.win 15).blk t).view.read (Elt Ideal) (rows2 (decay (pOf m c) (muOf m c) (w0Of m c) (w2Of m c))) := by
  rw [Cert.RwkvPreIdeal.Value.flushed15]
  unfold out0_15 k0_pay43 k0_pay39 k0_pay38 k0_pay37
  simp only [ld0, ld1, ld2, ld3, ld5, ld6, ld7, ld8, ld9, pay28_eq]
  funext j
  show (View.canon [⟨r0_9, k0_pay19 (k0_pay18 (k0_pay9 (iblk m c 0 t) (prevB m c t) (nextB m c t) (muB m c t)) (slice1 (iblk m c 4 t) 1) (slice128 (iblk m c 5 t) 1))⟩, ⟨r0_7, k0_pay19 (k0_pay18 (k0_pay9 (iblk m c 0 t) (prevB m c t) (nextB m c t) (muB m c t)) (slice1 (iblk m c 4 t) 0) (slice128 (iblk m c 5 t) 0))⟩] : Vec Ideal S2x128x2048 .f32) j = rows2 (decay (pOf m c) (muOf m c) (w0Of m c) (w2Of m c)) (((cfg0.win 15).blk t).view.emb j)
  idx_vars j
  refine Eq.trans ?_ (congrArg _ (emb15 t j0 j1 j2).symm)
  rw [← chan_eq j2, rows2_apply]
  generalize (⟨j2.val / 32, _⟩ : Fin 64) = n
  generalize (⟨j2.val % 32, _⟩ : Fin 32) = h
  refine both_apply _ _ (fun d => decay (pOf m c) (muOf m c) (w0Of m c) (w2Of m c) d (rowOf t j1) n h) j0 j1 _ ?_ ?_
  · exact (pay19_apply _ j1 _).trans (congrArg decayOf (liftW_eq m c t 0 _ _ j1 n h fun k => wB m c t j1 k))
  · exact (pay19_apply _ j1 _).trans (congrArg decayOf (liftW_eq m c t 1 _ _ j1 n h fun k => wB m c t j1 k))

theorem covered15 (i : S2x32768x2048.Idx) : ∃ t : Fin cfg0.N, (cfg0.win 15).flush t = true ∧ i ∈ ((cfg0.win 15).blk t).view.set := by
  idx_vars i
  have h1 : i1.val / 128 < cfg0.N := by
    show _ < 256; omega
  refine ⟨⟨_, h1⟩, flush0_15 _, ?_⟩
  have h := ((cfg0.win 15).blk (⟨_, h1⟩ : Fin cfg0.N)).view.emb_mem_set (ix3 i0 (⟨i1.val % 128, by omega⟩ : Fin 128) i2)
  rw [emb15, rowOf_div] at h
  exact h

/-- The result array after the run. -/
theorem final15 (c : Dev nD) : (dats m 0 c).arrAt 15 cfg0.N = rows2 (decay (pOf m c) (muOf m c) (w0Of m c) (w2Of m c)) :=
  (dats m 0 c).arrAt_eq_of_cover 15 _ (fun t _ => flushed15_eq m c t) covered15

theorem emb16 (t : Fin cfg0.N) (d : Fin 2) (q : Fin 128) (k : Fin 2048) : ((cfg0.win 16).blk t).view.emb (ix3 d q k) = ix3 d (rowOf t q) k := by
  obtain ⟨-, -, -, -, ⟨e0, e1, e2⟩, -⟩ := idx_results t
  funext a; apply Fin.ext
  match a with
  | ⟨0, _⟩ => show win0_16.index t (0 : Fin 3) * 2 + 1 * d.val = d.val; omega
  | ⟨1, _⟩ => show win0_16.index t (1 : Fin 3) * 128 + 1 * q.val = t.val * 128 + q.val; omega
  | ⟨2, _⟩ => show win0_16.index t (2 : Fin 3) * 2048 + 1 * k.val = k.val; omega

theorem flushed16_eq (c : Dev nD) (t : Fin cfg0.N) :
    (dats m 0 c).flushed 16 t = ((cfg0.win 16).blk t).view.read (Elt Ideal) (rows2 (ratedKey (pOf m c) (muOf m c) (a0Of m c) (a2Of m c) (kkOf m c))) := by
  rw [Cert.RwkvPreIdeal.Value.flushed16]
  unfold out0_16 k0_pay52 k0_pay50 k0_pay48 k0_pay47 k0_pay46 k0_pay45 k0_pay44 k0_pay39 k0_pay38 k0_pay37
  simp only [ld0, ld1, ld2, ld3, ld5, ld6, ld7, ld8, ld9, pay15_eq, pay33_eq]
  funext j
  show (View.canon [⟨r0_9, k0_pay24 (unitB m c t) (rateB m c t 1)⟩, ⟨r0_7, k0_pay24 (unitB m c t) (rateB m c t 0)⟩] : Vec Ideal S2x128x2048 .f32) j = rows2 (ratedKey (pOf m c) (muOf m c) (a0Of m c) (a2Of m c) (kkOf m c)) (((cfg0.win 16).blk t).view.emb j)
  idx_vars j
  refine Eq.trans ?_ (congrArg _ (emb16 t j0 j1 j2).symm)
  rw [← chan_eq j2, rows2_apply]
  generalize (⟨j2.val / 32, _⟩ : Fin 64) = n
  generalize (⟨j2.val % 32, _⟩ : Fin 32) = h
  refine both_apply _ _ (fun d => ratedKey (pOf m c) (muOf m c) (a0Of m c) (a2Of m c) (kkOf m c) d (rowOf t j1) n h) j0 j1 _ ?_ ?_
  · exact (pay24_apply _ _ j1 _).trans (congrArg₂ (· * ·) (unitB_eq m c t j1 n h) (rateB_eq m c t 0 j1 n h))
  · exact (pay24_apply _ _ j1 _).trans (congrArg₂ (· * ·) (unitB_eq m c t j1 n h) (rateB_eq m c t 1 j1 n h))

theorem covered16 (i : S2x32768x2048.Idx) : ∃ t : Fin cfg0.N, (cfg0.win 16).flush t = true ∧ i ∈ ((cfg0.win 16).blk t).view.set := by
  idx_vars i
  have h1 : i1.val / 128 < cfg0.N := by
    show _ < 256; omega
  refine ⟨⟨_, h1⟩, flush0_16 _, ?_⟩
  have h := ((cfg0.win 16).blk (⟨_, h1⟩ : Fin cfg0.N)).view.emb_mem_set (ix3 i0 (⟨i1.val % 128, by omega⟩ : Fin 128) i2)
  rw [emb16, rowOf_div] at h
  exact h

/-- The result array after the run. -/
theorem final16 (c : Dev nD) : (dats m 0 c).arrAt 16 cfg0.N = rows2 (ratedKey (pOf m c) (muOf m c) (a0Of m c) (a2Of m c) (kkOf m c)) :=
  (dats m 0 c).arrAt_eq_of_cover 16 _ (fun t _ => flushed16_eq m c t) covered16

theorem emb17 (t : Fin cfg0.N) (d : Fin 2) (q : Fin 128) (k : Fin 2048) : ((cfg0.win 17).blk t).view.emb (ix3 d q k) = ix3 d (rowOf t q) k := by
  obtain ⟨-, -, -, -, -, ⟨e0, e1, e2⟩, -⟩ := idx_results t
  funext a; apply Fin.ext
  match a with
  | ⟨0, _⟩ => show win0_17.index t (0 : Fin 3) * 2 + 1 * d.val = d.val; omega
  | ⟨1, _⟩ => show win0_17.index t (1 : Fin 3) * 128 + 1 * q.val = t.val * 128 + q.val; omega
  | ⟨2, _⟩ => show win0_17.index t (2 : Fin 3) * 2048 + 1 * k.val = k.val; omega

theorem flushed17_eq (c : Dev nD) (t : Fin cfg0.N) :
    (dats m 0 c).flushed 17 t = ((cfg0.win 17).blk t).view.read (Elt Ideal) (rows2 (key (pOf m c) (muOf m c) (a0Of m c) (a2Of m c) (kaOf m c))) := by
  rw [Cert.RwkvPreIdeal.Value.flushed17]
  unfold out0_17 k0_pay52 k0_pay51 k0_pay50 k0_pay44 k0_pay41 k0_pay39 k0_pay38 k0_pay37
  simp only [ld0, ld1, ld2, ld3, ld5, ld6, ld7, ld8, ld9, pay32_eq]
  funext j
  show (View.canon [⟨r0_9, k0_pay23 (k0_pay7 (iblk m c 0 t) (prevB m c t) (nextB m c t) (muB m c t)) (rateB m c t 1) k0_pay21 (iblk m c 10 t)⟩, ⟨r0_7, k0_pay23 (k0_pay7 (iblk m c 0 t) (prevB m c t) (nextB m c t) (muB m c t)) (rateB m c t 0) k0_pay21 (iblk m c 10 t)⟩] : Vec Ideal S2x128x2048 .f32) j = rows2 (key (pOf m c) (muOf m c) (a0Of m c) (a2Of m c) (kaOf m c)) (((cfg0.win 17).blk t).view.emb j)
  idx_vars j
  refine Eq.trans ?_ (congrArg _ (emb17 t j0 j1 j2).symm)
  rw [← chan_eq j2, rows2_apply]
  generalize (⟨j2.val / 32, _⟩ : Fin 64) = n
  generalize (⟨j2.val % 32, _⟩ : Fin 32) = h
  refine both_apply _ _ (fun d => key (pOf m c) (muOf m c) (a0Of m c) (a2Of m c) (kaOf m c) d (rowOf t j1) n h) j0 j1 _ ?_ ?_
  · exact (pay23_apply _ _ _ j1 _).trans (keyB_eq m c t 0 j1 n h)
  · exact (pay23_apply _ _ _ j1 _).trans (keyB_eq m c t 1 j1 n h)

theorem covered17 (i : S2x32768x2048.Idx) : ∃ t : Fin cfg0.N, (cfg0.win 17).flush t = true ∧ i ∈ ((cfg0.win 17).blk t).view.set := by
  idx_vars i
  have h1 : i1.val / 128 < cfg0.N := by
    show _ < 256; omega
  refine ⟨⟨_, h1⟩, flush0_17 _, ?_⟩
  have h := ((cfg0.win 17).blk (⟨_, h1⟩ : Fin cfg0.N)).view.emb_mem_set (ix3 i0 (⟨i1.val % 128, by omega⟩ : Fin 128) i2)
  rw [emb17, rowOf_div] at h
  exact h

/-- The result array after the run. -/
theorem final17 (c : Dev nD) : (dats m 0 c).arrAt 17 cfg0.N = rows2 (key (pOf m c) (muOf m c) (a0Of m c) (a2Of m c) (kaOf m c)) :=
  (dats m 0 c).arrAt_eq_of_cover 17 _ (fun t _ => flushed17_eq m c t) covered17

theorem emb18 (t : Fin cfg0.N) (q : Fin 128) (k : Fin 2048) : ((cfg0.win 18).blk t).view.emb (ix2 q k) = ix2 (rowOf t q) k := by
  obtain ⟨-, -, -, -, -, -, ⟨e0, e1⟩, -⟩ := idx_results t
  funext a; apply Fin.ext
  match a with
  | ⟨0, _⟩ => show win0_18.index t (0 : Fin 2) * 128 + 1 * q.val = t.val * 128 + q.val; omega
  | ⟨1, _⟩ => show win0_18.index t (1 : Fin 2) * 2048 + 1 * k.val = k.val; omega

theorem flushed18_eq (c : Dev nD) (t : Fin cfg0.N) :
    (dats m 0 c).flushed 18 t = ((cfg0.win 18).blk t).view.read (Elt Ideal) (rows (gateVal (pOf m c) (muOf m c) (g2Of m c))) := by
  rw [Cert.RwkvPreIdeal.Value.flushed18]
  unfold out0_18 k0_pay39 k0_pay38 k0_pay37
  rw [View.canon_unit_zero zero2]
  simp only [ld0, ld1, ld2, ld3, ld5]
  funext j
  show (k0_pay16 (F := Ideal) (k0_pay11 (iblk m c 0 t) (prevB m c t) (nextB m c t) (muB m c t)) (iblk m c 8 t) : Vec Ideal S128x2048 .f32) j = rows (gateVal (pOf m c) (muOf m c) (g2Of m c)) (((cfg0.win 18).blk t).view.emb j)
  idx_vars j
  refine Eq.trans ?_ (congrArg _ (emb18 t j0 j1).symm)
  rw [← chan_eq j1, rows_apply]
  generalize (⟨j1.val / 32, _⟩ : Fin 64) = n
  generalize (⟨j1.val % 32, _⟩ : Fin 32) = h
  refine (pay16_apply _ _ j0 _).trans (Finset.sum_congr rfl fun k _ => congrArg₂ (· * ·) (gB m c t j0 k) ?_)
  rw [blk8, host_g2, toPlace_chan]

theorem covered18 (i : S32768x2048.Idx) : ∃ t : Fin cfg0.N, (cfg0.win 18).flush t = true ∧ i ∈ ((cfg0.win 18).blk t).view.set := by
  idx_vars i
  have h1 : i0.val / 128 < cfg0.N := by
    show _ < 256; omega
  refine ⟨⟨_, h1⟩, flush0_18 _, ?_⟩
  have h := ((cfg0.win 18).blk (⟨_, h1⟩ : Fin cfg0.N)).view.emb_mem_set (ix2 (⟨i0.val % 128, by omega⟩ : Fin 128) i1)
  rw [emb18, rowOf_div] at h
  exact h

/-- The result array after the run. -/
theorem final18 (c : Dev nD) : (dats m 0 c).arrAt 18 cfg0.N = rows (gateVal (pOf m c) (muOf m c) (g2Of m c)) :=
  (dats m 0 c).arrAt_eq_of_cover 18 _ (fun t _ => flushed18_eq m c t) covered18

theorem emb19 (t : Fin cfg0.N) (q : Fin 128) (k : Fin 2048) : ((cfg0.win 19).blk t).view.emb (ix2 q k) = ix2 (rowOf t q) k := by
  obtain ⟨-, -, -, -, -, -, -, e0, e1⟩ := idx_results t
  funext a; apply Fin.ext
  match a with
  | ⟨0, _⟩ => show win0_19.index t (0 : Fin 2) * 128 + 1 * q.val = t.val * 128 + q.val; omega
  | ⟨1, _⟩ => show win0_19.index t (1 : Fin 2) * 2048 + 1 * k.val = k.val; omega

theorem flushed19_eq (c : Dev nD) (t : Fin cfg0.N) :
    (dats m 0 c).flushed 19 t = ((cfg0.win 19).blk t).view.read (Elt Ideal) (rows (bonusVal (pOf m c) (muOf m c) (a0Of m c) (a2Of m c) (kaOf m c) (rkOf m c))) := by
  rw [Cert.RwkvPreIdeal.Value.flushed19]
  unfold out0_19 k0_pay52 k0_pay51 k0_pay50 k0_pay49 k0_pay44 k0_pay42 k0_pay41 k0_pay40 k0_pay39 k0_pay38 k0_pay37
  rw [View.canon_unit_zero zero2]
  simp only [ld0, ld1, ld2, ld3, ld5, ld6, ld7, ld8, ld9, pay1_eq]
  funext j
  show (bonusRows (k0_pay8 (iblk m c 0 t) (prevB m c t) (nextB m c t) (muB m c t)) (k0_pay17 (k0_pay6 (iblk m c 0 t) (prevB m c t) (nextB m c t) (muB m c t)) (iblk m c 11 t)) (keyB m c t 0) (keyB m c t 1) : Vec Ideal S128x2048 .f32) j = rows (bonusVal (pOf m c) (muOf m c) (a0Of m c) (a2Of m c) (kaOf m c) (rkOf m c)) (((cfg0.win 19).blk t).view.emb j)
  idx_vars j
  refine Eq.trans ?_ (congrArg _ (emb19 t j0 j1).symm)
  rw [← chan_eq j1, rows_apply]
  generalize (⟨j1.val / 32, _⟩ : Fin 64) = n
  generalize (⟨j1.val % 32, _⟩ : Fin 32) = h
  refine (bonusRows_apply _ _ _ _ j0 n h).trans (congrArg₂ (· * ·) (congrArg₂ (· + ·) ?_ ?_) (vB m c t j0 n h))
  · exact Finset.sum_congr rfl fun k _ => congrArg₂ (· * ·) (receptB_eq m c t j0 k h) (keyB_eq m c t 0 j0 k h)
  · exact Finset.sum_congr rfl fun k _ => congrArg₂ (· * ·) (receptB_eq m c t j0 k h) (keyB_eq m c t 1 j0 k h)

theorem covered19 (i : S32768x2048.Idx) : ∃ t : Fin cfg0.N, (cfg0.win 19).flush t = true ∧ i ∈ ((cfg0.win 19).blk t).view.set := by
  idx_vars i
  have h1 : i0.val / 128 < cfg0.N := by
    show _ < 256; omega
  refine ⟨⟨_, h1⟩, flush0_19 _, ?_⟩
  have h := ((cfg0.win 19).blk (⟨_, h1⟩ : Fin cfg0.N)).view.emb_mem_set (ix2 (⟨i0.val % 128, by omega⟩ : Fin 128) i1)
  rw [emb19, rowOf_div] at h
  exact h

/-- The result array after the run. -/
theorem final19 (c : Dev nD) : (dats m 0 c).arrAt 19 cfg0.N = rows (bonusVal (pOf m c) (muOf m c) (a0Of m c) (a2Of m c) (kaOf m c) (rkOf m c)) :=
  (dats m 0 c).arrAt_eq_of_cover 19 _ (fun t _ => flushed19_eq m c t) covered19

end Cert.RwkvPreIdeal.Pre
end
-- ==== Proof.RwkvPreReference.lean ====
module

public import proofs.«01_k».proof.Proof.Gen.RwkvPreReferenceIdeal.Run
public import proofs.«01_k».proof.Proof.Gen.RwkvPreReferenceIdeal.Read
public import proofs.«01_k».proof.Proof.RwkvPreValues

/-! The beginning of the second mixer: the reference's eight results are the same. -/

@[expose] public section
set_option maxRecDepth 16384
noncomputable section
namespace Cert.RwkvPreReferenceIdeal.Pre
open Cert.RwkvPreReferenceIdeal Cert.RwkvPreReferenceIdeal.Gen Cert.RwkvPreReferenceIdeal.Read Cert.RwkvPreIdeal.Pre Cert.RwkvGateIdeal.Gate Idealize.ShloMosaic

/-! ## The token shift -/

/-- A shifted entry by sample and time step. -/
theorem shifted_row (p : Vec Ideal S32768x6656 .f32) (s : Fin 8) (t : Fin 4096) (j : Fin 6656) (μ : EReal) :
    shift (p (ix2 (row t s) j)) (if t.val < 1 then 0 else p (ix2 (row ⟨t.val - 1, by omega⟩ s) j))
      (if h : t.val < 4095 then p (ix2 (row ⟨1 + t.val, by omega⟩ s) j) else 0) μ = shifted p (row t s) j μ := by
  have hr : (row t s).val = t.val * 8 + s.val := rfl
  have hs := s.isLt
  unfold shifted before after
  refine congrArg₂ (shift _ · · μ) ?_ ?_
  · by_cases h : t.val < 1
    · rw [if_pos h, if_pos (by omega)]
    · rw [if_neg h, if_neg (by omega)]
      exact congrArg (fun r => p (ix2 r j)) (Fin.ext (by show (t.val - 1) * 8 + s.val = t.val * 8 + s.val - 8; omega))
  · by_cases h : t.val < 4095
    · rw [dif_pos h, dif_pos (by omega)]
      exact congrArg (fun r => p (ix2 r j)) (Fin.ext (by show (1 + t.val) * 8 + s.val = t.val * 8 + s.val + 8; omega))
    · rw [dif_neg h, dif_neg (by omega)]

/-- The shift of 2048 columns. -/
def tokenShift2048 (x : FVec Ideal S8x4096x2048 .f32) (w : FVec Ideal S2048 .f32) : FVec Ideal S8x4096x2048 .f32 :=
  addf x (mulf (broadcastInDim S8x4096x2048 ![0, 1, 2] bcast_S1x1x2048_S8x4096x2048_0_1_2 (broadcastInDim S1x1x2048 ![2] bcast_S2048_S1x1x2048_2 w))
    (subf (mulf (broadcastInDim S8x4096x2048 ![] bcast_S_S8x4096x2048 (constant S_ .f32 0x3F000000#32 : FVec Ideal S_ .f32))
      (addf
        (concatenate S8x4096x2048 1 [⟨S8x1x2048, broadcastInDim S8x1x2048 ![] bcast_S_S8x1x2048 (constant S_ .f32 0x00000000#32 : FVec Ideal S_ .f32)⟩,
          ⟨S8x4095x2048, extractStridedSlice S8x4095x2048 ![0, 0, 0] x slices_S8x4096x2048_S8x4095x2048_0_0_0⟩] concatenates_S8x1x2048_S8x4095x2048_S8x4096x2048_d1)
        (concatenate S8x4096x2048 1 [⟨S8x4095x2048, extractStridedSlice S8x4095x2048 ![0, 1, 0] x slices_S8x4096x2048_S8x4095x2048_0_1_0⟩,
          ⟨S8x1x2048, broadcastInDim S8x1x2048 ![] bcast_S_S8x1x2048 (constant S_ .f32 0x00000000#32 : FVec Ideal S_ .f32)⟩] concatenates_S8x4095x2048_S8x1x2048_S8x4096x2048_d1)))
      x))

theorem tokenShift2048_apply (x : FVec Ideal S8x4096x2048 .f32) (w : FVec Ideal S2048 .f32) (p : Vec Ideal S32768x6656 .f32) (s : Fin 8) (t : Fin 4096) (k : Fin 2048)
    (j : Fin 6656) (μ : EReal) (hx : ∀ t, x (ix3 s t k) = p (ix2 (row t s) j)) (hw : w (ix1 k) = μ) :
    tokenShift2048 x w (ix3 s t k) = shifted p (row t s) j μ := by
  rw [← shifted_row p s t j μ, ← hw]
  simp only [← hx]
  unfold tokenShift2048 shift
  pointwise
  rfl

/-- The shift of 96 columns. -/
def tokenShift96 (x : FVec Ideal S8x4096x96 .f32) (w : FVec Ideal S96 .f32) : FVec Ideal S8x4096x96 .f32 :=
  addf x (mulf (broadcastInDim S8x4096x96 ![0, 1, 2] bcast_S1x1x96_S8x4096x96_0_1_2 (broadcastInDim S1x1x96 ![2] bcast_S96_S1x1x96_2 w))
    (subf (mulf (broadcastInDim S8x4096x96 ![] bcast_S_S8x4096x96 (constant S_ .f32 0x3F000000#32 : FVec Ideal S_ .f32))
      (addf
        (concatenate S8x4096x96 1 [⟨S8x1x96, broadcastInDim S8x1x96 ![] bcast_S_S8x1x96 (constant S_ .f32 0x00000000#32 : FVec Ideal S_ .f32)⟩,
          ⟨S8x4095x96, extractStridedSlice S8x4095x96 ![0, 0, 0] x slices_S8x4096x96_S8x4095x96_0_0_0⟩] concatenates_S8x1x96_S8x4095x96_S8x4096x96_d1)
        (concatenate S8x4096x96 1 [⟨S8x4095x96, extractStridedSlice S8x4095x96 ![0, 1, 0] x slices_S8x4096x96_S8x4095x96_0_1_0⟩,
          ⟨S8x1x96, broadcastInDim S8x1x96 ![] bcast_S_S8x1x96 (constant S_ .f32 0x00000000#32 : FVec Ideal S_ .f32)⟩] concatenates_S8x4095x96_S8x1x96_S8x4096x96_d1)))
      x))

theorem tokenShift96_apply (x : FVec Ideal S8x4096x96 .f32) (w : FVec Ideal S96 .f32) (p : Vec Ideal S32768x6656 .f32) (s : Fin 8) (t : Fin 4096) (k : Fin 96)
    (j : Fin 6656) (μ : EReal) (hx : ∀ t, x (ix3 s t k) = p (ix2 (row t s) j)) (hw : w (ix1 k) = μ) :
    tokenShift96 x w (ix3 s t k) = shifted p (row t s) j μ := by
  rw [← shifted_row p s t j μ, ← hw]
  simp only [← hx]
  unfold tokenShift96 shift
  pointwise
  rfl

/-- The shift of 256 columns. -/
def tokenShift256 (x : FVec Ideal S8x4096x256 .f32) (w : FVec Ideal S256 .f32) : FVec Ideal S8x4096x256 .f32 :=
  addf x (mulf (broadcastInDim S8x4096x256 ![0, 1, 2] bcast_S1x1x256_S8x4096x256_0_1_2 (broadcastInDim S1x1x256 ![2] bcast_S256_S1x1x256_2 w))
    (subf (mulf (broadcastInDim S8x4096x256 ![] bcast_S_S8x4096x256 (constant S_ .f32 0x3F000000#32 : FVec Ideal S_ .f32))
      (addf
        (concatenate S8x4096x256 1 [⟨S8x1x256, broadcastInDim S8x1x256 ![] bcast_S_S8x1x256 (constant S_ .f32 0x00000000#32 : FVec Ideal S_ .f32)⟩,
          ⟨S8x4095x256, extractStridedSlice S8x4095x256 ![0, 0, 0] x slices_S8x4096x256_S8x4095x256_0_0_0⟩] concatenates_S8x1x256_S8x4095x256_S8x4096x256_d1)
        (concatenate S8x4096x256 1 [⟨S8x4095x256, extractStridedSlice S8x4095x256 ![0, 1, 0] x slices_S8x4096x256_S8x4095x256_0_1_0⟩,
          ⟨S8x1x256, broadcastInDim S8x1x256 ![] bcast_S_S8x1x256 (constant S_ .f32 0x00000000#32 : FVec Ideal S_ .f32)⟩] concatenates_S8x4095x256_S8x1x256_S8x4096x256_d1)))
      x))

theorem tokenShift256_apply (x : FVec Ideal S8x4096x256 .f32) (w : FVec Ideal S256 .f32) (p : Vec Ideal S32768x6656 .f32) (s : Fin 8) (t : Fin 4096) (k : Fin 256)
    (j : Fin 6656) (μ : EReal) (hx : ∀ t, x (ix3 s t k) = p (ix2 (row t s) j)) (hw : w (ix1 k) = μ) :
    tokenShift256 x w (ix3 s t k) = shifted p (row t s) j μ := by
  rw [← shifted_row p s t j μ, ← hw]
  simp only [← hx]
  unfold tokenShift256 shift
  pointwise
  rfl

theorem place_chan (n : Fin 64) (h : Fin 32) : (place n h).val % 64 * 32 + (place n h).val / 64 = (chan n h).val := by
  show (h.val * 64 + n.val) % 64 * 32 + (h.val * 64 + n.val) / 64 = n.val * 32 + h.val
  omega

theorem columnsR (p : Vec Ideal S32768x6656 .f32) (s : Fin 8) (t : Fin 4096) (j : Fin 2048) :
    val_main_v6 (F := Ideal) p (ix3 s t j) = p (ix2 (row t s) ⟨0 + (j.val % 64 * 32 + j.val / 64), by omega⟩) := by
  unfold val_main_v6 val_main_v5 val_main_v4 val_main_v3 val_main_v2 val_main_v1
  pointwise
  rfl

theorem weightsR (mu : Vec Ideal S1x6592 .f32) (j : Fin 2048) :
    val_main_v7 (F := Ideal) mu (ix1 j) = mu (ix2 0 ⟨0 + j.val, by omega⟩) := by
  unfold val_main_v7 val_main_v0
  pointwise

theorem shiftR (p : Vec Ideal S32768x6656 .f32) (mu : Vec Ideal S1x6592 .f32) (s : Fin 8) (t : Fin 4096) (n : Fin 64) (h : Fin 32) :
    val_main_v21 (F := Ideal) p mu (ix3 s t (place n h)) = partR p mu (row t s) n h := by
  have e : val_main_v21 (F := Ideal) p mu = tokenShift2048 (val_main_v6 p) (val_main_v7 mu) := by
    unfold val_main_v21 val_main_v20 val_main_v19 val_main_v18 val_main_v17 val_main_v16 val_main_v15 val_main_v14 val_main_v13 val_main_v12 val_main_v11 val_main_v10 val_main_v9 val_main_cst_0 val_main_cst tokenShift2048
    rfl
  rw [e]
  refine tokenShift2048_apply (val_main_v6 (F := Ideal) p) (val_main_v7 (F := Ideal) mu) p s t (place n h) _ _ (fun t => ?_) (weightsR mu (place n h))
  exact (columnsR p s t (place n h)).trans (congrArg (fun c => p (ix2 (row t s) c)) (Fin.ext (congrArg (0 + ·) (place_chan n h))))

theorem columnsK (p : Vec Ideal S32768x6656 .f32) (s : Fin 8) (t : Fin 4096) (j : Fin 2048) :
    val_main_v27 (F := Ideal) p (ix3 s t j) = p (ix2 (row t s) ⟨2048 + (j.val % 64 * 32 + j.val / 64), by omega⟩) := by
  unfold val_main_v27 val_main_v26 val_main_v25 val_main_v24 val_main_v23 val_main_v22
  pointwise
  rfl

theorem weightsK (mu : Vec Ideal S1x6592 .f32) (j : Fin 2048) :
    val_main_v28 (F := Ideal) mu (ix1 j) = mu (ix2 0 ⟨2048 + j.val, by omega⟩) := by
  unfold val_main_v28 val_main_v0
  pointwise

theorem shiftK (p : Vec Ideal S32768x6656 .f32) (mu : Vec Ideal S1x6592 .f32) (s : Fin 8) (t : Fin 4096) (n : Fin 64) (h : Fin 32) :
    val_main_v42 (F := Ideal) p mu (ix3 s t (place n h)) = partK p mu (row t s) n h := by
  have e : val_main_v42 (F := Ideal) p mu = tokenShift2048 (val_main_v27 p) (val_main_v28 mu) := by
    unfold val_main_v42 val_main_v41 val_main_v40 val_main_v39 val_main_v38 val_main_v37 val_main_v36 val_main_v35 val_main_v34 val_main_v33 val_main_v32 val_main_v31 val_main_v30 val_main_cst_2 val_main_cst_1 tokenShift2048
    rfl
  rw [e]
  refine tokenShift2048_apply (val_main_v27 (F := Ideal) p) (val_main_v28 (F := Ideal) mu) p s t (place n h) _ _ (fun t => ?_) (weightsK mu (place n h))
  exact (columnsK p s t (place n h)).trans (congrArg (fun c => p (ix2 (row t s) c)) (Fin.ext (congrArg (2048 + ·) (place_chan n h))))

theorem columnsV (p : Vec Ideal S32768x6656 .f32) (s : Fin 8) (t : Fin 4096) (j : Fin 2048) :
    val_main_v48 (F := Ideal) p (ix3 s t j) = p (ix2 (row t s) ⟨4096 + (j.val % 64 * 32 + j.val / 64), by omega⟩) := by
  unfold val_main_v48 val_main_v47 val_main_v46 val_main_v45 val_main_v44 val_main_v43
  pointwise
  rfl

theorem weightsV (mu : Vec Ideal S1x6592 .f32) (j : Fin 2048) :
    val_main_v49 (F := Ideal) mu (ix1 j) = mu (ix2 0 ⟨4096 + j.val, by omega⟩) := by
  unfold val_main_v49 val_main_v0
  pointwise

theorem shiftV (p : Vec Ideal S32768x6656 .f32) (mu : Vec Ideal S1x6592 .f32) (s : Fin 8) (t : Fin 4096) (n : Fin 64) (h : Fin 32) :
    val_main_v63 (F := Ideal) p mu (ix3 s t (place n h)) = partV p mu (row t s) n h := by
  have e : val_main_v63 (F := Ideal) p mu = tokenShift2048 (val_main_v48 p) (val_main_v49 mu) := by
    unfold val_main_v63 val_main_v62 val_main_v61 val_main_v60 val_main_v59 val_main_v58 val_main_v57 val_main_v56 val_main_v55 val_main_v54 val_main_v53 val_main_v52 val_main_v51 val_main_cst_4 val_main_cst_3 tokenShift2048
    rfl
  rw [e]
  refine tokenShift2048_apply (val_main_v48 (F := Ideal) p) (val_main_v49 (F := Ideal) mu) p s t (place n h) _ _ (fun t => ?_) (weightsV mu (place n h))
  exact (columnsV p s t (place n h)).trans (congrArg (fun c => p (ix2 (row t s) c)) (Fin.ext (congrArg (4096 + ·) (place_chan n h))))

theorem shiftW (p : Vec Ideal S32768x6656 .f32) (mu : Vec Ideal S1x6592 .f32) (s : Fin 8) (t : Fin 4096) (k : Fin 96) :
    val_main_v81 (F := Ideal) p mu (ix3 s t k) = partW p mu (row t s) k := by
  have e : val_main_v81 (F := Ideal) p mu = tokenShift96 (val_main_v66 p) (val_main_v67 mu) := by
    unfold val_main_v81 val_main_v80 val_main_v79 val_main_v78 val_main_v77 val_main_v76 val_main_v75 val_main_v74 val_main_v73 val_main_v72 val_main_v71 val_main_v70 val_main_v69 val_main_cst_6 val_main_cst_5
    unfold tokenShift96
    rfl
  rw [e]
  refine tokenShift96_apply (val_main_v66 (F := Ideal) p) (val_main_v67 (F := Ideal) mu) p s t k _ _ (fun t => ?_) ?_
  · unfold val_main_v66 val_main_v65 val_main_v64
    pointwise
    rfl
  · unfold val_main_v67 val_main_v0
    pointwise

theorem shiftA (p : Vec Ideal S32768x6656 .f32) (mu : Vec Ideal S1x6592 .f32) (s : Fin 8) (t : Fin 4096) (k : Fin 96) :
    val_main_v99 (F := Ideal) p mu (ix3 s t k) = partA p mu (row t s) k := by
  have e : val_main_v99 (F := Ideal) p mu = tokenShift96 (val_main_v84 p) (val_main_v85 mu) := by
    unfold val_main_v99 val_main_v98 val_main_v97 val_main_v96 val_main_v95 val_main_v94 val_main_v93 val_main_v92 val_main_v91 val_main_v90 val_main_v89 val_main_v88 val_main_v87 val_main_cst_8 val_main_cst_7
    unfold tokenShift96
    rfl
  rw [e]
  refine tokenShift96_apply (val_main_v84 (F := Ideal) p) (val_main_v85 (F := Ideal) mu) p s t k _ _ (fun t => ?_) ?_
  · unfold val_main_v84 val_main_v83 val_main_v82
    pointwise
    rfl
  · unfold val_main_v85 val_main_v0
    pointwise

theorem shiftG (p : Vec Ideal S32768x6656 .f32) (mu : Vec Ideal S1x6592 .f32) (s : Fin 8) (t : Fin 4096) (k : Fin 256) :
    val_main_v117 (F := Ideal) p mu (ix3 s t k) = partG p mu (row t s) k := by
  have e : val_main_v117 (F := Ideal) p mu = tokenShift256 (val_main_v102 p) (val_main_v103 mu) := by
    unfold val_main_v117 val_main_v116 val_main_v115 val_main_v114 val_main_v113 val_main_v112 val_main_v111 val_main_v110 val_main_v109 val_main_v108 val_main_v107 val_main_v106 val_main_v105 val_main_cst_10 val_main_cst_9
    unfold tokenShift256
    rfl
  rw [e]
  refine tokenShift256_apply (val_main_v102 (F := Ideal) p) (val_main_v103 (F := Ideal) mu) p s t k _ _ (fun t => ?_) ?_
  · unfold val_main_v102 val_main_v101 val_main_v100
    pointwise
    rfl
  · unfold val_main_v103 val_main_v0
    pointwise

/-! ## The normalised key and the gate -/

theorem scaledKey (p : Vec Ideal S32768x6656 .f32) (mu : Vec Ideal S1x6592 .f32) (kk : Vec Ideal S1x2048 .f32) (s : Fin 8) (t : Fin 4096) (h : Fin 32) (n : Fin 64) :
    val_main_v122 (F := Ideal) p mu kk (ix4 s t h n) = partK p mu (row t s) n h * kk (ix2 0 (place n h)) := by
  rw [← shiftK p mu s t n h]
  unfold val_main_v122 val_main_v121 val_main_v120 val_main_v119 val_main_v118
  generalize val_main_v42 (F := Ideal) p mu = z
  pointwise
  rfl

theorem unitHead (p : Vec Ideal S32768x6656 .f32) (mu : Vec Ideal S1x6592 .f32) (kk : Vec Ideal S1x2048 .f32) (s : Fin 8) (t : Fin 4096) (h : Fin 32) (n : Fin 64) :
    val_main_v130 (F := Ideal) p mu kk (ix4 s t h n) = unitKey p mu kk (row t s) n h := by
  have e := scaledKey p mu kk s t h
  unfold val_main_v130 val_main_v129 val_main_v128 val_main_v127 val_main_v126 val_main_v125 val_main_v124 val_main_v123 val_main_cst_12 val_main_cst_11 unitKey unitOf
  simp only [← e]
  generalize val_main_v122 (F := Ideal) p mu kk = z
  pointwise

/-- The heads side by side. -/
theorem flat (z : FVec Ideal S8x4096x32x64 .f32) (s : Fin 8) (t : Fin 4096) (n : Fin 64) (h : Fin 32) :
    shapeCast S8x4096x2048 z shapeCasts_S8x4096x32x64_S8x4096x2048 (ix3 s t (place n h)) = z (ix4 s t h n) := by
  refine (show ∀ j : Fin 2048, shapeCast S8x4096x2048 z shapeCasts_S8x4096x32x64_S8x4096x2048 (ix3 s t j) = z (ix4 s t ⟨j.val / 64, by omega⟩ ⟨j.val % 64, by omega⟩)
    from fun j => ?_) (place n h) |>.trans (congrArg₂ (fun a b => z (ix4 s t a b)) (Fin.ext ?_) (Fin.ext ?_))
  · pointwise
  · show (h.val * 64 + n.val) / 64 = h.val
    omega
  · show (h.val * 64 + n.val) % 64 = n.val
    omega

theorem unit_eq (p : Vec Ideal S32768x6656 .f32) (mu : Vec Ideal S1x6592 .f32) (kk : Vec Ideal S1x2048 .f32) (s : Fin 8) (t : Fin 4096) (n : Fin 64) (h : Fin 32) :
    val_main_v131 (F := Ideal) p mu kk (ix3 s t (place n h)) = unitKey p mu kk (row t s) n h :=
  (flat (val_main_v130 (F := Ideal) p mu kk) s t n h).trans (unitHead p mu kk s t h n)

theorem gate_eq (p : Vec Ideal S32768x6656 .f32) (mu : Vec Ideal S1x6592 .f32) (g2 : Vec Ideal S1x256x2048 .f32) (s : Fin 8) (t : Fin 4096) (n : Fin 64) (h : Fin 32) :
    val_main_v139 (F := Ideal) p mu g2 (ix3 s t (place n h)) = gateVal p mu g2 (row t s) n h := by
  have e := shiftG p mu s t
  unfold val_main_v139 val_main_v138 val_main_v137 val_main_v136 val_main_v135 val_main_v134 val_main_v133 val_main_v132 val_main_cst_14 val_main_cst_13 gateVal sigmoid
  simp only [← e]
  generalize val_main_v117 (F := Ideal) p mu = z
  generalize place n h = j
  pointwise

/-! ## The first direction -/

theorem decayLift (p : Vec Ideal S32768x6656 .f32) (mu : Vec Ideal S1x6592 .f32) (w0 : Vec Ideal S1x2x2048 .f32) (w2 : Vec Ideal S1x2x96x2048 .f32) (s : Fin 8) (t : Fin 4096) (j : Fin 2048) :
    val_main_v148 (F := Ideal) p mu w0 w2 (ix3 s t j) = lift w0 w2 (fun k => Ideal.tanh (partW p mu (row t s) k)) 0 j := by
  have e := shiftW p mu s t
  unfold val_main_v148 val_main_v147 val_main_v146 val_main_v145 val_main_v144 val_main_v143 val_main_v142 val_main_v141 val_main_v140 lift
  simp only [← e]
  generalize val_main_v81 (F := Ideal) p mu = z
  pointwise

theorem decay0 (p : Vec Ideal S32768x6656 .f32) (mu : Vec Ideal S1x6592 .f32) (w0 : Vec Ideal S1x2x2048 .f32) (w2 : Vec Ideal S1x2x96x2048 .f32) (s : Fin 8) (t : Fin 4096) (n : Fin 64) (h : Fin 32) :
    val_main_v156 (F := Ideal) p mu w0 w2 (ix3 s t (place n h)) = decay p mu w0 w2 0 (row t s) n h := by
  unfold decay decayOf softplus
  rw [← decayLift p mu w0 w2 s t (place n h)]
  unfold val_main_v156 val_main_v155 val_main_v154 val_main_v153 val_main_v152 val_main_v151 val_main_v150 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_v149 val_main_call0_cst val_main_cst_15
  generalize val_main_v148 (F := Ideal) p mu w0 w2 = z
  generalize place n h = j
  pointwise
  rw [if_neg (not_not_intro rfl)]
  rfl

theorem rateLift (p : Vec Ideal S32768x6656 .f32) (mu : Vec Ideal S1x6592 .f32) (a0 : Vec Ideal S1x2x2048 .f32) (a2 : Vec Ideal S1x2x96x2048 .f32) (s : Fin 8) (t : Fin 4096) (j : Fin 2048) :
    val_main_v164 (F := Ideal) p mu a0 a2 (ix3 s t j) = lift a0 a2 (partA p mu (row t s)) 0 j := by
  have e := shiftA p mu s t
  unfold val_main_v164 val_main_v163 val_main_v162 val_main_v161 val_main_v160 val_main_v159 val_main_v158 val_main_v157 lift
  simp only [← e]
  generalize val_main_v99 (F := Ideal) p mu = z
  pointwise

theorem rate0 (p : Vec Ideal S32768x6656 .f32) (mu : Vec Ideal S1x6592 .f32) (a0 : Vec Ideal S1x2x2048 .f32) (a2 : Vec Ideal S1x2x96x2048 .f32) (s : Fin 8) (t : Fin 4096) (n : Fin 64) (h : Fin 32) :
    val_main_v170 (F := Ideal) p mu a0 a2 (ix3 s t (place n h)) = rate p mu a0 a2 0 (row t s) n h := by
  unfold rate sigmoid
  rw [← rateLift p mu a0 a2 s t (place n h)]
  unfold val_main_v170 val_main_v169 val_main_v168 val_main_v167 val_main_v166 val_main_v165 val_main_cst_17 val_main_cst_16
  generalize val_main_v164 (F := Ideal) p mu a0 a2 = z
  generalize place n h = j
  pointwise

theorem key0 (p : Vec Ideal S32768x6656 .f32) (mu : Vec Ideal S1x6592 .f32) (a0 : Vec Ideal S1x2x2048 .f32) (a2 : Vec Ideal S1x2x96x2048 .f32) (ka : Vec Ideal S1x2048 .f32) (s : Fin 8) (t : Fin 4096) (n : Fin 64) (h : Fin 32) :
    val_main_v179 (F := Ideal) p mu a0 a2 ka (ix3 s t (place n h)) = key p mu a0 a2 ka 0 (row t s) n h := by
  unfold key keyOf
  rw [← rate0 p mu a0 a2 s t n h, ← shiftK p mu s t n h]
  unfold val_main_v179 val_main_v178 val_main_v177 val_main_v176 val_main_v175 val_main_v174 val_main_v173 val_main_v172 val_main_v171 val_main_cst_19 val_main_cst_18
  generalize val_main_v170 (F := Ideal) p mu a0 a2 = z
  generalize val_main_v42 (F := Ideal) p mu = y
  generalize place n h = j
  pointwise

theorem rated0 (p : Vec Ideal S32768x6656 .f32) (mu : Vec Ideal S1x6592 .f32) (a0 : Vec Ideal S1x2x2048 .f32) (a2 : Vec Ideal S1x2x96x2048 .f32) (kk : Vec Ideal S1x2048 .f32) (s : Fin 8) (t : Fin 4096) (n : Fin 64) (h : Fin 32) :
    val_main_v180 (F := Ideal) p mu a0 a2 kk (ix3 s t (place n h)) = ratedKey p mu a0 a2 kk 0 (row t s) n h := by
  unfold ratedKey
  rw [← unit_eq p mu kk s t n h, ← rate0 p mu a0 a2 s t n h]
  exact val_main_v180_apply p mu a0 a2 kk _

theorem match0 (p : Vec Ideal S32768x6656 .f32) (mu : Vec Ideal S1x6592 .f32) (a0 : Vec Ideal S1x2x2048 .f32) (a2 : Vec Ideal S1x2x96x2048 .f32) (ka : Vec Ideal S1x2048 .f32) (rk : Vec Ideal S1x32x64 .f32) (s : Fin 8) (t : Fin 4096) (h : Fin 32) :
    val_main_v189 (F := Ideal) p mu a0 a2 ka rk (ix4 s t h 0) = headMatch p mu a0 a2 ka rk 0 (row t s) h := by
  unfold headMatch
  simp only [← key0 p mu a0 a2 ka s t, ← shiftR p mu s t]
  unfold val_main_v189 val_main_v188 val_main_v187 val_main_v186 val_main_v185 val_main_v184 val_main_v183 val_main_v182 val_main_v181 val_main_cst_20
  generalize val_main_v179 (F := Ideal) p mu a0 a2 ka = z
  generalize val_main_v21 (F := Ideal) p mu = y
  pointwise
  exact Finset.sum_congr rfl fun k _ => mul_right_comm _ _ _

/-! ## The second direction: its weights in the first one's place -/

/-- A direction's weights where the first direction's are. -/
def turn (b : Vec Ideal S1x2x2048 .f32) : Vec Ideal S1x2x2048 .f32 := fun i => b (ix3 0 1 (i 2))
/-- The same for the matrices. -/
def turn2 (b : Vec Ideal S1x2x96x2048 .f32) : Vec Ideal S1x2x96x2048 .f32 := fun i => b (ix4 0 1 (i 2) (i 3))

theorem turn_w0 (b : Vec Ideal S1x2x2048 .f32) : val_main_v191 (F := Ideal) b = val_main_v141 (turn b) := by
  funext i
  idx_vars i
  unfold val_main_v191 val_main_v190 val_main_v141 val_main_v140
  pointwise
  rfl

theorem turn_a0 (b : Vec Ideal S1x2x2048 .f32) : val_main_v208 (F := Ideal) b = val_main_v158 (turn b) := turn_w0 b

theorem turn_w2 (b : Vec Ideal S1x2x96x2048 .f32) : val_main_v194 (F := Ideal) b = val_main_v144 (turn2 b) := by
  funext i
  idx_vars i
  unfold val_main_v194 val_main_v193 val_main_v144 val_main_v143
  pointwise
  rfl

theorem turn_a2 (b : Vec Ideal S1x2x96x2048 .f32) : val_main_v210 (F := Ideal) b = val_main_v160 (turn2 b) := turn_w2 b

theorem turn_decay (p : Vec Ideal S32768x6656 .f32) (mu : Vec Ideal S1x6592 .f32) (w0 : Vec Ideal S1x2x2048 .f32) (w2 : Vec Ideal S1x2x96x2048 .f32) : val_main_v206 (F := Ideal) p mu w0 w2 = val_main_v156 p mu (turn w0) (turn2 w2) := by
  unfold val_main_v206 val_main_v205 val_main_v204 val_main_v203 val_main_v202 val_main_v201 val_main_v200 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_v199 val_main_v198 val_main_v197 val_main_v196 val_main_v195 val_main_v192 val_main_call1_cst val_main_cst_21
  rw [turn_w0, turn_w2]
  rfl

theorem turn_rate (p : Vec Ideal S32768x6656 .f32) (mu : Vec Ideal S1x6592 .f32) (a0 : Vec Ideal S1x2x2048 .f32) (a2 : Vec Ideal S1x2x96x2048 .f32) : val_main_v220 (F := Ideal) p mu a0 a2 = val_main_v170 p mu (turn a0) (turn2 a2) := by
  unfold val_main_v220 val_main_v219 val_main_v218 val_main_v217 val_main_v216 val_main_v215 val_main_v214 val_main_v213 val_main_v212 val_main_v211 val_main_cst_23 val_main_cst_22
  rw [turn_a0, turn_a2]
  rfl

theorem turn_key (p : Vec Ideal S32768x6656 .f32) (mu : Vec Ideal S1x6592 .f32) (a0 : Vec Ideal S1x2x2048 .f32) (a2 : Vec Ideal S1x2x96x2048 .f32) (ka : Vec Ideal S1x2048 .f32) : val_main_v229 (F := Ideal) p mu a0 a2 ka = val_main_v179 p mu (turn a0) (turn2 a2) ka := by
  unfold val_main_v229 val_main_v228 val_main_v227 val_main_v226 val_main_v225 val_main_v224 val_main_v223 val_main_v222 val_main_v221 val_main_cst_25 val_main_cst_24
  rw [turn_rate]
  rfl

theorem turn_rated (p : Vec Ideal S32768x6656 .f32) (mu : Vec Ideal S1x6592 .f32) (a0 : Vec Ideal S1x2x2048 .f32) (a2 : Vec Ideal S1x2x96x2048 .f32) (kk : Vec Ideal S1x2048 .f32) : val_main_v230 (F := Ideal) p mu a0 a2 kk = val_main_v180 p mu (turn a0) (turn2 a2) kk := by
  unfold val_main_v230
  rw [turn_rate]
  rfl

theorem turn_match (p : Vec Ideal S32768x6656 .f32) (mu : Vec Ideal S1x6592 .f32) (a0 : Vec Ideal S1x2x2048 .f32) (a2 : Vec Ideal S1x2x96x2048 .f32) (ka : Vec Ideal S1x2048 .f32) (rk : Vec Ideal S1x32x64 .f32) :
    val_main_v239 (F := Ideal) p mu a0 a2 ka rk = val_main_v189 p mu (turn a0) (turn2 a2) ka rk := by
  unfold val_main_v239 val_main_v238 val_main_v237 val_main_v236 val_main_v235 val_main_v234 val_main_v233 val_main_v232 val_main_v231 val_main_cst_26
  rw [turn_key]
  rfl

/-! ## The bonus -/

theorem bonus_eq (p : Vec Ideal S32768x6656 .f32) (mu : Vec Ideal S1x6592 .f32) (a0 : Vec Ideal S1x2x2048 .f32) (a2 : Vec Ideal S1x2x96x2048 .f32) (ka : Vec Ideal S1x2048 .f32) (rk : Vec Ideal S1x32x64 .f32) (s : Fin 8) (t : Fin 4096) (n : Fin 64) (h : Fin 32) :
    val_main_v244 (F := Ideal) p mu a0 a2 ka rk (ix3 s t (place n h)) = bonusVal p mu a0 a2 ka rk (row t s) n h := by
  have e0 := match0 p mu a0 a2 ka rk s t h
  have e1 : val_main_v239 (F := Ideal) p mu a0 a2 ka rk (ix4 s t h 0) = headMatch p mu a0 a2 ka rk 1 (row t s) h := by
    rw [turn_match]
    exact match0 p mu (turn a0) (turn2 a2) ka rk s t h
  refine (flat (val_main_v243 (F := Ideal) p mu a0 a2 ka rk) s t n h).trans ?_
  unfold bonusVal
  rw [← e0, ← e1, ← shiftV p mu s t n h]
  unfold val_main_v243 val_main_v242 val_main_v241 val_main_v240
  generalize val_main_v189 (F := Ideal) p mu a0 a2 ka rk = x
  generalize val_main_v239 (F := Ideal) p mu a0 a2 ka rk = y
  generalize val_main_v63 (F := Ideal) p mu = z
  pointwise
  rfl

/-! ## The kernel's layout of the results -/

/-- The rows of the prompt, with the channels in their order. -/
def back (z : FVec Ideal S8x4096x2048 .f32) : FVec Ideal S32768x2048 .f32 :=
  shapeCast S32768x2048 (transpose S4096x8x64x32 [1, 0, 3, 2] (shapeCast S8x4096x32x64 z shapeCasts_S8x4096x2048_S8x4096x32x64)
    transposes_S8x4096x32x64_S4096x8x64x32_1_0_3_2) shapeCasts_S4096x8x64x32_S32768x2048

theorem back_eq (z : FVec Ideal S8x4096x2048 .f32) (f : Fin 32768 → Fin 64 → Fin 32 → EReal)
    (e : ∀ s t n h, z (ix3 s t (place n h)) = f (row t s) n h) : back z = rows f := by
  funext i
  idx_vars i
  have er : row ⟨i0.val / 8, by omega⟩ ⟨i0.val % 8, by omega⟩ = i0 := Fin.ext (by show i0.val / 8 * 8 + i0.val % 8 = i0.val; omega)
  have e2 := e ⟨i0.val % 8, by omega⟩ ⟨i0.val / 8, by omega⟩ ⟨i1.val / 32, by omega⟩ ⟨i1.val % 32, by omega⟩
  rw [er] at e2
  refine Eq.trans ?_ e2
  unfold back
  pointwise
  rfl

/-- Both directions, one after the other. -/
def pair (a b : FVec Ideal S32768x2048 .f32) : FVec Ideal S2x32768x2048 .f32 :=
  concatenate S2x32768x2048 0 [⟨S1x32768x2048, broadcastInDim S1x32768x2048 ![1, 2] bcast_S32768x2048_S1x32768x2048_1_2 a⟩,
    ⟨S1x32768x2048, broadcastInDim S1x32768x2048 ![1, 2] bcast_S32768x2048_S1x32768x2048_1_2 b⟩] concatenates_S1x32768x2048_S1x32768x2048_S2x32768x2048_d0

theorem pair_eq (f : Fin 2 → Fin 32768 → Fin 64 → Fin 32 → EReal) : pair (rows (f 0)) (rows (f 1)) = rows2 f := by
  funext i
  idx_vars i
  unfold pair
  pointwise
  by_cases h : i0.val < 1
  · rw [dif_pos h, show i0 = 0 from Fin.ext (by show i0.val = 0; omega)]
    rfl
  · rw [dif_neg h, show i0 = 1 from Fin.ext (by show i0.val = 1; omega)]
    rfl

theorem result_r (p : Vec Ideal S32768x6656 .f32) (mu : Vec Ideal S1x6592 .f32) : val_main_v247 (F := Ideal) p mu = rows (partR p mu) := by
  unfold val_main_v247 val_main_v246 val_main_v245
  exact back_eq _ _ fun s t n h => shiftR p mu s t n h

theorem result_v (p : Vec Ideal S32768x6656 .f32) (mu : Vec Ideal S1x6592 .f32) : val_main_v250 (F := Ideal) p mu = rows (partV p mu) := by
  unfold val_main_v250 val_main_v249 val_main_v248
  exact back_eq _ _ fun s t n h => shiftV p mu s t n h

theorem result_unit (p : Vec Ideal S32768x6656 .f32) (mu : Vec Ideal S1x6592 .f32) (kk : Vec Ideal S1x2048 .f32) : val_main_v253 (F := Ideal) p mu kk = rows (unitKey p mu kk) := by
  unfold val_main_v253 val_main_v252 val_main_v251
  exact back_eq _ _ fun s t n h => unit_eq p mu kk s t n h

theorem result_gate (p : Vec Ideal S32768x6656 .f32) (mu : Vec Ideal S1x6592 .f32) (g2 : Vec Ideal S1x256x2048 .f32) : val_main_v283 (F := Ideal) p mu g2 = rows (gateVal p mu g2) := by
  unfold val_main_v283 val_main_v282 val_main_v281
  exact back_eq _ _ fun s t n h => gate_eq p mu g2 s t n h

theorem result_bonus (p : Vec Ideal S32768x6656 .f32) (mu : Vec Ideal S1x6592 .f32) (a0 : Vec Ideal S1x2x2048 .f32) (a2 : Vec Ideal S1x2x96x2048 .f32) (ka : Vec Ideal S1x2048 .f32) (rk : Vec Ideal S1x32x64 .f32) :
    val_main_v286 (F := Ideal) p mu a0 a2 ka rk = rows (bonusVal p mu a0 a2 ka rk) := by
  unfold val_main_v286 val_main_v285 val_main_v284
  exact back_eq _ _ fun s t n h => bonus_eq p mu a0 a2 ka rk s t n h

theorem result_decay (p : Vec Ideal S32768x6656 .f32) (mu : Vec Ideal S1x6592 .f32) (w0 : Vec Ideal S1x2x2048 .f32) (w2 : Vec Ideal S1x2x96x2048 .f32) : val_main_v262 (F := Ideal) p mu w0 w2 = rows2 (decay p mu w0 w2) := by
  have e0 : val_main_v256 (F := Ideal) p mu w0 w2 = rows (decay p mu w0 w2 0) := by
    unfold val_main_v256 val_main_v255 val_main_v254
    exact back_eq _ _ fun s t n h => decay0 p mu w0 w2 s t n h
  have e1 : val_main_v259 (F := Ideal) p mu w0 w2 = rows (decay p mu w0 w2 1) := by
    unfold val_main_v259 val_main_v258 val_main_v257
    rw [turn_decay]
    exact back_eq _ _ fun s t n h => decay0 p mu (turn w0) (turn2 w2) s t n h
  unfold val_main_v262 val_main_v261 val_main_v260
  rw [e0, e1]
  exact pair_eq _

theorem result_rated (p : Vec Ideal S32768x6656 .f32) (mu : Vec Ideal S1x6592 .f32) (a0 : Vec Ideal S1x2x2048 .f32) (a2 : Vec Ideal S1x2x96x2048 .f32) (kk : Vec Ideal S1x2048 .f32) : val_main_v271 (F := Ideal) p mu a0 a2 kk = rows2 (ratedKey p mu a0 a2 kk) := by
  have e0 : val_main_v265 (F := Ideal) p mu a0 a2 kk = rows (ratedKey p mu a0 a2 kk 0) := by
    unfold val_main_v265 val_main_v264 val_main_v263
    exact back_eq _ _ fun s t n h => rated0 p mu a0 a2 kk s t n h
  have e1 : val_main_v268 (F := Ideal) p mu a0 a2 kk = rows (ratedKey p mu a0 a2 kk 1) := by
    unfold val_main_v268 val_main_v267 val_main_v266
    rw [turn_rated]
    exact back_eq _ _ fun s t n h => rated0 p mu (turn a0) (turn2 a2) kk s t n h
  unfold val_main_v271 val_main_v270 val_main_v269
  rw [e0, e1]
  exact pair_eq _

theorem result_key (p : Vec Ideal S32768x6656 .f32) (mu : Vec Ideal S1x6592 .f32) (a0 : Vec Ideal S1x2x2048 .f32) (a2 : Vec Ideal S1x2x96x2048 .f32) (ka : Vec Ideal S1x2048 .f32) : val_main_v280 (F := Ideal) p mu a0 a2 ka = rows2 (key p mu a0 a2 ka) := by
  have e0 : val_main_v274 (F := Ideal) p mu a0 a2 ka = rows (key p mu a0 a2 ka 0) := by
    unfold val_main_v274 val_main_v273 val_main_v272
    exact back_eq _ _ fun s t n h => key0 p mu a0 a2 ka s t n h
  have e1 : val_main_v277 (F := Ideal) p mu a0 a2 ka = rows (key p mu a0 a2 ka 1) := by
    unfold val_main_v277 val_main_v276 val_main_v275
    rw [turn_key]
    exact back_eq _ _ fun s t n h => key0 p mu (turn a0) (turn2 a2) ka s t n h
  unfold val_main_v280 val_main_v279 val_main_v278
  rw [e0, e1]
  exact pair_eq _

end Cert.RwkvPreReferenceIdeal.Pre
end
-- ==== Proof.NormMlp.lean ====
module

public import proofs.«01_k».proof.Proof.Gen.NormMlpIdeal.Value
public import proofs.«01_k».proof.Proof.Gen.NormMlpReferenceIdeal.Run
public import proofs.«01_k».proof.Proof.Gen.NormMlpReferenceIdeal.Read
public import proofs.«01_k».proof.Proof.ProjRegions
public import Idealize.ShloMosaic.PureOps.Ideal
public import Idealize.ShloMosaic.Lib.Pointwise

/-! The norm before the feed-forward part: the latent tokens in blocks of 256, scaled and shifted by their sample's vectors. -/

@[expose] public section
set_option maxRecDepth 16384
noncomputable section
namespace Cert.NormMlpIdeal.Norm
open Cert.NormMlpIdeal Cert.NormMlpIdeal.Gen Cert.ProjectionsIdeal.Proj Idealize.ShloMosaic Idealize.ShloMosaic.TcCoe Idealize.SL.Sem

variable (m : (ℓ : Loc nD τ sig) → Buf (Elt Ideal) ℓ)

/-- All the tokens, the shift in row 3 of a sample's six and the scale in row 4. -/
def latentAll (x : Vec Ideal S32768x4096 .f32) (w : Vec Ideal S1x4096 .f32) (md : Vec Ideal S96x1x4096 .f32) : Vec Ideal S32768x4096 .bf16 :=
  fun i => normed (fun k => x (ix2 (i 0) k)) (i 1) (w (ix2 0 (i 1)))
    (md (ix3 (⟨(i 0).val / 4096 * 6 + 4, by have : (i 0).val < 32768 := (i 0).isLt; omega⟩ : Fin 96) 0 (i 1)))
    (md (ix3 (⟨(i 0).val / 4096 * 6 + 3, by have : (i 0).val < 32768 := (i 0).isLt; omega⟩ : Fin 96) 0 (i 1)))

theorem pay_apply (x : Vec Ideal S256x4096 .f32) (w : Vec Ideal S1x4096 .f32) (sc sh : Vec Ideal S1x1x4096 .f32) (r : Fin 256) (j : Fin 4096) :
    k0_pay1 (F := Ideal) x w sc sh (ix2 r j) = normed (fun k => x (ix2 r k)) j (w (ix2 0 j)) (sc (ix3 0 0 j)) (sh (ix3 0 0 j)) := by
  unfold k0_pay1 normed
  pointwise

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = t.val / 16 * 6 + 3 ∧ win0_2.index t (1 : Fin 3) = 0 ∧ win0_2.index t (2 : Fin 3) = 0)
    ∧ (win0_3.index t (0 : Fin 3) = t.val / 16 * 6 + 4 ∧ win0_3.index t (1 : Fin 3) = 0 ∧ win0_3.index t (2 : Fin 3) = 0)
    ∧ (win0_4.index t (0 : Fin 2) = t.val ∧ win0_4.index t (1 : Fin 2) = 0) :=
  (by decide +kernel : ∀ t : Fin grid0.N, _)

theorem N_lt (t : Fin cfg0.N) : t.val < 128 := t.isLt

/-- The row of a point's block. -/
def row (t : Fin cfg0.N) (r : Fin 256) : Fin 32768 := ⟨t.val * 256 + r, by have := N_lt t; omega⟩

theorem weights (c : Dev nD) (k : Fin 4096) :
    (V m c main_v1 : Vec Ideal S1x4096 .f32) (ix2 0 k) = (m ((c : Thread nD τ).loc main_arg1) : Vec Ideal S1x4096 .f32) (ix2 0 k) := by
  unfold V
  simp only [hostOps0, List.flatten_cons, List.flatten_nil, List.append_nil, List.cons_append, List.nil_append]
  after_results
  pointwise

theorem blk0 (c : Dev nD) (t : Fin cfg0.N) (r : Fin 256) (k : Fin 4096) :
    (iblk m c 0 t : Vec Ideal S256x4096 .f32) (ix2 r k) = (m ((c : Thread nD τ).loc main_arg0) : Vec Ideal S32768x4096 .f32) (ix2 (row t r) k) := by
  obtain ⟨⟨e0, e1⟩, -⟩ := idx_facts t
  show V m c main_arg0 (((cfg0.win 0).blk t).view.emb (ix2 r k)) = _
  rw [V_main_arg0]
  congr 1
  funext a; apply Fin.ext
  match a with
  | ⟨0, _⟩ => show win0_0.index t (0 : Fin 2) * 256 + 1 * r.val = t.val * 256 + r.val; omega
  | ⟨1, _⟩ => show win0_0.index t (1 : Fin 2) * 4096 + 1 * k.val = k.val; omega

theorem blk1 (c : Dev nD) (t : Fin cfg0.N) (k : Fin 4096) :
    (iblk m c 1 t : Vec Ideal S1x4096 .f32) (ix2 0 k) = (m ((c : Thread nD τ).loc main_arg1) : Vec Ideal S1x4096 .f32) (ix2 0 k) := by
  obtain ⟨-, ⟨e0, e1⟩, -⟩ := idx_facts t
  have hi : ((cfg0.win 1).blk t).view.emb (ix2 0 k) = ix2 0 k := by
    funext a; apply Fin.ext
    match a with
    | ⟨0, _⟩ => show win0_1.index t (0 : Fin 2) * 1 + 1 * 0 = 0; omega
    | ⟨1, _⟩ => show win0_1.index t (1 : Fin 2) * 4096 + 1 * k.val = k.val; omega
  show (V m c main_v1 : Vec Ideal S1x4096 .f32) (((cfg0.win 1).blk t).view.emb (ix2 0 k)) = _
  rw [hi, weights]

theorem blk2 (c : Dev nD) (t : Fin cfg0.N) (k : Fin 4096) :
    (iblk m c 2 t : Vec Ideal S1x1x4096 .f32) (ix3 0 0 k)
      = (m ((c : Thread nD τ).loc main_arg2) : Vec Ideal S96x1x4096 .f32) (ix3 (⟨t.val / 16 * 6 + 3, by have := N_lt t; omega⟩ : Fin 96) 0 k) := by
  obtain ⟨-, -, ⟨e0, e1, e2⟩, -⟩ := idx_facts t
  show V m c main_arg2 (((cfg0.win 2).blk t).view.emb (ix3 0 0 k)) = _
  rw [V_main_arg2]
  congr 1
  funext a; apply Fin.ext
  match a with
  | ⟨0, _⟩ => show win0_2.index t (0 : Fin 3) * 1 + 1 * 0 = t.val / 16 * 6 + 3; omega
  | ⟨1, _⟩ => show win0_2.index t (1 : Fin 3) * 1 + 1 * 0 = 0; omega
  | ⟨2, _⟩ => show win0_2.index t (2 : Fin 3) * 4096 + 1 * k.val = k.val; omega

theorem blk3 (c : Dev nD) (t : Fin cfg0.N) (k : Fin 4096) :
    (iblk m c 3 t : Vec Ideal S1x1x4096 .f32) (ix3 0 0 k)
      = (m ((c : Thread nD τ).loc main_arg2) : Vec Ideal S96x1x4096 .f32) (ix3 (⟨t.val / 16 * 6 + 4, by have := N_lt t; omega⟩ : Fin 96) 0 k) := by
  obtain ⟨-, -, -, ⟨e0, e1, e2⟩, -⟩ := idx_facts t
  show V m c main_arg2 (((cfg0.win 3).blk t).view.emb (ix3 0 0 k)) = _
  rw [V_main_arg2]
  congr 1
  funext a; apply Fin.ext
  match a with
  | ⟨0, _⟩ => show win0_3.index t (0 : Fin 3) * 1 + 1 * 0 = t.val / 16 * 6 + 4; omega
  | ⟨1, _⟩ => show win0_3.index t (1 : Fin 3) * 1 + 1 * 0 = 0; omega
  | ⟨2, _⟩ => show win0_3.index t (2 : Fin 3) * 4096 + 1 * k.val = k.val; omega

theorem emb4 (t : Fin cfg0.N) (r : Fin 256) (k : Fin 4096) : ((cfg0.win 4).blk t).view.emb (ix2 r k) = ix2 (row t r) k := by
  obtain ⟨-, -, -, -, e0, e1⟩ := idx_facts t
  funext a; apply Fin.ext
  match a with
  | ⟨0, _⟩ => show win0_4.index t (0 : Fin 2) * 256 + 1 * r.val = t.val * 256 + r.val; omega
  | ⟨1, _⟩ => show win0_4.index t (1 : Fin 2) * 4096 + 1 * k.val = k.val; omega

theorem flushed4_eq (c : Dev nD) (t : Fin cfg0.N) :
    (dats m 0 c).flushed 4 t = ((cfg0.win 4).blk t).view.read (Elt Ideal)
      (latentAll (m ((c : Thread nD τ).loc main_arg0)) (m ((c : Thread nD τ).loc main_arg1)) (m ((c : Thread nD τ).loc main_arg2))) := by
  rw [Cert.NormMlpIdeal.Value.flushed4]
  unfold out0_4
  rw [View.canon_unit_zero zero2, View.ld_unit_zero zero2, View.ld_unit_zero zero2, View.ld_unit_zero zero3, View.ld_unit_zero zero3]
  funext j
  show k0_pay1 (F := Ideal) _ _ _ _ j = latentAll _ _ _ (((cfg0.win 4).blk t).view.emb j)
  idx_vars j
  refine Eq.trans ?_ (congrArg _ (emb4 t j0 j1).symm)
  refine (pay_apply _ _ _ _ j0 j1).trans ?_
  rw [blk1 m c t j1, blk2 m c t j1, blk3 m c t j1, funext fun k => blk0 m c t j0 k]
  have e : ∀ u (h : t.val / 16 * 6 + u < 96) (h' : (row t j0).val / 4096 * 6 + u < 96),
      (⟨t.val / 16 * 6 + u, h⟩ : Fin 96) = ⟨(row t j0).val / 4096 * 6 + u, h'⟩ :=
    fun u _ _ => Fin.ext (by show t.val / 16 * 6 + u = (t.val * 256 + j0.val) / 4096 * 6 + u; omega)
  have hN := N_lt t
  have hr := (row t j0).isLt
  rw [e 3 _ (by omega), e 4 _ (by omega)]
  rfl

theorem covered4 (i : S32768x4096.Idx) : ∃ t : Fin cfg0.N, (cfg0.win 4).flush t = true ∧ i ∈ ((cfg0.win 4).blk t).view.set := by
  idx_vars i
  have h1 : i0.val / 256 < cfg0.N := by show _ < 128; omega
  refine ⟨⟨_, h1⟩, flush0_4 _, ?_⟩
  have h := ((cfg0.win 4).blk (⟨_, h1⟩ : Fin cfg0.N)).view.emb_mem_set (ix2 (⟨i0.val % 256, by omega⟩ : Fin 256) i1)
  rw [emb4] at h
  have e : row ⟨_, h1⟩ ⟨i0.val % 256, by omega⟩ = i0 := Fin.ext (by show i0.val / 256 * 256 + i0.val % 256 = i0.val; omega)
  rwa [e] at h

/-- The result array after the run. -/
theorem final4 (c : Dev nD) : (dats m 0 c).arrAt 4 cfg0.N
    = latentAll (m ((c : Thread nD τ).loc main_arg0)) (m ((c : Thread nD τ).loc main_arg1)) (m ((c : Thread nD τ).loc main_arg2)) :=
  (dats m 0 c).arrAt_eq_of_cover 4 _ (fun t _ => flushed4_eq m c t) covered4

end Cert.NormMlpIdeal.Norm

namespace Cert.NormMlpReferenceIdeal.Norm
open Cert.NormMlpReferenceIdeal Cert.NormMlpReferenceIdeal.Read Idealize.ShloMosaic

/-- The reference's result is the same. -/
theorem reference_eq (x : Vec Ideal S32768x4096 .f32) (w : Vec Ideal S1x4096 .f32) (md : Vec Ideal S96x1x4096 .f32) :
    val_main_v25 (F := Ideal) x w md = Cert.NormMlpIdeal.Norm.latentAll x w md := by
  funext i
  idx_vars i
  unfold val_main_v25 val_main_v24 val_main_v23 val_main_v22 val_main_v21 val_main_v20 val_main_v19 val_main_v18 val_main_v17 val_main_v16 val_main_v15 val_main_v14 val_main_v13
    val_main_v12 val_main_v11 val_main_v10 val_main_v9 val_main_v8 val_main_v7 val_main_v6 val_main_v5 val_main_v4 val_main_v3 val_main_v2 val_main_v1 val_main_v0
    val_main_cst val_main_cst_0 val_main_cst_1 val_main_cst_2
  unfold Cert.NormMlpIdeal.Norm.latentAll Cert.ProjectionsIdeal.Proj.normed
  pointwise

end Cert.NormMlpReferenceIdeal.Norm
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.MlpUpReferenceIdeal.Run
public import proofs.«01_k».proof.Proof.Gen.MlpUpReferenceIdeal.Read
public import proofs.«01_k».proof.Proof.Gen.MlpDownReferenceIdeal.Run
public import proofs.«01_k».proof.Proof.Gen.MlpDownReferenceIdeal.Read
public import proofs.«01_k».proof.Proof.Gen.ProjectionsReferenceIdeal.Run
public import proofs.«01_k».proof.Proof.Gen.ProjectionsReferenceIdeal.Read
public import proofs.«01_k».proof.Proof.Arrays
public import proofs.«01_k».proof.Proof.Join
public import proofs.«01_k».proof.Proof.MlpUp
public import proofs.«01_k».proof.Proof.MlpDown
public import proofs.«01_k».proof.Proof.ProjRun
public import proofs.«01_k».proof.Proof.ProjRef
public import proofs.«01_k».proof.Proof.OutProj
public import proofs.«01_k».proof.Proof.Merge
public import proofs.«01_k».proof.Proof.RwkvProj
public import proofs.«01_k».proof.Proof.FinalNorm
public import proofs.«01_k».proof.Proof.RwkvGate
public import proofs.«01_k».proof.Proof.RwkvPre
public import proofs.«01_k».proof.Proof.RwkvPreReference
public import proofs.«01_k».proof.Proof.NormMlp
public import proofs.«01_k».proof.Proof.Gen.OutProjReferenceIdeal.Run
public import proofs.«01_k».proof.Proof.Gen.OutProjReferenceIdeal.Read
public import proofs.«01_k».proof.Proof.Gen.OutProj.Frame
public import proofs.«01_k».proof.Proof.Gen.OutProjIdeal.Value
public import proofs.«01_k».proof.Proof.Gen.MergeReferenceIdeal.Run
public import proofs.«01_k».proof.Proof.Gen.MergeReferenceIdeal.Read
public import proofs.«01_k».proof.Proof.Gen.Merge.Frame
public import proofs.«01_k».proof.Proof.Gen.MergeIdeal.Value
public import proofs.«01_k».proof.Proof.Gen.RwkvProjReferenceIdeal.Run
public import proofs.«01_k».proof.Proof.Gen.RwkvProjReferenceIdeal.Read
public import proofs.«01_k».proof.Proof.Gen.RwkvProj.Frame
public import proofs.«01_k».proof.Proof.Gen.RwkvProjIdeal.Value
public import proofs.«01_k».proof.Proof.Gen.RwkvGateReferenceIdeal.Run
public import proofs.«01_k».proof.Proof.Gen.RwkvPreReferenceIdeal.Run
public import proofs.«01_k».proof.Proof.Gen.RwkvGateReferenceIdeal.Read
public import proofs.«01_k».proof.Proof.Gen.RwkvPreReferenceIdeal.Read
public import proofs.«01_k».proof.Proof.Gen.RwkvGate.Frame
public import proofs.«01_k».proof.Proof.Gen.RwkvPre.Frame
public import proofs.«01_k».proof.Proof.Gen.RwkvGateIdeal.Value
public import proofs.«01_k».proof.Proof.Gen.RwkvPreIdeal.Value
public import proofs.«01_k».proof.Proof.Gen.NormMlpReferenceIdeal.Run
public import proofs.«01_k».proof.Proof.Gen.NormMlpReferenceIdeal.Read
public import proofs.«01_k».proof.Proof.Gen.NormMlp.Frame
public import proofs.«01_k».proof.Proof.Gen.NormMlpIdeal.Value
public import proofs.«01_k».proof.Proof.Gen.FinalNormReferenceIdeal.Run
public import proofs.«01_k».proof.Proof.Gen.FinalNormReferenceIdeal.Read
public import proofs.«01_k».proof.Proof.Gen.FinalNorm.Frame
public import proofs.«01_k».proof.Proof.Gen.FinalNormIdeal.Frame
public import proofs.«01_k».proof.Proof.Gen.Projections.Frame
public import proofs.«01_k».proof.Proof.Gen.ProjectionsIdeal.Frame
public import proofs.«01_k».proof.Proof.Gen.MlpDown.Frame
public import proofs.«01_k».proof.Proof.Gen.MlpDownIdeal.Value
public import proofs.«01_k».proof.Proof.Gen.MlpUp.Frame
public import proofs.«01_k».proof.Proof.Gen.MlpUpIdeal.Value
public import Idealize.ShloMosaic.Adequacy
public import Idealize.ShloMosaic.Init

@[expose] public section

noncomputable section

namespace Cert.Proof

open Idealize.ShloMosaic Idealize.SL.Sem

/-- The reference has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The neighbourhood attention: kernel and reference leave the same array. -/
theorem attention : Cert.algebraic_KernelIdeal_ReferenceIdeal_pre_finite_scores := by
  intro m g m' g' hpre hargs
  refine ⟨fun c => Cert.KernelIdeal.Nbr.kernelOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.KernelIdeal.Nbr.final6 m c), (h c).2⟩)
      (Cert.KernelIdeal.Value.run_blocks m g)
  · refine (θ_run Cert.ReferenceIdeal.defs _ _).mono (fun r h c => ⟨(h c).1.trans ?_, (h c).2⟩) (Cert.ReferenceIdeal.Value.run m' g')
    obtain ⟨e0, e1, e2, e3⟩ := hargs c
    have hr := congr (congr (congr (congrArg (Cert.ReferenceIdeal.Read.val_main_v151 (F := Ideal)) e0) e1) e2) e3
    refine ((Cert.ReferenceIdeal.Read.val_main_v151_eq (F := Ideal) (StableHlo.launchContents m' c)).trans hr).trans ?_
    obtain ⟨hqk, h1, h3⟩ := Cert.ReferenceIdeal.Nbr.real_of_pre _ _ _ _ (hpre c)
    exact (Cert.ReferenceIdeal.Nbr.out_eq _ _ _ _ hqk h1 h3).symm

/-- The references of the feed-forward part have no semaphore. -/
theorem frame_up_ref : Cert.quiescent_MlpUpReferenceIdeal := fun m ρ _ =>
  (θ_run Cert.MlpUpReferenceIdeal.defs _ _).mono (fun r h => ⟨fun c => (h c).2, sem_eq_zero_of_no_sems (by decide) r.2⟩)
    (Cert.MlpUpReferenceIdeal.Value.run (F := Ideal) m ρ)

theorem frame_down_ref : Cert.quiescent_MlpDownReferenceIdeal := fun m ρ _ =>
  (θ_run Cert.MlpDownReferenceIdeal.defs _ _).mono (fun r h => ⟨fun c => (h c).2, sem_eq_zero_of_no_sems (by decide) r.2⟩)
    (Cert.MlpDownReferenceIdeal.Value.run (F := Ideal) m ρ)

/-- The reference of the projections has no semaphore. -/
theorem frame_projections_ref : Cert.quiescent_ProjectionsReferenceIdeal := fun m ρ _ =>
  (θ_run Cert.ProjectionsReferenceIdeal.defs _ _).mono (fun r h => ⟨fun c => (h c).2.2.2.2, sem_eq_zero_of_no_sems (by decide) r.2⟩)
    (Cert.ProjectionsReferenceIdeal.Value.run (F := Ideal) m ρ)

/-- The first half of the feed-forward part: kernel and reference leave the same array. -/
theorem mlp_up : Cert.algebraic_MlpUpIdeal_MlpUpReferenceIdeal := by
  intro m g m' g' _ hargs
  refine ⟨fun c => Cert.MlpUpIdeal.Up.hiddenAll (m ((c.tc : Thread Cert.MlpUpIdeal.nD Cert.MlpUpIdeal.τ).loc Cert.MlpUpIdeal.main_arg0))
    (m ((c.tc : Thread Cert.MlpUpIdeal.nD Cert.MlpUpIdeal.τ).loc Cert.MlpUpIdeal.main_arg1)), ?_, ?_⟩
  · exact (θ_run Cert.MlpUpIdeal.defs _ _).mono (fun r h c => ⟨(h c).1.trans (Cert.MlpUpIdeal.Up.final2 m c), (h c).2⟩)
      (Cert.MlpUpIdeal.Value.run_blocks m g)
  · refine (θ_run Cert.MlpUpReferenceIdeal.defs _ _).mono (fun r h c => ⟨(h c).1.trans ?_, (h c).2⟩) (Cert.MlpUpReferenceIdeal.Value.run m' g')
    obtain ⟨e0, e1⟩ := hargs c
    have hr := congr (congrArg (Cert.MlpUpReferenceIdeal.Read.val_main_v5 (F := Ideal)) e0) e1
    exact ((Cert.MlpUpReferenceIdeal.Read.val_main_v5_eq (F := Ideal) _ _).trans hr).trans (Cert.MlpUpReferenceIdeal.Up.reference_eq _ _)

/-- The second half of the feed-forward part: kernel and reference leave the same array. -/
theorem mlp_down : Cert.algebraic_MlpDownIdeal_MlpDownReferenceIdeal := by
  intro m g m' g' _ hargs
  refine ⟨fun c => Cert.MlpDownIdeal.Down.outAll (m ((c.tc : Thread Cert.MlpDownIdeal.nD Cert.MlpDownIdeal.τ).loc Cert.MlpDownIdeal.main_arg0))
    (m ((c.tc : Thread Cert.MlpDownIdeal.nD Cert.MlpDownIdeal.τ).loc Cert.MlpDownIdeal.main_arg1))
    (m ((c.tc : Thread Cert.MlpDownIdeal.nD Cert.MlpDownIdeal.τ).loc Cert.MlpDownIdeal.main_arg2))
    (m ((c.tc : Thread Cert.MlpDownIdeal.nD Cert.MlpDownIdeal.τ).loc Cert.MlpDownIdeal.main_arg3)), ?_, ?_⟩
  · exact (θ_run Cert.MlpDownIdeal.defs _ _).mono (fun r h c => ⟨(h c).1.trans (Cert.MlpDownIdeal.Down.final4 m c), (h c).2⟩)
      (Cert.MlpDownIdeal.Value.run_blocks m g)
  · refine (θ_run Cert.MlpDownReferenceIdeal.defs _ _).mono (fun r h c => ⟨(h c).1.trans ?_, (h c).2⟩) (Cert.MlpDownReferenceIdeal.Value.run m' g')
    obtain ⟨e0, e1, e2, e3⟩ := hargs c
    have hr := congr (congr (congr (congrArg (Cert.MlpDownReferenceIdeal.Read.val_main_v10 (F := Ideal)) e0) e1) e2) e3
    exact ((Cert.MlpDownReferenceIdeal.Read.val_main_v10_eq (F := Ideal) _ _ _ _).trans hr).trans (Cert.MlpDownReferenceIdeal.Down.reference_eq _ _ _ _)

/-- The projections: kernel and reference leave the same keys, values, gates and attention. -/
theorem projections : Cert.algebraic_ProjectionsIdeal_ProjectionsReferenceIdeal := by
  intro m g m' g' _ hargs
  refine ⟨fun c => Cert.ProjectionsIdeal.Proj.headsAll 2048 (by decide) (Cert.ProjectionsIdeal.Proj.arg0 m c) (Cert.ProjectionsIdeal.Proj.arg2 m c) (Cert.ProjectionsIdeal.Proj.arg3 m c) (Cert.ProjectionsIdeal.Proj.arg4 m c) (Cert.ProjectionsIdeal.Proj.arg5 m c) (Cert.ProjectionsIdeal.Proj.arg6 m c),
    fun c => Cert.ProjectionsIdeal.Proj.headsAll 4096 (by decide) (Cert.ProjectionsIdeal.Proj.arg0 m c) (Cert.ProjectionsIdeal.Proj.arg2 m c) (Cert.ProjectionsIdeal.Proj.arg3 m c) (Cert.ProjectionsIdeal.Proj.arg4 m c) (Cert.ProjectionsIdeal.Proj.arg5 m c) (Cert.ProjectionsIdeal.Proj.arg6 m c),
    fun c => Cert.ProjectionsIdeal.Proj.gatesAll (Cert.ProjectionsIdeal.Proj.arg0 m c) (Cert.ProjectionsIdeal.Proj.arg2 m c) (Cert.ProjectionsIdeal.Proj.arg3 m c) (Cert.ProjectionsIdeal.Proj.arg4 m c) (Cert.ProjectionsIdeal.Proj.arg5 m c) (Cert.ProjectionsIdeal.Proj.arg6 m c),
    fun c => Cert.ProjectionsIdeal.Proj.attendedAll (Cert.ProjectionsIdeal.Proj.arg0 m c) (Cert.ProjectionsIdeal.Proj.arg2 m c) (Cert.ProjectionsIdeal.Proj.arg3 m c) (Cert.ProjectionsIdeal.Proj.arg4 m c) (Cert.ProjectionsIdeal.Proj.arg5 m c) (Cert.ProjectionsIdeal.Proj.arg6 m c), ?_, ?_⟩
  · exact (θ_run Cert.ProjectionsIdeal.defs _ _).mono (fun r h c => ⟨(h c).1.trans (Cert.ProjectionsIdeal.Proj.result_keys m g c),
      (h c).2.1.trans (Cert.ProjectionsIdeal.Proj.result_values m g c), (h c).2.2.1.trans (Cert.ProjectionsIdeal.Proj.result_gates m g c),
      (h c).2.2.2.1.trans (Cert.ProjectionsIdeal.Proj.result_attended m g c), (h c).2.2.2.2⟩)
      (Cert.ProjectionsIdeal.Proj.run m g)
  · refine (θ_run Cert.ProjectionsReferenceIdeal.defs _ _).mono (fun r h c => ⟨(h c).1.trans ?_, (h c).2.1.trans ?_, (h c).2.2.1.trans ?_, (h c).2.2.2.1.trans ?_, (h c).2.2.2.2⟩)
      (Cert.ProjectionsReferenceIdeal.Value.run m' g')
    all_goals obtain ⟨e0, -, e2, e3, e4, e5, e6⟩ := hargs c
    · have hr := congr (congr (congr (congr (congr (congrArg (Cert.ProjectionsReferenceIdeal.Read.val_main_v62 (F := Ideal)) e0) e2) e3) e4) e5) e6
      exact (((Cert.ProjectionsReferenceIdeal.Read.val_main_v62_eq (F := Ideal) _ _ _ _ _ _).trans hr).trans
        (Cert.ProjectionsReferenceIdeal.Proj.keys_eq _ _ _ _ _ _))
    · have hr := congr (congr (congr (congr (congr (congrArg (Cert.ProjectionsReferenceIdeal.Read.val_main_v63 (F := Ideal)) e0) e2) e3) e4) e5) e6
      exact (((Cert.ProjectionsReferenceIdeal.Read.val_main_v63_eq (F := Ideal) _ _ _ _ _ _).trans hr).trans
        (Cert.ProjectionsReferenceIdeal.Proj.values_eq _ _ _ _ _ _))
    · have hr := congr (congr (congr (congr (congr (congrArg (Cert.ProjectionsReferenceIdeal.Read.val_main_v64 (F := Ideal)) e0) e2) e3) e4) e5) e6
      exact (((Cert.ProjectionsReferenceIdeal.Read.val_main_v64_eq (F := Ideal) _ _ _ _ _ _).trans hr).trans
        (Cert.ProjectionsReferenceIdeal.Proj.gates_eq _ _ _ _ _ _))
    · have hr := congr (congr (congr (congr (congr (congrArg (Cert.ProjectionsReferenceIdeal.Read.val_main_v61 (F := Ideal)) e0) e2) e3) e4) e5) e6
      exact (((Cert.ProjectionsReferenceIdeal.Read.val_main_v61_eq (F := Ideal) m' c).trans hr).trans
        (Cert.ProjectionsReferenceIdeal.Proj.attended_eq _ _ _ _ _ _))

/-- The references of the last three calls have no semaphore. -/
theorem frame_out_proj_ref : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

theorem frame_merge_ref : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem frame_rwkv_proj_ref : Cert.quiescent_RwkvProjReferenceIdeal := fun m ρ _ =>
  (θ_run Cert.RwkvProjReferenceIdeal.defs _ _).mono (fun r h => ⟨fun c => (h c).2, sem_eq_zero_of_no_sems (by decide) r.2⟩)
    (Cert.RwkvProjReferenceIdeal.Value.run (F := Ideal) m ρ)

/-- The output projection: kernel and reference leave the same array. -/
theorem out_proj : Cert.algebraic_OutProjIdeal_OutProjReferenceIdeal := by
  intro m g m' g' _ hargs
  refine ⟨fun c => Cert.OutProjIdeal.Out.outAll (m ((c.tc : Thread Cert.OutProjIdeal.nD Cert.OutProjIdeal.τ).loc Cert.OutProjIdeal.main_arg0))
    (m ((c.tc : Thread Cert.OutProjIdeal.nD Cert.OutProjIdeal.τ).loc Cert.OutProjIdeal.main_arg1))
    (m ((c.tc : Thread Cert.OutProjIdeal.nD Cert.OutProjIdeal.τ).loc Cert.OutProjIdeal.main_arg2))
    (m ((c.tc : Thread Cert.OutProjIdeal.nD Cert.OutProjIdeal.τ).loc Cert.OutProjIdeal.main_arg3)), ?_, ?_⟩
  · exact (θ_run Cert.OutProjIdeal.defs _ _).mono (fun r h c => ⟨(h c).1.trans (Cert.OutProjIdeal.Out.final4 m c), (h c).2⟩)
      (Cert.OutProjIdeal.Value.run_blocks m g)
  · refine (θ_run Cert.OutProjReferenceIdeal.defs _ _).mono (fun r h c => ⟨(h c).1.trans ?_, (h c).2⟩) (Cert.OutProjReferenceIdeal.Value.run m' g')
    obtain ⟨e0, e1, e2, e3⟩ := hargs c
    have hr := congr (congr (congr (congrArg (Cert.OutProjReferenceIdeal.Read.val_main_v10 (F := Ideal)) e0) e1) e2) e3
    exact ((Cert.OutProjReferenceIdeal.Read.val_main_v10_eq (F := Ideal) _ _ _ _).trans hr).trans (Cert.OutProjReferenceIdeal.Out.reference_eq _ _ _ _)

/-- The merge of the mixers: kernel and reference leave the same array. -/
theorem merge : Cert.algebraic_MergeIdeal_MergeReferenceIdeal := by
  intro m g m' g' _ hargs
  refine ⟨fun c => Cert.MergeIdeal.Mix.mergedAll (m ((c.tc : Thread Cert.MergeIdeal.nD Cert.MergeIdeal.τ).loc Cert.MergeIdeal.main_arg0))
    (m ((c.tc : Thread Cert.MergeIdeal.nD Cert.MergeIdeal.τ).loc Cert.MergeIdeal.main_arg1))
    (m ((c.tc : Thread Cert.MergeIdeal.nD Cert.MergeIdeal.τ).loc Cert.MergeIdeal.main_arg2))
    (m ((c.tc : Thread Cert.MergeIdeal.nD Cert.MergeIdeal.τ).loc Cert.MergeIdeal.main_arg3))
    (m ((c.tc : Thread Cert.MergeIdeal.nD Cert.MergeIdeal.τ).loc Cert.MergeIdeal.main_arg4)), ?_, ?_⟩
  · exact (θ_run Cert.MergeIdeal.defs _ _).mono (fun r h c => ⟨(h c).1.trans (Cert.MergeIdeal.Mix.final6 m c), (h c).2⟩)
      (Cert.MergeIdeal.Value.run_blocks m g)
  · refine (θ_run Cert.MergeReferenceIdeal.defs _ _).mono (fun r h c => ⟨(h c).1.trans ?_, (h c).2⟩) (Cert.MergeReferenceIdeal.Value.run m' g')
    obtain ⟨e0, e1, e2, e3, e4⟩ := hargs c
    have hr := congr (congr (congr (congr (congrArg (Cert.MergeReferenceIdeal.Read.val_main_v20 (F := Ideal)) e0) e1) e2) e3) e4
    exact ((Cert.MergeReferenceIdeal.Read.val_main_v20_eq (F := Ideal) _ _ _ _ _).trans hr).trans (Cert.MergeReferenceIdeal.Mix.reference_eq _ _ _ _ _)

/-- The projection onto the second mixer's columns: kernel and reference leave the same array. -/
theorem rwkv_proj : Cert.algebraic_RwkvProjIdeal_RwkvProjReferenceIdeal := by
  intro m g m' g' _ hargs
  refine ⟨fun c => Cert.RwkvProjIdeal.Cols.projAll (m ((c.tc : Thread Cert.RwkvProjIdeal.nD Cert.RwkvProjIdeal.τ).loc Cert.RwkvProjIdeal.main_arg0))
    (m ((c.tc : Thread Cert.RwkvProjIdeal.nD Cert.RwkvProjIdeal.τ).loc Cert.RwkvProjIdeal.main_arg1)), ?_, ?_⟩
  · exact (θ_run Cert.RwkvProjIdeal.defs _ _).mono (fun r h c => ⟨(h c).1.trans (Cert.RwkvProjIdeal.Cols.final2 m c), (h c).2⟩)
      (Cert.RwkvProjIdeal.Value.run_blocks m g)
  · refine (θ_run Cert.RwkvProjReferenceIdeal.defs _ _).mono (fun r h c => ⟨(h c).1.trans ?_, (h c).2⟩) (Cert.RwkvProjReferenceIdeal.Value.run m' g')
    obtain ⟨e0, e1⟩ := hargs c
    have hr := congr (congrArg (Cert.RwkvProjReferenceIdeal.Read.val_main_v14 (F := Ideal)) e0) e1
    exact ((Cert.RwkvProjReferenceIdeal.Read.val_main_v14_eq (F := Ideal) _ _).trans hr).trans (Cert.RwkvProjReferenceIdeal.Cols.reference_eq _ _)

/-- The reference of the final norm has no semaphore. -/
theorem frame_final_norm_ref : Cert.quiescent_FinalNormReferenceIdeal := fun m ρ _ =>
  (θ_run Cert.FinalNormReferenceIdeal.defs _ _).mono (fun r h => ⟨fun c => (h c).2.2, sem_eq_zero_of_no_sems (by decide) r.2⟩)
    (Cert.FinalNormReferenceIdeal.Value.run (F := Ideal) m ρ)

/-- The final norm: kernel and reference leave the same two arrays. -/
theorem final_norm : Cert.algebraic_FinalNormIdeal_FinalNormReferenceIdeal := by
  intro m g m' g' _ hargs
  refine ⟨fun c => Cert.FinalNormIdeal.Norm.promptAll (m ((c.tc : Thread Cert.FinalNormIdeal.nD Cert.FinalNormIdeal.τ).loc Cert.FinalNormIdeal.main_arg0))
      (m ((c.tc : Thread Cert.FinalNormIdeal.nD Cert.FinalNormIdeal.τ).loc Cert.FinalNormIdeal.main_arg2)),
    fun c => Cert.FinalNormIdeal.Norm.sampleAll (m ((c.tc : Thread Cert.FinalNormIdeal.nD Cert.FinalNormIdeal.τ).loc Cert.FinalNormIdeal.main_arg1))
      (m ((c.tc : Thread Cert.FinalNormIdeal.nD Cert.FinalNormIdeal.τ).loc Cert.FinalNormIdeal.main_arg2)), ?_, ?_⟩
  · exact (θ_run Cert.FinalNormIdeal.defs _ _).mono (fun r h c => ⟨(h c).1.trans (Cert.FinalNormIdeal.Norm.result_prompt m g c),
      (h c).2.1.trans (Cert.FinalNormIdeal.Norm.result_sample m g c), (h c).2.2⟩) (Cert.FinalNormIdeal.Norm.run m g)
  · refine (θ_run Cert.FinalNormReferenceIdeal.defs _ _).mono (fun r h c => ⟨(h c).1.trans ?_, (h c).2.1.trans ?_, (h c).2.2⟩)
      (Cert.FinalNormReferenceIdeal.Value.run m' g')
    all_goals obtain ⟨e0, e1, e2⟩ := hargs c
    · have hr := congr (congrArg (Cert.FinalNormReferenceIdeal.Read.val_main_v13 (F := Ideal)) e0) e2
      exact ((Cert.FinalNormReferenceIdeal.Read.val_main_v13_eq (F := Ideal) _ _).trans hr).trans (Cert.FinalNormReferenceIdeal.Norm.prompt_eq _ _)
    · have hr := congr (congrArg (Cert.FinalNormReferenceIdeal.Read.val_main_v27 (F := Ideal)) e1) e2
      exact ((Cert.FinalNormReferenceIdeal.Read.val_main_v27_eq (F := Ideal) _ _).trans hr).trans (Cert.FinalNormReferenceIdeal.Norm.sample_eq _ _)

/-- The reference of the gate has no semaphore. -/
theorem frame_rwkv_gate_ref : Cert.quiescent_RwkvGateReferenceIdeal := fun m ρ _ =>
  (θ_run Cert.RwkvGateReferenceIdeal.defs _ _).mono (fun r h => ⟨fun c => (h c).2, sem_eq_zero_of_no_sems (by decide) r.2⟩)
    (Cert.RwkvGateReferenceIdeal.Value.run (F := Ideal) m ρ)

/-- The end of the second mixer: kernel and reference leave the same array. -/
theorem rwkv_gate : Cert.algebraic_RwkvGateIdeal_RwkvGateReferenceIdeal := by
  intro m g m' g' _ hargs
  refine ⟨fun c => Cert.RwkvGateIdeal.Gate.gatedAll (Cert.RwkvGateIdeal.Gate.dirs m c) (Cert.RwkvGateIdeal.Gate.bonusOf m c)
    (Cert.RwkvGateIdeal.Gate.gateOf m c) (Cert.RwkvGateIdeal.Gate.weightOf m c) (Cert.RwkvGateIdeal.Gate.biasOf m c), ?_, ?_⟩
  · exact (θ_run Cert.RwkvGateIdeal.defs _ _).mono (fun r h c => ⟨(h c).1.trans (Cert.RwkvGateIdeal.Gate.final6 m c), (h c).2⟩)
      (Cert.RwkvGateIdeal.Value.run_blocks m g)
  · refine (θ_run Cert.RwkvGateReferenceIdeal.defs _ _).mono (fun r h c => ⟨(h c).1.trans ?_, (h c).2⟩) (Cert.RwkvGateReferenceIdeal.Value.run m' g')
    obtain ⟨e0, e1, e2, e3, e4⟩ := hargs c
    have hr := congr (congr (congr (congr (congrArg (Cert.RwkvGateReferenceIdeal.Read.val_main_v74 (F := Ideal)) e0) e1) e2) e3) e4
    exact ((Cert.RwkvGateReferenceIdeal.Read.val_main_v74_eq (F := Ideal) m' c).trans hr).trans
      (Cert.RwkvGateReferenceIdeal.Gate.reference_eq _ _ _ _ _)

/-- The reference of the second mixer's beginning has no semaphore. -/
theorem frame_rwkv_pre_ref : Cert.quiescent_RwkvPreReferenceIdeal := fun m ρ _ =>
  (θ_run Cert.RwkvPreReferenceIdeal.defs _ _).mono (fun r h => ⟨fun c => (h c).2.2.2.2.2.2.2.2, sem_eq_zero_of_no_sems (by decide) r.2⟩)
    (Cert.RwkvPreReferenceIdeal.Value.run (F := Ideal) m ρ)

/-- The beginning of the second mixer: kernel and reference leave the same eight arrays. -/
theorem rwkv_pre : Cert.algebraic_RwkvPreIdeal_RwkvPreReferenceIdeal := by
  intro m g m' g' _ hargs
  refine ⟨fun c => Cert.RwkvPreIdeal.Pre.rows (Cert.RwkvPreIdeal.Pre.partR (Cert.RwkvPreIdeal.Pre.pOf m c) (Cert.RwkvPreIdeal.Pre.muOf m c)),
    fun c => Cert.RwkvPreIdeal.Pre.rows (Cert.RwkvPreIdeal.Pre.partV (Cert.RwkvPreIdeal.Pre.pOf m c) (Cert.RwkvPreIdeal.Pre.muOf m c)),
    fun c => Cert.RwkvPreIdeal.Pre.rows (Cert.RwkvPreIdeal.Pre.unitKey (Cert.RwkvPreIdeal.Pre.pOf m c) (Cert.RwkvPreIdeal.Pre.muOf m c) (Cert.RwkvPreIdeal.Pre.kkOf m c)),
    fun c => Cert.RwkvPreIdeal.Pre.rows2 (Cert.RwkvPreIdeal.Pre.decay (Cert.RwkvPreIdeal.Pre.pOf m c) (Cert.RwkvPreIdeal.Pre.muOf m c) (Cert.RwkvPreIdeal.Pre.w0Of m c) (Cert.RwkvPreIdeal.Pre.w2Of m c)),
    fun c => Cert.RwkvPreIdeal.Pre.rows2 (Cert.RwkvPreIdeal.Pre.ratedKey (Cert.RwkvPreIdeal.Pre.pOf m c) (Cert.RwkvPreIdeal.Pre.muOf m c) (Cert.RwkvPreIdeal.Pre.a0Of m c) (Cert.RwkvPreIdeal.Pre.a2Of m c) (Cert.RwkvPreIdeal.Pre.kkOf m c)),
    fun c => Cert.RwkvPreIdeal.Pre.rows2 (Cert.RwkvPreIdeal.Pre.key (Cert.RwkvPreIdeal.Pre.pOf m c) (Cert.RwkvPreIdeal.Pre.muOf m c) (Cert.RwkvPreIdeal.Pre.a0Of m c) (Cert.RwkvPreIdeal.Pre.a2Of m c) (Cert.RwkvPreIdeal.Pre.kaOf m c)),
    fun c => Cert.RwkvPreIdeal.Pre.rows (Cert.RwkvPreIdeal.Pre.gateVal (Cert.RwkvPreIdeal.Pre.pOf m c) (Cert.RwkvPreIdeal.Pre.muOf m c) (Cert.RwkvPreIdeal.Pre.g2Of m c)),
    fun c => Cert.RwkvPreIdeal.Pre.rows (Cert.RwkvPreIdeal.Pre.bonusVal (Cert.RwkvPreIdeal.Pre.pOf m c) (Cert.RwkvPreIdeal.Pre.muOf m c) (Cert.RwkvPreIdeal.Pre.a0Of m c) (Cert.RwkvPreIdeal.Pre.a2Of m c) (Cert.RwkvPreIdeal.Pre.kaOf m c) (Cert.RwkvPreIdeal.Pre.rkOf m c)), ?_, ?_⟩
  · exact (θ_run Cert.RwkvPreIdeal.defs _ _).mono (fun r h c => ⟨(h c).1.trans (Cert.RwkvPreIdeal.Pre.final12 m c),
      (h c).2.1.trans (Cert.RwkvPreIdeal.Pre.final13 m c),
      (h c).2.2.1.trans (Cert.RwkvPreIdeal.Pre.final14 m c),
      (h c).2.2.2.1.trans (Cert.RwkvPreIdeal.Pre.final15 m c),
      (h c).2.2.2.2.1.trans (Cert.RwkvPreIdeal.Pre.final16 m c),
      (h c).2.2.2.2.2.1.trans (Cert.RwkvPreIdeal.Pre.final17 m c),
      (h c).2.2.2.2.2.2.1.trans (Cert.RwkvPreIdeal.Pre.final18 m c),
      (h c).2.2.2.2.2.2.2.1.trans (Cert.RwkvPreIdeal.Pre.final19 m c), (h c).2.2.2.2.2.2.2.2⟩)
      (Cert.RwkvPreIdeal.Value.run_blocks m g)
  · refine (θ_run Cert.RwkvPreReferenceIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Cert.RwkvPreReferenceIdeal.Value.run m' g')
    all_goals obtain ⟨e0, e1, e2, e3, e4, e5, e6, e7, e8, e9⟩ := hargs c
    · have hr := congr (congrArg (Cert.RwkvPreReferenceIdeal.Read.val_main_v247 (F := Ideal)) e0) e1
      exact ((Cert.RwkvPreReferenceIdeal.Read.val_main_v247_eq (F := Ideal) (Idealize.ShloMosaic.StableHlo.launchContents m' c)).trans hr).trans (Cert.RwkvPreReferenceIdeal.Pre.result_r _ _)
    · have hr := congr (congrArg (Cert.RwkvPreReferenceIdeal.Read.val_main_v250 (F := Ideal)) e0) e1
      exact ((Cert.RwkvPreReferenceIdeal.Read.val_main_v250_eq (F := Ideal) (Idealize.ShloMosaic.StableHlo.launchContents m' c)).trans hr).trans (Cert.RwkvPreReferenceIdeal.Pre.result_v _ _)
    · have hr := congr (congr (congrArg (Cert.RwkvPreReferenceIdeal.Read.val_main_v253 (F := Ideal)) e0) e1) e7
      exact ((Cert.RwkvPreReferenceIdeal.Read.val_main_v253_eq (F := Ideal) (Idealize.ShloMosaic.StableHlo.launchContents m' c)).trans hr).trans (Cert.RwkvPreReferenceIdeal.Pre.result_unit _ _ _)
    · have hr := congr (congr (congr (congrArg (Cert.RwkvPreReferenceIdeal.Read.val_main_v262 (F := Ideal)) e0) e1) e2) e3
      exact ((Cert.RwkvPreReferenceIdeal.Read.val_main_v262_eq (F := Ideal) (Idealize.ShloMosaic.StableHlo.launchContents m' c)).trans hr).trans (Cert.RwkvPreReferenceIdeal.Pre.result_decay _ _ _ _)
    · have hr := congr (congr (congr (congr (congrArg (Cert.RwkvPreReferenceIdeal.Read.val_main_v271 (F := Ideal)) e0) e1) e4) e5) e7
      exact ((Cert.RwkvPreReferenceIdeal.Read.val_main_v271_eq (F := Ideal) (Idealize.ShloMosaic.StableHlo.launchContents m' c)).trans hr).trans (Cert.RwkvPreReferenceIdeal.Pre.result_rated _ _ _ _ _)
    · have hr := congr (congr (congr (congr (congrArg (Cert.RwkvPreReferenceIdeal.Read.val_main_v280 (F := Ideal)) e0) e1) e4) e5) e8
      exact ((Cert.RwkvPreReferenceIdeal.Read.val_main_v280_eq (F := Ideal) (Idealize.ShloMosaic.StableHlo.launchContents m' c)).trans hr).trans (Cert.RwkvPreReferenceIdeal.Pre.result_key _ _ _ _ _)
    · have hr := congr (congr (congrArg (Cert.RwkvPreReferenceIdeal.Read.val_main_v283 (F := Ideal)) e0) e1) e6
      exact ((Cert.RwkvPreReferenceIdeal.Read.val_main_v283_eq (F := Ideal) (Idealize.ShloMosaic.StableHlo.launchContents m' c)).trans hr).trans (Cert.RwkvPreReferenceIdeal.Pre.result_gate _ _ _)
    · have hr := congr (congr (congr (congr (congr (congrArg (Cert.RwkvPreReferenceIdeal.Read.val_main_v286 (F := Ideal)) e0) e1) e4) e5) e8) e9
      exact ((Cert.RwkvPreReferenceIdeal.Read.val_main_v286_eq (F := Ideal) (Idealize.ShloMosaic.StableHlo.launchContents m' c)).trans hr).trans (Cert.RwkvPreReferenceIdeal.Pre.result_bonus _ _ _ _ _ _)

theorem frame_norm_mlp_ref : Cert.quiescent_NormMlpReferenceIdeal := fun m ρ _ =>
  (θ_run Cert.NormMlpReferenceIdeal.defs _ _).mono (fun r h => ⟨fun c => (h c).2, sem_eq_zero_of_no_sems (by decide) r.2⟩)
    (Cert.NormMlpReferenceIdeal.Value.run (F := Ideal) m ρ)

/-- The norm before the feed-forward part: kernel and reference leave the same array. -/
theorem norm_mlp : Cert.algebraic_NormMlpIdeal_NormMlpReferenceIdeal := by
  intro m g m' g' _ hargs
  refine ⟨fun c => Cert.NormMlpIdeal.Norm.latentAll (m ((c.tc : Thread Cert.NormMlpIdeal.nD Cert.NormMlpIdeal.τ).loc Cert.NormMlpIdeal.main_arg0))
    (m ((c.tc : Thread Cert.NormMlpIdeal.nD Cert.NormMlpIdeal.τ).loc Cert.NormMlpIdeal.main_arg1))
    (m ((c.tc : Thread Cert.NormMlpIdeal.nD Cert.NormMlpIdeal.τ).loc Cert.NormMlpIdeal.main_arg2)), ?_, ?_⟩
  · exact (θ_run Cert.NormMlpIdeal.defs _ _).mono (fun r h c => ⟨(h c).1.trans (Cert.NormMlpIdeal.Norm.final4 m c), (h c).2⟩)
      (Cert.NormMlpIdeal.Value.run_blocks m g)
  · refine (θ_run Cert.NormMlpReferenceIdeal.defs _ _).mono (fun r h c => ⟨(h c).1.trans ?_, (h c).2⟩) (Cert.NormMlpReferenceIdeal.Value.run m' g')
    obtain ⟨e0, e1, e2⟩ := hargs c
    have hr := congr (congr (congrArg (Cert.NormMlpReferenceIdeal.Read.val_main_v25 (F := Ideal)) e0) e1) e2
    exact ((Cert.NormMlpReferenceIdeal.Read.val_main_v25_eq (F := Ideal) _ _ _).trans hr).trans (Cert.NormMlpReferenceIdeal.Norm.reference_eq _ _ _)

theorem claim : Cert.Claim :=
  ⟨Cert.Kernel.Gen.facts, Cert.KernelIdeal.Gen.facts, Cert.ReferenceIdeal.Gen.facts, Cert.MlpUp.Gen.facts, Cert.MlpUpIdeal.Gen.facts, Cert.MlpUpReferenceIdeal.Gen.facts,
    Cert.MlpDown.Gen.facts, Cert.MlpDownIdeal.Gen.facts, Cert.MlpDownReferenceIdeal.Gen.facts, Cert.Projections.Gen.facts, Cert.ProjectionsIdeal.Gen.facts, Cert.ProjectionsReferenceIdeal.Gen.facts,
    Cert.OutProj.Gen.facts, Cert.OutProjIdeal.Gen.facts, Cert.OutProjReferenceIdeal.Gen.facts, Cert.Merge.Gen.facts, Cert.MergeIdeal.Gen.facts, Cert.MergeReferenceIdeal.Gen.facts, Cert.RwkvProj.Gen.facts, Cert.RwkvProjIdeal.Gen.facts, Cert.RwkvProjReferenceIdeal.Gen.facts,
    Cert.FinalNorm.Gen.facts, Cert.FinalNormIdeal.Gen.facts, Cert.FinalNormReferenceIdeal.Gen.facts,
    Cert.RwkvGate.Gen.facts, Cert.RwkvGateIdeal.Gen.facts, Cert.RwkvGateReferenceIdeal.Gen.facts,
    Cert.RwkvPre.Gen.facts, Cert.RwkvPreIdeal.Gen.facts, Cert.RwkvPreReferenceIdeal.Gen.facts,
    Cert.NormMlp.Gen.facts, Cert.NormMlpIdeal.Gen.facts, Cert.NormMlpReferenceIdeal.Gen.facts, Cert.Pre_finite_scores.Gen.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    fun m ρ _ => Cert.MlpUp.Gen.frame m ρ, fun m ρ _ => Cert.MlpUpIdeal.Gen.frame m ρ, frame_up_ref,
    fun m ρ _ => Cert.MlpDown.Gen.frame m ρ, fun m ρ _ => Cert.MlpDownIdeal.Gen.frame m ρ, frame_down_ref,
    fun m ρ _ => Cert.Projections.Gen.frame m ρ, fun m ρ _ => Cert.ProjectionsIdeal.Gen.frame m ρ, frame_projections_ref,
    fun m ρ _ => Cert.OutProj.Gen.frame m ρ, fun m ρ _ => Cert.OutProjIdeal.Gen.frame m ρ, frame_out_proj_ref,
    fun m ρ _ => Cert.Merge.Gen.frame m ρ, fun m ρ _ => Cert.MergeIdeal.Gen.frame m ρ, frame_merge_ref,
    fun m ρ _ => Cert.RwkvProj.Gen.frame m ρ, fun m ρ _ => Cert.RwkvProjIdeal.Gen.frame m ρ, frame_rwkv_proj_ref,
    fun m ρ _ => Cert.FinalNorm.Gen.frame m ρ, fun m ρ _ => Cert.FinalNormIdeal.Gen.frame m ρ, frame_final_norm_ref,
    fun m ρ _ => Cert.RwkvGate.Gen.frame m ρ, fun m ρ _ => Cert.RwkvGateIdeal.Gen.frame m ρ, frame_rwkv_gate_ref,
    fun m ρ _ => Cert.RwkvPre.Gen.frame m ρ, fun m ρ _ => Cert.RwkvPreIdeal.Gen.frame m ρ, frame_rwkv_pre_ref,
    fun m ρ _ => Cert.NormMlp.Gen.frame m ρ, fun m ρ _ => Cert.NormMlpIdeal.Gen.frame m ρ, frame_norm_mlp_ref,
    trivial, attention, trivial, mlp_up, trivial, mlp_down, trivial, projections, trivial, out_proj, trivial, merge, trivial, rwkv_proj, trivial, final_norm, trivial, rwkv_gate,
    trivial, rwkv_pre, trivial, norm_mlp⟩

end Cert.Proof

end
